-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x12288x40x128 : Shape := ⟨4, ![2, 12288, 40, 128]⟩
abbrev S2x40 : Shape := ⟨2, ![2, 40]⟩
abbrev S2x12288x8x128 : Shape := ⟨4, ![2, 12288, 8, 128]⟩
abbrev S2x8 : Shape := ⟨2, ![2, 8]⟩
abbrev S2x12288x8x5x128 : Shape := ⟨5, ![2, 12288, 8, 5, 128]⟩
abbrev S2x8x5x12288x128 : Shape := ⟨5, ![2, 8, 5, 12288, 128]⟩
abbrev S2x8x12288x128 : Shape := ⟨4, ![2, 8, 12288, 128]⟩
abbrev S2x24x8x64x8x128 : Shape := ⟨6, ![2, 24, 8, 64, 8, 128]⟩
abbrev S2x8x24x64x8x128 : Shape := ⟨6, ![2, 8, 24, 64, 8, 128]⟩
abbrev S2x8x192x192 : Shape := ⟨4, ![2, 8, 192, 192]⟩
abbrev S2x8x5x12288 : Shape := ⟨4, ![2, 8, 5, 12288]⟩
abbrev S1x1x5x12288x128 : Shape := ⟨5, ![1, 1, 5, 12288, 128]⟩
abbrev S1x1x12288x128 : Shape := ⟨4, ![1, 1, 12288, 128]⟩
abbrev S1x1x192x192 : Shape := ⟨4, ![1, 1, 192, 192]⟩
abbrev S1x1x5x12288 : Shape := ⟨4, ![1, 1, 5, 12288]⟩
abbrev S2x5x2x512x256 : Shape := ⟨5, ![2, 5, 2, 512, 256]⟩
abbrev S5x4x512x128 : Shape := ⟨4, ![5, 4, 512, 128]⟩
abbrev S5x192x512 : Shape := ⟨3, ![5, 192, 512]⟩
abbrev S5x8x512 : Shape := ⟨3, ![5, 8, 512]⟩
abbrev S1x1 : Shape := ⟨2, ![1, 1]⟩
abbrev S128x128 : Shape := ⟨2, ![128, 128]⟩
abbrev S1x1x256x128 : Shape := ⟨4, ![1, 1, 256, 128]⟩
abbrev S256x128 : Shape := ⟨2, ![256, 128]⟩
abbrev S1x1x1x256x128 : Shape := ⟨5, ![1, 1, 1, 256, 128]⟩
abbrev S256x256 : Shape := ⟨2, ![256, 256]⟩
abbrev S1x1x128x128 : Shape := ⟨4, ![1, 1, 128, 128]⟩
abbrev S64x128 : Shape := ⟨2, ![64, 128]⟩
abbrev S8x128 : Shape := ⟨2, ![8, 128]⟩
abbrev S128 : Shape := ⟨1, ![128]⟩
abbrev S1x128 : Shape := ⟨2, ![1, 128]⟩
abbrev S1x1x128 : Shape := ⟨3, ![1, 1, 128]⟩
abbrev S1x1x512x128 : Shape := ⟨4, ![1, 1, 512, 128]⟩
abbrev S512x128 : Shape := ⟨2, ![512, 128]⟩
abbrev S512x256 : Shape := ⟨2, ![512, 256]⟩
abbrev S384x128 : Shape := ⟨2, ![384, 128]⟩
abbrev S1x1x384x128 : Shape := ⟨4, ![1, 1, 384, 128]⟩
abbrev S1x8x128 : Shape := ⟨3, ![1, 8, 128]⟩
abbrev S16x8x128 : Shape := ⟨3, ![16, 8, 128]⟩
abbrev S32x8x128 : Shape := ⟨3, ![32, 8, 128]⟩
abbrev S48x8x128 : Shape := ⟨3, ![48, 8, 128]⟩
abbrev S64x8x128 : Shape := ⟨3, ![64, 8, 128]⟩
abbrev S1x512 : Shape := ⟨2, ![1, 512]⟩
abbrev S1x1x512 : Shape := ⟨3, ![1, 1, 512]⟩
abbrev S1x8x512 : Shape := ⟨3, ![1, 8, 512]⟩
abbrev S8x512 : Shape := ⟨2, ![8, 512]⟩
abbrev S512 : Shape := ⟨1, ![512]⟩
abbrev S1x1x1x512 : Shape := ⟨4, ![1, 1, 1, 512]⟩
abbrev S1x192x512 : Shape := ⟨3, ![1, 192, 512]⟩
abbrev S192x512 : Shape := ⟨2, ![192, 512]⟩
abbrev S512x192 : Shape := ⟨2, ![512, 192]⟩
abbrev S8x64x192 : Shape := ⟨3, ![8, 64, 192]⟩
abbrev S8x192 : Shape := ⟨2, ![8, 192]⟩
abbrev S8 : Shape := ⟨1, ![8]⟩
abbrev S8x1 : Shape := ⟨2, ![8, 1]⟩
abbrev S1x1x8x192 : Shape := ⟨4, ![1, 1, 8, 192]⟩
abbrev S1x1x1x512x256 : Shape := ⟨5, ![1, 1, 1, 512, 256]⟩
abbrev S8x256 : Shape := ⟨2, ![8, 256]⟩
abbrev S1x8x256 : Shape := ⟨3, ![1, 8, 256]⟩
abbrev S256 : Shape := ⟨1, ![256]⟩
abbrev S1x256 : Shape := ⟨2, ![1, 256]⟩
abbrev S64x8x256 : Shape := ⟨3, ![64, 8, 256]⟩
abbrev S2x40x12288 : Shape := ⟨3, ![2, 40, 12288]⟩

abbrev nBuf : Space → Nat
  | .hbm => 13
  | .vmem => 16
  | .smem => 2
  | _ => 0

abbrev bufTy : (tb : Table) → Fin (tcTables nBuf tb) → BufTy
  | .hbm, ⟨0, _⟩ => ⟨S2x12288x40x128, .fp8e4m3⟩
  | .hbm, ⟨1, _⟩ => ⟨S2x40, .f32⟩
  | .hbm, ⟨2, _⟩ => ⟨S2x12288x8x128, .fp8e4m3⟩
  | .hbm, ⟨3, _⟩ => ⟨S2x8, .f32⟩
  | .hbm, ⟨4, _⟩ => ⟨S2x12288x8x5x128, .fp8e4m3⟩
  | .hbm, ⟨5, _⟩ => ⟨S2x8x5x12288x128, .fp8e4m3⟩
  | .hbm, ⟨6, _⟩ => ⟨S2x8x12288x128, .fp8e4m3⟩
  | .hbm, ⟨7, _⟩ => ⟨S2x24x8x64x8x128, .fp8e4m3⟩
  | .hbm, ⟨8, _⟩ => ⟨S2x8x24x64x8x128, .fp8e4m3⟩
  | .hbm, ⟨9, _⟩ => ⟨S2x8x12288x128, .fp8e4m3⟩
  | .hbm, ⟨10, _⟩ => ⟨S2x8x192x192, .f32⟩
  | .hbm, ⟨11, _⟩ => ⟨S2x8x5x12288, .f32⟩
  | .hbm, ⟨12, _⟩ => ⟨S2x40x12288, .f32⟩
  | .local _ .vmem, ⟨0, _⟩ => ⟨S1x1x5x12288x128, .fp8e4m3⟩
  | .local _ .vmem, ⟨1, _⟩ => ⟨S1x1x5x12288x128, .fp8e4m3⟩
  | .local _ .vmem, ⟨2, _⟩ => ⟨S1x1x12288x128, .fp8e4m3⟩
  | .local _ .vmem, ⟨3, _⟩ => ⟨S1x1x12288x128, .fp8e4m3⟩
  | .local _ .vmem, ⟨4, _⟩ => ⟨S1x1x12288x128, .fp8e4m3⟩
  | .local _ .vmem, ⟨5, _⟩ => ⟨S1x1x12288x128, .fp8e4m3⟩
  | .local _ .vmem, ⟨6, _⟩ => ⟨S1x1x192x192, .f32⟩
  | .local _ .vmem, ⟨7, _⟩ => ⟨S1x1x192x192, .f32⟩
  | .local _ .vmem, ⟨8, _⟩ => ⟨S1x1x5x12288, .f32⟩
  | .local _ .vmem, ⟨9, _⟩ => ⟨S1x1x5x12288, .f32⟩
  | .local _ .vmem, ⟨10, _⟩ => ⟨S2x5x2x512x256, .f32⟩
  | .local _ .vmem, ⟨11, _⟩ => ⟨S5x4x512x128, .f32⟩
  | .local _ .vmem, ⟨12, _⟩ => ⟨S5x192x512, .f32⟩
  | .local _ .vmem, ⟨13, _⟩ => ⟨S5x8x512, .f32⟩
  | .local _ .vmem, ⟨14, _⟩ => ⟨S5x8x512, .f32⟩
  | .local _ .vmem, ⟨15, _⟩ => ⟨S5x8x512, .f32⟩
  | .local _ .smem, ⟨0, _⟩ => ⟨S2x40, .f32⟩
  | .local _ .smem, ⟨1, _⟩ => ⟨S2x8, .f32⟩
  | _, _ => ⟨S2x12288x40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def k0_off1 (i : grid0.Coords) (c0_i32_10 : BitVec 32) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v29 : Index := Scalar.indexCast v16
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c5_i32 : BitVec 32 := 5#32
  let v27 : BitVec 32 := Scalar.muli v26 c5_i32
  let v28 : BitVec 32 := Scalar.addi v27 c0_i32_10
  let v30 : Index := Scalar.indexCast v28
  ![v29.toNat, v30.toNat]
def k0_off2 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v32 : Index := Scalar.indexCast v16
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v33 : Index := Scalar.indexCast v26
  ![v32.toNat, v33.toNat]
def k0_mult1 : BitVec 32 :=
  let c0_i32_28 : BitVec 32 := 0#32
  c0_i32_28
def k0_mult2 : BitVec 32 :=
  let c0_i32_32 : BitVec 32 := 0#32
  c0_i32_32
def k0_mult3 : BitVec 32 :=
  let c0_i32_104 : BitVec 32 := 0#32
  c0_i32_104
def k0_mult4 : BitVec 32 :=
  let c256_i32 : BitVec 32 := 256#32
  c256_i32
def k0_mult5 : BitVec 32 :=
  let c0_i32_185 : BitVec 32 := 0#32
  c0_i32_185
def k0_mult6 : BitVec 32 :=
  let c0_i32_189 : BitVec 32 := 0#32
  c0_i32_189
def k0_mult7 : BitVec 32 :=
  let c0_i32_269 : BitVec 32 := 0#32
  c0_i32_269
def k0_mult8 : BitVec 32 :=
  let c256_i32_273 : BitVec 32 := 256#32
  c256_i32_273
def k0_mult9 : BitVec 32 :=
  let c0_i32_353 : BitVec 32 := 0#32
  c0_i32_353
def k0_mult10 : BitVec 32 :=
  let c0_i32_357 : BitVec 32 := 0#32
  c0_i32_357
def k0_mult11 : BitVec 32 :=
  let c0_i32_437 : BitVec 32 := 0#32
  c0_i32_437
def k0_mult12 : BitVec 32 :=
  let c256_i32_441 : BitVec 32 := 256#32
  c256_i32_441
def k0_mult13 : BitVec 32 :=
  let c0_i32_521 : BitVec 32 := 0#32
  c0_i32_521
def k0_mult14 : BitVec 32 :=
  let c0_i32_525 : BitVec 32 := 0#32
  c0_i32_525
def k0_mult15 : BitVec 32 :=
  let c0_i32_605 : BitVec 32 := 0#32
  c0_i32_605
def k0_mult16 : BitVec 32 :=
  let c256_i32_609 : BitVec 32 := 256#32
  c256_i32_609
def k0_mult17 : BitVec 32 :=
  let c0_i32_689 : BitVec 32 := 0#32
  c0_i32_689
def k0_mult18 : BitVec 32 :=
  let c0_i32_693 : BitVec 32 := 0#32
  c0_i32_693
def k0_mult19 : BitVec 32 :=
  let c0_i32_773 : BitVec 32 := 0#32
  c0_i32_773
def k0_mult20 : BitVec 32 :=
  let c256_i32_777 : BitVec 32 := 256#32
  c256_i32_777
def k0_mult21 : BitVec 32 :=
  let c0_i32_860 : BitVec 32 := 0#32
  c0_i32_860
def k0_mult22 : BitVec 32 :=
  let c0_i32_877 : BitVec 32 := 0#32
  c0_i32_877
def k0_mult23 : BitVec 32 :=
  let c0_i32_894 : BitVec 32 := 0#32
  c0_i32_894
def k0_mult24 : BitVec 32 :=
  let c0_i32_911 : BitVec 32 := 0#32
  c0_i32_911
def k0_mult25 : BitVec 32 :=
  let c0_i32_928 : BitVec 32 := 0#32
  c0_i32_928
def k0_mult26 : BitVec 32 :=
  let c0_i32_945 : BitVec 32 := 0#32
  c0_i32_945
def k0_mult27 : BitVec 32 :=
  let c0_i32_962 : BitVec 32 := 0#32
  c0_i32_962
def k0_mult28 : BitVec 32 :=
  let c0_i32_979 : BitVec 32 := 0#32
  c0_i32_979
def k0_mult29 : BitVec 32 :=
  let c0_i32_996 : BitVec 32 := 0#32
  c0_i32_996
def k0_mult30 : BitVec 32 :=
  let c0_i32_1013 : BitVec 32 := 0#32
  c0_i32_1013
def k0_mult31 : BitVec 32 :=
  let c0_i32_1030 : BitVec 32 := 0#32
  c0_i32_1030
def k0_mult32 : BitVec 32 :=
  let c0_i32_1047 : BitVec 32 := 0#32
  c0_i32_1047
def k0_mult33 : BitVec 32 :=
  let c0_i32_1064 : BitVec 32 := 0#32
  c0_i32_1064
def k0_mult34 : BitVec 32 :=
  let c0_i32_1081 : BitVec 32 := 0#32
  c0_i32_1081
def k0_mult35 : BitVec 32 :=
  let c0_i32_1098 : BitVec 32 := 0#32
  c0_i32_1098
def k0_mult36 : BitVec 32 :=
  let c0_i32_1115 : BitVec 32 := 0#32
  c0_i32_1115
def k0_mult37 : BitVec 32 :=
  let c0_i32_1132 : BitVec 32 := 0#32
  c0_i32_1132
def k0_mult38 : BitVec 32 :=
  let c0_i32_1149 : BitVec 32 := 0#32
  c0_i32_1149
def k0_mult39 : BitVec 32 :=
  let c0_i32_1166 : BitVec 32 := 0#32
  c0_i32_1166
def k0_mult40 : BitVec 32 :=
  let c0_i32_1183 : BitVec 32 := 0#32
  c0_i32_1183
def k0_mult41 : BitVec 32 :=
  let c512_i32 : BitVec 32 := 512#32
  c512_i32
def k0_mult42 : BitVec 32 :=
  let c512_i32_1200 : BitVec 32 := 512#32
  c512_i32_1200
def k0_mult43 : BitVec 32 :=
  let c512_i32_1280 : BitVec 32 := 512#32
  c512_i32_1280
def k0_mult44 : BitVec 32 :=
  let c768_i32 : BitVec 32 := 768#32
  c768_i32
def k0_mult45 : BitVec 32 :=
  let c512_i32_1363 : BitVec 32 := 512#32
  c512_i32_1363
def k0_mult46 : BitVec 32 :=
  let c512_i32_1367 : BitVec 32 := 512#32
  c512_i32_1367
def k0_mult47 : BitVec 32 :=
  let c512_i32_1447 : BitVec 32 := 512#32
  c512_i32_1447
def k0_mult48 : BitVec 32 :=
  let c768_i32_1451 : BitVec 32 := 768#32
  c768_i32_1451
def k0_mult49 : BitVec 32 :=
  let c512_i32_1531 : BitVec 32 := 512#32
  c512_i32_1531
def k0_mult50 : BitVec 32 :=
  let c512_i32_1535 : BitVec 32 := 512#32
  c512_i32_1535
def k0_mult51 : BitVec 32 :=
  let c512_i32_1615 : BitVec 32 := 512#32
  c512_i32_1615
def k0_mult52 : BitVec 32 :=
  let c768_i32_1619 : BitVec 32 := 768#32
  c768_i32_1619
def k0_mult53 : BitVec 32 :=
  let c512_i32_1699 : BitVec 32 := 512#32
  c512_i32_1699
def k0_mult54 : BitVec 32 :=
  let c512_i32_1703 : BitVec 32 := 512#32
  c512_i32_1703
def k0_mult55 : BitVec 32 :=
  let c512_i32_1783 : BitVec 32 := 512#32
  c512_i32_1783
def k0_mult56 : BitVec 32 :=
  let c768_i32_1787 : BitVec 32 := 768#32
  c768_i32_1787
def k0_mult57 : BitVec 32 :=
  let c512_i32_1867 : BitVec 32 := 512#32
  c512_i32_1867
def k0_mult58 : BitVec 32 :=
  let c512_i32_1871 : BitVec 32 := 512#32
  c512_i32_1871
def k0_mult59 : BitVec 32 :=
  let c512_i32_1951 : BitVec 32 := 512#32
  c512_i32_1951
def k0_mult60 : BitVec 32 :=
  let c768_i32_1955 : BitVec 32 := 768#32
  c768_i32_1955
@[reducible] def k0_t1_loop : Scf.Loop 32 :=
  let c1_i32_2035 : BitVec 32 := 1#32
  let c23_i32 : BitVec 32 := 23#32
  let v7409 : BitVec 32 := Scalar.addi c1_i32_2035 c23_i32
  let c1_i32_2036 : BitVec 32 := 1#32
  ⟨c1_i32_2035, v7409, c1_i32_2036⟩
def k0_mult61 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2119 : BitVec 32 := 1#32
  let v7540 : BitVec 32 := Scalar.subi arg14 c1_i32_2119
  let c512_i32_2120 : BitVec 32 := 512#32
  let v7541 : BitVec 32 := Scalar.muli v7540 c512_i32_2120
  v7541
def k0_off3 (k0_t1 : Fin k0_t1_loop.trips) : Fin 4 → Nat :=
  let c0_2131 : Index := 0#32
  let c0_2132 : Index := 0#32
  let c0_2133 : Index := 0#32
  let c1_i32_2035 : BitVec 32 := 1#32
  let c1_i32_2036 : BitVec 32 := 1#32
  let arg14 : BitVec 32 := Scf.iv c1_i32_2035 c1_i32_2036 k0_t1
  let c1_i32_2119 : BitVec 32 := 1#32
  let v7540 : BitVec 32 := Scalar.subi arg14 c1_i32_2119
  let c512_i32_2120 : BitVec 32 := 512#32
  let v7541 : BitVec 32 := Scalar.muli v7540 c512_i32_2120
  let v7542 : BitVec 32 := v7541
  let v7563 : Index := Scalar.indexCast v7542
  ![0, 0, 0, v7563.toNat]
def k0_off4 (k0_t1 : Fin k0_t1_loop.trips) : Fin 4 → Nat :=
  let c0_2146 : Index := 0#32
  let c0_2147 : Index := 0#32
  let c1_2148 : Index := 1#32
  let c1_i32_2035 : BitVec 32 := 1#32
  let c1_i32_2036 : BitVec 32 := 1#32
  let arg14 : BitVec 32 := Scf.iv c1_i32_2035 c1_i32_2036 k0_t1
  let c1_i32_2119 : BitVec 32 := 1#32
  let v7540 : BitVec 32 := Scalar.subi arg14 c1_i32_2119
  let c512_i32_2120 : BitVec 32 := 512#32
  let v7541 : BitVec 32 := Scalar.muli v7540 c512_i32_2120
  let v7542 : BitVec 32 := v7541
  let v7584 : Index := Scalar.indexCast v7542
  ![0, 0, 1, v7584.toNat]
def k0_off5 (k0_t1 : Fin k0_t1_loop.trips) : Fin 4 → Nat :=
  let c0_2161 : Index := 0#32
  let c0_2162 : Index := 0#32
  let c2_2163 : Index := 2#32
  let c1_i32_2035 : BitVec 32 := 1#32
  let c1_i32_2036 : BitVec 32 := 1#32
  let arg14 : BitVec 32 := Scf.iv c1_i32_2035 c1_i32_2036 k0_t1
  let c1_i32_2119 : BitVec 32 := 1#32
  let v7540 : BitVec 32 := Scalar.subi arg14 c1_i32_2119
  let c512_i32_2120 : BitVec 32 := 512#32
  let v7541 : BitVec 32 := Scalar.muli v7540 c512_i32_2120
  let v7542 : BitVec 32 := v7541
  let v7606 : Index := Scalar.indexCast v7542
  ![0, 0, 2, v7606.toNat]
def k0_off6 (k0_t1 : Fin k0_t1_loop.trips) : Fin 4 → Nat :=
  let c0_2176 : Index := 0#32
  let c0_2177 : Index := 0#32
  let c3_2178 : Index := 3#32
  let c1_i32_2035 : BitVec 32 := 1#32
  let c1_i32_2036 : BitVec 32 := 1#32
  let arg14 : BitVec 32 := Scf.iv c1_i32_2035 c1_i32_2036 k0_t1
  let c1_i32_2119 : BitVec 32 := 1#32
  let v7540 : BitVec 32 := Scalar.subi arg14 c1_i32_2119
  let c512_i32_2120 : BitVec 32 := 512#32
  let v7541 : BitVec 32 := Scalar.muli v7540 c512_i32_2120
  let v7542 : BitVec 32 := v7541
  let v7628 : Index := Scalar.indexCast v7542
  ![0, 0, 3, v7628.toNat]
def k0_off7 (k0_t1 : Fin k0_t1_loop.trips) : Fin 4 → Nat :=
  let c0_2191 : Index := 0#32
  let c0_2192 : Index := 0#32
  let c4_2193 : Index := 4#32
  let c1_i32_2035 : BitVec 32 := 1#32
  let c1_i32_2036 : BitVec 32 := 1#32
  let arg14 : BitVec 32 := Scf.iv c1_i32_2035 c1_i32_2036 k0_t1
  let c1_i32_2119 : BitVec 32 := 1#32
  let v7540 : BitVec 32 := Scalar.subi arg14 c1_i32_2119
  let c512_i32_2120 : BitVec 32 := 512#32
  let v7541 : BitVec 32 := Scalar.muli v7540 c512_i32_2120
  let v7542 : BitVec 32 := v7541
  let v7650 : Index := Scalar.indexCast v7542
  ![0, 0, 4, v7650.toNat]
def k0_mult62 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2119 : BitVec 32 := 1#32
  let v7540 : BitVec 32 := Scalar.subi arg14 c1_i32_2119
  let c8_i32_2199 : BitVec 32 := 8#32
  let v7667 : BitVec 32 := Scalar.muli v7540 c8_i32_2199
  v7667
def k0_off8 (k0_t1 : Fin k0_t1_loop.trips) : Fin 4 → Nat :=
  let c0_2200 : Index := 0#32
  let c0_2201 : Index := 0#32
  let c1_i32_2035 : BitVec 32 := 1#32
  let c1_i32_2036 : BitVec 32 := 1#32
  let arg14 : BitVec 32 := Scf.iv c1_i32_2035 c1_i32_2036 k0_t1
  let c1_i32_2119 : BitVec 32 := 1#32
  let v7540 : BitVec 32 := Scalar.subi arg14 c1_i32_2119
  let c8_i32_2199 : BitVec 32 := 8#32
  let v7667 : BitVec 32 := Scalar.muli v7540 c8_i32_2199
  let v7668 : BitVec 32 := v7667
  let v7669 : Index := Scalar.indexCast v7668
  let c0_2202 : Index := 0#32
  ![0, 0, v7669.toNat, 0]
def k0_mult63 : BitVec 32 :=
  let c0_i32_2203 : BitVec 32 := 0#32
  c0_i32_2203
def k0_mult64 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_2207 : BitVec 32 := 512#32
  let v7677 : BitVec 32 := Scalar.muli arg14 c512_i32_2207
  let c0_i32_2208 : BitVec 32 := 0#32
  let v7678 : BitVec 32 := Scalar.addi v7677 c0_i32_2208
  v7678
def k0_off9 (k0_t1 : Fin k0_t1_loop.trips) (c0_i32_2208 : BitVec 32) : Fin 5 → Nat :=
  let c0_2209 : Index := 0#32
  let c0_2210 : Index := 0#32
  let c0_2211 : Index := 0#32
  let c1_i32_2035 : BitVec 32 := 1#32
  let c1_i32_2036 : BitVec 32 := 1#32
  let arg14 : BitVec 32 := Scf.iv c1_i32_2035 c1_i32_2036 k0_t1
  let c512_i32_2207 : BitVec 32 := 512#32
  let v7677 : BitVec 32 := Scalar.muli arg14 c512_i32_2207
  let v7678 : BitVec 32 := Scalar.addi v7677 c0_i32_2208
  let v7679 : BitVec 32 := v7678
  let v7680 : Index := Scalar.indexCast v7679
  let c0_2212 : Index := 0#32
  ![0, 0, 0, v7680.toNat, 0]
def k0_mult65 : BitVec 32 :=
  let c0_i32_2219 : BitVec 32 := 0#32
  c0_i32_2219
def k0_mult66 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_2222 : BitVec 32 := 512#32
  let v7821 : BitVec 32 := Scalar.muli arg14 c512_i32_2222
  let c256_i32_2223 : BitVec 32 := 256#32
  let v7822 : BitVec 32 := Scalar.addi v7821 c256_i32_2223
  v7822
def k0_mult67 : BitVec 32 :=
  let c0_i32_2234 : BitVec 32 := 0#32
  c0_i32_2234
def k0_mult68 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_2237 : BitVec 32 := 512#32
  let v7965 : BitVec 32 := Scalar.muli arg14 c512_i32_2237
  let c0_i32_2238 : BitVec 32 := 0#32
  let v7966 : BitVec 32 := Scalar.addi v7965 c0_i32_2238
  v7966
def k0_off10 (k0_t1 : Fin k0_t1_loop.trips) (c0_i32_2238 : BitVec 32) : Fin 5 → Nat :=
  let c0_2239 : Index := 0#32
  let c0_2240 : Index := 0#32
  let c1_2241 : Index := 1#32
  let c1_i32_2035 : BitVec 32 := 1#32
  let c1_i32_2036 : BitVec 32 := 1#32
  let arg14 : BitVec 32 := Scf.iv c1_i32_2035 c1_i32_2036 k0_t1
  let c512_i32_2237 : BitVec 32 := 512#32
  let v7965 : BitVec 32 := Scalar.muli arg14 c512_i32_2237
  let v7966 : BitVec 32 := Scalar.addi v7965 c0_i32_2238
  let v7967 : BitVec 32 := v7966
  let v7968 : Index := Scalar.indexCast v7967
  let c0_2242 : Index := 0#32
  ![0, 0, 1, v7968.toNat, 0]
def k0_mult69 : BitVec 32 :=
  let c0_i32_2249 : BitVec 32 := 0#32
  c0_i32_2249
def k0_mult70 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_2252 : BitVec 32 := 512#32
  let v8109 : BitVec 32 := Scalar.muli arg14 c512_i32_2252
  let c256_i32_2253 : BitVec 32 := 256#32
  let v8110 : BitVec 32 := Scalar.addi v8109 c256_i32_2253
  v8110
def k0_mult71 : BitVec 32 :=
  let c0_i32_2264 : BitVec 32 := 0#32
  c0_i32_2264
def k0_mult72 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_2267 : BitVec 32 := 512#32
  let v8253 : BitVec 32 := Scalar.muli arg14 c512_i32_2267
  let c0_i32_2268 : BitVec 32 := 0#32
  let v8254 : BitVec 32 := Scalar.addi v8253 c0_i32_2268
  v8254
def k0_off11 (k0_t1 : Fin k0_t1_loop.trips) (c0_i32_2268 : BitVec 32) : Fin 5 → Nat :=
  let c0_2269 : Index := 0#32
  let c0_2270 : Index := 0#32
  let c2_2271 : Index := 2#32
  let c1_i32_2035 : BitVec 32 := 1#32
  let c1_i32_2036 : BitVec 32 := 1#32
  let arg14 : BitVec 32 := Scf.iv c1_i32_2035 c1_i32_2036 k0_t1
  let c512_i32_2267 : BitVec 32 := 512#32
  let v8253 : BitVec 32 := Scalar.muli arg14 c512_i32_2267
  let v8254 : BitVec 32 := Scalar.addi v8253 c0_i32_2268
  let v8255 : BitVec 32 := v8254
  let v8256 : Index := Scalar.indexCast v8255
  let c0_2272 : Index := 0#32
  ![0, 0, 2, v8256.toNat, 0]
def k0_mult73 : BitVec 32 :=
  let c0_i32_2279 : BitVec 32 := 0#32
  c0_i32_2279
def k0_mult74 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_2282 : BitVec 32 := 512#32
  let v8397 : BitVec 32 := Scalar.muli arg14 c512_i32_2282
  let c256_i32_2283 : BitVec 32 := 256#32
  let v8398 : BitVec 32 := Scalar.addi v8397 c256_i32_2283
  v8398
def k0_mult75 : BitVec 32 :=
  let c0_i32_2294 : BitVec 32 := 0#32
  c0_i32_2294
def k0_mult76 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_2297 : BitVec 32 := 512#32
  let v8541 : BitVec 32 := Scalar.muli arg14 c512_i32_2297
  let c0_i32_2298 : BitVec 32 := 0#32
  let v8542 : BitVec 32 := Scalar.addi v8541 c0_i32_2298
  v8542
def k0_off12 (k0_t1 : Fin k0_t1_loop.trips) (c0_i32_2298 : BitVec 32) : Fin 5 → Nat :=
  let c0_2299 : Index := 0#32
  let c0_2300 : Index := 0#32
  let c3_2301 : Index := 3#32
  let c1_i32_2035 : BitVec 32 := 1#32
  let c1_i32_2036 : BitVec 32 := 1#32
  let arg14 : BitVec 32 := Scf.iv c1_i32_2035 c1_i32_2036 k0_t1
  let c512_i32_2297 : BitVec 32 := 512#32
  let v8541 : BitVec 32 := Scalar.muli arg14 c512_i32_2297
  let v8542 : BitVec 32 := Scalar.addi v8541 c0_i32_2298
  let v8543 : BitVec 32 := v8542
  let v8544 : Index := Scalar.indexCast v8543
  let c0_2302 : Index := 0#32
  ![0, 0, 3, v8544.toNat, 0]
def k0_mult77 : BitVec 32 :=
  let c0_i32_2309 : BitVec 32 := 0#32
  c0_i32_2309
def k0_mult78 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_2312 : BitVec 32 := 512#32
  let v8685 : BitVec 32 := Scalar.muli arg14 c512_i32_2312
  let c256_i32_2313 : BitVec 32 := 256#32
  let v8686 : BitVec 32 := Scalar.addi v8685 c256_i32_2313
  v8686
def k0_mult79 : BitVec 32 :=
  let c0_i32_2324 : BitVec 32 := 0#32
  c0_i32_2324
def k0_mult80 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_2327 : BitVec 32 := 512#32
  let v8829 : BitVec 32 := Scalar.muli arg14 c512_i32_2327
  let c0_i32_2328 : BitVec 32 := 0#32
  let v8830 : BitVec 32 := Scalar.addi v8829 c0_i32_2328
  v8830
def k0_off13 (k0_t1 : Fin k0_t1_loop.trips) (c0_i32_2328 : BitVec 32) : Fin 5 → Nat :=
  let c0_2329 : Index := 0#32
  let c0_2330 : Index := 0#32
  let c4_2331 : Index := 4#32
  let c1_i32_2035 : BitVec 32 := 1#32
  let c1_i32_2036 : BitVec 32 := 1#32
  let arg14 : BitVec 32 := Scf.iv c1_i32_2035 c1_i32_2036 k0_t1
  let c512_i32_2327 : BitVec 32 := 512#32
  let v8829 : BitVec 32 := Scalar.muli arg14 c512_i32_2327
  let v8830 : BitVec 32 := Scalar.addi v8829 c0_i32_2328
  let v8831 : BitVec 32 := v8830
  let v8832 : Index := Scalar.indexCast v8831
  let c0_2332 : Index := 0#32
  ![0, 0, 4, v8832.toNat, 0]
def k0_mult81 : BitVec 32 :=
  let c0_i32_2339 : BitVec 32 := 0#32
  c0_i32_2339
def k0_mult82 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_2342 : BitVec 32 := 512#32
  let v8973 : BitVec 32 := Scalar.muli arg14 c512_i32_2342
  let c256_i32_2343 : BitVec 32 := 256#32
  let v8974 : BitVec 32 := Scalar.addi v8973 c256_i32_2343
  v8974
def k0_mult83 : BitVec 32 :=
  let c0_i32_2354 : BitVec 32 := 0#32
  c0_i32_2354
def k0_mult84 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2360 : BitVec 32 := 8#32
  let v9119 : BitVec 32 := Scalar.muli arg14 c8_i32_2360
  v9119
def k0_off14 (k0_t1 : Fin k0_t1_loop.trips) : Fin 3 → Nat :=
  let c0_2361 : Index := 0#32
  let c1_i32_2035 : BitVec 32 := 1#32
  let c1_i32_2036 : BitVec 32 := 1#32
  let arg14 : BitVec 32 := Scf.iv c1_i32_2035 c1_i32_2036 k0_t1
  let c8_i32_2360 : BitVec 32 := 8#32
  let v9119 : BitVec 32 := Scalar.muli arg14 c8_i32_2360
  let v9120 : BitVec 32 := v9119
  let v9121 : Index := Scalar.indexCast v9120
  let c0_2362 : Index := 0#32
  ![0, v9121.toNat, 0]
def k0_mult85 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2377 : BitVec 32 := 8#32
  let v9176 : BitVec 32 := Scalar.muli arg14 c8_i32_2377
  v9176
def k0_off15 (k0_t1 : Fin k0_t1_loop.trips) : Fin 3 → Nat :=
  let c0_2378 : Index := 0#32
  let c1_i32_2035 : BitVec 32 := 1#32
  let c1_i32_2036 : BitVec 32 := 1#32
  let arg14 : BitVec 32 := Scf.iv c1_i32_2035 c1_i32_2036 k0_t1
  let c8_i32_2377 : BitVec 32 := 8#32
  let v9176 : BitVec 32 := Scalar.muli arg14 c8_i32_2377
  let v9177 : BitVec 32 := v9176
  let v9178 : Index := Scalar.indexCast v9177
  let c128_2379 : Index := 128#32
  ![0, v9178.toNat, 128]
def k0_mult86 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2394 : BitVec 32 := 8#32
  let v9265 : BitVec 32 := Scalar.muli arg14 c8_i32_2394
  v9265
def k0_off16 (k0_t1 : Fin k0_t1_loop.trips) : Fin 3 → Nat :=
  let c0_2395 : Index := 0#32
  let c1_i32_2035 : BitVec 32 := 1#32
  let c1_i32_2036 : BitVec 32 := 1#32
  let arg14 : BitVec 32 := Scf.iv c1_i32_2035 c1_i32_2036 k0_t1
  let c8_i32_2394 : BitVec 32 := 8#32
  let v9265 : BitVec 32 := Scalar.muli arg14 c8_i32_2394
  let v9266 : BitVec 32 := v9265
  let v9267 : Index := Scalar.indexCast v9266
  let c256_2396 : Index := 256#32
  ![0, v9267.toNat, 256]
def k0_mult87 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2411 : BitVec 32 := 8#32
  let v9386 : BitVec 32 := Scalar.muli arg14 c8_i32_2411
  v9386
def k0_off17 (k0_t1 : Fin k0_t1_loop.trips) : Fin 3 → Nat :=
  let c0_2412 : Index := 0#32
  let c1_i32_2035 : BitVec 32 := 1#32
  let c1_i32_2036 : BitVec 32 := 1#32
  let arg14 : BitVec 32 := Scf.iv c1_i32_2035 c1_i32_2036 k0_t1
  let c8_i32_2411 : BitVec 32 := 8#32
  let v9386 : BitVec 32 := Scalar.muli arg14 c8_i32_2411
  let v9387 : BitVec 32 := v9386
  let v9388 : Index := Scalar.indexCast v9387
  let c384_2413 : Index := 384#32
  ![0, v9388.toNat, 384]
def k0_mult88 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2428 : BitVec 32 := 8#32
  let v9539 : BitVec 32 := Scalar.muli arg14 c8_i32_2428
  v9539
def k0_off18 (k0_t1 : Fin k0_t1_loop.trips) : Fin 3 → Nat :=
  let c1_2429 : Index := 1#32
  let c1_i32_2035 : BitVec 32 := 1#32
  let c1_i32_2036 : BitVec 32 := 1#32
  let arg14 : BitVec 32 := Scf.iv c1_i32_2035 c1_i32_2036 k0_t1
  let c8_i32_2428 : BitVec 32 := 8#32
  let v9539 : BitVec 32 := Scalar.muli arg14 c8_i32_2428
  let v9540 : BitVec 32 := v9539
  let v9541 : Index := Scalar.indexCast v9540
  let c0_2430 : Index := 0#32
  ![1, v9541.toNat, 0]
def k0_mult89 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2445 : BitVec 32 := 8#32
  let v9596 : BitVec 32 := Scalar.muli arg14 c8_i32_2445
  v9596
def k0_off19 (k0_t1 : Fin k0_t1_loop.trips) : Fin 3 → Nat :=
  let c1_2446 : Index := 1#32
  let c1_i32_2035 : BitVec 32 := 1#32
  let c1_i32_2036 : BitVec 32 := 1#32
  let arg14 : BitVec 32 := Scf.iv c1_i32_2035 c1_i32_2036 k0_t1
  let c8_i32_2445 : BitVec 32 := 8#32
  let v9596 : BitVec 32 := Scalar.muli arg14 c8_i32_2445
  let v9597 : BitVec 32 := v9596
  let v9598 : Index := Scalar.indexCast v9597
  let c128_2447 : Index := 128#32
  ![1, v9598.toNat, 128]
def k0_mult90 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2462 : BitVec 32 := 8#32
  let v9685 : BitVec 32 := Scalar.muli arg14 c8_i32_2462
  v9685
def k0_off20 (k0_t1 : Fin k0_t1_loop.trips) : Fin 3 → Nat :=
  let c1_2463 : Index := 1#32
  let c1_i32_2035 : BitVec 32 := 1#32
  let c1_i32_2036 : BitVec 32 := 1#32
  let arg14 : BitVec 32 := Scf.iv c1_i32_2035 c1_i32_2036 k0_t1
  let c8_i32_2462 : BitVec 32 := 8#32
  let v9685 : BitVec 32 := Scalar.muli arg14 c8_i32_2462
  let v9686 : BitVec 32 := v9685
  let v9687 : Index := Scalar.indexCast v9686
  let c256_2464 : Index := 256#32
  ![1, v9687.toNat, 256]
def k0_mult91 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2479 : BitVec 32 := 8#32
  let v9806 : BitVec 32 := Scalar.muli arg14 c8_i32_2479
  v9806
def k0_off21 (k0_t1 : Fin k0_t1_loop.trips) : Fin 3 → Nat :=
  let c1_2480 : Index := 1#32
  let c1_i32_2035 : BitVec 32 := 1#32
  let c1_i32_2036 : BitVec 32 := 1#32
  let arg14 : BitVec 32 := Scf.iv c1_i32_2035 c1_i32_2036 k0_t1
  let c8_i32_2479 : BitVec 32 := 8#32
  let v9806 : BitVec 32 := Scalar.muli arg14 c8_i32_2479
  let v9807 : BitVec 32 := v9806
  let v9808 : Index := Scalar.indexCast v9807
  let c384_2481 : Index := 384#32
  ![1, v9808.toNat, 384]
def k0_mult92 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2496 : BitVec 32 := 8#32
  let v9959 : BitVec 32 := Scalar.muli arg14 c8_i32_2496
  v9959
def k0_off22 (k0_t1 : Fin k0_t1_loop.trips) : Fin 3 → Nat :=
  let c2_2497 : Index := 2#32
  let c1_i32_2035 : BitVec 32 := 1#32
  let c1_i32_2036 : BitVec 32 := 1#32
  let arg14 : BitVec 32 := Scf.iv c1_i32_2035 c1_i32_2036 k0_t1
  let c8_i32_2496 : BitVec 32 := 8#32
  let v9959 : BitVec 32 := Scalar.muli arg14 c8_i32_2496
  let v9960 : BitVec 32 := v9959
  let v9961 : Index := Scalar.indexCast v9960
  let c0_2498 : Index := 0#32
  ![2, v9961.toNat, 0]
def k0_mult93 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2513 : BitVec 32 := 8#32
  let v10016 : BitVec 32 := Scalar.muli arg14 c8_i32_2513
  v10016
def k0_off23 (k0_t1 : Fin k0_t1_loop.trips) : Fin 3 → Nat :=
  let c2_2514 : Index := 2#32
  let c1_i32_2035 : BitVec 32 := 1#32
  let c1_i32_2036 : BitVec 32 := 1#32
  let arg14 : BitVec 32 := Scf.iv c1_i32_2035 c1_i32_2036 k0_t1
  let c8_i32_2513 : BitVec 32 := 8#32
  let v10016 : BitVec 32 := Scalar.muli arg14 c8_i32_2513
  let v10017 : BitVec 32 := v10016
  let v10018 : Index := Scalar.indexCast v10017
  let c128_2515 : Index := 128#32
  ![2, v10018.toNat, 128]
def k0_mult94 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2530 : BitVec 32 := 8#32
  let v10105 : BitVec 32 := Scalar.muli arg14 c8_i32_2530
  v10105
def k0_off24 (k0_t1 : Fin k0_t1_loop.trips) : Fin 3 → Nat :=
  let c2_2531 : Index := 2#32
  let c1_i32_2035 : BitVec 32 := 1#32
  let c1_i32_2036 : BitVec 32 := 1#32
  let arg14 : BitVec 32 := Scf.iv c1_i32_2035 c1_i32_2036 k0_t1
  let c8_i32_2530 : BitVec 32 := 8#32
  let v10105 : BitVec 32 := Scalar.muli arg14 c8_i32_2530
  let v10106 : BitVec 32 := v10105
  let v10107 : Index := Scalar.indexCast v10106
  let c256_2532 : Index := 256#32
  ![2, v10107.toNat, 256]
def k0_mult95 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2547 : BitVec 32 := 8#32
  let v10226 : BitVec 32 := Scalar.muli arg14 c8_i32_2547
  v10226
def k0_off25 (k0_t1 : Fin k0_t1_loop.trips) : Fin 3 → Nat :=
  let c2_2548 : Index := 2#32
  let c1_i32_2035 : BitVec 32 := 1#32
  let c1_i32_2036 : BitVec 32 := 1#32
  let arg14 : BitVec 32 := Scf.iv c1_i32_2035 c1_i32_2036 k0_t1
  let c8_i32_2547 : BitVec 32 := 8#32
  let v10226 : BitVec 32 := Scalar.muli arg14 c8_i32_2547
  let v10227 : BitVec 32 := v10226
  let v10228 : Index := Scalar.indexCast v10227
  let c384_2549 : Index := 384#32
  ![2, v10228.toNat, 384]
def k0_mult96 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2564 : BitVec 32 := 8#32
  let v10379 : BitVec 32 := Scalar.muli arg14 c8_i32_2564
  v10379
def k0_off26 (k0_t1 : Fin k0_t1_loop.trips) : Fin 3 → Nat :=
  let c3_2565 : Index := 3#32
  let c1_i32_2035 : BitVec 32 := 1#32
  let c1_i32_2036 : BitVec 32 := 1#32
  let arg14 : BitVec 32 := Scf.iv c1_i32_2035 c1_i32_2036 k0_t1
  let c8_i32_2564 : BitVec 32 := 8#32
  let v10379 : BitVec 32 := Scalar.muli arg14 c8_i32_2564
  let v10380 : BitVec 32 := v10379
  let v10381 : Index := Scalar.indexCast v10380
  let c0_2566 : Index := 0#32
  ![3, v10381.toNat, 0]
def k0_mult97 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2581 : BitVec 32 := 8#32
  let v10436 : BitVec 32 := Scalar.muli arg14 c8_i32_2581
  v10436
def k0_off27 (k0_t1 : Fin k0_t1_loop.trips) : Fin 3 → Nat :=
  let c3_2582 : Index := 3#32
  let c1_i32_2035 : BitVec 32 := 1#32
  let c1_i32_2036 : BitVec 32 := 1#32
  let arg14 : BitVec 32 := Scf.iv c1_i32_2035 c1_i32_2036 k0_t1
  let c8_i32_2581 : BitVec 32 := 8#32
  let v10436 : BitVec 32 := Scalar.muli arg14 c8_i32_2581
  let v10437 : BitVec 32 := v10436
  let v10438 : Index := Scalar.indexCast v10437
  let c128_2583 : Index := 128#32
  ![3, v10438.toNat, 128]
def k0_mult98 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2598 : BitVec 32 := 8#32
  let v10525 : BitVec 32 := Scalar.muli arg14 c8_i32_2598
  v10525
def k0_off28 (k0_t1 : Fin k0_t1_loop.trips) : Fin 3 → Nat :=
  let c3_2599 : Index := 3#32
  let c1_i32_2035 : BitVec 32 := 1#32
  let c1_i32_2036 : BitVec 32 := 1#32
  let arg14 : BitVec 32 := Scf.iv c1_i32_2035 c1_i32_2036 k0_t1
  let c8_i32_2598 : BitVec 32 := 8#32
  let v10525 : BitVec 32 := Scalar.muli arg14 c8_i32_2598
  let v10526 : BitVec 32 := v10525
  let v10527 : Index := Scalar.indexCast v10526
  let c256_2600 : Index := 256#32
  ![3, v10527.toNat, 256]
def k0_mult99 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2615 : BitVec 32 := 8#32
  let v10646 : BitVec 32 := Scalar.muli arg14 c8_i32_2615
  v10646
def k0_off29 (k0_t1 : Fin k0_t1_loop.trips) : Fin 3 → Nat :=
  let c3_2616 : Index := 3#32
  let c1_i32_2035 : BitVec 32 := 1#32
  let c1_i32_2036 : BitVec 32 := 1#32
  let arg14 : BitVec 32 := Scf.iv c1_i32_2035 c1_i32_2036 k0_t1
  let c8_i32_2615 : BitVec 32 := 8#32
  let v10646 : BitVec 32 := Scalar.muli arg14 c8_i32_2615
  let v10647 : BitVec 32 := v10646
  let v10648 : Index := Scalar.indexCast v10647
  let c384_2617 : Index := 384#32
  ![3, v10648.toNat, 384]
def k0_mult100 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2632 : BitVec 32 := 8#32
  let v10799 : BitVec 32 := Scalar.muli arg14 c8_i32_2632
  v10799
def k0_off30 (k0_t1 : Fin k0_t1_loop.trips) : Fin 3 → Nat :=
  let c4_2633 : Index := 4#32
  let c1_i32_2035 : BitVec 32 := 1#32
  let c1_i32_2036 : BitVec 32 := 1#32
  let arg14 : BitVec 32 := Scf.iv c1_i32_2035 c1_i32_2036 k0_t1
  let c8_i32_2632 : BitVec 32 := 8#32
  let v10799 : BitVec 32 := Scalar.muli arg14 c8_i32_2632
  let v10800 : BitVec 32 := v10799
  let v10801 : Index := Scalar.indexCast v10800
  let c0_2634 : Index := 0#32
  ![4, v10801.toNat, 0]
def k0_mult101 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2649 : BitVec 32 := 8#32
  let v10856 : BitVec 32 := Scalar.muli arg14 c8_i32_2649
  v10856
def k0_off31 (k0_t1 : Fin k0_t1_loop.trips) : Fin 3 → Nat :=
  let c4_2650 : Index := 4#32
  let c1_i32_2035 : BitVec 32 := 1#32
  let c1_i32_2036 : BitVec 32 := 1#32
  let arg14 : BitVec 32 := Scf.iv c1_i32_2035 c1_i32_2036 k0_t1
  let c8_i32_2649 : BitVec 32 := 8#32
  let v10856 : BitVec 32 := Scalar.muli arg14 c8_i32_2649
  let v10857 : BitVec 32 := v10856
  let v10858 : Index := Scalar.indexCast v10857
  let c128_2651 : Index := 128#32
  ![4, v10858.toNat, 128]
def k0_mult102 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2666 : BitVec 32 := 8#32
  let v10945 : BitVec 32 := Scalar.muli arg14 c8_i32_2666
  v10945
def k0_off32 (k0_t1 : Fin k0_t1_loop.trips) : Fin 3 → Nat :=
  let c4_2667 : Index := 4#32
  let c1_i32_2035 : BitVec 32 := 1#32
  let c1_i32_2036 : BitVec 32 := 1#32
  let arg14 : BitVec 32 := Scf.iv c1_i32_2035 c1_i32_2036 k0_t1
  let c8_i32_2666 : BitVec 32 := 8#32
  let v10945 : BitVec 32 := Scalar.muli arg14 c8_i32_2666
  let v10946 : BitVec 32 := v10945
  let v10947 : Index := Scalar.indexCast v10946
  let c256_2668 : Index := 256#32
  ![4, v10947.toNat, 256]
def k0_mult103 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c8_i32_2683 : BitVec 32 := 8#32
  let v11066 : BitVec 32 := Scalar.muli arg14 c8_i32_2683
  v11066
def k0_off33 (k0_t1 : Fin k0_t1_loop.trips) : Fin 3 → Nat :=
  let c4_2684 : Index := 4#32
  let c1_i32_2035 : BitVec 32 := 1#32
  let c1_i32_2036 : BitVec 32 := 1#32
  let arg14 : BitVec 32 := Scf.iv c1_i32_2035 c1_i32_2036 k0_t1
  let c8_i32_2683 : BitVec 32 := 8#32
  let v11066 : BitVec 32 := Scalar.muli arg14 c8_i32_2683
  let v11067 : BitVec 32 := v11066
  let v11068 : Index := Scalar.indexCast v11067
  let c384_2685 : Index := 384#32
  ![4, v11068.toNat, 384]
@[reducible] def k0_t2_loop (k0_t1 : Fin k0_t1_loop.trips) : Scf.Loop 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2701 : BitVec 32 := 1#32
  ⟨c0_i32_2698, v11222, c1_i32_2701⟩
def k0_mult104 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c512_i32_3761 : BitVec 32 := 512#32
  let v15473 : BitVec 32 := Scalar.muli v15471 c512_i32_3761
  v15473
def k0_off34 (k0_t1 : Fin k0_t1_loop.trips) (k0_t2 : Fin (k0_t2_loop k0_t1).trips) : Fin 4 → Nat :=
  let c0_3762 : Index := 0#32
  let c0_3763 : Index := 0#32
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c512_i32_3761 : BitVec 32 := 512#32
  let v15473 : BitVec 32 := Scalar.muli v15471 c512_i32_3761
  let v15474 : BitVec 32 := v15473
  let v15475 : Index := Scalar.indexCast v15474
  let c0_3764 : Index := 0#32
  ![0, 0, v15475.toNat, 0]
def k0_mult105 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3765 : BitVec 32 := 512#32
  let v15478 : BitVec 32 := Scalar.muli arg14 c512_i32_3765
  let c0_i32_3766 : BitVec 32 := 0#32
  let v15479 : BitVec 32 := Scalar.addi v15478 c0_i32_3766
  v15479
def k0_off35 (k0_t1 : Fin k0_t1_loop.trips) (c0_i32_3766 : BitVec 32) : Fin 5 → Nat :=
  let c0_3767 : Index := 0#32
  let c0_3768 : Index := 0#32
  let c0_3769 : Index := 0#32
  let c1_i32_2035 : BitVec 32 := 1#32
  let c1_i32_2036 : BitVec 32 := 1#32
  let arg14 : BitVec 32 := Scf.iv c1_i32_2035 c1_i32_2036 k0_t1
  let c512_i32_3765 : BitVec 32 := 512#32
  let v15478 : BitVec 32 := Scalar.muli arg14 c512_i32_3765
  let v15479 : BitVec 32 := Scalar.addi v15478 c0_i32_3766
  let v15480 : BitVec 32 := v15479
  let v15481 : Index := Scalar.indexCast v15480
  let c0_3770 : Index := 0#32
  ![0, 0, 0, v15481.toNat, 0]
def k0_off36 (k0_t1 : Fin k0_t1_loop.trips) (k0_t2 : Fin (k0_t2_loop k0_t1).trips) : Fin 5 → Nat :=
  let c1_i32_3760 : BitVec 32 := 1#32
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v15472 : BitVec 32 := Scalar.subi c1_i32_3760 v15470
  let v15487 : Index := Scalar.indexCast v15472
  let c0_3772 : Index := 0#32
  let c0_3773 : Index := 0#32
  let c0_3774 : Index := 0#32
  let c0_3775 : Index := 0#32
  ![v15487.toNat, 0, 0, 0, 0]
def k0_mult106 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3776 : BitVec 32 := 8#32
  let v15618 : BitVec 32 := Scalar.muli v15471 c8_i32_3776
  v15618
def k0_off37 (k0_t1 : Fin k0_t1_loop.trips) (k0_t2 : Fin (k0_t2_loop k0_t1).trips) : Fin 3 → Nat :=
  let c0_3777 : Index := 0#32
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3776 : BitVec 32 := 8#32
  let v15618 : BitVec 32 := Scalar.muli v15471 c8_i32_3776
  let v15619 : BitVec 32 := v15618
  let v15620 : Index := Scalar.indexCast v15619
  let c0_3778 : Index := 0#32
  ![0, v15620.toNat, 0]
def k0_mult107 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3779 : BitVec 32 := 512#32
  let v15624 : BitVec 32 := Scalar.muli arg14 c512_i32_3779
  let c256_i32_3780 : BitVec 32 := 256#32
  let v15625 : BitVec 32 := Scalar.addi v15624 c256_i32_3780
  v15625
def k0_off38 (k0_t1 : Fin k0_t1_loop.trips) (k0_t2 : Fin (k0_t2_loop k0_t1).trips) : Fin 5 → Nat :=
  let c1_i32_3760 : BitVec 32 := 1#32
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v15472 : BitVec 32 := Scalar.subi c1_i32_3760 v15470
  let v15633 : Index := Scalar.indexCast v15472
  let c0_3786 : Index := 0#32
  let c1_3787 : Index := 1#32
  let c0_3788 : Index := 0#32
  let c0_3789 : Index := 0#32
  ![v15633.toNat, 0, 1, 0, 0]
def k0_mult108 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3790 : BitVec 32 := 8#32
  let v15764 : BitVec 32 := Scalar.muli v15471 c8_i32_3790
  v15764
def k0_off39 (k0_t1 : Fin k0_t1_loop.trips) (k0_t2 : Fin (k0_t2_loop k0_t1).trips) : Fin 3 → Nat :=
  let c0_3791 : Index := 0#32
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3790 : BitVec 32 := 8#32
  let v15764 : BitVec 32 := Scalar.muli v15471 c8_i32_3790
  let v15765 : BitVec 32 := v15764
  let v15766 : Index := Scalar.indexCast v15765
  let c256_3792 : Index := 256#32
  ![0, v15766.toNat, 256]
def k0_mult109 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3793 : BitVec 32 := 512#32
  let v15770 : BitVec 32 := Scalar.muli arg14 c512_i32_3793
  let c0_i32_3794 : BitVec 32 := 0#32
  let v15771 : BitVec 32 := Scalar.addi v15770 c0_i32_3794
  v15771
def k0_off40 (k0_t1 : Fin k0_t1_loop.trips) (c0_i32_3794 : BitVec 32) : Fin 5 → Nat :=
  let c0_3795 : Index := 0#32
  let c0_3796 : Index := 0#32
  let c1_3797 : Index := 1#32
  let c1_i32_2035 : BitVec 32 := 1#32
  let c1_i32_2036 : BitVec 32 := 1#32
  let arg14 : BitVec 32 := Scf.iv c1_i32_2035 c1_i32_2036 k0_t1
  let c512_i32_3793 : BitVec 32 := 512#32
  let v15770 : BitVec 32 := Scalar.muli arg14 c512_i32_3793
  let v15771 : BitVec 32 := Scalar.addi v15770 c0_i32_3794
  let v15772 : BitVec 32 := v15771
  let v15773 : Index := Scalar.indexCast v15772
  let c0_3798 : Index := 0#32
  ![0, 0, 1, v15773.toNat, 0]
def k0_off41 (k0_t1 : Fin k0_t1_loop.trips) (k0_t2 : Fin (k0_t2_loop k0_t1).trips) : Fin 5 → Nat :=
  let c1_i32_3760 : BitVec 32 := 1#32
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v15472 : BitVec 32 := Scalar.subi c1_i32_3760 v15470
  let v15779 : Index := Scalar.indexCast v15472
  let c1_3800 : Index := 1#32
  let c0_3801 : Index := 0#32
  let c0_3802 : Index := 0#32
  let c0_3803 : Index := 0#32
  ![v15779.toNat, 1, 0, 0, 0]
def k0_mult110 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3804 : BitVec 32 := 8#32
  let v15910 : BitVec 32 := Scalar.muli v15471 c8_i32_3804
  v15910
def k0_off42 (k0_t1 : Fin k0_t1_loop.trips) (k0_t2 : Fin (k0_t2_loop k0_t1).trips) : Fin 3 → Nat :=
  let c1_3805 : Index := 1#32
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3804 : BitVec 32 := 8#32
  let v15910 : BitVec 32 := Scalar.muli v15471 c8_i32_3804
  let v15911 : BitVec 32 := v15910
  let v15912 : Index := Scalar.indexCast v15911
  let c0_3806 : Index := 0#32
  ![1, v15912.toNat, 0]
def k0_mult111 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3807 : BitVec 32 := 512#32
  let v15916 : BitVec 32 := Scalar.muli arg14 c512_i32_3807
  let c256_i32_3808 : BitVec 32 := 256#32
  let v15917 : BitVec 32 := Scalar.addi v15916 c256_i32_3808
  v15917
def k0_off43 (k0_t1 : Fin k0_t1_loop.trips) (k0_t2 : Fin (k0_t2_loop k0_t1).trips) : Fin 5 → Nat :=
  let c1_i32_3760 : BitVec 32 := 1#32
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v15472 : BitVec 32 := Scalar.subi c1_i32_3760 v15470
  let v15925 : Index := Scalar.indexCast v15472
  let c1_3814 : Index := 1#32
  let c1_3815 : Index := 1#32
  let c0_3816 : Index := 0#32
  let c0_3817 : Index := 0#32
  ![v15925.toNat, 1, 1, 0, 0]
def k0_mult112 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3818 : BitVec 32 := 8#32
  let v16056 : BitVec 32 := Scalar.muli v15471 c8_i32_3818
  v16056
def k0_off44 (k0_t1 : Fin k0_t1_loop.trips) (k0_t2 : Fin (k0_t2_loop k0_t1).trips) : Fin 3 → Nat :=
  let c1_3819 : Index := 1#32
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3818 : BitVec 32 := 8#32
  let v16056 : BitVec 32 := Scalar.muli v15471 c8_i32_3818
  let v16057 : BitVec 32 := v16056
  let v16058 : Index := Scalar.indexCast v16057
  let c256_3820 : Index := 256#32
  ![1, v16058.toNat, 256]
def k0_mult113 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3821 : BitVec 32 := 512#32
  let v16062 : BitVec 32 := Scalar.muli arg14 c512_i32_3821
  let c0_i32_3822 : BitVec 32 := 0#32
  let v16063 : BitVec 32 := Scalar.addi v16062 c0_i32_3822
  v16063
def k0_off45 (k0_t1 : Fin k0_t1_loop.trips) (c0_i32_3822 : BitVec 32) : Fin 5 → Nat :=
  let c0_3823 : Index := 0#32
  let c0_3824 : Index := 0#32
  let c2_3825 : Index := 2#32
  let c1_i32_2035 : BitVec 32 := 1#32
  let c1_i32_2036 : BitVec 32 := 1#32
  let arg14 : BitVec 32 := Scf.iv c1_i32_2035 c1_i32_2036 k0_t1
  let c512_i32_3821 : BitVec 32 := 512#32
  let v16062 : BitVec 32 := Scalar.muli arg14 c512_i32_3821
  let v16063 : BitVec 32 := Scalar.addi v16062 c0_i32_3822
  let v16064 : BitVec 32 := v16063
  let v16065 : Index := Scalar.indexCast v16064
  let c0_3826 : Index := 0#32
  ![0, 0, 2, v16065.toNat, 0]
def k0_off46 (k0_t1 : Fin k0_t1_loop.trips) (k0_t2 : Fin (k0_t2_loop k0_t1).trips) : Fin 5 → Nat :=
  let c1_i32_3760 : BitVec 32 := 1#32
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v15472 : BitVec 32 := Scalar.subi c1_i32_3760 v15470
  let v16071 : Index := Scalar.indexCast v15472
  let c2_3828 : Index := 2#32
  let c0_3829 : Index := 0#32
  let c0_3830 : Index := 0#32
  let c0_3831 : Index := 0#32
  ![v16071.toNat, 2, 0, 0, 0]
def k0_mult114 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3832 : BitVec 32 := 8#32
  let v16202 : BitVec 32 := Scalar.muli v15471 c8_i32_3832
  v16202
def k0_off47 (k0_t1 : Fin k0_t1_loop.trips) (k0_t2 : Fin (k0_t2_loop k0_t1).trips) : Fin 3 → Nat :=
  let c2_3833 : Index := 2#32
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3832 : BitVec 32 := 8#32
  let v16202 : BitVec 32 := Scalar.muli v15471 c8_i32_3832
  let v16203 : BitVec 32 := v16202
  let v16204 : Index := Scalar.indexCast v16203
  let c0_3834 : Index := 0#32
  ![2, v16204.toNat, 0]
def k0_mult115 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3835 : BitVec 32 := 512#32
  let v16208 : BitVec 32 := Scalar.muli arg14 c512_i32_3835
  let c256_i32_3836 : BitVec 32 := 256#32
  let v16209 : BitVec 32 := Scalar.addi v16208 c256_i32_3836
  v16209
def k0_off48 (k0_t1 : Fin k0_t1_loop.trips) (k0_t2 : Fin (k0_t2_loop k0_t1).trips) : Fin 5 → Nat :=
  let c1_i32_3760 : BitVec 32 := 1#32
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v15472 : BitVec 32 := Scalar.subi c1_i32_3760 v15470
  let v16217 : Index := Scalar.indexCast v15472
  let c2_3842 : Index := 2#32
  let c1_3843 : Index := 1#32
  let c0_3844 : Index := 0#32
  let c0_3845 : Index := 0#32
  ![v16217.toNat, 2, 1, 0, 0]
def k0_mult116 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3846 : BitVec 32 := 8#32
  let v16348 : BitVec 32 := Scalar.muli v15471 c8_i32_3846
  v16348
def k0_off49 (k0_t1 : Fin k0_t1_loop.trips) (k0_t2 : Fin (k0_t2_loop k0_t1).trips) : Fin 3 → Nat :=
  let c2_3847 : Index := 2#32
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3846 : BitVec 32 := 8#32
  let v16348 : BitVec 32 := Scalar.muli v15471 c8_i32_3846
  let v16349 : BitVec 32 := v16348
  let v16350 : Index := Scalar.indexCast v16349
  let c256_3848 : Index := 256#32
  ![2, v16350.toNat, 256]
def k0_mult117 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3849 : BitVec 32 := 512#32
  let v16354 : BitVec 32 := Scalar.muli arg14 c512_i32_3849
  let c0_i32_3850 : BitVec 32 := 0#32
  let v16355 : BitVec 32 := Scalar.addi v16354 c0_i32_3850
  v16355
def k0_off50 (k0_t1 : Fin k0_t1_loop.trips) (c0_i32_3850 : BitVec 32) : Fin 5 → Nat :=
  let c0_3851 : Index := 0#32
  let c0_3852 : Index := 0#32
  let c3_3853 : Index := 3#32
  let c1_i32_2035 : BitVec 32 := 1#32
  let c1_i32_2036 : BitVec 32 := 1#32
  let arg14 : BitVec 32 := Scf.iv c1_i32_2035 c1_i32_2036 k0_t1
  let c512_i32_3849 : BitVec 32 := 512#32
  let v16354 : BitVec 32 := Scalar.muli arg14 c512_i32_3849
  let v16355 : BitVec 32 := Scalar.addi v16354 c0_i32_3850
  let v16356 : BitVec 32 := v16355
  let v16357 : Index := Scalar.indexCast v16356
  let c0_3854 : Index := 0#32
  ![0, 0, 3, v16357.toNat, 0]
def k0_off51 (k0_t1 : Fin k0_t1_loop.trips) (k0_t2 : Fin (k0_t2_loop k0_t1).trips) : Fin 5 → Nat :=
  let c1_i32_3760 : BitVec 32 := 1#32
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v15472 : BitVec 32 := Scalar.subi c1_i32_3760 v15470
  let v16363 : Index := Scalar.indexCast v15472
  let c3_3856 : Index := 3#32
  let c0_3857 : Index := 0#32
  let c0_3858 : Index := 0#32
  let c0_3859 : Index := 0#32
  ![v16363.toNat, 3, 0, 0, 0]
def k0_mult118 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3860 : BitVec 32 := 8#32
  let v16494 : BitVec 32 := Scalar.muli v15471 c8_i32_3860
  v16494
def k0_off52 (k0_t1 : Fin k0_t1_loop.trips) (k0_t2 : Fin (k0_t2_loop k0_t1).trips) : Fin 3 → Nat :=
  let c3_3861 : Index := 3#32
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3860 : BitVec 32 := 8#32
  let v16494 : BitVec 32 := Scalar.muli v15471 c8_i32_3860
  let v16495 : BitVec 32 := v16494
  let v16496 : Index := Scalar.indexCast v16495
  let c0_3862 : Index := 0#32
  ![3, v16496.toNat, 0]
def k0_mult119 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3863 : BitVec 32 := 512#32
  let v16500 : BitVec 32 := Scalar.muli arg14 c512_i32_3863
  let c256_i32_3864 : BitVec 32 := 256#32
  let v16501 : BitVec 32 := Scalar.addi v16500 c256_i32_3864
  v16501
def k0_off53 (k0_t1 : Fin k0_t1_loop.trips) (k0_t2 : Fin (k0_t2_loop k0_t1).trips) : Fin 5 → Nat :=
  let c1_i32_3760 : BitVec 32 := 1#32
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v15472 : BitVec 32 := Scalar.subi c1_i32_3760 v15470
  let v16509 : Index := Scalar.indexCast v15472
  let c3_3870 : Index := 3#32
  let c1_3871 : Index := 1#32
  let c0_3872 : Index := 0#32
  let c0_3873 : Index := 0#32
  ![v16509.toNat, 3, 1, 0, 0]
def k0_mult120 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3874 : BitVec 32 := 8#32
  let v16640 : BitVec 32 := Scalar.muli v15471 c8_i32_3874
  v16640
def k0_off54 (k0_t1 : Fin k0_t1_loop.trips) (k0_t2 : Fin (k0_t2_loop k0_t1).trips) : Fin 3 → Nat :=
  let c3_3875 : Index := 3#32
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3874 : BitVec 32 := 8#32
  let v16640 : BitVec 32 := Scalar.muli v15471 c8_i32_3874
  let v16641 : BitVec 32 := v16640
  let v16642 : Index := Scalar.indexCast v16641
  let c256_3876 : Index := 256#32
  ![3, v16642.toNat, 256]
def k0_mult121 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3877 : BitVec 32 := 512#32
  let v16646 : BitVec 32 := Scalar.muli arg14 c512_i32_3877
  let c0_i32_3878 : BitVec 32 := 0#32
  let v16647 : BitVec 32 := Scalar.addi v16646 c0_i32_3878
  v16647
def k0_off55 (k0_t1 : Fin k0_t1_loop.trips) (c0_i32_3878 : BitVec 32) : Fin 5 → Nat :=
  let c0_3879 : Index := 0#32
  let c0_3880 : Index := 0#32
  let c4_3881 : Index := 4#32
  let c1_i32_2035 : BitVec 32 := 1#32
  let c1_i32_2036 : BitVec 32 := 1#32
  let arg14 : BitVec 32 := Scf.iv c1_i32_2035 c1_i32_2036 k0_t1
  let c512_i32_3877 : BitVec 32 := 512#32
  let v16646 : BitVec 32 := Scalar.muli arg14 c512_i32_3877
  let v16647 : BitVec 32 := Scalar.addi v16646 c0_i32_3878
  let v16648 : BitVec 32 := v16647
  let v16649 : Index := Scalar.indexCast v16648
  let c0_3882 : Index := 0#32
  ![0, 0, 4, v16649.toNat, 0]
def k0_off56 (k0_t1 : Fin k0_t1_loop.trips) (k0_t2 : Fin (k0_t2_loop k0_t1).trips) : Fin 5 → Nat :=
  let c1_i32_3760 : BitVec 32 := 1#32
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v15472 : BitVec 32 := Scalar.subi c1_i32_3760 v15470
  let v16655 : Index := Scalar.indexCast v15472
  let c4_3884 : Index := 4#32
  let c0_3885 : Index := 0#32
  let c0_3886 : Index := 0#32
  let c0_3887 : Index := 0#32
  ![v16655.toNat, 4, 0, 0, 0]
def k0_mult122 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3888 : BitVec 32 := 8#32
  let v16786 : BitVec 32 := Scalar.muli v15471 c8_i32_3888
  v16786
def k0_off57 (k0_t1 : Fin k0_t1_loop.trips) (k0_t2 : Fin (k0_t2_loop k0_t1).trips) : Fin 3 → Nat :=
  let c4_3889 : Index := 4#32
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3888 : BitVec 32 := 8#32
  let v16786 : BitVec 32 := Scalar.muli v15471 c8_i32_3888
  let v16787 : BitVec 32 := v16786
  let v16788 : Index := Scalar.indexCast v16787
  let c0_3890 : Index := 0#32
  ![4, v16788.toNat, 0]
def k0_mult123 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3891 : BitVec 32 := 512#32
  let v16792 : BitVec 32 := Scalar.muli arg14 c512_i32_3891
  let c256_i32_3892 : BitVec 32 := 256#32
  let v16793 : BitVec 32 := Scalar.addi v16792 c256_i32_3892
  v16793
def k0_off58 (k0_t1 : Fin k0_t1_loop.trips) (k0_t2 : Fin (k0_t2_loop k0_t1).trips) : Fin 5 → Nat :=
  let c1_i32_3760 : BitVec 32 := 1#32
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v15472 : BitVec 32 := Scalar.subi c1_i32_3760 v15470
  let v16801 : Index := Scalar.indexCast v15472
  let c4_3898 : Index := 4#32
  let c1_3899 : Index := 1#32
  let c0_3900 : Index := 0#32
  let c0_3901 : Index := 0#32
  ![v16801.toNat, 4, 1, 0, 0]
def k0_mult124 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3902 : BitVec 32 := 8#32
  let v16932 : BitVec 32 := Scalar.muli v15471 c8_i32_3902
  v16932
def k0_off59 (k0_t1 : Fin k0_t1_loop.trips) (k0_t2 : Fin (k0_t2_loop k0_t1).trips) : Fin 3 → Nat :=
  let c4_3903 : Index := 4#32
  let c0_i32_2698 : BitVec 32 := 0#32
  let c1_i32_2701 : BitVec 32 := 1#32
  let arg15 : BitVec 32 := Scf.iv c0_i32_2698 c1_i32_2701 k0_t2
  let c1_i32_3759 : BitVec 32 := 1#32
  let v15471 : BitVec 32 := Scalar.addi arg15 c1_i32_3759
  let c8_i32_3902 : BitVec 32 := 8#32
  let v16932 : BitVec 32 := Scalar.muli v15471 c8_i32_3902
  let v16933 : BitVec 32 := v16932
  let v16934 : Index := Scalar.indexCast v16933
  let c256_3904 : Index := 256#32
  ![4, v16934.toNat, 256]
def k0_mult125 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c8_i32_3905 : BitVec 32 := 8#32
  let v16938 : BitVec 32 := Scalar.muli arg15 c8_i32_3905
  v16938
def k0_off60 (k0_t1 : Fin k0_t1_loop.trips) (k0_t2 : Fin (k0_t2_loop k0_t1).trips) : Fin 3 → Nat :=
  let c0_3906 : Index := 0#32
  let c0_i32_2698 : BitVec 32 := 0#32
  let c1_i32_2701 : BitVec 32 := 1#32
  let arg15 : BitVec 32 := Scf.iv c0_i32_2698 c1_i32_2701 k0_t2
  let c8_i32_3905 : BitVec 32 := 8#32
  let v16938 : BitVec 32 := Scalar.muli arg15 c8_i32_3905
  let v16939 : BitVec 32 := v16938
  let v16940 : Index := Scalar.indexCast v16939
  let c0_3907 : Index := 0#32
  ![0, v16940.toNat, 0]
def k0_off61 (k0_t1 : Fin k0_t1_loop.trips) (k0_t2 : Fin (k0_t2_loop k0_t1).trips) : Fin 5 → Nat :=
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v16949 : Index := Scalar.indexCast v15470
  let c0_3912 : Index := 0#32
  let c0_3913 : Index := 0#32
  let c0_3914 : Index := 0#32
  let c0_3915 : Index := 0#32
  ![v16949.toNat, 0, 0, 0, 0]
def k0_mult126 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c8_i32_3925 : BitVec 32 := 8#32
  let v17097 : BitVec 32 := Scalar.muli arg15 c8_i32_3925
  v17097
def k0_off62 (k0_t1 : Fin k0_t1_loop.trips) (k0_t2 : Fin (k0_t2_loop k0_t1).trips) : Fin 3 → Nat :=
  let c0_3926 : Index := 0#32
  let c0_i32_2698 : BitVec 32 := 0#32
  let c1_i32_2701 : BitVec 32 := 1#32
  let arg15 : BitVec 32 := Scf.iv c0_i32_2698 c1_i32_2701 k0_t2
  let c8_i32_3925 : BitVec 32 := 8#32
  let v17097 : BitVec 32 := Scalar.muli arg15 c8_i32_3925
  let v17098 : BitVec 32 := v17097
  let v17099 : Index := Scalar.indexCast v17098
  let c256_3927 : Index := 256#32
  ![0, v17099.toNat, 256]
def k0_off63 (k0_t1 : Fin k0_t1_loop.trips) (k0_t2 : Fin (k0_t2_loop k0_t1).trips) : Fin 5 → Nat :=
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v17108 : Index := Scalar.indexCast v15470
  let c0_3932 : Index := 0#32
  let c1_3933 : Index := 1#32
  let c0_3934 : Index := 0#32
  let c0_3935 : Index := 0#32
  ![v17108.toNat, 0, 1, 0, 0]
def k0_mult127 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c8_i32_3945 : BitVec 32 := 8#32
  let v17256 : BitVec 32 := Scalar.muli arg15 c8_i32_3945
  v17256
def k0_off64 (k0_t1 : Fin k0_t1_loop.trips) (k0_t2 : Fin (k0_t2_loop k0_t1).trips) : Fin 3 → Nat :=
  let c1_3946 : Index := 1#32
  let c0_i32_2698 : BitVec 32 := 0#32
  let c1_i32_2701 : BitVec 32 := 1#32
  let arg15 : BitVec 32 := Scf.iv c0_i32_2698 c1_i32_2701 k0_t2
  let c8_i32_3945 : BitVec 32 := 8#32
  let v17256 : BitVec 32 := Scalar.muli arg15 c8_i32_3945
  let v17257 : BitVec 32 := v17256
  let v17258 : Index := Scalar.indexCast v17257
  let c0_3947 : Index := 0#32
  ![1, v17258.toNat, 0]
def k0_off65 (k0_t1 : Fin k0_t1_loop.trips) (k0_t2 : Fin (k0_t2_loop k0_t1).trips) : Fin 5 → Nat :=
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v17267 : Index := Scalar.indexCast v15470
  let c1_3952 : Index := 1#32
  let c0_3953 : Index := 0#32
  let c0_3954 : Index := 0#32
  let c0_3955 : Index := 0#32
  ![v17267.toNat, 1, 0, 0, 0]
def k0_mult128 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c8_i32_3965 : BitVec 32 := 8#32
  let v17415 : BitVec 32 := Scalar.muli arg15 c8_i32_3965
  v17415
def k0_off66 (k0_t1 : Fin k0_t1_loop.trips) (k0_t2 : Fin (k0_t2_loop k0_t1).trips) : Fin 3 → Nat :=
  let c1_3966 : Index := 1#32
  let c0_i32_2698 : BitVec 32 := 0#32
  let c1_i32_2701 : BitVec 32 := 1#32
  let arg15 : BitVec 32 := Scf.iv c0_i32_2698 c1_i32_2701 k0_t2
  let c8_i32_3965 : BitVec 32 := 8#32
  let v17415 : BitVec 32 := Scalar.muli arg15 c8_i32_3965
  let v17416 : BitVec 32 := v17415
  let v17417 : Index := Scalar.indexCast v17416
  let c256_3967 : Index := 256#32
  ![1, v17417.toNat, 256]
def k0_off67 (k0_t1 : Fin k0_t1_loop.trips) (k0_t2 : Fin (k0_t2_loop k0_t1).trips) : Fin 5 → Nat :=
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v17426 : Index := Scalar.indexCast v15470
  let c1_3972 : Index := 1#32
  let c1_3973 : Index := 1#32
  let c0_3974 : Index := 0#32
  let c0_3975 : Index := 0#32
  ![v17426.toNat, 1, 1, 0, 0]
def k0_mult129 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c8_i32_3985 : BitVec 32 := 8#32
  let v17574 : BitVec 32 := Scalar.muli arg15 c8_i32_3985
  v17574
def k0_off68 (k0_t1 : Fin k0_t1_loop.trips) (k0_t2 : Fin (k0_t2_loop k0_t1).trips) : Fin 3 → Nat :=
  let c2_3986 : Index := 2#32
  let c0_i32_2698 : BitVec 32 := 0#32
  let c1_i32_2701 : BitVec 32 := 1#32
  let arg15 : BitVec 32 := Scf.iv c0_i32_2698 c1_i32_2701 k0_t2
  let c8_i32_3985 : BitVec 32 := 8#32
  let v17574 : BitVec 32 := Scalar.muli arg15 c8_i32_3985
  let v17575 : BitVec 32 := v17574
  let v17576 : Index := Scalar.indexCast v17575
  let c0_3987 : Index := 0#32
  ![2, v17576.toNat, 0]
def k0_off69 (k0_t1 : Fin k0_t1_loop.trips) (k0_t2 : Fin (k0_t2_loop k0_t1).trips) : Fin 5 → Nat :=
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v17585 : Index := Scalar.indexCast v15470
  let c2_3992 : Index := 2#32
  let c0_3993 : Index := 0#32
  let c0_3994 : Index := 0#32
  let c0_3995 : Index := 0#32
  ![v17585.toNat, 2, 0, 0, 0]
def k0_mult130 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c8_i32_4005 : BitVec 32 := 8#32
  let v17733 : BitVec 32 := Scalar.muli arg15 c8_i32_4005
  v17733
def k0_off70 (k0_t1 : Fin k0_t1_loop.trips) (k0_t2 : Fin (k0_t2_loop k0_t1).trips) : Fin 3 → Nat :=
  let c2_4006 : Index := 2#32
  let c0_i32_2698 : BitVec 32 := 0#32
  let c1_i32_2701 : BitVec 32 := 1#32
  let arg15 : BitVec 32 := Scf.iv c0_i32_2698 c1_i32_2701 k0_t2
  let c8_i32_4005 : BitVec 32 := 8#32
  let v17733 : BitVec 32 := Scalar.muli arg15 c8_i32_4005
  let v17734 : BitVec 32 := v17733
  let v17735 : Index := Scalar.indexCast v17734
  let c256_4007 : Index := 256#32
  ![2, v17735.toNat, 256]
def k0_off71 (k0_t1 : Fin k0_t1_loop.trips) (k0_t2 : Fin (k0_t2_loop k0_t1).trips) : Fin 5 → Nat :=
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v17744 : Index := Scalar.indexCast v15470
  let c2_4012 : Index := 2#32
  let c1_4013 : Index := 1#32
  let c0_4014 : Index := 0#32
  let c0_4015 : Index := 0#32
  ![v17744.toNat, 2, 1, 0, 0]
def k0_mult131 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c8_i32_4025 : BitVec 32 := 8#32
  let v17892 : BitVec 32 := Scalar.muli arg15 c8_i32_4025
  v17892
def k0_off72 (k0_t1 : Fin k0_t1_loop.trips) (k0_t2 : Fin (k0_t2_loop k0_t1).trips) : Fin 3 → Nat :=
  let c3_4026 : Index := 3#32
  let c0_i32_2698 : BitVec 32 := 0#32
  let c1_i32_2701 : BitVec 32 := 1#32
  let arg15 : BitVec 32 := Scf.iv c0_i32_2698 c1_i32_2701 k0_t2
  let c8_i32_4025 : BitVec 32 := 8#32
  let v17892 : BitVec 32 := Scalar.muli arg15 c8_i32_4025
  let v17893 : BitVec 32 := v17892
  let v17894 : Index := Scalar.indexCast v17893
  let c0_4027 : Index := 0#32
  ![3, v17894.toNat, 0]
def k0_off73 (k0_t1 : Fin k0_t1_loop.trips) (k0_t2 : Fin (k0_t2_loop k0_t1).trips) : Fin 5 → Nat :=
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v17903 : Index := Scalar.indexCast v15470
  let c3_4032 : Index := 3#32
  let c0_4033 : Index := 0#32
  let c0_4034 : Index := 0#32
  let c0_4035 : Index := 0#32
  ![v17903.toNat, 3, 0, 0, 0]
def k0_mult132 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c8_i32_4045 : BitVec 32 := 8#32
  let v18051 : BitVec 32 := Scalar.muli arg15 c8_i32_4045
  v18051
def k0_off74 (k0_t1 : Fin k0_t1_loop.trips) (k0_t2 : Fin (k0_t2_loop k0_t1).trips) : Fin 3 → Nat :=
  let c3_4046 : Index := 3#32
  let c0_i32_2698 : BitVec 32 := 0#32
  let c1_i32_2701 : BitVec 32 := 1#32
  let arg15 : BitVec 32 := Scf.iv c0_i32_2698 c1_i32_2701 k0_t2
  let c8_i32_4045 : BitVec 32 := 8#32
  let v18051 : BitVec 32 := Scalar.muli arg15 c8_i32_4045
  let v18052 : BitVec 32 := v18051
  let v18053 : Index := Scalar.indexCast v18052
  let c256_4047 : Index := 256#32
  ![3, v18053.toNat, 256]
def k0_off75 (k0_t1 : Fin k0_t1_loop.trips) (k0_t2 : Fin (k0_t2_loop k0_t1).trips) : Fin 5 → Nat :=
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v18062 : Index := Scalar.indexCast v15470
  let c3_4052 : Index := 3#32
  let c1_4053 : Index := 1#32
  let c0_4054 : Index := 0#32
  let c0_4055 : Index := 0#32
  ![v18062.toNat, 3, 1, 0, 0]
def k0_mult133 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c8_i32_4065 : BitVec 32 := 8#32
  let v18210 : BitVec 32 := Scalar.muli arg15 c8_i32_4065
  v18210
def k0_off76 (k0_t1 : Fin k0_t1_loop.trips) (k0_t2 : Fin (k0_t2_loop k0_t1).trips) : Fin 3 → Nat :=
  let c4_4066 : Index := 4#32
  let c0_i32_2698 : BitVec 32 := 0#32
  let c1_i32_2701 : BitVec 32 := 1#32
  let arg15 : BitVec 32 := Scf.iv c0_i32_2698 c1_i32_2701 k0_t2
  let c8_i32_4065 : BitVec 32 := 8#32
  let v18210 : BitVec 32 := Scalar.muli arg15 c8_i32_4065
  let v18211 : BitVec 32 := v18210
  let v18212 : Index := Scalar.indexCast v18211
  let c0_4067 : Index := 0#32
  ![4, v18212.toNat, 0]
def k0_off77 (k0_t1 : Fin k0_t1_loop.trips) (k0_t2 : Fin (k0_t2_loop k0_t1).trips) : Fin 5 → Nat :=
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v18221 : Index := Scalar.indexCast v15470
  let c4_4072 : Index := 4#32
  let c0_4073 : Index := 0#32
  let c0_4074 : Index := 0#32
  let c0_4075 : Index := 0#32
  ![v18221.toNat, 4, 0, 0, 0]
def k0_mult134 (k0_t1 : Fin k0_t1_loop.trips) (k0_t2 : Fin (k0_t2_loop k0_t1).trips) : BitVec 32 :=
  let c0_i32_2698 : BitVec 32 := 0#32
  let c1_i32_2701 : BitVec 32 := 1#32
  let arg15 : BitVec 32 := Scf.iv c0_i32_2698 c1_i32_2701 k0_t2
  let c8_i32_4085 : BitVec 32 := 8#32
  let v18369 : BitVec 32 := Scalar.muli arg15 c8_i32_4085
  v18369
def k0_off78 (k0_t1 : Fin k0_t1_loop.trips) (k0_t2 : Fin (k0_t2_loop k0_t1).trips) : Fin 3 → Nat :=
  let c4_4086 : Index := 4#32
  let c0_i32_2698 : BitVec 32 := 0#32
  let c1_i32_2701 : BitVec 32 := 1#32
  let arg15 : BitVec 32 := Scf.iv c0_i32_2698 c1_i32_2701 k0_t2
  let c8_i32_4085 : BitVec 32 := 8#32
  let v18369 : BitVec 32 := Scalar.muli arg15 c8_i32_4085
  let v18370 : BitVec 32 := v18369
  let v18371 : Index := Scalar.indexCast v18370
  let c256_4087 : Index := 256#32
  ![4, v18371.toNat, 256]
def k0_off79 (k0_t1 : Fin k0_t1_loop.trips) (k0_t2 : Fin (k0_t2_loop k0_t1).trips) : Fin 5 → Nat :=
  let c0_i32_2698 : BitVec 32 := 0#32
  let c1_i32_2701 : BitVec 32 := 1#32
  let arg15 : BitVec 32 := Scf.iv c0_i32_2698 c1_i32_2701 k0_t2
  let c2_i32_3758 : BitVec 32 := 2#32
  let v15470 : BitVec 32 := Scalar.remsi arg15 c2_i32_3758
  let v18380 : Index := Scalar.indexCast v15470
  let c4_4092 : Index := 4#32
  let c1_4093 : Index := 1#32
  let c0_4094 : Index := 0#32
  let c0_4095 : Index := 0#32
  ![v18380.toNat, 4, 1, 0, 0]
@[reducible] def k0_t3_loop (k0_t1 : Fin k0_t1_loop.trips) : Scf.Loop 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let v11219 : BitVec 32 := Scalar.addi c0_i32_2698 v11218
  let c1_i32_2702 : BitVec 32 := 1#32
  ⟨v11222, v11219, c1_i32_2702⟩
def k0_mult135 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c512_i32_3761 : BitVec 32 := 512#32
  let v15473 : BitVec 32 := Scalar.muli v15471 c512_i32_3761
  v15473
def k0_off80 (k0_t1 : Fin k0_t1_loop.trips) (k0_t3 : Fin (k0_t3_loop k0_t1).trips) : Fin 4 → Nat :=
  let c0_3762 : Index := 0#32
  let c0_3763 : Index := 0#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c512_i32_3761 : BitVec 32 := 512#32
  let v15473 : BitVec 32 := Scalar.muli v15471 c512_i32_3761
  let v15474 : BitVec 32 := v15473
  let v15475 : Index := Scalar.indexCast v15474
  let c0_3764 : Index := 0#32
  ![0, 0, v15475.toNat, 0]
def k0_mult136 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3765 : BitVec 32 := 512#32
  let v15478 : BitVec 32 := Scalar.muli arg14 c512_i32_3765
  let c0_i32_3766 : BitVec 32 := 0#32
  let v15479 : BitVec 32 := Scalar.addi v15478 c0_i32_3766
  v15479
def k0_off81 (k0_t1 : Fin k0_t1_loop.trips) (c0_i32_3766 : BitVec 32) : Fin 5 → Nat :=
  let c0_3767 : Index := 0#32
  let c0_3768 : Index := 0#32
  let c0_3769 : Index := 0#32
  let c1_i32_2035 : BitVec 32 := 1#32
  let c1_i32_2036 : BitVec 32 := 1#32
  let arg14 : BitVec 32 := Scf.iv c1_i32_2035 c1_i32_2036 k0_t1
  let c512_i32_3765 : BitVec 32 := 512#32
  let v15478 : BitVec 32 := Scalar.muli arg14 c512_i32_3765
  let v15479 : BitVec 32 := Scalar.addi v15478 c0_i32_3766
  let v15480 : BitVec 32 := v15479
  let v15481 : Index := Scalar.indexCast v15480
  let c0_3770 : Index := 0#32
  ![0, 0, 0, v15481.toNat, 0]
def k0_off82 (k0_t1 : Fin k0_t1_loop.trips) (k0_t3 : Fin (k0_t3_loop k0_t1).trips) : Fin 5 → Nat :=
  let c1_i32_3760 : BitVec 32 := 1#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v15472 : BitVec 32 := Scalar.subi c1_i32_3760 v15470
  let v15487 : Index := Scalar.indexCast v15472
  let c0_3772 : Index := 0#32
  let c0_3773 : Index := 0#32
  let c0_3774 : Index := 0#32
  let c0_3775 : Index := 0#32
  ![v15487.toNat, 0, 0, 0, 0]
def k0_mult137 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3776 : BitVec 32 := 8#32
  let v15618 : BitVec 32 := Scalar.muli v15471 c8_i32_3776
  v15618
def k0_off83 (k0_t1 : Fin k0_t1_loop.trips) (k0_t3 : Fin (k0_t3_loop k0_t1).trips) : Fin 3 → Nat :=
  let c0_3777 : Index := 0#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3776 : BitVec 32 := 8#32
  let v15618 : BitVec 32 := Scalar.muli v15471 c8_i32_3776
  let v15619 : BitVec 32 := v15618
  let v15620 : Index := Scalar.indexCast v15619
  let c0_3778 : Index := 0#32
  ![0, v15620.toNat, 0]
def k0_mult138 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3779 : BitVec 32 := 512#32
  let v15624 : BitVec 32 := Scalar.muli arg14 c512_i32_3779
  let c256_i32_3780 : BitVec 32 := 256#32
  let v15625 : BitVec 32 := Scalar.addi v15624 c256_i32_3780
  v15625
def k0_off84 (k0_t1 : Fin k0_t1_loop.trips) (k0_t3 : Fin (k0_t3_loop k0_t1).trips) : Fin 5 → Nat :=
  let c1_i32_3760 : BitVec 32 := 1#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v15472 : BitVec 32 := Scalar.subi c1_i32_3760 v15470
  let v15633 : Index := Scalar.indexCast v15472
  let c0_3786 : Index := 0#32
  let c1_3787 : Index := 1#32
  let c0_3788 : Index := 0#32
  let c0_3789 : Index := 0#32
  ![v15633.toNat, 0, 1, 0, 0]
def k0_mult139 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3790 : BitVec 32 := 8#32
  let v15764 : BitVec 32 := Scalar.muli v15471 c8_i32_3790
  v15764
def k0_off85 (k0_t1 : Fin k0_t1_loop.trips) (k0_t3 : Fin (k0_t3_loop k0_t1).trips) : Fin 3 → Nat :=
  let c0_3791 : Index := 0#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3790 : BitVec 32 := 8#32
  let v15764 : BitVec 32 := Scalar.muli v15471 c8_i32_3790
  let v15765 : BitVec 32 := v15764
  let v15766 : Index := Scalar.indexCast v15765
  let c256_3792 : Index := 256#32
  ![0, v15766.toNat, 256]
def k0_mult140 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3793 : BitVec 32 := 512#32
  let v15770 : BitVec 32 := Scalar.muli arg14 c512_i32_3793
  let c0_i32_3794 : BitVec 32 := 0#32
  let v15771 : BitVec 32 := Scalar.addi v15770 c0_i32_3794
  v15771
def k0_off86 (k0_t1 : Fin k0_t1_loop.trips) (c0_i32_3794 : BitVec 32) : Fin 5 → Nat :=
  let c0_3795 : Index := 0#32
  let c0_3796 : Index := 0#32
  let c1_3797 : Index := 1#32
  let c1_i32_2035 : BitVec 32 := 1#32
  let c1_i32_2036 : BitVec 32 := 1#32
  let arg14 : BitVec 32 := Scf.iv c1_i32_2035 c1_i32_2036 k0_t1
  let c512_i32_3793 : BitVec 32 := 512#32
  let v15770 : BitVec 32 := Scalar.muli arg14 c512_i32_3793
  let v15771 : BitVec 32 := Scalar.addi v15770 c0_i32_3794
  let v15772 : BitVec 32 := v15771
  let v15773 : Index := Scalar.indexCast v15772
  let c0_3798 : Index := 0#32
  ![0, 0, 1, v15773.toNat, 0]
def k0_off87 (k0_t1 : Fin k0_t1_loop.trips) (k0_t3 : Fin (k0_t3_loop k0_t1).trips) : Fin 5 → Nat :=
  let c1_i32_3760 : BitVec 32 := 1#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v15472 : BitVec 32 := Scalar.subi c1_i32_3760 v15470
  let v15779 : Index := Scalar.indexCast v15472
  let c1_3800 : Index := 1#32
  let c0_3801 : Index := 0#32
  let c0_3802 : Index := 0#32
  let c0_3803 : Index := 0#32
  ![v15779.toNat, 1, 0, 0, 0]
def k0_mult141 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3804 : BitVec 32 := 8#32
  let v15910 : BitVec 32 := Scalar.muli v15471 c8_i32_3804
  v15910
def k0_off88 (k0_t1 : Fin k0_t1_loop.trips) (k0_t3 : Fin (k0_t3_loop k0_t1).trips) : Fin 3 → Nat :=
  let c1_3805 : Index := 1#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3804 : BitVec 32 := 8#32
  let v15910 : BitVec 32 := Scalar.muli v15471 c8_i32_3804
  let v15911 : BitVec 32 := v15910
  let v15912 : Index := Scalar.indexCast v15911
  let c0_3806 : Index := 0#32
  ![1, v15912.toNat, 0]
def k0_mult142 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3807 : BitVec 32 := 512#32
  let v15916 : BitVec 32 := Scalar.muli arg14 c512_i32_3807
  let c256_i32_3808 : BitVec 32 := 256#32
  let v15917 : BitVec 32 := Scalar.addi v15916 c256_i32_3808
  v15917
def k0_off89 (k0_t1 : Fin k0_t1_loop.trips) (k0_t3 : Fin (k0_t3_loop k0_t1).trips) : Fin 5 → Nat :=
  let c1_i32_3760 : BitVec 32 := 1#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v15472 : BitVec 32 := Scalar.subi c1_i32_3760 v15470
  let v15925 : Index := Scalar.indexCast v15472
  let c1_3814 : Index := 1#32
  let c1_3815 : Index := 1#32
  let c0_3816 : Index := 0#32
  let c0_3817 : Index := 0#32
  ![v15925.toNat, 1, 1, 0, 0]
def k0_mult143 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3818 : BitVec 32 := 8#32
  let v16056 : BitVec 32 := Scalar.muli v15471 c8_i32_3818
  v16056
def k0_off90 (k0_t1 : Fin k0_t1_loop.trips) (k0_t3 : Fin (k0_t3_loop k0_t1).trips) : Fin 3 → Nat :=
  let c1_3819 : Index := 1#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3818 : BitVec 32 := 8#32
  let v16056 : BitVec 32 := Scalar.muli v15471 c8_i32_3818
  let v16057 : BitVec 32 := v16056
  let v16058 : Index := Scalar.indexCast v16057
  let c256_3820 : Index := 256#32
  ![1, v16058.toNat, 256]
def k0_mult144 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3821 : BitVec 32 := 512#32
  let v16062 : BitVec 32 := Scalar.muli arg14 c512_i32_3821
  let c0_i32_3822 : BitVec 32 := 0#32
  let v16063 : BitVec 32 := Scalar.addi v16062 c0_i32_3822
  v16063
def k0_off91 (k0_t1 : Fin k0_t1_loop.trips) (c0_i32_3822 : BitVec 32) : Fin 5 → Nat :=
  let c0_3823 : Index := 0#32
  let c0_3824 : Index := 0#32
  let c2_3825 : Index := 2#32
  let c1_i32_2035 : BitVec 32 := 1#32
  let c1_i32_2036 : BitVec 32 := 1#32
  let arg14 : BitVec 32 := Scf.iv c1_i32_2035 c1_i32_2036 k0_t1
  let c512_i32_3821 : BitVec 32 := 512#32
  let v16062 : BitVec 32 := Scalar.muli arg14 c512_i32_3821
  let v16063 : BitVec 32 := Scalar.addi v16062 c0_i32_3822
  let v16064 : BitVec 32 := v16063
  let v16065 : Index := Scalar.indexCast v16064
  let c0_3826 : Index := 0#32
  ![0, 0, 2, v16065.toNat, 0]
def k0_off92 (k0_t1 : Fin k0_t1_loop.trips) (k0_t3 : Fin (k0_t3_loop k0_t1).trips) : Fin 5 → Nat :=
  let c1_i32_3760 : BitVec 32 := 1#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v15472 : BitVec 32 := Scalar.subi c1_i32_3760 v15470
  let v16071 : Index := Scalar.indexCast v15472
  let c2_3828 : Index := 2#32
  let c0_3829 : Index := 0#32
  let c0_3830 : Index := 0#32
  let c0_3831 : Index := 0#32
  ![v16071.toNat, 2, 0, 0, 0]
def k0_mult145 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3832 : BitVec 32 := 8#32
  let v16202 : BitVec 32 := Scalar.muli v15471 c8_i32_3832
  v16202
def k0_off93 (k0_t1 : Fin k0_t1_loop.trips) (k0_t3 : Fin (k0_t3_loop k0_t1).trips) : Fin 3 → Nat :=
  let c2_3833 : Index := 2#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3832 : BitVec 32 := 8#32
  let v16202 : BitVec 32 := Scalar.muli v15471 c8_i32_3832
  let v16203 : BitVec 32 := v16202
  let v16204 : Index := Scalar.indexCast v16203
  let c0_3834 : Index := 0#32
  ![2, v16204.toNat, 0]
def k0_mult146 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3835 : BitVec 32 := 512#32
  let v16208 : BitVec 32 := Scalar.muli arg14 c512_i32_3835
  let c256_i32_3836 : BitVec 32 := 256#32
  let v16209 : BitVec 32 := Scalar.addi v16208 c256_i32_3836
  v16209
def k0_off94 (k0_t1 : Fin k0_t1_loop.trips) (k0_t3 : Fin (k0_t3_loop k0_t1).trips) : Fin 5 → Nat :=
  let c1_i32_3760 : BitVec 32 := 1#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v15472 : BitVec 32 := Scalar.subi c1_i32_3760 v15470
  let v16217 : Index := Scalar.indexCast v15472
  let c2_3842 : Index := 2#32
  let c1_3843 : Index := 1#32
  let c0_3844 : Index := 0#32
  let c0_3845 : Index := 0#32
  ![v16217.toNat, 2, 1, 0, 0]
def k0_mult147 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3846 : BitVec 32 := 8#32
  let v16348 : BitVec 32 := Scalar.muli v15471 c8_i32_3846
  v16348
def k0_off95 (k0_t1 : Fin k0_t1_loop.trips) (k0_t3 : Fin (k0_t3_loop k0_t1).trips) : Fin 3 → Nat :=
  let c2_3847 : Index := 2#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3846 : BitVec 32 := 8#32
  let v16348 : BitVec 32 := Scalar.muli v15471 c8_i32_3846
  let v16349 : BitVec 32 := v16348
  let v16350 : Index := Scalar.indexCast v16349
  let c256_3848 : Index := 256#32
  ![2, v16350.toNat, 256]
def k0_mult148 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3849 : BitVec 32 := 512#32
  let v16354 : BitVec 32 := Scalar.muli arg14 c512_i32_3849
  let c0_i32_3850 : BitVec 32 := 0#32
  let v16355 : BitVec 32 := Scalar.addi v16354 c0_i32_3850
  v16355
def k0_off96 (k0_t1 : Fin k0_t1_loop.trips) (c0_i32_3850 : BitVec 32) : Fin 5 → Nat :=
  let c0_3851 : Index := 0#32
  let c0_3852 : Index := 0#32
  let c3_3853 : Index := 3#32
  let c1_i32_2035 : BitVec 32 := 1#32
  let c1_i32_2036 : BitVec 32 := 1#32
  let arg14 : BitVec 32 := Scf.iv c1_i32_2035 c1_i32_2036 k0_t1
  let c512_i32_3849 : BitVec 32 := 512#32
  let v16354 : BitVec 32 := Scalar.muli arg14 c512_i32_3849
  let v16355 : BitVec 32 := Scalar.addi v16354 c0_i32_3850
  let v16356 : BitVec 32 := v16355
  let v16357 : Index := Scalar.indexCast v16356
  let c0_3854 : Index := 0#32
  ![0, 0, 3, v16357.toNat, 0]
def k0_off97 (k0_t1 : Fin k0_t1_loop.trips) (k0_t3 : Fin (k0_t3_loop k0_t1).trips) : Fin 5 → Nat :=
  let c1_i32_3760 : BitVec 32 := 1#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v15472 : BitVec 32 := Scalar.subi c1_i32_3760 v15470
  let v16363 : Index := Scalar.indexCast v15472
  let c3_3856 : Index := 3#32
  let c0_3857 : Index := 0#32
  let c0_3858 : Index := 0#32
  let c0_3859 : Index := 0#32
  ![v16363.toNat, 3, 0, 0, 0]
def k0_mult149 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3860 : BitVec 32 := 8#32
  let v16494 : BitVec 32 := Scalar.muli v15471 c8_i32_3860
  v16494
def k0_off98 (k0_t1 : Fin k0_t1_loop.trips) (k0_t3 : Fin (k0_t3_loop k0_t1).trips) : Fin 3 → Nat :=
  let c3_3861 : Index := 3#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3860 : BitVec 32 := 8#32
  let v16494 : BitVec 32 := Scalar.muli v15471 c8_i32_3860
  let v16495 : BitVec 32 := v16494
  let v16496 : Index := Scalar.indexCast v16495
  let c0_3862 : Index := 0#32
  ![3, v16496.toNat, 0]
def k0_mult150 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3863 : BitVec 32 := 512#32
  let v16500 : BitVec 32 := Scalar.muli arg14 c512_i32_3863
  let c256_i32_3864 : BitVec 32 := 256#32
  let v16501 : BitVec 32 := Scalar.addi v16500 c256_i32_3864
  v16501
def k0_off99 (k0_t1 : Fin k0_t1_loop.trips) (k0_t3 : Fin (k0_t3_loop k0_t1).trips) : Fin 5 → Nat :=
  let c1_i32_3760 : BitVec 32 := 1#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v15472 : BitVec 32 := Scalar.subi c1_i32_3760 v15470
  let v16509 : Index := Scalar.indexCast v15472
  let c3_3870 : Index := 3#32
  let c1_3871 : Index := 1#32
  let c0_3872 : Index := 0#32
  let c0_3873 : Index := 0#32
  ![v16509.toNat, 3, 1, 0, 0]
def k0_mult151 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3874 : BitVec 32 := 8#32
  let v16640 : BitVec 32 := Scalar.muli v15471 c8_i32_3874
  v16640
def k0_off100 (k0_t1 : Fin k0_t1_loop.trips) (k0_t3 : Fin (k0_t3_loop k0_t1).trips) : Fin 3 → Nat :=
  let c3_3875 : Index := 3#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3874 : BitVec 32 := 8#32
  let v16640 : BitVec 32 := Scalar.muli v15471 c8_i32_3874
  let v16641 : BitVec 32 := v16640
  let v16642 : Index := Scalar.indexCast v16641
  let c256_3876 : Index := 256#32
  ![3, v16642.toNat, 256]
def k0_mult152 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3877 : BitVec 32 := 512#32
  let v16646 : BitVec 32 := Scalar.muli arg14 c512_i32_3877
  let c0_i32_3878 : BitVec 32 := 0#32
  let v16647 : BitVec 32 := Scalar.addi v16646 c0_i32_3878
  v16647
def k0_off101 (k0_t1 : Fin k0_t1_loop.trips) (c0_i32_3878 : BitVec 32) : Fin 5 → Nat :=
  let c0_3879 : Index := 0#32
  let c0_3880 : Index := 0#32
  let c4_3881 : Index := 4#32
  let c1_i32_2035 : BitVec 32 := 1#32
  let c1_i32_2036 : BitVec 32 := 1#32
  let arg14 : BitVec 32 := Scf.iv c1_i32_2035 c1_i32_2036 k0_t1
  let c512_i32_3877 : BitVec 32 := 512#32
  let v16646 : BitVec 32 := Scalar.muli arg14 c512_i32_3877
  let v16647 : BitVec 32 := Scalar.addi v16646 c0_i32_3878
  let v16648 : BitVec 32 := v16647
  let v16649 : Index := Scalar.indexCast v16648
  let c0_3882 : Index := 0#32
  ![0, 0, 4, v16649.toNat, 0]
def k0_off102 (k0_t1 : Fin k0_t1_loop.trips) (k0_t3 : Fin (k0_t3_loop k0_t1).trips) : Fin 5 → Nat :=
  let c1_i32_3760 : BitVec 32 := 1#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v15472 : BitVec 32 := Scalar.subi c1_i32_3760 v15470
  let v16655 : Index := Scalar.indexCast v15472
  let c4_3884 : Index := 4#32
  let c0_3885 : Index := 0#32
  let c0_3886 : Index := 0#32
  let c0_3887 : Index := 0#32
  ![v16655.toNat, 4, 0, 0, 0]
def k0_mult153 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3888 : BitVec 32 := 8#32
  let v16786 : BitVec 32 := Scalar.muli v15471 c8_i32_3888
  v16786
def k0_off103 (k0_t1 : Fin k0_t1_loop.trips) (k0_t3 : Fin (k0_t3_loop k0_t1).trips) : Fin 3 → Nat :=
  let c4_3889 : Index := 4#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3888 : BitVec 32 := 8#32
  let v16786 : BitVec 32 := Scalar.muli v15471 c8_i32_3888
  let v16787 : BitVec 32 := v16786
  let v16788 : Index := Scalar.indexCast v16787
  let c0_3890 : Index := 0#32
  ![4, v16788.toNat, 0]
def k0_mult154 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c512_i32_3891 : BitVec 32 := 512#32
  let v16792 : BitVec 32 := Scalar.muli arg14 c512_i32_3891
  let c256_i32_3892 : BitVec 32 := 256#32
  let v16793 : BitVec 32 := Scalar.addi v16792 c256_i32_3892
  v16793
def k0_off104 (k0_t1 : Fin k0_t1_loop.trips) (k0_t3 : Fin (k0_t3_loop k0_t1).trips) : Fin 5 → Nat :=
  let c1_i32_3760 : BitVec 32 := 1#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v15472 : BitVec 32 := Scalar.subi c1_i32_3760 v15470
  let v16801 : Index := Scalar.indexCast v15472
  let c4_3898 : Index := 4#32
  let c1_3899 : Index := 1#32
  let c0_3900 : Index := 0#32
  let c0_3901 : Index := 0#32
  ![v16801.toNat, 4, 1, 0, 0]
def k0_mult155 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3902 : BitVec 32 := 8#32
  let v16932 : BitVec 32 := Scalar.muli v15471 c8_i32_3902
  v16932
def k0_off105 (k0_t1 : Fin k0_t1_loop.trips) (k0_t3 : Fin (k0_t3_loop k0_t1).trips) : Fin 3 → Nat :=
  let c4_3903 : Index := 4#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c1_i32_3759 : BitVec 32 := 1#32
  let v15471 : BitVec 32 := Scalar.addi arg15 c1_i32_3759
  let c8_i32_3902 : BitVec 32 := 8#32
  let v16932 : BitVec 32 := Scalar.muli v15471 c8_i32_3902
  let v16933 : BitVec 32 := v16932
  let v16934 : Index := Scalar.indexCast v16933
  let c256_3904 : Index := 256#32
  ![4, v16934.toNat, 256]
def k0_mult156 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_3905 : BitVec 32 := 8#32
  let v16938 : BitVec 32 := Scalar.muli arg15 c8_i32_3905
  v16938
def k0_off106 (k0_t1 : Fin k0_t1_loop.trips) (k0_t3 : Fin (k0_t3_loop k0_t1).trips) : Fin 3 → Nat :=
  let c0_3906 : Index := 0#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_3905 : BitVec 32 := 8#32
  let v16938 : BitVec 32 := Scalar.muli arg15 c8_i32_3905
  let v16939 : BitVec 32 := v16938
  let v16940 : Index := Scalar.indexCast v16939
  let c0_3907 : Index := 0#32
  ![0, v16940.toNat, 0]
def k0_off107 (k0_t1 : Fin k0_t1_loop.trips) (k0_t3 : Fin (k0_t3_loop k0_t1).trips) : Fin 5 → Nat :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v16949 : Index := Scalar.indexCast v15470
  let c0_3912 : Index := 0#32
  let c0_3913 : Index := 0#32
  let c0_3914 : Index := 0#32
  let c0_3915 : Index := 0#32
  ![v16949.toNat, 0, 0, 0, 0]
def k0_mult157 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_3925 : BitVec 32 := 8#32
  let v17097 : BitVec 32 := Scalar.muli arg15 c8_i32_3925
  v17097
def k0_off108 (k0_t1 : Fin k0_t1_loop.trips) (k0_t3 : Fin (k0_t3_loop k0_t1).trips) : Fin 3 → Nat :=
  let c0_3926 : Index := 0#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_3925 : BitVec 32 := 8#32
  let v17097 : BitVec 32 := Scalar.muli arg15 c8_i32_3925
  let v17098 : BitVec 32 := v17097
  let v17099 : Index := Scalar.indexCast v17098
  let c256_3927 : Index := 256#32
  ![0, v17099.toNat, 256]
def k0_off109 (k0_t1 : Fin k0_t1_loop.trips) (k0_t3 : Fin (k0_t3_loop k0_t1).trips) : Fin 5 → Nat :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v17108 : Index := Scalar.indexCast v15470
  let c0_3932 : Index := 0#32
  let c1_3933 : Index := 1#32
  let c0_3934 : Index := 0#32
  let c0_3935 : Index := 0#32
  ![v17108.toNat, 0, 1, 0, 0]
def k0_mult158 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_3945 : BitVec 32 := 8#32
  let v17256 : BitVec 32 := Scalar.muli arg15 c8_i32_3945
  v17256
def k0_off110 (k0_t1 : Fin k0_t1_loop.trips) (k0_t3 : Fin (k0_t3_loop k0_t1).trips) : Fin 3 → Nat :=
  let c1_3946 : Index := 1#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_3945 : BitVec 32 := 8#32
  let v17256 : BitVec 32 := Scalar.muli arg15 c8_i32_3945
  let v17257 : BitVec 32 := v17256
  let v17258 : Index := Scalar.indexCast v17257
  let c0_3947 : Index := 0#32
  ![1, v17258.toNat, 0]
def k0_off111 (k0_t1 : Fin k0_t1_loop.trips) (k0_t3 : Fin (k0_t3_loop k0_t1).trips) : Fin 5 → Nat :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v17267 : Index := Scalar.indexCast v15470
  let c1_3952 : Index := 1#32
  let c0_3953 : Index := 0#32
  let c0_3954 : Index := 0#32
  let c0_3955 : Index := 0#32
  ![v17267.toNat, 1, 0, 0, 0]
def k0_mult159 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_3965 : BitVec 32 := 8#32
  let v17415 : BitVec 32 := Scalar.muli arg15 c8_i32_3965
  v17415
def k0_off112 (k0_t1 : Fin k0_t1_loop.trips) (k0_t3 : Fin (k0_t3_loop k0_t1).trips) : Fin 3 → Nat :=
  let c1_3966 : Index := 1#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_3965 : BitVec 32 := 8#32
  let v17415 : BitVec 32 := Scalar.muli arg15 c8_i32_3965
  let v17416 : BitVec 32 := v17415
  let v17417 : Index := Scalar.indexCast v17416
  let c256_3967 : Index := 256#32
  ![1, v17417.toNat, 256]
def k0_off113 (k0_t1 : Fin k0_t1_loop.trips) (k0_t3 : Fin (k0_t3_loop k0_t1).trips) : Fin 5 → Nat :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v17426 : Index := Scalar.indexCast v15470
  let c1_3972 : Index := 1#32
  let c1_3973 : Index := 1#32
  let c0_3974 : Index := 0#32
  let c0_3975 : Index := 0#32
  ![v17426.toNat, 1, 1, 0, 0]
def k0_mult160 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_3985 : BitVec 32 := 8#32
  let v17574 : BitVec 32 := Scalar.muli arg15 c8_i32_3985
  v17574
def k0_off114 (k0_t1 : Fin k0_t1_loop.trips) (k0_t3 : Fin (k0_t3_loop k0_t1).trips) : Fin 3 → Nat :=
  let c2_3986 : Index := 2#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_3985 : BitVec 32 := 8#32
  let v17574 : BitVec 32 := Scalar.muli arg15 c8_i32_3985
  let v17575 : BitVec 32 := v17574
  let v17576 : Index := Scalar.indexCast v17575
  let c0_3987 : Index := 0#32
  ![2, v17576.toNat, 0]
def k0_off115 (k0_t1 : Fin k0_t1_loop.trips) (k0_t3 : Fin (k0_t3_loop k0_t1).trips) : Fin 5 → Nat :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v17585 : Index := Scalar.indexCast v15470
  let c2_3992 : Index := 2#32
  let c0_3993 : Index := 0#32
  let c0_3994 : Index := 0#32
  let c0_3995 : Index := 0#32
  ![v17585.toNat, 2, 0, 0, 0]
def k0_mult161 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_4005 : BitVec 32 := 8#32
  let v17733 : BitVec 32 := Scalar.muli arg15 c8_i32_4005
  v17733
def k0_off116 (k0_t1 : Fin k0_t1_loop.trips) (k0_t3 : Fin (k0_t3_loop k0_t1).trips) : Fin 3 → Nat :=
  let c2_4006 : Index := 2#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_4005 : BitVec 32 := 8#32
  let v17733 : BitVec 32 := Scalar.muli arg15 c8_i32_4005
  let v17734 : BitVec 32 := v17733
  let v17735 : Index := Scalar.indexCast v17734
  let c256_4007 : Index := 256#32
  ![2, v17735.toNat, 256]
def k0_off117 (k0_t1 : Fin k0_t1_loop.trips) (k0_t3 : Fin (k0_t3_loop k0_t1).trips) : Fin 5 → Nat :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v17744 : Index := Scalar.indexCast v15470
  let c2_4012 : Index := 2#32
  let c1_4013 : Index := 1#32
  let c0_4014 : Index := 0#32
  let c0_4015 : Index := 0#32
  ![v17744.toNat, 2, 1, 0, 0]
def k0_mult162 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_4025 : BitVec 32 := 8#32
  let v17892 : BitVec 32 := Scalar.muli arg15 c8_i32_4025
  v17892
def k0_off118 (k0_t1 : Fin k0_t1_loop.trips) (k0_t3 : Fin (k0_t3_loop k0_t1).trips) : Fin 3 → Nat :=
  let c3_4026 : Index := 3#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_4025 : BitVec 32 := 8#32
  let v17892 : BitVec 32 := Scalar.muli arg15 c8_i32_4025
  let v17893 : BitVec 32 := v17892
  let v17894 : Index := Scalar.indexCast v17893
  let c0_4027 : Index := 0#32
  ![3, v17894.toNat, 0]
def k0_off119 (k0_t1 : Fin k0_t1_loop.trips) (k0_t3 : Fin (k0_t3_loop k0_t1).trips) : Fin 5 → Nat :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v17903 : Index := Scalar.indexCast v15470
  let c3_4032 : Index := 3#32
  let c0_4033 : Index := 0#32
  let c0_4034 : Index := 0#32
  let c0_4035 : Index := 0#32
  ![v17903.toNat, 3, 0, 0, 0]
def k0_mult163 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_4045 : BitVec 32 := 8#32
  let v18051 : BitVec 32 := Scalar.muli arg15 c8_i32_4045
  v18051
def k0_off120 (k0_t1 : Fin k0_t1_loop.trips) (k0_t3 : Fin (k0_t3_loop k0_t1).trips) : Fin 3 → Nat :=
  let c3_4046 : Index := 3#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_4045 : BitVec 32 := 8#32
  let v18051 : BitVec 32 := Scalar.muli arg15 c8_i32_4045
  let v18052 : BitVec 32 := v18051
  let v18053 : Index := Scalar.indexCast v18052
  let c256_4047 : Index := 256#32
  ![3, v18053.toNat, 256]
def k0_off121 (k0_t1 : Fin k0_t1_loop.trips) (k0_t3 : Fin (k0_t3_loop k0_t1).trips) : Fin 5 → Nat :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v18062 : Index := Scalar.indexCast v15470
  let c3_4052 : Index := 3#32
  let c1_4053 : Index := 1#32
  let c0_4054 : Index := 0#32
  let c0_4055 : Index := 0#32
  ![v18062.toNat, 3, 1, 0, 0]
def k0_mult164 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_4065 : BitVec 32 := 8#32
  let v18210 : BitVec 32 := Scalar.muli arg15 c8_i32_4065
  v18210
def k0_off122 (k0_t1 : Fin k0_t1_loop.trips) (k0_t3 : Fin (k0_t3_loop k0_t1).trips) : Fin 3 → Nat :=
  let c4_4066 : Index := 4#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_4065 : BitVec 32 := 8#32
  let v18210 : BitVec 32 := Scalar.muli arg15 c8_i32_4065
  let v18211 : BitVec 32 := v18210
  let v18212 : Index := Scalar.indexCast v18211
  let c0_4067 : Index := 0#32
  ![4, v18212.toNat, 0]
def k0_off123 (k0_t1 : Fin k0_t1_loop.trips) (k0_t3 : Fin (k0_t3_loop k0_t1).trips) : Fin 5 → Nat :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v18221 : Index := Scalar.indexCast v15470
  let c4_4072 : Index := 4#32
  let c0_4073 : Index := 0#32
  let c0_4074 : Index := 0#32
  let c0_4075 : Index := 0#32
  ![v18221.toNat, 4, 0, 0, 0]
def k0_mult165 (k0_t1 : Fin k0_t1_loop.trips) (k0_t3 : Fin (k0_t3_loop k0_t1).trips) : BitVec 32 :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_4085 : BitVec 32 := 8#32
  let v18369 : BitVec 32 := Scalar.muli arg15 c8_i32_4085
  v18369
def k0_off124 (k0_t1 : Fin k0_t1_loop.trips) (k0_t3 : Fin (k0_t3_loop k0_t1).trips) : Fin 3 → Nat :=
  let c4_4086 : Index := 4#32
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c8_i32_4085 : BitVec 32 := 8#32
  let v18369 : BitVec 32 := Scalar.muli arg15 c8_i32_4085
  let v18370 : BitVec 32 := v18369
  let v18371 : Index := Scalar.indexCast v18370
  let c256_4087 : Index := 256#32
  ![4, v18371.toNat, 256]
def k0_off125 (k0_t1 : Fin k0_t1_loop.trips) (k0_t3 : Fin (k0_t3_loop k0_t1).trips) : Fin 5 → Nat :=
  let c0_i32_2698 : BitVec 32 := 0#32
  let c1_i32_2035 : BitVec 32 := 1#32
  let c1_i32_2036 : BitVec 32 := 1#32
  let arg14 : BitVec 32 := Scf.iv c1_i32_2035 c1_i32_2036 k0_t1
  let c1_i32_2697 : BitVec 32 := 1#32
  let v11217 : BitVec 32 := Scalar.subi arg14 c1_i32_2697
  let v11218 : BitVec 32 := Scalar.subi v11217 c0_i32_2698
  let c1_i32_2700 : BitVec 32 := 1#32
  let v11220 : BitVec 32 := Scalar.divsi v11218 c1_i32_2700
  let v11221 : BitVec 32 := Scalar.muli v11220 c1_i32_2700
  let v11222 : BitVec 32 := Scalar.addi c0_i32_2698 v11221
  let c1_i32_2702 : BitVec 32 := 1#32
  let arg15 : BitVec 32 := Scf.iv v11222 c1_i32_2702 k0_t3
  let c2_i32_3758 : BitVec 32 := 2#32
  let v15470 : BitVec 32 := Scalar.remsi arg15 c2_i32_3758
  let v18380 : Index := Scalar.indexCast v15470
  let c4_4092 : Index := 4#32
  let c1_4093 : Index := 1#32
  let c0_4094 : Index := 0#32
  let c0_4095 : Index := 0#32
  ![v18380.toNat, 4, 1, 0, 0]
def k0_mult166 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_2705 : BitVec 32 := 512#32
  let v11227 : BitVec 32 := Scalar.muli v11226 c512_i32_2705
  v11227
def k0_off126 (k0_t1 : Fin k0_t1_loop.trips) : Fin 4 → Nat :=
  let c0_2706 : Index := 0#32
  let c0_2707 : Index := 0#32
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_2705 : BitVec 32 := 512#32
  let v11227 : BitVec 32 := Scalar.muli v11226 c512_i32_2705
  let v11228 : BitVec 32 := v11227
  let v11229 : Index := Scalar.indexCast v11228
  let c0_2708 : Index := 0#32
  ![0, 0, v11229.toNat, 0]
def k0_mult167 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_2709 : BitVec 32 := 512#32
  let v11232 : BitVec 32 := Scalar.muli v11226 c512_i32_2709
  let c0_i32_2710 : BitVec 32 := 0#32
  let v11233 : BitVec 32 := Scalar.addi v11232 c0_i32_2710
  v11233
def k0_off127 (k0_t1 : Fin k0_t1_loop.trips) (c0_i32_2710 : BitVec 32) : Fin 5 → Nat :=
  let c0_2711 : Index := 0#32
  let c0_2712 : Index := 0#32
  let c0_2713 : Index := 0#32
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_2709 : BitVec 32 := 512#32
  let v11232 : BitVec 32 := Scalar.muli v11226 c512_i32_2709
  let v11233 : BitVec 32 := Scalar.addi v11232 c0_i32_2710
  let v11234 : BitVec 32 := v11233
  let v11235 : Index := Scalar.indexCast v11234
  let c0_2714 : Index := 0#32
  ![0, 0, 0, v11235.toNat, 0]
def k0_mult168 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_2790 : BitVec 32 := 512#32
  let v11423 : BitVec 32 := Scalar.muli v11226 c512_i32_2790
  v11423
def k0_off128 (k0_t1 : Fin k0_t1_loop.trips) : Fin 4 → Nat :=
  let c0_2791 : Index := 0#32
  let c0_2792 : Index := 0#32
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_2790 : BitVec 32 := 512#32
  let v11423 : BitVec 32 := Scalar.muli v11226 c512_i32_2790
  let v11424 : BitVec 32 := v11423
  let v11425 : Index := Scalar.indexCast v11424
  let c0_2793 : Index := 0#32
  ![0, 0, v11425.toNat, 0]
def k0_mult169 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_2794 : BitVec 32 := 512#32
  let v11428 : BitVec 32 := Scalar.muli v11226 c512_i32_2794
  let c256_i32_2795 : BitVec 32 := 256#32
  let v11429 : BitVec 32 := Scalar.addi v11428 c256_i32_2795
  v11429
def k0_mult170 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_2875 : BitVec 32 := 512#32
  let v11757 : BitVec 32 := Scalar.muli v11226 c512_i32_2875
  v11757
def k0_mult171 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_2879 : BitVec 32 := 512#32
  let v11762 : BitVec 32 := Scalar.muli v11226 c512_i32_2879
  let c0_i32_2880 : BitVec 32 := 0#32
  let v11763 : BitVec 32 := Scalar.addi v11762 c0_i32_2880
  v11763
def k0_off129 (k0_t1 : Fin k0_t1_loop.trips) (c0_i32_2880 : BitVec 32) : Fin 5 → Nat :=
  let c0_2881 : Index := 0#32
  let c0_2882 : Index := 0#32
  let c1_2883 : Index := 1#32
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_2879 : BitVec 32 := 512#32
  let v11762 : BitVec 32 := Scalar.muli v11226 c512_i32_2879
  let v11763 : BitVec 32 := Scalar.addi v11762 c0_i32_2880
  let v11764 : BitVec 32 := v11763
  let v11765 : Index := Scalar.indexCast v11764
  let c0_2884 : Index := 0#32
  ![0, 0, 1, v11765.toNat, 0]
def k0_mult172 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_2960 : BitVec 32 := 512#32
  let v11953 : BitVec 32 := Scalar.muli v11226 c512_i32_2960
  v11953
def k0_mult173 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_2964 : BitVec 32 := 512#32
  let v11958 : BitVec 32 := Scalar.muli v11226 c512_i32_2964
  let c256_i32_2965 : BitVec 32 := 256#32
  let v11959 : BitVec 32 := Scalar.addi v11958 c256_i32_2965
  v11959
def k0_mult174 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_3045 : BitVec 32 := 512#32
  let v12287 : BitVec 32 := Scalar.muli v11226 c512_i32_3045
  v12287
def k0_mult175 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_3049 : BitVec 32 := 512#32
  let v12292 : BitVec 32 := Scalar.muli v11226 c512_i32_3049
  let c0_i32_3050 : BitVec 32 := 0#32
  let v12293 : BitVec 32 := Scalar.addi v12292 c0_i32_3050
  v12293
def k0_off130 (k0_t1 : Fin k0_t1_loop.trips) (c0_i32_3050 : BitVec 32) : Fin 5 → Nat :=
  let c0_3051 : Index := 0#32
  let c0_3052 : Index := 0#32
  let c2_3053 : Index := 2#32
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_3049 : BitVec 32 := 512#32
  let v12292 : BitVec 32 := Scalar.muli v11226 c512_i32_3049
  let v12293 : BitVec 32 := Scalar.addi v12292 c0_i32_3050
  let v12294 : BitVec 32 := v12293
  let v12295 : Index := Scalar.indexCast v12294
  let c0_3054 : Index := 0#32
  ![0, 0, 2, v12295.toNat, 0]
def k0_mult176 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_3130 : BitVec 32 := 512#32
  let v12483 : BitVec 32 := Scalar.muli v11226 c512_i32_3130
  v12483
def k0_mult177 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_3134 : BitVec 32 := 512#32
  let v12488 : BitVec 32 := Scalar.muli v11226 c512_i32_3134
  let c256_i32_3135 : BitVec 32 := 256#32
  let v12489 : BitVec 32 := Scalar.addi v12488 c256_i32_3135
  v12489
def k0_mult178 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_3215 : BitVec 32 := 512#32
  let v12817 : BitVec 32 := Scalar.muli v11226 c512_i32_3215
  v12817
def k0_mult179 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_3219 : BitVec 32 := 512#32
  let v12822 : BitVec 32 := Scalar.muli v11226 c512_i32_3219
  let c0_i32_3220 : BitVec 32 := 0#32
  let v12823 : BitVec 32 := Scalar.addi v12822 c0_i32_3220
  v12823
def k0_off131 (k0_t1 : Fin k0_t1_loop.trips) (c0_i32_3220 : BitVec 32) : Fin 5 → Nat :=
  let c0_3221 : Index := 0#32
  let c0_3222 : Index := 0#32
  let c3_3223 : Index := 3#32
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_3219 : BitVec 32 := 512#32
  let v12822 : BitVec 32 := Scalar.muli v11226 c512_i32_3219
  let v12823 : BitVec 32 := Scalar.addi v12822 c0_i32_3220
  let v12824 : BitVec 32 := v12823
  let v12825 : Index := Scalar.indexCast v12824
  let c0_3224 : Index := 0#32
  ![0, 0, 3, v12825.toNat, 0]
def k0_mult180 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_3300 : BitVec 32 := 512#32
  let v13013 : BitVec 32 := Scalar.muli v11226 c512_i32_3300
  v13013
def k0_mult181 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_3304 : BitVec 32 := 512#32
  let v13018 : BitVec 32 := Scalar.muli v11226 c512_i32_3304
  let c256_i32_3305 : BitVec 32 := 256#32
  let v13019 : BitVec 32 := Scalar.addi v13018 c256_i32_3305
  v13019
def k0_mult182 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_3385 : BitVec 32 := 512#32
  let v13347 : BitVec 32 := Scalar.muli v11226 c512_i32_3385
  v13347
def k0_mult183 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_3389 : BitVec 32 := 512#32
  let v13352 : BitVec 32 := Scalar.muli v11226 c512_i32_3389
  let c0_i32_3390 : BitVec 32 := 0#32
  let v13353 : BitVec 32 := Scalar.addi v13352 c0_i32_3390
  v13353
def k0_off132 (k0_t1 : Fin k0_t1_loop.trips) (c0_i32_3390 : BitVec 32) : Fin 5 → Nat :=
  let c0_3391 : Index := 0#32
  let c0_3392 : Index := 0#32
  let c4_3393 : Index := 4#32
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_3389 : BitVec 32 := 512#32
  let v13352 : BitVec 32 := Scalar.muli v11226 c512_i32_3389
  let v13353 : BitVec 32 := Scalar.addi v13352 c0_i32_3390
  let v13354 : BitVec 32 := v13353
  let v13355 : Index := Scalar.indexCast v13354
  let c0_3394 : Index := 0#32
  ![0, 0, 4, v13355.toNat, 0]
def k0_mult184 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_3470 : BitVec 32 := 512#32
  let v13543 : BitVec 32 := Scalar.muli v11226 c512_i32_3470
  v13543
def k0_mult185 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_2703 : BitVec 32 := 1#32
  let v11225 : BitVec 32 := Scalar.addi arg14 c1_i32_2703
  let c23_i32_2704 : BitVec 32 := 23#32
  let v11226 : BitVec 32 := Scalar.minsi v11225 c23_i32_2704
  let c512_i32_3474 : BitVec 32 := 512#32
  let v13548 : BitVec 32 := Scalar.muli v11226 c512_i32_3474
  let c256_i32_3475 : BitVec 32 := 256#32
  let v13549 : BitVec 32 := Scalar.addi v13548 c256_i32_3475
  v13549
def k0_mult186 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3558 : BitVec 32 := 8#32
  let v13880 : BitVec 32 := Scalar.muli v13877 c8_i32_3558
  v13880
def k0_off133 (k0_t1 : Fin k0_t1_loop.trips) : Fin 3 → Nat :=
  let c0_3559 : Index := 0#32
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3558 : BitVec 32 := 8#32
  let v13880 : BitVec 32 := Scalar.muli v13877 c8_i32_3558
  let v13881 : BitVec 32 := v13880
  let v13882 : Index := Scalar.indexCast v13881
  let c0_3560 : Index := 0#32
  ![0, v13882.toNat, 0]
def k0_off134 (k0_t1 : Fin k0_t1_loop.trips) : Fin 5 → Nat :=
  let c1_i32_2035 : BitVec 32 := 1#32
  let c1_i32_2036 : BitVec 32 := 1#32
  let arg14 : BitVec 32 := Scf.iv c1_i32_2035 c1_i32_2036 k0_t1
  let c1_i32_3556 : BitVec 32 := 1#32
  let v13878 : BitVec 32 := Scalar.subi arg14 c1_i32_3556
  let c2_i32_3557 : BitVec 32 := 2#32
  let v13879 : BitVec 32 := Scalar.remsi v13878 c2_i32_3557
  let v13891 : Index := Scalar.indexCast v13879
  let c0_3565 : Index := 0#32
  let c0_3566 : Index := 0#32
  let c0_3567 : Index := 0#32
  let c0_3568 : Index := 0#32
  ![v13891.toNat, 0, 0, 0, 0]
def k0_mult187 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3578 : BitVec 32 := 8#32
  let v14039 : BitVec 32 := Scalar.muli v13877 c8_i32_3578
  v14039
def k0_off135 (k0_t1 : Fin k0_t1_loop.trips) : Fin 3 → Nat :=
  let c0_3579 : Index := 0#32
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3578 : BitVec 32 := 8#32
  let v14039 : BitVec 32 := Scalar.muli v13877 c8_i32_3578
  let v14040 : BitVec 32 := v14039
  let v14041 : Index := Scalar.indexCast v14040
  let c256_3580 : Index := 256#32
  ![0, v14041.toNat, 256]
def k0_off136 (k0_t1 : Fin k0_t1_loop.trips) : Fin 5 → Nat :=
  let c1_i32_2035 : BitVec 32 := 1#32
  let c1_i32_2036 : BitVec 32 := 1#32
  let arg14 : BitVec 32 := Scf.iv c1_i32_2035 c1_i32_2036 k0_t1
  let c1_i32_3556 : BitVec 32 := 1#32
  let v13878 : BitVec 32 := Scalar.subi arg14 c1_i32_3556
  let c2_i32_3557 : BitVec 32 := 2#32
  let v13879 : BitVec 32 := Scalar.remsi v13878 c2_i32_3557
  let v14050 : Index := Scalar.indexCast v13879
  let c0_3585 : Index := 0#32
  let c1_3586 : Index := 1#32
  let c0_3587 : Index := 0#32
  let c0_3588 : Index := 0#32
  ![v14050.toNat, 0, 1, 0, 0]
def k0_mult188 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3598 : BitVec 32 := 8#32
  let v14198 : BitVec 32 := Scalar.muli v13877 c8_i32_3598
  v14198
def k0_off137 (k0_t1 : Fin k0_t1_loop.trips) : Fin 3 → Nat :=
  let c1_3599 : Index := 1#32
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3598 : BitVec 32 := 8#32
  let v14198 : BitVec 32 := Scalar.muli v13877 c8_i32_3598
  let v14199 : BitVec 32 := v14198
  let v14200 : Index := Scalar.indexCast v14199
  let c0_3600 : Index := 0#32
  ![1, v14200.toNat, 0]
def k0_off138 (k0_t1 : Fin k0_t1_loop.trips) : Fin 5 → Nat :=
  let c1_i32_2035 : BitVec 32 := 1#32
  let c1_i32_2036 : BitVec 32 := 1#32
  let arg14 : BitVec 32 := Scf.iv c1_i32_2035 c1_i32_2036 k0_t1
  let c1_i32_3556 : BitVec 32 := 1#32
  let v13878 : BitVec 32 := Scalar.subi arg14 c1_i32_3556
  let c2_i32_3557 : BitVec 32 := 2#32
  let v13879 : BitVec 32 := Scalar.remsi v13878 c2_i32_3557
  let v14209 : Index := Scalar.indexCast v13879
  let c1_3605 : Index := 1#32
  let c0_3606 : Index := 0#32
  let c0_3607 : Index := 0#32
  let c0_3608 : Index := 0#32
  ![v14209.toNat, 1, 0, 0, 0]
def k0_mult189 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3618 : BitVec 32 := 8#32
  let v14357 : BitVec 32 := Scalar.muli v13877 c8_i32_3618
  v14357
def k0_off139 (k0_t1 : Fin k0_t1_loop.trips) : Fin 3 → Nat :=
  let c1_3619 : Index := 1#32
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3618 : BitVec 32 := 8#32
  let v14357 : BitVec 32 := Scalar.muli v13877 c8_i32_3618
  let v14358 : BitVec 32 := v14357
  let v14359 : Index := Scalar.indexCast v14358
  let c256_3620 : Index := 256#32
  ![1, v14359.toNat, 256]
def k0_off140 (k0_t1 : Fin k0_t1_loop.trips) : Fin 5 → Nat :=
  let c1_i32_2035 : BitVec 32 := 1#32
  let c1_i32_2036 : BitVec 32 := 1#32
  let arg14 : BitVec 32 := Scf.iv c1_i32_2035 c1_i32_2036 k0_t1
  let c1_i32_3556 : BitVec 32 := 1#32
  let v13878 : BitVec 32 := Scalar.subi arg14 c1_i32_3556
  let c2_i32_3557 : BitVec 32 := 2#32
  let v13879 : BitVec 32 := Scalar.remsi v13878 c2_i32_3557
  let v14368 : Index := Scalar.indexCast v13879
  let c1_3625 : Index := 1#32
  let c1_3626 : Index := 1#32
  let c0_3627 : Index := 0#32
  let c0_3628 : Index := 0#32
  ![v14368.toNat, 1, 1, 0, 0]
def k0_mult190 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3638 : BitVec 32 := 8#32
  let v14516 : BitVec 32 := Scalar.muli v13877 c8_i32_3638
  v14516
def k0_off141 (k0_t1 : Fin k0_t1_loop.trips) : Fin 3 → Nat :=
  let c2_3639 : Index := 2#32
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3638 : BitVec 32 := 8#32
  let v14516 : BitVec 32 := Scalar.muli v13877 c8_i32_3638
  let v14517 : BitVec 32 := v14516
  let v14518 : Index := Scalar.indexCast v14517
  let c0_3640 : Index := 0#32
  ![2, v14518.toNat, 0]
def k0_off142 (k0_t1 : Fin k0_t1_loop.trips) : Fin 5 → Nat :=
  let c1_i32_2035 : BitVec 32 := 1#32
  let c1_i32_2036 : BitVec 32 := 1#32
  let arg14 : BitVec 32 := Scf.iv c1_i32_2035 c1_i32_2036 k0_t1
  let c1_i32_3556 : BitVec 32 := 1#32
  let v13878 : BitVec 32 := Scalar.subi arg14 c1_i32_3556
  let c2_i32_3557 : BitVec 32 := 2#32
  let v13879 : BitVec 32 := Scalar.remsi v13878 c2_i32_3557
  let v14527 : Index := Scalar.indexCast v13879
  let c2_3645 : Index := 2#32
  let c0_3646 : Index := 0#32
  let c0_3647 : Index := 0#32
  let c0_3648 : Index := 0#32
  ![v14527.toNat, 2, 0, 0, 0]
def k0_mult191 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3658 : BitVec 32 := 8#32
  let v14675 : BitVec 32 := Scalar.muli v13877 c8_i32_3658
  v14675
def k0_off143 (k0_t1 : Fin k0_t1_loop.trips) : Fin 3 → Nat :=
  let c2_3659 : Index := 2#32
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3658 : BitVec 32 := 8#32
  let v14675 : BitVec 32 := Scalar.muli v13877 c8_i32_3658
  let v14676 : BitVec 32 := v14675
  let v14677 : Index := Scalar.indexCast v14676
  let c256_3660 : Index := 256#32
  ![2, v14677.toNat, 256]
def k0_off144 (k0_t1 : Fin k0_t1_loop.trips) : Fin 5 → Nat :=
  let c1_i32_2035 : BitVec 32 := 1#32
  let c1_i32_2036 : BitVec 32 := 1#32
  let arg14 : BitVec 32 := Scf.iv c1_i32_2035 c1_i32_2036 k0_t1
  let c1_i32_3556 : BitVec 32 := 1#32
  let v13878 : BitVec 32 := Scalar.subi arg14 c1_i32_3556
  let c2_i32_3557 : BitVec 32 := 2#32
  let v13879 : BitVec 32 := Scalar.remsi v13878 c2_i32_3557
  let v14686 : Index := Scalar.indexCast v13879
  let c2_3665 : Index := 2#32
  let c1_3666 : Index := 1#32
  let c0_3667 : Index := 0#32
  let c0_3668 : Index := 0#32
  ![v14686.toNat, 2, 1, 0, 0]
def k0_mult192 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3678 : BitVec 32 := 8#32
  let v14834 : BitVec 32 := Scalar.muli v13877 c8_i32_3678
  v14834
def k0_off145 (k0_t1 : Fin k0_t1_loop.trips) : Fin 3 → Nat :=
  let c3_3679 : Index := 3#32
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3678 : BitVec 32 := 8#32
  let v14834 : BitVec 32 := Scalar.muli v13877 c8_i32_3678
  let v14835 : BitVec 32 := v14834
  let v14836 : Index := Scalar.indexCast v14835
  let c0_3680 : Index := 0#32
  ![3, v14836.toNat, 0]
def k0_off146 (k0_t1 : Fin k0_t1_loop.trips) : Fin 5 → Nat :=
  let c1_i32_2035 : BitVec 32 := 1#32
  let c1_i32_2036 : BitVec 32 := 1#32
  let arg14 : BitVec 32 := Scf.iv c1_i32_2035 c1_i32_2036 k0_t1
  let c1_i32_3556 : BitVec 32 := 1#32
  let v13878 : BitVec 32 := Scalar.subi arg14 c1_i32_3556
  let c2_i32_3557 : BitVec 32 := 2#32
  let v13879 : BitVec 32 := Scalar.remsi v13878 c2_i32_3557
  let v14845 : Index := Scalar.indexCast v13879
  let c3_3685 : Index := 3#32
  let c0_3686 : Index := 0#32
  let c0_3687 : Index := 0#32
  let c0_3688 : Index := 0#32
  ![v14845.toNat, 3, 0, 0, 0]
def k0_mult193 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3698 : BitVec 32 := 8#32
  let v14993 : BitVec 32 := Scalar.muli v13877 c8_i32_3698
  v14993
def k0_off147 (k0_t1 : Fin k0_t1_loop.trips) : Fin 3 → Nat :=
  let c3_3699 : Index := 3#32
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3698 : BitVec 32 := 8#32
  let v14993 : BitVec 32 := Scalar.muli v13877 c8_i32_3698
  let v14994 : BitVec 32 := v14993
  let v14995 : Index := Scalar.indexCast v14994
  let c256_3700 : Index := 256#32
  ![3, v14995.toNat, 256]
def k0_off148 (k0_t1 : Fin k0_t1_loop.trips) : Fin 5 → Nat :=
  let c1_i32_2035 : BitVec 32 := 1#32
  let c1_i32_2036 : BitVec 32 := 1#32
  let arg14 : BitVec 32 := Scf.iv c1_i32_2035 c1_i32_2036 k0_t1
  let c1_i32_3556 : BitVec 32 := 1#32
  let v13878 : BitVec 32 := Scalar.subi arg14 c1_i32_3556
  let c2_i32_3557 : BitVec 32 := 2#32
  let v13879 : BitVec 32 := Scalar.remsi v13878 c2_i32_3557
  let v15004 : Index := Scalar.indexCast v13879
  let c3_3705 : Index := 3#32
  let c1_3706 : Index := 1#32
  let c0_3707 : Index := 0#32
  let c0_3708 : Index := 0#32
  ![v15004.toNat, 3, 1, 0, 0]
def k0_mult194 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3718 : BitVec 32 := 8#32
  let v15152 : BitVec 32 := Scalar.muli v13877 c8_i32_3718
  v15152
def k0_off149 (k0_t1 : Fin k0_t1_loop.trips) : Fin 3 → Nat :=
  let c4_3719 : Index := 4#32
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3718 : BitVec 32 := 8#32
  let v15152 : BitVec 32 := Scalar.muli v13877 c8_i32_3718
  let v15153 : BitVec 32 := v15152
  let v15154 : Index := Scalar.indexCast v15153
  let c0_3720 : Index := 0#32
  ![4, v15154.toNat, 0]
def k0_off150 (k0_t1 : Fin k0_t1_loop.trips) : Fin 5 → Nat :=
  let c1_i32_2035 : BitVec 32 := 1#32
  let c1_i32_2036 : BitVec 32 := 1#32
  let arg14 : BitVec 32 := Scf.iv c1_i32_2035 c1_i32_2036 k0_t1
  let c1_i32_3556 : BitVec 32 := 1#32
  let v13878 : BitVec 32 := Scalar.subi arg14 c1_i32_3556
  let c2_i32_3557 : BitVec 32 := 2#32
  let v13879 : BitVec 32 := Scalar.remsi v13878 c2_i32_3557
  let v15163 : Index := Scalar.indexCast v13879
  let c4_3725 : Index := 4#32
  let c0_3726 : Index := 0#32
  let c0_3727 : Index := 0#32
  let c0_3728 : Index := 0#32
  ![v15163.toNat, 4, 0, 0, 0]
def k0_mult195 (k0_t1 : Fin k0_t1_loop.trips) : BitVec 32 :=
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3738 : BitVec 32 := 8#32
  let v15311 : BitVec 32 := Scalar.muli v13877 c8_i32_3738
  v15311
def k0_off151 (k0_t1 : Fin k0_t1_loop.trips) : Fin 3 → Nat :=
  let c4_3739 : Index := 4#32
  let c1_i32_2035 : BitVec 32 := 1#32
  let c1_i32_2036 : BitVec 32 := 1#32
  let arg14 : BitVec 32 := Scf.iv c1_i32_2035 c1_i32_2036 k0_t1
  let c1_i32_3555 : BitVec 32 := 1#32
  let v13877 : BitVec 32 := Scalar.subi arg14 c1_i32_3555
  let c8_i32_3738 : BitVec 32 := 8#32
  let v15311 : BitVec 32 := Scalar.muli v13877 c8_i32_3738
  let v15312 : BitVec 32 := v15311
  let v15313 : Index := Scalar.indexCast v15312
  let c256_3740 : Index := 256#32
  ![4, v15313.toNat, 256]
def k0_off152 (k0_t1 : Fin k0_t1_loop.trips) : Fin 5 → Nat :=
  let c1_i32_2035 : BitVec 32 := 1#32
  let c1_i32_2036 : BitVec 32 := 1#32
  let arg14 : BitVec 32 := Scf.iv c1_i32_2035 c1_i32_2036 k0_t1
  let c1_i32_3556 : BitVec 32 := 1#32
  let v13878 : BitVec 32 := Scalar.subi arg14 c1_i32_3556
  let c2_i32_3557 : BitVec 32 := 2#32
  let v13879 : BitVec 32 := Scalar.remsi v13878 c2_i32_3557
  let v15322 : Index := Scalar.indexCast v13879
  let c4_3745 : Index := 4#32
  let c1_3746 : Index := 1#32
  let c0_3747 : Index := 0#32
  let c0_3748 : Index := 0#32
  ![v15322.toNat, 4, 1, 0, 0]
def k0_mult196 : BitVec 32 :=
  let c11776_i32 : BitVec 32 := 11776#32
  c11776_i32
def k0_mult197 : BitVec 32 :=
  let c184_i32 : BitVec 32 := 184#32
  c184_i32
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, v26.toNat, c0_i32_10.toNat, c0_i32_11.toNat, c0_i32_12.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_4 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 1 → Memref sig .tc .smem S2x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x5x12288x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x12288x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x12288x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x192x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x5x12288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S2x12288x40x128 : Shape := ⟨4, ![2, 12288, 40, 128]⟩
abbrev S2x40 : Shape := ⟨2, ![2, 40]⟩
abbrev S2x12288x8x128 : Shape := ⟨4, ![2, 12288, 8, 128]⟩
abbrev S2x8 : Shape := ⟨2, ![2, 8]⟩
abbrev S2x8x5 : Shape := ⟨3, ![2, 8, 5]⟩
abbrev S2x8x1 : Shape := ⟨3, ![2, 8, 1]⟩
abbrev S_ : Shape := ⟨0, ![]⟩
abbrev S2x12288x8x5x128 : Shape := ⟨5, ![2, 12288, 8, 5, 128]⟩
abbrev S2x8x12288x12288x5 : Shape := ⟨5, ![2, 8, 12288, 12288, 5]⟩
abbrev S2x8x5x12288x12288 : Shape := ⟨5, ![2, 8, 5, 12288, 12288]⟩
abbrev S2x8x5x1x1 : Shape := ⟨5, ![2, 8, 5, 1, 1]⟩
abbrev S12288 : Shape := ⟨1, ![12288]⟩
abbrev S1x12288 : Shape := ⟨2, ![1, 12288]⟩
abbrev S12288x1 : Shape := ⟨2, ![12288, 1]⟩
abbrev S12288x12288 : Shape := ⟨2, ![12288, 12288]⟩
abbrev S2x8x5x12288 : Shape := ⟨4, ![2, 8, 5, 12288]⟩
abbrev S2x8x5x12288x1 : Shape := ⟨5, ![2, 8, 5, 12288, 1]⟩
abbrev S1x1x1x12288 : Shape := ⟨4, ![1, 1, 1, 12288]⟩
abbrev S2x8x5x192x64x192x64 : Shape := ⟨7, ![2, 8, 5, 192, 64, 192, 64]⟩
abbrev S2x8x192x192 : Shape := ⟨4, ![2, 8, 192, 192]⟩
abbrev S2x8x192 : Shape := ⟨3, ![2, 8, 192]⟩
abbrev S2x8x192x1 : Shape := ⟨4, ![2, 8, 192, 1]⟩
abbrev S2x40x12288 : Shape := ⟨3, ![2, 40, 12288]⟩

abbrev nBuf : Space → Nat
  | .hbm => 62
  | .vmem => 4
  | .smem => 0
  | _ => 0

abbrev bufTy : (tb : Table) → Fin (tcTables nBuf tb) → BufTy
  | .hbm, ⟨0, _⟩ => ⟨S2x12288x40x128, .fp8e4m3⟩
  | .hbm, ⟨1, _⟩ => ⟨S2x40, .f32⟩
  | .hbm, ⟨2, _⟩ => ⟨S2x12288x8x128, .fp8e4m3⟩
  | .hbm, ⟨3, _⟩ => ⟨S2x8, .f32⟩
  | .hbm, ⟨4, _⟩ => ⟨S2x12288x40x128, .f32⟩
  | .hbm, ⟨5, _⟩ => ⟨S2x12288x8x128, .f32⟩
  | .hbm, ⟨6, _⟩ => ⟨S2x8x5, .f32⟩
  | .hbm, ⟨7, _⟩ => ⟨S2x8x1, .f32⟩
  | .hbm, ⟨8, _⟩ => ⟨S2x8x5, .f32⟩
  | .hbm, ⟨9, _⟩ => ⟨S2x8x5, .f32⟩
  | .hbm, ⟨10, _⟩ => ⟨S_, .f32⟩
  | .hbm, ⟨11, _⟩ => ⟨S2x8x5, .f32⟩
  | .hbm, ⟨12, _⟩ => ⟨S2x8x5, .f32⟩
  | .hbm, ⟨13, _⟩ => ⟨S2x12288x8x5x128, .f32⟩
  | .hbm, ⟨14, _⟩ => ⟨S2x8x12288x12288x5, .f32⟩
  | .hbm, ⟨15, _⟩ => ⟨S2x8x5x12288x12288, .f32⟩
  | .hbm, ⟨16, _⟩ => ⟨S2x8x5x1x1, .f32⟩
  | .hbm, ⟨17, _⟩ => ⟨S2x8x5x12288x12288, .f32⟩
  | .hbm, ⟨18, _⟩ => ⟨S2x8x5x12288x12288, .f32⟩
  | .hbm, ⟨19, _⟩ => ⟨S12288, .i32⟩
  | .hbm, ⟨20, _⟩ => ⟨S1x12288, .i32⟩
  | .hbm, ⟨21, _⟩ => ⟨S12288x1, .i32⟩
  | .hbm, ⟨22, _⟩ => ⟨S12288x12288, .i32⟩
  | .hbm, ⟨23, _⟩ => ⟨S12288x12288, .i32⟩
  | .hbm, ⟨24, _⟩ => ⟨S12288x12288, .i1⟩
  | .hbm, ⟨25, _⟩ => ⟨S_, .f32⟩
  | .hbm, ⟨26, _⟩ => ⟨S_, .f32⟩
  | .hbm, ⟨27, _⟩ => ⟨S2x8x5x12288x12288, .i1⟩
  | .hbm, ⟨28, _⟩ => ⟨S2x8x5x12288x12288, .f32⟩
  | .hbm, ⟨29, _⟩ => ⟨S2x8x5x12288x12288, .f32⟩
  | .hbm, ⟨30, _⟩ => ⟨S_, .f32⟩
  | .hbm, ⟨31, _⟩ => ⟨S2x8x5x12288, .f32⟩
  | .hbm, ⟨32, _⟩ => ⟨S2x8x5x12288x1, .f32⟩
  | .hbm, ⟨33, _⟩ => ⟨S2x8x5x12288x12288, .f32⟩
  | .hbm, ⟨34, _⟩ => ⟨S2x8x5x12288x12288, .f32⟩
  | .hbm, ⟨35, _⟩ => ⟨S2x8x5x12288x12288, .f32⟩
  | .hbm, ⟨36, _⟩ => ⟨S_, .f32⟩
  | .hbm, ⟨37, _⟩ => ⟨S2x8x5x12288, .f32⟩
  | .hbm, ⟨38, _⟩ => ⟨S2x8x5x12288x1, .f32⟩
  | .hbm, ⟨39, _⟩ => ⟨S2x8x5x12288x1, .f32⟩
  | .hbm, ⟨40, _⟩ => ⟨S2x8x5x12288x1, .f32⟩
  | .hbm, ⟨41, _⟩ => ⟨S2x8x5x12288x12288, .f32⟩
  | .hbm, ⟨42, _⟩ => ⟨S2x8x5x12288x12288, .f32⟩
  | .hbm, ⟨43, _⟩ => ⟨S2x8x5x12288x12288, .f32⟩
  | .hbm, ⟨44, _⟩ => ⟨S2x8x5x12288, .f32⟩
  | .hbm, ⟨45, _⟩ => ⟨S_, .i32⟩
  | .hbm, ⟨46, _⟩ => ⟨S12288, .i32⟩
  | .hbm, ⟨47, _⟩ => ⟨S12288, .i32⟩
  | .hbm, ⟨48, _⟩ => ⟨S12288, .f32⟩
  | .hbm, ⟨49, _⟩ => ⟨S12288, .f32⟩
  | .hbm, ⟨50, _⟩ => ⟨S1x1x1x12288, .f32⟩
  | .hbm, ⟨51, _⟩ => ⟨S2x8x5x12288, .f32⟩
  | .hbm, ⟨52, _⟩ => ⟨S2x8x5x12288, .f32⟩
  | .hbm, ⟨53, _⟩ => ⟨S2x8x5x192x64x192x64, .f32⟩
  | .hbm, ⟨54, _⟩ => ⟨S_, .f32⟩
  | .hbm, ⟨55, _⟩ => ⟨S2x8x192x192, .f32⟩
  | .hbm, ⟨56, _⟩ => ⟨S_, .f32⟩
  | .hbm, ⟨57, _⟩ => ⟨S2x8x192, .f32⟩
  | .hbm, ⟨58, _⟩ => ⟨S2x8x192x1, .f32⟩
  | .hbm, ⟨59, _⟩ => ⟨S2x8x192x192, .f32⟩
  | .hbm, ⟨60, _⟩ => ⟨S2x8x192x192, .f32⟩
  | .hbm, ⟨61, _⟩ => ⟨S2x40x12288, .f32⟩
  | .local _ .vmem, ⟨0, _⟩ => ⟨S2x12288x40x128, .fp8e4m3⟩
  | .local _ .vmem, ⟨1, _⟩ => ⟨S2x12288x8x128, .fp8e4m3⟩
  | .local _ .vmem, ⟨2, _⟩ => ⟨S2x12288x40x128, .f32⟩
  | .local _ .vmem, ⟨3, _⟩ => ⟨S2x12288x8x128, .f32⟩
  | _, _ => ⟨S2x12288x40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x12288x40x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x12288x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x12288x40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x12288x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Tile.Prog.lean ====
/-
  The kernel's body again, written by its own phases: the scores of a key block, the running maxima and sums, the diagonal
  tile and the end of a row tile. It makes the printed body's effects in the printed body's order.
-/
module

public import proofs.«01_k».proof.KernelIdeal

@[expose] public section

noncomputable section

namespace Cert.Proof.Tile

open Idealize.ShloMosaic Idealize.SL.Sem Cert.KernelIdeal
open Cert.KernelIdeal.Facts Cert.KernelIdeal.Facts₀ Cert.KernelIdeal.Shapes1.Facts₀ Cert.KernelIdeal.K0.Facts₀

/-- A named constant read as its own literal. -/
abbrev lit (F : FTy → Type) [FloatOps F] : Named F := ⟨fun _ _ {φ} b => FloatOps.ofBits φ b⟩

/-- `g 0`, `g 1`, …, `g k` combined from the left. -/
def chain {α : Type} (op : α → α → α) (g : ℕ → α) : ℕ → α
  | 0 => g 0
  | k + 1 => op (chain op g k) (g (k + 1))

/-- `f 0`, …, `f (4 * k + 3)` combined as four chains, the four results by pairs. -/
def fold4 {α : Type} (op : α → α → α) (k : ℕ) (f : ℕ → α) : α :=
  op (op (chain op (fun i => f (4 * i + 0)) k) (chain op (fun i => f (4 * i + 1)) k))
    (op (chain op (fun i => f (4 * i + 2)) k) (chain op (fun i => f (4 * i + 3)) k))

/-- A matrix of `N` rows and `C` columns. -/
abbrev Sm (N C : ℕ) : Shape := ⟨2, ![N, C]⟩

theorem slices_rows {N C r : ℕ} {i : ℕ} (h : i + r ≤ N) : (Sm N C).Slices ![i, 0] (Sm r C) :=
  ⟨rfl, fun a => by
    fin_cases a
    · exact h
    · exact le_of_eq (Nat.zero_add C)⟩

theorem oct_le {k : ℕ} (i : ℕ) : 8 * (i % (k + 1)) + 8 ≤ 8 * (k + 1) := by
  have h : i % (k + 1) < k + 1 := Nat.mod_lt i (Nat.succ_pos k)
  omega

/-- Rows `8 * i` to `8 * i + 7` of a matrix of `8 * (k + 1)` rows. -/
def oct {F : FTy → Type} {C : ℕ} (k : ℕ) (y : FVec F (Sm (8 * (k + 1)) C) .f32) (i : ℕ) : FVec F (Sm 8 C) .f32 :=
  extractStridedSlice (Sm 8 C) ![8 * (i % (k + 1)), 0] y (slices_rows (oct_le i))

section
variable {F : FTy → Type} [FloatOps F]

/-- The maxima of a block's 64 groups of eight keys, sublane by sublane. -/
def blockMax256 (y : FVec F S512x256 .f32) : FVec F S8x256 .f32 := fold4 maximumf 15 (oct 63 y)

/-- The sums of a block's 64 groups of eight keys, sublane by sublane. -/
def blockSum256 (y : FVec F S512x256 .f32) : FVec F S8x256 .f32 := fold4 addf 15 (oct 63 y)

/-- The scores of a chunk of 512 keys against 256 query rows. -/
def scoreBlock (k : FVec F S512x128 .fp8e4m3) (q : FVec F S256x128 .fp8e4m3) (coef : F .f32) [Facts] : FVec F S512x256 .f32 :=
  mulf (matmul dot_S512x128_S256x128_S512x256_1_1_0_0_n_n none k q (constant S512x256 .f32 0x00000000#32)) (broadcast S512x256 coef)

/-- The scores of the first 256 keys of a tile against its first 256 query rows. -/
def scoreHalf (k : FVec F S256x128 .fp8e4m3) (q : FVec F S256x128 .fp8e4m3) (coef : F .f32) [Facts] : FVec F S256x256 .f32 :=
  mulf (matmul dot_S256x128_S256x128_S256x256_1_1_0_0_n_n none k q (constant S256x256 .f32 0x00000000#32)) (broadcast S256x256 coef)

end

section
variable {F : FTy → Type} [FloatOps F] [Facts]

/-- The memory a kernel's program speaks of. -/
abbrev KProg (F : FTy → Type) (α : Type) : Type 1 := Prog (TpuEff nD τ sig (Elt F) Λ₀ .tc) α

/-- One head's score factor. -/
def coef [Named F] (i : grid0.Coords) (arg1 : Memref sig .tc .smem S2x40 .f32) (arg2 : Memref sig .tc .smem S2x8 .f32)
    (hb : BitVec 32) (inb : ∀ a, (k0_off1 i hb) a + S1x1.size a ≤ S2x40.size a) : KProg F (F .f32) := do
  let qs ← smemLoad arg1 (Rect.unit (s := S2x40) (k0_off1 i hb) S1x1.size inb) numel1_S1x1 rfl
  let ks ← smemLoad arg2 (Rect.unit (s := S2x8) (k0_off2 i) S1x1.size (k0_off2_inb i)) numel1_S1x1 rfl
  pure (Scalar.mulf (Scalar.mulf (Scalar.mulf qs ks) (Scalar.ofBits .f32 0x3DB504F3#32)) (Named.named κ "log2e" 0x3FB8AA3B#32))

/-- The block maxima start at minus infinity. -/
def fill (arg10 : Memref sig .tc .vmem S5x192x512 .f32) : KProg F PUnit := do
  let _ ← Prog.lift (.load arg10 (Rect.unit (s := S5x192x512) ![0, 0, 0] S5x192x512.size inb_S5x192x512_S5x192x512_0_0_0).toLoadRect (View.loadsAt_vmem h_S5x192x512))
  Prog.lift (.store arg10 (Rect.unit (s := S5x192x512) ![0, 0, 0] S5x192x512.size inb_S5x192x512_S5x192x512_0_0_0)
    (shapeCast S5x192x512 (broadcast S5x192x512 (Scalar.ofBits .f32 0xFF800000#32)) shapeCasts_S5x192x512_S5x192x512)
    Finset.univ (View.stores_vmem_bits_univ h_S5x192x512 rfl) (.inl rfl))

/-- The scores of one chunk against 256 rows of one head: their block, and its sublane maxima. -/
def scores (arg3 : Memref sig .tc .vmem S1x1x5x12288x128 .fp8e4m3) (arg8 : Memref sig .tc .vmem S2x5x2x512x256 .f32)
    (arg10 : Memref sig .tc .vmem S5x192x512 .f32) (k : Vec F S1x1x512x128 .fp8e4m3) (cf : F .f32)
    (oq : Fin 5 → ℕ) (iq : ∀ a, oq a + S1x1x1x256x128.size a ≤ S1x1x5x12288x128.size a)
    (oy : Fin 5 → ℕ) (iy : ∀ a, oy a + S1x1x1x512x256.size a ≤ S2x5x2x512x256.size a)
    (ob : Fin 3 → ℕ) (ib : ∀ a, ob a + S1x8x256.size a ≤ S5x192x512.size a) : KProg F PUnit := do
  let q : Vec F S1x1x1x256x128 .fp8e4m3 ← Prog.lift (.load arg3 (Rect.unit (s := S1x1x5x12288x128) oq S1x1x1x256x128.size iq).toLoadRect (View.loadsAt_vmem h_S1x1x1x256x128))
  let _ ← Prog.lift (.load arg8 (Rect.unit (s := S2x5x2x512x256) oy S1x1x1x512x256.size iy).toLoadRect (View.loadsAt_vmem h_S1x1x1x512x256))
  Prog.lift (.store arg8 (Rect.unit (s := S2x5x2x512x256) oy S1x1x1x512x256.size iy)
    (shapeCast S1x1x1x512x256 (scoreBlock (shapeCast S512x128 k shapeCasts_S1x1x512x128_S512x128) (shapeCast S256x128 q shapeCasts_S1x1x1x256x128_S256x128) cf) shapeCasts_S512x256_S1x1x1x512x256)
    Finset.univ (View.stores_vmem_bits_univ h_S1x1x1x512x256 rfl) (.inl rfl))
  let _ ← Prog.lift (.load arg10 (Rect.unit (s := S5x192x512) ob S1x8x256.size ib).toLoadRect (View.loadsAt_vmem h_S1x8x256))
  Prog.lift (.store arg10 (Rect.unit (s := S5x192x512) ob S1x8x256.size ib)
    (shapeCast S1x8x256 (blockMax256 (scoreBlock (shapeCast S512x128 k shapeCasts_S1x1x512x128_S512x128) (shapeCast S256x128 q shapeCasts_S1x1x1x256x128_S256x128) cf)) shapeCasts_S8x256_S1x8x256)
    Finset.univ (View.stores_vmem_bits_univ h_S1x8x256 rfl) (.inl rfl))

/-- A chunk of keys. -/
def loadK (arg5 : Memref sig .tc .vmem S1x1x12288x128 .fp8e4m3) (o : Fin 4 → ℕ) (i : ∀ a, o a + S1x1x512x128.size a ≤ S1x1x12288x128.size a) :
    KProg F (Vec F S1x1x512x128 .fp8e4m3) :=
  Prog.lift (.load arg5 (Rect.unit (s := S1x1x12288x128) o S1x1x512x128.size i).toLoadRect (View.loadsAt_vmem h_S1x1x512x128))

/-- The new running maximum. -/
def newMax256 (m bm : Vec F S1x8x256 .f32) : FVec F S8x256 .f32 :=
  maximumf (shapeCast S8x256 m shapeCasts_S1x8x256_S8x256)
    (broadcastTo S8x256 (shapeCast S1x256 (multiReduction .maximumf [0] S256 (shapeCast S8x256 bm shapeCasts_S1x8x256_S8x256) 0xFF800000#32 reduces_S8x256_S256 (.inl rfl) rfl) shapeCasts_S256_S1x256) broadcasts_S1x256_S8x256)

/-- A block's exponentials at the maximum `m`. -/
def expBlock (y : Vec F S1x1x1x512x256 .f32) (m : FVec F S8x256 .f32) : FVec F S512x256 .f32 :=
  shapeCast S512x256
    (exp2 (subf (shapeCast S64x8x256 (shapeCast S512x256 y shapeCasts_S1x1x1x512x256_S512x256) shapeCasts_S512x256_S64x8x256)
      (broadcastTo S64x8x256 (shapeCast S1x8x256 m shapeCasts_S8x256_S1x8x256) broadcasts_S1x8x256_S64x8x256)))
    shapeCasts_S64x8x256_S512x256

/-- The new running sums. -/
def newSum256 (m bm l : Vec F S1x8x256 .f32) (y : Vec F S1x1x1x512x256 .f32) : FVec F S8x256 .f32 :=
  addf (mulf (shapeCast S8x256 l shapeCasts_S1x8x256_S8x256) (exp2 (subf (shapeCast S8x256 m shapeCasts_S1x8x256_S8x256) (newMax256 m bm))))
    (blockSum256 (expBlock y (newMax256 m bm)))

/-- The running maxima and sums of 256 rows of one head, with one more chunk. -/
def exps (arg8 : Memref sig .tc .vmem S2x5x2x512x256 .f32)
    (arg10 : Memref sig .tc .vmem S5x192x512 .f32) (arg12 arg13 : Memref sig .tc .vmem S5x8x512 .f32)
    (om : Fin 3 → ℕ) (im : ∀ a, om a + S1x8x256.size a ≤ S5x8x512.size a)
    (ob : Fin 3 → ℕ) (ib : ∀ a, ob a + S1x8x256.size a ≤ S5x192x512.size a)
    (oy : Fin 5 → ℕ) (iy : ∀ a, oy a + S1x1x1x512x256.size a ≤ S2x5x2x512x256.size a) : KProg F PUnit := do
  let bm : Vec F S1x8x256 .f32 ← Prog.lift (.load arg10 (Rect.unit (s := S5x192x512) ob S1x8x256.size ib).toLoadRect (View.loadsAt_vmem h_S1x8x256))
  let m : Vec F S1x8x256 .f32 ← Prog.lift (.load arg12 (Rect.unit (s := S5x8x512) om S1x8x256.size im).toLoadRect (View.loadsAt_vmem h_S1x8x256))
  let y : Vec F S1x1x1x512x256 .f32 ← Prog.lift (.load arg8 (Rect.unit (s := S2x5x2x512x256) oy S1x1x1x512x256.size iy).toLoadRect (View.loadsAt_vmem h_S1x1x1x512x256))
  let l : Vec F S1x8x256 .f32 ← Prog.lift (.load arg13 (Rect.unit (s := S5x8x512) om S1x8x256.size im).toLoadRect (View.loadsAt_vmem h_S1x8x256))
  let _ ← Prog.lift (.load arg13 (Rect.unit (s := S5x8x512) om S1x8x256.size im).toLoadRect (View.loadsAt_vmem h_S1x8x256))
  Prog.lift (.store arg13 (Rect.unit (s := S5x8x512) om S1x8x256.size im) (shapeCast S1x8x256 (newSum256 m bm l y) shapeCasts_S8x256_S1x8x256)
    Finset.univ (View.stores_vmem_bits_univ h_S1x8x256 rfl) (.inl rfl))
  let _ ← Prog.lift (.load arg12 (Rect.unit (s := S5x8x512) om S1x8x256.size im).toLoadRect (View.loadsAt_vmem h_S1x8x256))
  Prog.lift (.store arg12 (Rect.unit (s := S5x8x512) om S1x8x256.size im) (shapeCast S1x8x256 (newMax256 m bm) shapeCasts_S8x256_S1x8x256)
    Finset.univ (View.stores_vmem_bits_univ h_S1x8x256 rfl) (.inl rfl))

/-- The maximum of rows `64 * kb` to `64 * kb + 63` of a diagonal tile, per column; minus infinity where the tile has no such row. -/
def diagMax (N : ℕ) (y : FVec F (Sm N 128) .f32) (kb : ℕ) : FVec F S1x128 .f32 :=
  if h : kb * 64 + 64 ≤ N then
    shapeCast S1x128 (multiReduction .maximumf [0] S128
      (fold4 maximumf 1 (oct 7 (extractStridedSlice (Sm 64 128) ![kb * 64, 0] y (slices_rows h))))
      0xFF800000#32 reduces_S8x128_S128 (.inl rfl) rfl) shapeCasts_S128_S1x128
  else broadcast S1x128 (Scalar.ofBits .f32 0xFF800000#32)

theorem inb_dmax {h kb col : ℕ} (hh : h < 5) (hk : kb < 8) (hc : col + 128 ≤ 512) :
    ∀ a, (![h, kb, col] : Fin 3 → ℕ) a + S1x1x128.size a ≤ S5x8x512.size a := by
  intro a
  fin_cases a
  · exact hh
  · exact hk
  · exact hc

/-- One row of the diagonal tile's block maxima. -/
def putMax (arg11 : Memref sig .tc .vmem S5x8x512 .f32) (h kb col : ℕ) (hh : h < 5) (hk : kb < 8) (hc : col + 128 ≤ 512)
    (v : FVec F S1x128 .f32) : KProg F PUnit := do
  let _ ← Prog.lift (.load arg11 (Rect.unit (s := S5x8x512) ![h, kb, col] S1x1x128.size (inb_dmax hh hk hc)).toLoadRect (View.loadsAt_vmem h_S1x1x128))
  Prog.lift (.store arg11 (Rect.unit (s := S5x8x512) ![h, kb, col] S1x1x128.size (inb_dmax hh hk hc)) (shapeCast S1x1x128 v shapeCasts_S1x128_S1x1x128)
    Finset.univ (View.stores_vmem_bits_univ h_S1x1x128 rfl) (.inl rfl))

/-- The shape of a diagonal tile as it lies in its buffer. -/
abbrev SmY (N : ℕ) : Shape := ⟨4, ![1, 1, N, 128]⟩

theorem inb_yd {h jj N : ℕ} (hh : h < 5) (hj : jj < 4) (hN : N ≤ 512) {T : Fin 4 → ℕ} (hT : T = (SmY N).size) :
    ∀ a, (![h, jj, 0, 0] : Fin 4 → ℕ) a + T a ≤ S5x4x512x128.size a := by
  subst hT
  intro a
  fin_cases a
  · exact hh
  · exact hj
  · exact (Nat.zero_add N).le.trans hN
  · exact le_refl 128

/-- One diagonal tile put into its buffer, with its block maxima. -/
def diagTile (arg9 : Memref sig .tc .vmem S5x4x512x128 .f32) (arg11 : Memref sig .tc .vmem S5x8x512 .f32) (h jj N col : ℕ) (T : Fin 4 → ℕ) (hT : T = (SmY N).size)
    (hh : h < 5) (hj : jj < 4) (hN : N ≤ 512) (hc : col + 128 ≤ 512) (hs : (Sm N 128).ShapeCasts ⟨4, T⟩) (hp : 0 < (⟨4, T⟩ : Shape).numel)
    (y : FVec F (Sm N 128) .f32) : KProg F PUnit := do
  let _ ← Prog.lift (.load arg9 (Rect.unit (s := S5x4x512x128) ![h, jj, 0, 0] T (inb_yd hh hj hN hT)).toLoadRect (View.loadsAt_vmem hp))
  Prog.lift (.store arg9 (Rect.unit (s := S5x4x512x128) ![h, jj, 0, 0] T (inb_yd hh hj hN hT)) (shapeCast ⟨4, T⟩ y hs)
    Finset.univ (View.stores_vmem_bits_univ hp rfl) (.inl rfl))
  putMax arg11 h 0 col hh (by decide) hc (diagMax N y 0)
  putMax arg11 h 1 col hh (by decide) hc (diagMax N y 1)
  putMax arg11 h 2 col hh (by decide) hc (diagMax N y 2)
  putMax arg11 h 3 col hh (by decide) hc (diagMax N y 3)
  putMax arg11 h 4 col hh (by decide) hc (diagMax N y 4)
  putMax arg11 h 5 col hh (by decide) hc (diagMax N y 5)
  putMax arg11 h 6 col hh (by decide) hc (diagMax N y 6)
  putMax arg11 h 7 col hh (by decide) hc (diagMax N y 7)

/-- Of a 128 by 128 tile: which scores a row may see. -/
def tri [Facts] : IVec S128x128 1 :=
  cmpi .sle (iota .tc S128x128 32 [0] iota_S128x128_d0_w32) (iota .tc S128x128 32 [1] iota_S128x128_d1_w32)

/-- A tile with what its rows may not see at minus infinity. -/
def masked (y : FVec F S128x128 .f32) : FVec F S128x128 .f32 :=
  select tri y (broadcast S128x128 (Scalar.ofBits .f32 0xFF800000#32))

/-- The diagonal tiles of a head's first 256 rows: 128 keys for the first 128 rows … -/
def tile0 (y : FVec F S256x256 .f32) : FVec F S128x128 .f32 :=
  masked (extractStridedSlice S128x128 ![0, 0] (extractStridedSlice S256x128 ![0, 0] y slices_S256x256_o0_0_S256x128) slices_S256x128_o0_0_S128x128)

/-- … and 256 for the next. -/
def tile1 (y : FVec F S256x256 .f32) : FVec F S256x128 .f32 :=
  concatenate S256x128 0
    [⟨S128x128, extractStridedSlice S128x128 ![0, 0] (extractStridedSlice S256x128 ![0, 128] y slices_S256x256_o0_128_S256x128) slices_S256x128_o0_0_S128x128⟩,
     ⟨S128x128, masked (extractStridedSlice S128x128 ![128, 0] (extractStridedSlice S256x128 ![0, 128] y slices_S256x256_o0_128_S256x128) slices_S256x128_o128_0_S128x128)⟩]
    concatenates_S128x128_S128x128_S256x128_d0

/-- The same of the next 256 rows: 384 keys … -/
def tile2 (y : FVec F S512x256 .f32) : FVec F S384x128 .f32 :=
  concatenate S384x128 0
    [⟨S256x128, extractStridedSlice S256x128 ![0, 0] (extractStridedSlice S512x128 ![0, 0] y slices_S512x256_o0_0_S512x128) slices_S512x128_o0_0_S256x128⟩,
     ⟨S128x128, masked (extractStridedSlice S128x128 ![256, 0] (extractStridedSlice S512x128 ![0, 0] y slices_S512x256_o0_0_S512x128) slices_S512x128_o256_0_S128x128)⟩]
    concatenates_S256x128_S128x128_S384x128_d0

/-- … and 512. -/
def tile3 (y : FVec F S512x256 .f32) : FVec F S512x128 .f32 :=
  concatenate S512x128 0
    [⟨S384x128, extractStridedSlice S384x128 ![0, 0] (extractStridedSlice S512x128 ![0, 128] y slices_S512x256_o0_128_S512x128) slices_S512x128_o0_0_S384x128⟩,
     ⟨S128x128, masked (extractStridedSlice S128x128 ![384, 0] (extractStridedSlice S512x128 ![0, 128] y slices_S512x256_o0_128_S512x128) slices_S512x128_o384_0_S128x128)⟩]
    concatenates_S384x128_S128x128_S512x128_d0

/-- One head's diagonal scores. -/
def scoresDiag (arg3 : Memref sig .tc .vmem S1x1x5x12288x128 .fp8e4m3) (arg4 : Memref sig .tc .vmem S1x1x12288x128 .fp8e4m3)
    (arg9 : Memref sig .tc .vmem S5x4x512x128 .f32) (arg11 : Memref sig .tc .vmem S5x8x512 .f32) (h : ℕ) (hh : h < 5) (cf : F .f32)
    (ok : Fin 4 → ℕ) (ik : ∀ a, ok a + S1x1x256x128.size a ≤ S1x1x12288x128.size a)
    (oq : Fin 5 → ℕ) (iq : ∀ a, oq a + S1x1x1x256x128.size a ≤ S1x1x5x12288x128.size a)
    (ok' : Fin 4 → ℕ) (ik' : ∀ a, ok' a + S1x1x512x128.size a ≤ S1x1x12288x128.size a)
    (oq' : Fin 5 → ℕ) (iq' : ∀ a, oq' a + S1x1x1x256x128.size a ≤ S1x1x5x12288x128.size a) : KProg F PUnit := do
  let k : Vec F S1x1x256x128 .fp8e4m3 ← Prog.lift (.load arg4 (Rect.unit (s := S1x1x12288x128) ok S1x1x256x128.size ik).toLoadRect (View.loadsAt_vmem h_S1x1x256x128))
  let q : Vec F S1x1x1x256x128 .fp8e4m3 ← Prog.lift (.load arg3 (Rect.unit (s := S1x1x5x12288x128) oq S1x1x1x256x128.size iq).toLoadRect (View.loadsAt_vmem h_S1x1x1x256x128))
  diagTile arg9 arg11 h 0 128 0 S1x1x128x128.size rfl hh (by decide) (by decide) (by decide) shapeCasts_S128x128_S1x1x128x128 h_S1x1x128x128
    (tile0 (scoreHalf (shapeCast S256x128 k shapeCasts_S1x1x256x128_S256x128) (shapeCast S256x128 q shapeCasts_S1x1x1x256x128_S256x128) cf))
  diagTile arg9 arg11 h 1 256 128 S1x1x256x128.size rfl hh (by decide) (by decide) (by decide) shapeCasts_S256x128_S1x1x256x128 h_S1x1x256x128
    (tile1 (scoreHalf (shapeCast S256x128 k shapeCasts_S1x1x256x128_S256x128) (shapeCast S256x128 q shapeCasts_S1x1x1x256x128_S256x128) cf))
  let k' : Vec F S1x1x512x128 .fp8e4m3 ← Prog.lift (.load arg4 (Rect.unit (s := S1x1x12288x128) ok' S1x1x512x128.size ik').toLoadRect (View.loadsAt_vmem h_S1x1x512x128))
  let q' : Vec F S1x1x1x256x128 .fp8e4m3 ← Prog.lift (.load arg3 (Rect.unit (s := S1x1x5x12288x128) oq' S1x1x1x256x128.size iq').toLoadRect (View.loadsAt_vmem h_S1x1x1x256x128))
  diagTile arg9 arg11 h 2 384 256 S1x1x384x128.size rfl hh (by decide) (by decide) (by decide) shapeCasts_S384x128_S1x1x384x128 h_S1x1x384x128
    (tile2 (scoreBlock (shapeCast S512x128 k' shapeCasts_S1x1x512x128_S512x128) (shapeCast S256x128 q' shapeCasts_S1x1x1x256x128_S256x128) cf))
  diagTile arg9 arg11 h 3 512 384 S1x1x512x128.size rfl hh (by decide) (by decide) (by decide) shapeCasts_S512x128_S1x1x512x128 h_S1x1x512x128
    (tile3 (scoreBlock (shapeCast S512x128 k' shapeCasts_S1x1x512x128_S512x128) (shapeCast S256x128 q' shapeCasts_S1x1x1x256x128_S256x128) cf))

/-- A diagonal tile's maximum, on all eight sublanes. -/
def tileMax (dm : Vec F S1x8x128 .f32) : FVec F S8x128 .f32 :=
  broadcastTo S8x128 (shapeCast S1x128 (shapeCast S1x128 (multiReduction .maximumf [0] S128 (shapeCast S8x128 dm shapeCasts_S1x8x128_S8x128) 0xFF800000#32 reduces_S8x128_S128 (.inl rfl) rfl) shapeCasts_S128_S1x128) shapeCasts_S1x128_S1x128) broadcasts_S1x128_S8x128

/-- A diagonal tile's sums of exponentials, sublane by sublane; the tile has `32 * (k + 1)` rows. -/
def tileSum (k : ℕ) (T : Fin 4 → ℕ) (dm : Vec F S1x8x128 .f32) (y : Vec F ⟨4, T⟩ .f32)
    (h1 : (⟨4, T⟩ : Shape).ShapeCasts (Sm (8 * ((4 * k + 3) + 1)) 128))
    (h2 : (Sm (8 * ((4 * k + 3) + 1)) 128).ShapeCasts ⟨3, ![(4 * k + 3) + 1, 8, 128]⟩)
    (h3 : S1x8x128.Broadcasts ⟨3, ![(4 * k + 3) + 1, 8, 128]⟩)
    (h4 : (⟨3, ![(4 * k + 3) + 1, 8, 128]⟩ : Shape).ShapeCasts (Sm (8 * ((4 * k + 3) + 1)) 128)) : FVec F S8x128 .f32 :=
  fold4 addf k (oct (4 * k + 3) (shapeCast (Sm (8 * ((4 * k + 3) + 1)) 128)
    (exp2 (subf (shapeCast ⟨3, ![(4 * k + 3) + 1, 8, 128]⟩ (shapeCast (Sm (8 * ((4 * k + 3) + 1)) 128) y h1) h2)
      (broadcastTo ⟨3, ![(4 * k + 3) + 1, 8, 128]⟩ (shapeCast S1x8x128 (tileMax dm) shapeCasts_S8x128_S1x8x128) h3))) h4))

theorem inb_row {h col : ℕ} (hh : h < 5) (hc : col + 128 ≤ 512) :
    ∀ a, (![h, 0, col] : Fin 3 → ℕ) a + S1x8x128.size a ≤ S5x8x512.size a := by
  intro a
  fin_cases a
  · exact hh
  · exact le_refl 8
  · exact hc

/-- The running maxima and sums of 128 rows of one head, from their diagonal tile of `N = 32 * (k + 1)` keys. -/
def expsTile (arg9 : Memref sig .tc .vmem S5x4x512x128 .f32)
    (arg10 : Memref sig .tc .vmem S5x192x512 .f32) (arg11 arg12 arg13 : Memref sig .tc .vmem S5x8x512 .f32) (h jj N k col : ℕ) (T : Fin 4 → ℕ) (hT : T = (SmY N).size)
    (hh : h < 5) (hj : jj < 4) (hN : N ≤ 512) (hc : col + 128 ≤ 512) (hp : 0 < (⟨4, T⟩ : Shape).numel)
    (h1 : (⟨4, T⟩ : Shape).ShapeCasts (Sm (8 * ((4 * k + 3) + 1)) 128))
    (h2 : (Sm (8 * ((4 * k + 3) + 1)) 128).ShapeCasts ⟨3, ![(4 * k + 3) + 1, 8, 128]⟩)
    (h3 : S1x8x128.Broadcasts ⟨3, ![(4 * k + 3) + 1, 8, 128]⟩)
    (h4 : (⟨3, ![(4 * k + 3) + 1, 8, 128]⟩ : Shape).ShapeCasts (Sm (8 * ((4 * k + 3) + 1)) 128))
    (ob : Fin 3 → ℕ) (ib : ∀ a, ob a + S1x8x128.size a ≤ S5x192x512.size a) : KProg F PUnit := do
  let dm : Vec F S1x8x128 .f32 ← Prog.lift (.load arg11 (Rect.unit (s := S5x8x512) ![h, 0, col] S1x8x128.size (inb_row hh hc)).toLoadRect (View.loadsAt_vmem h_S1x8x128))
  let _ ← Prog.lift (.load arg10 (Rect.unit (s := S5x192x512) ob S1x8x128.size ib).toLoadRect (View.loadsAt_vmem h_S1x8x128))
  Prog.lift (.store arg10 (Rect.unit (s := S5x192x512) ob S1x8x128.size ib)
    (shapeCast S1x8x128 (shapeCast S8x128 dm shapeCasts_S1x8x128_S8x128) shapeCasts_S8x128_S1x8x128)
    Finset.univ (View.stores_vmem_bits_univ h_S1x8x128 rfl) (.inl rfl))
  let y : Vec F ⟨4, T⟩ .f32 ← Prog.lift (.load arg9 (Rect.unit (s := S5x4x512x128) ![h, jj, 0, 0] T (inb_yd hh hj hN hT)).toLoadRect (View.loadsAt_vmem hp))
  let _ ← Prog.lift (.load arg13 (Rect.unit (s := S5x8x512) ![h, 0, col] S1x8x128.size (inb_row hh hc)).toLoadRect (View.loadsAt_vmem h_S1x8x128))
  Prog.lift (.store arg13 (Rect.unit (s := S5x8x512) ![h, 0, col] S1x8x128.size (inb_row hh hc))
    (shapeCast S1x8x128 (tileSum k T dm y h1 h2 h3 h4) shapeCasts_S8x128_S1x8x128)
    Finset.univ (View.stores_vmem_bits_univ h_S1x8x128 rfl) (.inl rfl))
  let _ ← Prog.lift (.load arg12 (Rect.unit (s := S5x8x512) ![h, 0, col] S1x8x128.size (inb_row hh hc)).toLoadRect (View.loadsAt_vmem h_S1x8x128))
  Prog.lift (.store arg12 (Rect.unit (s := S5x8x512) ![h, 0, col] S1x8x128.size (inb_row hh hc))
    (shapeCast S1x8x128 (tileMax dm) shapeCasts_S8x128_S1x8x128)
    Finset.univ (View.stores_vmem_bits_univ h_S1x8x128 rfl) (.inl rfl))

/-- A head's four diagonal tiles. -/
def expsDiag (arg9 : Memref sig .tc .vmem S5x4x512x128 .f32)
    (arg10 : Memref sig .tc .vmem S5x192x512 .f32) (arg11 arg12 arg13 : Memref sig .tc .vmem S5x8x512 .f32) (h : ℕ) (hh : h < 5)
    (o0 : Fin 3 → ℕ) (i0 : ∀ a, o0 a + S1x8x128.size a ≤ S5x192x512.size a)
    (o1 : Fin 3 → ℕ) (i1 : ∀ a, o1 a + S1x8x128.size a ≤ S5x192x512.size a)
    (o2 : Fin 3 → ℕ) (i2 : ∀ a, o2 a + S1x8x128.size a ≤ S5x192x512.size a)
    (o3 : Fin 3 → ℕ) (i3 : ∀ a, o3 a + S1x8x128.size a ≤ S5x192x512.size a) : KProg F PUnit := do
  expsTile arg9 arg10 arg11 arg12 arg13 h 0 128 3 0 S1x1x128x128.size rfl hh (by decide) (by decide) (by decide) h_S1x1x128x128
    shapeCasts_S1x1x128x128_S128x128 shapeCasts_S128x128_S16x8x128 broadcasts_S1x8x128_S16x8x128 shapeCasts_S16x8x128_S128x128 o0 i0
  expsTile arg9 arg10 arg11 arg12 arg13 h 1 256 7 128 S1x1x256x128.size rfl hh (by decide) (by decide) (by decide) h_S1x1x256x128
    shapeCasts_S1x1x256x128_S256x128 shapeCasts_S256x128_S32x8x128 broadcasts_S1x8x128_S32x8x128 shapeCasts_S32x8x128_S256x128 o1 i1
  expsTile arg9 arg10 arg11 arg12 arg13 h 2 384 11 256 S1x1x384x128.size rfl hh (by decide) (by decide) (by decide) h_S1x1x384x128
    shapeCasts_S1x1x384x128_S384x128 shapeCasts_S384x128_S48x8x128 broadcasts_S1x8x128_S48x8x128 shapeCasts_S48x8x128_S384x128 o2 i2
  expsTile arg9 arg10 arg11 arg12 arg13 h 3 512 15 384 S1x1x512x128.size rfl hh (by decide) (by decide) (by decide) h_S1x1x512x128
    shapeCasts_S1x1x512x128_S512x128 shapeCasts_S512x128_S64x8x128 broadcasts_S1x8x128_S64x8x128 shapeCasts_S64x8x128_S512x128 o3 i3

/-- The logarithms of the numbers of keys that a tile's rows see; `base` is its first row. -/
def logRows (base : BitVec 32) : FVec F S1x512 .f32 :=
  log (sitofp .f32 (addi (addi (broadcast S1x512 base) (iota .tc S1x512 32 [1] iota_S1x512_d1_w32)) (broadcast S1x512 1#32)))

/-- The base-two log-sum-exp. -/
def lse2 [Named F] (m : Vec F S1x1x512 .f32) (l : Vec F S1x8x512 .f32) : FVec F S1x512 .f32 :=
  addf (shapeCast S1x512 m shapeCasts_S1x1x512_S1x512)
    (mulf (log (shapeCast S1x512 (multiReduction .add [0] S512 (shapeCast S8x512 l shapeCasts_S1x8x512_S8x512) 0x00000000#32 reduces_S8x512_S512 (.inl rfl) rfl) shapeCasts_S512_S1x512))
      (broadcast S1x512 (Named.named κ "log2e" 0x3FB8AA3B#32)))

/-- A row's log-sum-exp less the logarithm of its number of keys. -/
def lseOut [Named F] (base : BitVec 32) (m : Vec F S1x1x512 .f32) (l : Vec F S1x8x512 .f32) : FVec F S1x512 .f32 :=
  subf (mulf (lse2 m l) (broadcast S1x512 (Named.named κ "ln2" 0x3F317218#32))) (logRows base)

/-- A head's block maxima less its log-sum-exp. -/
def rel [Named F] (b : Vec F S1x192x512 .f32) (m : Vec F S1x1x512 .f32) (l : Vec F S1x8x512 .f32) : FVec F S192x512 .f32 :=
  subf (shapeCast S192x512 b shapeCasts_S1x192x512_S192x512) (broadcastTo S192x512 (lse2 m l) broadcasts_S1x512_S192x512)

/-- The gate's eight rows before they are divided by their sums. -/
def gateNum (x : FVec F S192x512 .f32) : FVec F S8x192 .f32 :=
  exp2 (multiReduction .maximumf [1] S8x192 (shapeCast S8x64x192 (transpose S512x192 [1, 0] x transposes_S192x512_p1_0_S512x192) shapeCasts_S512x192_S8x64x192) 0xFF800000#32 reduces_S8x64x192_S8x192 (.inl rfl) rfl)

/-- The gate's eight rows. -/
def gateOut (x : FVec F S192x512 .f32) : FVec F S8x192 .f32 :=
  divf (gateNum x) (broadcastTo S8x192 (shapeCast S8x1 (multiReduction .add [1] S8 (gateNum x) 0x00000000#32 reduces_S8x192_S8 (.inl rfl) rfl) shapeCasts_S8_S8x1) broadcasts_S8x1_S8x192)

theorem inb_m {h : ℕ} (hh : h < 5) : ∀ a, (![h, 0, 0] : Fin 3 → ℕ) a + S1x1x512.size a ≤ S5x8x512.size a := by
  intro a
  fin_cases a
  · exact hh
  · exact (by decide : 0 + 1 ≤ 8)
  · exact le_refl 512

theorem inb_l {h : ℕ} (hh : h < 5) : ∀ a, (![h, 0, 0] : Fin 3 → ℕ) a + S1x8x512.size a ≤ S5x8x512.size a := by
  intro a
  fin_cases a
  · exact hh
  · exact le_refl 8
  · exact le_refl 512

theorem inb_b {h : ℕ} (hh : h < 5) : ∀ a, (![h, 0, 0] : Fin 3 → ℕ) a + S1x192x512.size a ≤ S5x192x512.size a := by
  intro a
  fin_cases a
  · exact hh
  · exact le_refl 192
  · exact le_refl 512

/-- One head's end of a row tile. -/
def finishHead [Named F] (arg7 : Memref sig .tc .vmem S1x1x5x12288 .f32) (arg10 : Memref sig .tc .vmem S5x192x512 .f32)
    (arg12 arg13 : Memref sig .tc .vmem S5x8x512 .f32) (h : ℕ) (hh : h < 5) (base : BitVec 32)
    (o : Fin 4 → ℕ) (io : ∀ a, o a + S1x1x1x512.size a ≤ S1x1x5x12288.size a) : KProg F (FVec F S192x512 .f32) := do
  let m : Vec F S1x1x512 .f32 ← Prog.lift (.load arg12 (Rect.unit (s := S5x8x512) ![h, 0, 0] S1x1x512.size (inb_m hh)).toLoadRect (View.loadsAt_vmem h_S1x1x512))
  let l : Vec F S1x8x512 .f32 ← Prog.lift (.load arg13 (Rect.unit (s := S5x8x512) ![h, 0, 0] S1x8x512.size (inb_l hh)).toLoadRect (View.loadsAt_vmem h_S1x8x512))
  let _ ← Prog.lift (.load arg7 (Rect.unit (s := S1x1x5x12288) o S1x1x1x512.size io).toLoadRect (View.loadsAt_vmem h_S1x1x1x512))
  Prog.lift (.store arg7 (Rect.unit (s := S1x1x5x12288) o S1x1x1x512.size io) (shapeCast S1x1x1x512 (lseOut base m l) shapeCasts_S1x512_S1x1x1x512)
    Finset.univ (View.stores_vmem_bits_univ h_S1x1x1x512 rfl) (.inl rfl))
  let b : Vec F S1x192x512 .f32 ← Prog.lift (.load arg10 (Rect.unit (s := S5x192x512) ![h, 0, 0] S1x192x512.size (inb_b hh)).toLoadRect (View.loadsAt_vmem h_S1x192x512))
  pure (rel b m l)

/-- The end of a row tile. -/
def finish [Named F] (arg6 : Memref sig .tc .vmem S1x1x192x192 .f32) (arg7 : Memref sig .tc .vmem S1x1x5x12288 .f32) (arg10 : Memref sig .tc .vmem S5x192x512 .f32)
    (arg12 arg13 : Memref sig .tc .vmem S5x8x512 .f32) (base : BitVec 32)
    (o0 : Fin 4 → ℕ) (i0 : ∀ a, o0 a + S1x1x1x512.size a ≤ S1x1x5x12288.size a)
    (o1 : Fin 4 → ℕ) (i1 : ∀ a, o1 a + S1x1x1x512.size a ≤ S1x1x5x12288.size a)
    (o2 : Fin 4 → ℕ) (i2 : ∀ a, o2 a + S1x1x1x512.size a ≤ S1x1x5x12288.size a)
    (o3 : Fin 4 → ℕ) (i3 : ∀ a, o3 a + S1x1x1x512.size a ≤ S1x1x5x12288.size a)
    (o4 : Fin 4 → ℕ) (i4 : ∀ a, o4 a + S1x1x1x512.size a ≤ S1x1x5x12288.size a)
    (og : Fin 4 → ℕ) (ig : ∀ a, og a + S1x1x8x192.size a ≤ S1x1x192x192.size a) : KProg F PUnit := do
  let x0 ← finishHead arg7 arg10 arg12 arg13 0 (by decide) base o0 i0
  let x1 ← finishHead arg7 arg10 arg12 arg13 1 (by decide) base o1 i1
  let x2 ← finishHead arg7 arg10 arg12 arg13 2 (by decide) base o2 i2
  let x3 ← finishHead arg7 arg10 arg12 arg13 3 (by decide) base o3 i3
  let x4 ← finishHead arg7 arg10 arg12 arg13 4 (by decide) base o4 i4
  let _ ← Prog.lift (.load arg6 (Rect.unit (s := S1x1x192x192) og S1x1x8x192.size ig).toLoadRect (View.loadsAt_vmem h_S1x1x8x192))
  Prog.lift (.store arg6 (Rect.unit (s := S1x1x192x192) og S1x1x8x192.size ig)
    (shapeCast S1x1x8x192 (gateOut (maximumf (maximumf (maximumf (maximumf x0 x1) x2) x3) x4)) shapeCasts_S8x192_S1x1x8x192)
    Finset.univ (View.stores_vmem_bits_univ h_S1x1x8x192 rfl) (.inl rfl))

end

end Cert.Proof.Tile
-- ==== Proof.Tile.Body.lean ====
/-
  The kernel's body, phase after phase.
-/
module

public import proofs.«01_k».proof.Proof.Tile.Prog

@[expose] public section

noncomputable section

namespace Cert.Proof.Tile

open Idealize.ShloMosaic Idealize.SL.Sem Cert.KernelIdeal
open Cert.KernelIdeal.Facts Cert.KernelIdeal.Facts₀ Cert.KernelIdeal.Shapes1.Facts₀ Cert.KernelIdeal.K0.Facts₀

variable {F : FTy → Type} [FloatOps F] [Facts]

/-- A trip of the chunk loop: the next chunk's scores, then this chunk's exponentials. -/
def chunk (arg3 : Memref sig .tc .vmem S1x1x5x12288x128 .fp8e4m3) (arg5 : Memref sig .tc .vmem S1x1x12288x128 .fp8e4m3)
    (arg8 : Memref sig .tc .vmem S2x5x2x512x256 .f32)
    (arg10 : Memref sig .tc .vmem S5x192x512 .f32) (arg12 arg13 : Memref sig .tc .vmem S5x8x512 .f32)
    (c0 c1 c2 c3 c4 : F .f32) (k0_t1 : Fin k0_t1_loop.trips) (k0_t2 : Fin (k0_t2_loop k0_t1).trips) : KProg F PUnit := do
  let k ← loadK arg5 (k0_off34 k0_t1 k0_t2) (k0_off34_inb k0_t1 k0_t2)
  scores arg3 arg8 arg10 k c0 (k0_off35 k0_t1 0#32) (k0_off35_inb k0_t1 0) (k0_off36 k0_t1 k0_t2) (k0_off36_inb k0_t1 k0_t2) (k0_off37 k0_t1 k0_t2) (k0_off37_inb k0_t1 k0_t2)
  scores arg3 arg8 arg10 k c0 (k0_off35 k0_t1 256#32) (k0_off35_inb k0_t1 1) (k0_off38 k0_t1 k0_t2) (k0_off38_inb k0_t1 k0_t2) (k0_off39 k0_t1 k0_t2) (k0_off39_inb k0_t1 k0_t2)
  scores arg3 arg8 arg10 k c1 (k0_off40 k0_t1 0#32) (k0_off40_inb k0_t1 0) (k0_off41 k0_t1 k0_t2) (k0_off41_inb k0_t1 k0_t2) (k0_off42 k0_t1 k0_t2) (k0_off42_inb k0_t1 k0_t2)
  scores arg3 arg8 arg10 k c1 (k0_off40 k0_t1 256#32) (k0_off40_inb k0_t1 1) (k0_off43 k0_t1 k0_t2) (k0_off43_inb k0_t1 k0_t2) (k0_off44 k0_t1 k0_t2) (k0_off44_inb k0_t1 k0_t2)
  scores arg3 arg8 arg10 k c2 (k0_off45 k0_t1 0#32) (k0_off45_inb k0_t1 0) (k0_off46 k0_t1 k0_t2) (k0_off46_inb k0_t1 k0_t2) (k0_off47 k0_t1 k0_t2) (k0_off47_inb k0_t1 k0_t2)
  scores arg3 arg8 arg10 k c2 (k0_off45 k0_t1 256#32) (k0_off45_inb k0_t1 1) (k0_off48 k0_t1 k0_t2) (k0_off48_inb k0_t1 k0_t2) (k0_off49 k0_t1 k0_t2) (k0_off49_inb k0_t1 k0_t2)
  scores arg3 arg8 arg10 k c3 (k0_off50 k0_t1 0#32) (k0_off50_inb k0_t1 0) (k0_off51 k0_t1 k0_t2) (k0_off51_inb k0_t1 k0_t2) (k0_off52 k0_t1 k0_t2) (k0_off52_inb k0_t1 k0_t2)
  scores arg3 arg8 arg10 k c3 (k0_off50 k0_t1 256#32) (k0_off50_inb k0_t1 1) (k0_off53 k0_t1 k0_t2) (k0_off53_inb k0_t1 k0_t2) (k0_off54 k0_t1 k0_t2) (k0_off54_inb k0_t1 k0_t2)
  scores arg3 arg8 arg10 k c4 (k0_off55 k0_t1 0#32) (k0_off55_inb k0_t1 0) (k0_off56 k0_t1 k0_t2) (k0_off56_inb k0_t1 k0_t2) (k0_off57 k0_t1 k0_t2) (k0_off57_inb k0_t1 k0_t2)
  scores arg3 arg8 arg10 k c4 (k0_off55 k0_t1 256#32) (k0_off55_inb k0_t1 1) (k0_off58 k0_t1 k0_t2) (k0_off58_inb k0_t1 k0_t2) (k0_off59 k0_t1 k0_t2) (k0_off59_inb k0_t1 k0_t2)
  exps arg8 arg10 arg12 arg13 ![0, 0, 0] (by decide) (k0_off60 k0_t1 k0_t2) (k0_off60_inb k0_t1 k0_t2) (k0_off61 k0_t1 k0_t2) (k0_off61_inb k0_t1 k0_t2)
  exps arg8 arg10 arg12 arg13 ![0, 0, 256] (by decide) (k0_off62 k0_t1 k0_t2) (k0_off62_inb k0_t1 k0_t2) (k0_off63 k0_t1 k0_t2) (k0_off63_inb k0_t1 k0_t2)
  exps arg8 arg10 arg12 arg13 ![1, 0, 0] (by decide) (k0_off64 k0_t1 k0_t2) (k0_off64_inb k0_t1 k0_t2) (k0_off65 k0_t1 k0_t2) (k0_off65_inb k0_t1 k0_t2)
  exps arg8 arg10 arg12 arg13 ![1, 0, 256] (by decide) (k0_off66 k0_t1 k0_t2) (k0_off66_inb k0_t1 k0_t2) (k0_off67 k0_t1 k0_t2) (k0_off67_inb k0_t1 k0_t2)
  exps arg8 arg10 arg12 arg13 ![2, 0, 0] (by decide) (k0_off68 k0_t1 k0_t2) (k0_off68_inb k0_t1 k0_t2) (k0_off69 k0_t1 k0_t2) (k0_off69_inb k0_t1 k0_t2)
  exps arg8 arg10 arg12 arg13 ![2, 0, 256] (by decide) (k0_off70 k0_t1 k0_t2) (k0_off70_inb k0_t1 k0_t2) (k0_off71 k0_t1 k0_t2) (k0_off71_inb k0_t1 k0_t2)
  exps arg8 arg10 arg12 arg13 ![3, 0, 0] (by decide) (k0_off72 k0_t1 k0_t2) (k0_off72_inb k0_t1 k0_t2) (k0_off73 k0_t1 k0_t2) (k0_off73_inb k0_t1 k0_t2)
  exps arg8 arg10 arg12 arg13 ![3, 0, 256] (by decide) (k0_off74 k0_t1 k0_t2) (k0_off74_inb k0_t1 k0_t2) (k0_off75 k0_t1 k0_t2) (k0_off75_inb k0_t1 k0_t2)
  exps arg8 arg10 arg12 arg13 ![4, 0, 0] (by decide) (k0_off76 k0_t1 k0_t2) (k0_off76_inb k0_t1 k0_t2) (k0_off77 k0_t1 k0_t2) (k0_off77_inb k0_t1 k0_t2)
  exps arg8 arg10 arg12 arg13 ![4, 0, 256] (by decide) (k0_off78 k0_t1 k0_t2) (k0_off78_inb k0_t1 k0_t2) (k0_off79 k0_t1 k0_t2) (k0_off79_inb k0_t1 k0_t2)

/-- A trip of the remainder loop, which makes none. -/
def chunkRest (arg3 : Memref sig .tc .vmem S1x1x5x12288x128 .fp8e4m3) (arg5 : Memref sig .tc .vmem S1x1x12288x128 .fp8e4m3)
    (arg8 : Memref sig .tc .vmem S2x5x2x512x256 .f32)
    (arg10 : Memref sig .tc .vmem S5x192x512 .f32) (arg12 arg13 : Memref sig .tc .vmem S5x8x512 .f32)
    (c0 c1 c2 c3 c4 : F .f32) (k0_t1 : Fin k0_t1_loop.trips) (k0_t3 : Fin (k0_t3_loop k0_t1).trips) : KProg F PUnit := do
  let k ← loadK arg5 (k0_off80 k0_t1 k0_t3) (k0_off80_inb k0_t1 k0_t3)
  scores arg3 arg8 arg10 k c0 (k0_off81 k0_t1 0#32) (k0_off81_inb k0_t1 0) (k0_off82 k0_t1 k0_t3) (k0_off82_inb k0_t1 k0_t3) (k0_off83 k0_t1 k0_t3) (k0_off83_inb k0_t1 k0_t3)
  scores arg3 arg8 arg10 k c0 (k0_off81 k0_t1 256#32) (k0_off81_inb k0_t1 1) (k0_off84 k0_t1 k0_t3) (k0_off84_inb k0_t1 k0_t3) (k0_off85 k0_t1 k0_t3) (k0_off85_inb k0_t1 k0_t3)
  scores arg3 arg8 arg10 k c1 (k0_off86 k0_t1 0#32) (k0_off86_inb k0_t1 0) (k0_off87 k0_t1 k0_t3) (k0_off87_inb k0_t1 k0_t3) (k0_off88 k0_t1 k0_t3) (k0_off88_inb k0_t1 k0_t3)
  scores arg3 arg8 arg10 k c1 (k0_off86 k0_t1 256#32) (k0_off86_inb k0_t1 1) (k0_off89 k0_t1 k0_t3) (k0_off89_inb k0_t1 k0_t3) (k0_off90 k0_t1 k0_t3) (k0_off90_inb k0_t1 k0_t3)
  scores arg3 arg8 arg10 k c2 (k0_off91 k0_t1 0#32) (k0_off91_inb k0_t1 0) (k0_off92 k0_t1 k0_t3) (k0_off92_inb k0_t1 k0_t3) (k0_off93 k0_t1 k0_t3) (k0_off93_inb k0_t1 k0_t3)
  scores arg3 arg8 arg10 k c2 (k0_off91 k0_t1 256#32) (k0_off91_inb k0_t1 1) (k0_off94 k0_t1 k0_t3) (k0_off94_inb k0_t1 k0_t3) (k0_off95 k0_t1 k0_t3) (k0_off95_inb k0_t1 k0_t3)
  scores arg3 arg8 arg10 k c3 (k0_off96 k0_t1 0#32) (k0_off96_inb k0_t1 0) (k0_off97 k0_t1 k0_t3) (k0_off97_inb k0_t1 k0_t3) (k0_off98 k0_t1 k0_t3) (k0_off98_inb k0_t1 k0_t3)
  scores arg3 arg8 arg10 k c3 (k0_off96 k0_t1 256#32) (k0_off96_inb k0_t1 1) (k0_off99 k0_t1 k0_t3) (k0_off99_inb k0_t1 k0_t3) (k0_off100 k0_t1 k0_t3) (k0_off100_inb k0_t1 k0_t3)
  scores arg3 arg8 arg10 k c4 (k0_off101 k0_t1 0#32) (k0_off101_inb k0_t1 0) (k0_off102 k0_t1 k0_t3) (k0_off102_inb k0_t1 k0_t3) (k0_off103 k0_t1 k0_t3) (k0_off103_inb k0_t1 k0_t3)
  scores arg3 arg8 arg10 k c4 (k0_off101 k0_t1 256#32) (k0_off101_inb k0_t1 1) (k0_off104 k0_t1 k0_t3) (k0_off104_inb k0_t1 k0_t3) (k0_off105 k0_t1 k0_t3) (k0_off105_inb k0_t1 k0_t3)
  exps arg8 arg10 arg12 arg13 ![0, 0, 0] (by decide) (k0_off106 k0_t1 k0_t3) (k0_off106_inb k0_t1 k0_t3) (k0_off107 k0_t1 k0_t3) (k0_off107_inb k0_t1 k0_t3)
  exps arg8 arg10 arg12 arg13 ![0, 0, 256] (by decide) (k0_off108 k0_t1 k0_t3) (k0_off108_inb k0_t1 k0_t3) (k0_off109 k0_t1 k0_t3) (k0_off109_inb k0_t1 k0_t3)
  exps arg8 arg10 arg12 arg13 ![1, 0, 0] (by decide) (k0_off110 k0_t1 k0_t3) (k0_off110_inb k0_t1 k0_t3) (k0_off111 k0_t1 k0_t3) (k0_off111_inb k0_t1 k0_t3)
  exps arg8 arg10 arg12 arg13 ![1, 0, 256] (by decide) (k0_off112 k0_t1 k0_t3) (k0_off112_inb k0_t1 k0_t3) (k0_off113 k0_t1 k0_t3) (k0_off113_inb k0_t1 k0_t3)
  exps arg8 arg10 arg12 arg13 ![2, 0, 0] (by decide) (k0_off114 k0_t1 k0_t3) (k0_off114_inb k0_t1 k0_t3) (k0_off115 k0_t1 k0_t3) (k0_off115_inb k0_t1 k0_t3)
  exps arg8 arg10 arg12 arg13 ![2, 0, 256] (by decide) (k0_off116 k0_t1 k0_t3) (k0_off116_inb k0_t1 k0_t3) (k0_off117 k0_t1 k0_t3) (k0_off117_inb k0_t1 k0_t3)
  exps arg8 arg10 arg12 arg13 ![3, 0, 0] (by decide) (k0_off118 k0_t1 k0_t3) (k0_off118_inb k0_t1 k0_t3) (k0_off119 k0_t1 k0_t3) (k0_off119_inb k0_t1 k0_t3)
  exps arg8 arg10 arg12 arg13 ![3, 0, 256] (by decide) (k0_off120 k0_t1 k0_t3) (k0_off120_inb k0_t1 k0_t3) (k0_off121 k0_t1 k0_t3) (k0_off121_inb k0_t1 k0_t3)
  exps arg8 arg10 arg12 arg13 ![4, 0, 0] (by decide) (k0_off122 k0_t1 k0_t3) (k0_off122_inb k0_t1 k0_t3) (k0_off123 k0_t1 k0_t3) (k0_off123_inb k0_t1 k0_t3)
  exps arg8 arg10 arg12 arg13 ![4, 0, 256] (by decide) (k0_off124 k0_t1 k0_t3) (k0_off124_inb k0_t1 k0_t3) (k0_off125 k0_t1 k0_t3) (k0_off125_inb k0_t1 k0_t3)

/-- The first chunk's scores. -/
def firstScores (arg3 : Memref sig .tc .vmem S1x1x5x12288x128 .fp8e4m3) (arg5 : Memref sig .tc .vmem S1x1x12288x128 .fp8e4m3)
    (arg8 : Memref sig .tc .vmem S2x5x2x512x256 .f32) (arg10 : Memref sig .tc .vmem S5x192x512 .f32)
    (c0 c1 c2 c3 c4 : F .f32) (k0_t1 : Fin k0_t1_loop.trips) : KProg F PUnit := do
  let k ← loadK arg5 ![0, 0, 0, 0] (by decide)
  scores arg3 arg8 arg10 k c0 (k0_off9 k0_t1 0#32) (k0_off9_inb k0_t1 0) ![0, 0, 0, 0, 0] (by decide) ![0, 0, 0] (by decide)
  scores arg3 arg8 arg10 k c0 (k0_off9 k0_t1 256#32) (k0_off9_inb k0_t1 1) ![0, 0, 1, 0, 0] (by decide) ![0, 0, 256] (by decide)
  scores arg3 arg8 arg10 k c1 (k0_off10 k0_t1 0#32) (k0_off10_inb k0_t1 0) ![0, 1, 0, 0, 0] (by decide) ![1, 0, 0] (by decide)
  scores arg3 arg8 arg10 k c1 (k0_off10 k0_t1 256#32) (k0_off10_inb k0_t1 1) ![0, 1, 1, 0, 0] (by decide) ![1, 0, 256] (by decide)
  scores arg3 arg8 arg10 k c2 (k0_off11 k0_t1 0#32) (k0_off11_inb k0_t1 0) ![0, 2, 0, 0, 0] (by decide) ![2, 0, 0] (by decide)
  scores arg3 arg8 arg10 k c2 (k0_off11 k0_t1 256#32) (k0_off11_inb k0_t1 1) ![0, 2, 1, 0, 0] (by decide) ![2, 0, 256] (by decide)
  scores arg3 arg8 arg10 k c3 (k0_off12 k0_t1 0#32) (k0_off12_inb k0_t1 0) ![0, 3, 0, 0, 0] (by decide) ![3, 0, 0] (by decide)
  scores arg3 arg8 arg10 k c3 (k0_off12 k0_t1 256#32) (k0_off12_inb k0_t1 1) ![0, 3, 1, 0, 0] (by decide) ![3, 0, 256] (by decide)
  scores arg3 arg8 arg10 k c4 (k0_off13 k0_t1 0#32) (k0_off13_inb k0_t1 0) ![0, 4, 0, 0, 0] (by decide) ![4, 0, 0] (by decide)
  scores arg3 arg8 arg10 k c4 (k0_off13 k0_t1 256#32) (k0_off13_inb k0_t1 1) ![0, 4, 1, 0, 0] (by decide) ![4, 0, 256] (by decide)

/-- The last whole chunk's exponentials. -/
def lastExps (arg8 : Memref sig .tc .vmem S2x5x2x512x256 .f32)
    (arg10 : Memref sig .tc .vmem S5x192x512 .f32) (arg12 arg13 : Memref sig .tc .vmem S5x8x512 .f32) (k0_t1 : Fin k0_t1_loop.trips) : KProg F PUnit := do
  exps arg8 arg10 arg12 arg13 ![0, 0, 0] (by decide) (k0_off133 k0_t1) (k0_off133_inb k0_t1) (k0_off134 k0_t1) (k0_off134_inb k0_t1)
  exps arg8 arg10 arg12 arg13 ![0, 0, 256] (by decide) (k0_off135 k0_t1) (k0_off135_inb k0_t1) (k0_off136 k0_t1) (k0_off136_inb k0_t1)
  exps arg8 arg10 arg12 arg13 ![1, 0, 0] (by decide) (k0_off137 k0_t1) (k0_off137_inb k0_t1) (k0_off138 k0_t1) (k0_off138_inb k0_t1)
  exps arg8 arg10 arg12 arg13 ![1, 0, 256] (by decide) (k0_off139 k0_t1) (k0_off139_inb k0_t1) (k0_off140 k0_t1) (k0_off140_inb k0_t1)
  exps arg8 arg10 arg12 arg13 ![2, 0, 0] (by decide) (k0_off141 k0_t1) (k0_off141_inb k0_t1) (k0_off142 k0_t1) (k0_off142_inb k0_t1)
  exps arg8 arg10 arg12 arg13 ![2, 0, 256] (by decide) (k0_off143 k0_t1) (k0_off143_inb k0_t1) (k0_off144 k0_t1) (k0_off144_inb k0_t1)
  exps arg8 arg10 arg12 arg13 ![3, 0, 0] (by decide) (k0_off145 k0_t1) (k0_off145_inb k0_t1) (k0_off146 k0_t1) (k0_off146_inb k0_t1)
  exps arg8 arg10 arg12 arg13 ![3, 0, 256] (by decide) (k0_off147 k0_t1) (k0_off147_inb k0_t1) (k0_off148 k0_t1) (k0_off148_inb k0_t1)
  exps arg8 arg10 arg12 arg13 ![4, 0, 0] (by decide) (k0_off149 k0_t1) (k0_off149_inb k0_t1) (k0_off150 k0_t1) (k0_off150_inb k0_t1)
  exps arg8 arg10 arg12 arg13 ![4, 0, 256] (by decide) (k0_off151 k0_t1) (k0_off151_inb k0_t1) (k0_off152 k0_t1) (k0_off152_inb k0_t1)

/-- The diagonal scores of the next row tile. -/
def nextDiag (arg3 : Memref sig .tc .vmem S1x1x5x12288x128 .fp8e4m3) (arg4 : Memref sig .tc .vmem S1x1x12288x128 .fp8e4m3)
    (arg9 : Memref sig .tc .vmem S5x4x512x128 .f32) (arg11 : Memref sig .tc .vmem S5x8x512 .f32)
    (c0 c1 c2 c3 c4 : F .f32) (k0_t1 : Fin k0_t1_loop.trips) : KProg F PUnit := do
  scoresDiag arg3 arg4 arg9 arg11 0 (by decide) c0 (k0_off126 k0_t1) (k0_off126_inb k0_t1) (k0_off127 k0_t1 0#32) (k0_off127_inb k0_t1 0) (k0_off128 k0_t1) (k0_off128_inb k0_t1) (k0_off127 k0_t1 256#32) (k0_off127_inb k0_t1 1)
  scoresDiag arg3 arg4 arg9 arg11 1 (by decide) c1 (k0_off126 k0_t1) (k0_off126_inb k0_t1) (k0_off129 k0_t1 0#32) (k0_off129_inb k0_t1 0) (k0_off128 k0_t1) (k0_off128_inb k0_t1) (k0_off129 k0_t1 256#32) (k0_off129_inb k0_t1 1)
  scoresDiag arg3 arg4 arg9 arg11 2 (by decide) c2 (k0_off126 k0_t1) (k0_off126_inb k0_t1) (k0_off130 k0_t1 0#32) (k0_off130_inb k0_t1 0) (k0_off128 k0_t1) (k0_off128_inb k0_t1) (k0_off130 k0_t1 256#32) (k0_off130_inb k0_t1 1)
  scoresDiag arg3 arg4 arg9 arg11 3 (by decide) c3 (k0_off126 k0_t1) (k0_off126_inb k0_t1) (k0_off131 k0_t1 0#32) (k0_off131_inb k0_t1 0) (k0_off128 k0_t1) (k0_off128_inb k0_t1) (k0_off131 k0_t1 256#32) (k0_off131_inb k0_t1 1)
  scoresDiag arg3 arg4 arg9 arg11 4 (by decide) c4 (k0_off126 k0_t1) (k0_off126_inb k0_t1) (k0_off132 k0_t1 0#32) (k0_off132_inb k0_t1 0) (k0_off128 k0_t1) (k0_off128_inb k0_t1) (k0_off132 k0_t1 256#32) (k0_off132_inb k0_t1 1)

/-- The diagonal exponentials of a row tile. -/
def thisDiag (arg9 : Memref sig .tc .vmem S5x4x512x128 .f32)
    (arg10 : Memref sig .tc .vmem S5x192x512 .f32) (arg11 arg12 arg13 : Memref sig .tc .vmem S5x8x512 .f32) (k0_t1 : Fin k0_t1_loop.trips) : KProg F PUnit := do
  expsDiag arg9 arg10 arg11 arg12 arg13 0 (by decide) (k0_off14 k0_t1) (k0_off14_inb k0_t1) (k0_off15 k0_t1) (k0_off15_inb k0_t1) (k0_off16 k0_t1) (k0_off16_inb k0_t1) (k0_off17 k0_t1) (k0_off17_inb k0_t1)
  expsDiag arg9 arg10 arg11 arg12 arg13 1 (by decide) (k0_off18 k0_t1) (k0_off18_inb k0_t1) (k0_off19 k0_t1) (k0_off19_inb k0_t1) (k0_off20 k0_t1) (k0_off20_inb k0_t1) (k0_off21 k0_t1) (k0_off21_inb k0_t1)
  expsDiag arg9 arg10 arg11 arg12 arg13 2 (by decide) (k0_off22 k0_t1) (k0_off22_inb k0_t1) (k0_off23 k0_t1) (k0_off23_inb k0_t1) (k0_off24 k0_t1) (k0_off24_inb k0_t1) (k0_off25 k0_t1) (k0_off25_inb k0_t1)
  expsDiag arg9 arg10 arg11 arg12 arg13 3 (by decide) (k0_off26 k0_t1) (k0_off26_inb k0_t1) (k0_off27 k0_t1) (k0_off27_inb k0_t1) (k0_off28 k0_t1) (k0_off28_inb k0_t1) (k0_off29 k0_t1) (k0_off29_inb k0_t1)
  expsDiag arg9 arg10 arg11 arg12 arg13 4 (by decide) (k0_off30 k0_t1) (k0_off30_inb k0_t1) (k0_off31 k0_t1) (k0_off31_inb k0_t1) (k0_off32 k0_t1) (k0_off32_inb k0_t1) (k0_off33 k0_t1) (k0_off33_inb k0_t1)

/-- The end of the row tile before. -/
def prevFinish [Named F] (arg6 : Memref sig .tc .vmem S1x1x192x192 .f32) (arg7 : Memref sig .tc .vmem S1x1x5x12288 .f32) (arg10 : Memref sig .tc .vmem S5x192x512 .f32)
    (arg12 arg13 : Memref sig .tc .vmem S5x8x512 .f32) (k0_t1 : Fin k0_t1_loop.trips) : KProg F PUnit :=
  finish arg6 arg7 arg10 arg12 arg13 (Scalar.muli (Scalar.subi (Scf.iv 1#32 1#32 k0_t1) 1#32) 512#32)
    (k0_off3 k0_t1) (k0_off3_inb k0_t1) (k0_off4 k0_t1) (k0_off4_inb k0_t1) (k0_off5 k0_t1) (k0_off5_inb k0_t1)
    (k0_off6 k0_t1) (k0_off6_inb k0_t1) (k0_off7 k0_t1) (k0_off7_inb k0_t1) (k0_off8 k0_t1) (k0_off8_inb k0_t1)

/-- A trip of the row tile loop. -/
def tile [Named F] (arg3 : Memref sig .tc .vmem S1x1x5x12288x128 .fp8e4m3) (arg4 arg5 : Memref sig .tc .vmem S1x1x12288x128 .fp8e4m3)
    (arg6 : Memref sig .tc .vmem S1x1x192x192 .f32) (arg7 : Memref sig .tc .vmem S1x1x5x12288 .f32)
    (arg8 : Memref sig .tc .vmem S2x5x2x512x256 .f32) (arg9 : Memref sig .tc .vmem S5x4x512x128 .f32)
    (arg10 : Memref sig .tc .vmem S5x192x512 .f32) (arg11 arg12 arg13 : Memref sig .tc .vmem S5x8x512 .f32)
    (c0 c1 c2 c3 c4 : F .f32) (k0_t1 : Fin k0_t1_loop.trips) : KProg F Unit := do
  prevFinish arg6 arg7 arg10 arg12 arg13 k0_t1
  firstScores arg3 arg5 arg8 arg10 c0 c1 c2 c3 c4 k0_t1
  thisDiag arg9 arg10 arg11 arg12 arg13 k0_t1
  let v ← Scf.Loop.for (k0_t2_loop k0_t1) (k0_t2_ok k0_t1) 0#32 fun k0_t2 _ => do
    chunk arg3 arg5 arg8 arg10 arg12 arg13 c0 c1 c2 c3 c4 k0_t1 k0_t2
    pure 0#32
  let _ ← Scf.Loop.for (k0_t3_loop k0_t1) (k0_t3_ok k0_t1) v fun k0_t3 _ => do
    chunkRest arg3 arg5 arg8 arg10 arg12 arg13 c0 c1 c2 c3 c4 k0_t1 k0_t3
    pure 0#32
  nextDiag arg3 arg4 arg9 arg11 c0 c1 c2 c3 c4 k0_t1
  lastExps arg8 arg10 arg12 arg13 k0_t1
  pure ⟨⟩

/-- The first row tile's diagonal scores. -/
def diag0 (arg3 : Memref sig .tc .vmem S1x1x5x12288x128 .fp8e4m3) (arg4 : Memref sig .tc .vmem S1x1x12288x128 .fp8e4m3)
    (arg9 : Memref sig .tc .vmem S5x4x512x128 .f32) (arg11 : Memref sig .tc .vmem S5x8x512 .f32)
    (c0 c1 c2 c3 c4 : F .f32) : KProg F PUnit := do
  scoresDiag arg3 arg4 arg9 arg11 0 (by decide) c0 ![0, 0, 0, 0] (by decide) ![0, 0, 0, 0, 0] (by decide) ![0, 0, 0, 0] (by decide) ![0, 0, 0, 256, 0] (by decide)
  scoresDiag arg3 arg4 arg9 arg11 1 (by decide) c1 ![0, 0, 0, 0] (by decide) ![0, 0, 1, 0, 0] (by decide) ![0, 0, 0, 0] (by decide) ![0, 0, 1, 256, 0] (by decide)
  scoresDiag arg3 arg4 arg9 arg11 2 (by decide) c2 ![0, 0, 0, 0] (by decide) ![0, 0, 2, 0, 0] (by decide) ![0, 0, 0, 0] (by decide) ![0, 0, 2, 256, 0] (by decide)
  scoresDiag arg3 arg4 arg9 arg11 3 (by decide) c3 ![0, 0, 0, 0] (by decide) ![0, 0, 3, 0, 0] (by decide) ![0, 0, 0, 0] (by decide) ![0, 0, 3, 256, 0] (by decide)
  scoresDiag arg3 arg4 arg9 arg11 4 (by decide) c4 ![0, 0, 0, 0] (by decide) ![0, 0, 4, 0, 0] (by decide) ![0, 0, 0, 0] (by decide) ![0, 0, 4, 256, 0] (by decide)

/-- The second row tile's diagonal scores. -/
def diag1 (arg3 : Memref sig .tc .vmem S1x1x5x12288x128 .fp8e4m3) (arg4 : Memref sig .tc .vmem S1x1x12288x128 .fp8e4m3)
    (arg9 : Memref sig .tc .vmem S5x4x512x128 .f32) (arg11 : Memref sig .tc .vmem S5x8x512 .f32)
    (c0 c1 c2 c3 c4 : F .f32) : KProg F PUnit := do
  scoresDiag arg3 arg4 arg9 arg11 0 (by decide) c0 ![0, 0, 512, 0] (by decide) ![0, 0, 0, 512, 0] (by decide) ![0, 0, 512, 0] (by decide) ![0, 0, 0, 768, 0] (by decide)
  scoresDiag arg3 arg4 arg9 arg11 1 (by decide) c1 ![0, 0, 512, 0] (by decide) ![0, 0, 1, 512, 0] (by decide) ![0, 0, 512, 0] (by decide) ![0, 0, 1, 768, 0] (by decide)
  scoresDiag arg3 arg4 arg9 arg11 2 (by decide) c2 ![0, 0, 512, 0] (by decide) ![0, 0, 2, 512, 0] (by decide) ![0, 0, 512, 0] (by decide) ![0, 0, 2, 768, 0] (by decide)
  scoresDiag arg3 arg4 arg9 arg11 3 (by decide) c3 ![0, 0, 512, 0] (by decide) ![0, 0, 3, 512, 0] (by decide) ![0, 0, 512, 0] (by decide) ![0, 0, 3, 768, 0] (by decide)
  scoresDiag arg3 arg4 arg9 arg11 4 (by decide) c4 ![0, 0, 512, 0] (by decide) ![0, 0, 4, 512, 0] (by decide) ![0, 0, 512, 0] (by decide) ![0, 0, 4, 768, 0] (by decide)

/-- The first row tile's diagonal exponentials. -/
def expsDiag0 (arg9 : Memref sig .tc .vmem S5x4x512x128 .f32)
    (arg10 : Memref sig .tc .vmem S5x192x512 .f32) (arg11 arg12 arg13 : Memref sig .tc .vmem S5x8x512 .f32) : KProg F PUnit := do
  expsDiag arg9 arg10 arg11 arg12 arg13 0 (by decide) ![0, 0, 0] (by decide) ![0, 0, 128] (by decide) ![0, 0, 256] (by decide) ![0, 0, 384] (by decide)
  expsDiag arg9 arg10 arg11 arg12 arg13 1 (by decide) ![1, 0, 0] (by decide) ![1, 0, 128] (by decide) ![1, 0, 256] (by decide) ![1, 0, 384] (by decide)
  expsDiag arg9 arg10 arg11 arg12 arg13 2 (by decide) ![2, 0, 0] (by decide) ![2, 0, 128] (by decide) ![2, 0, 256] (by decide) ![2, 0, 384] (by decide)
  expsDiag arg9 arg10 arg11 arg12 arg13 3 (by decide) ![3, 0, 0] (by decide) ![3, 0, 128] (by decide) ![3, 0, 256] (by decide) ![3, 0, 384] (by decide)
  expsDiag arg9 arg10 arg11 arg12 arg13 4 (by decide) ![4, 0, 0] (by decide) ![4, 0, 128] (by decide) ![4, 0, 256] (by decide) ![4, 0, 384] (by decide)

/-- The end of the last row tile. -/
def lastFinish [Named F] (arg6 : Memref sig .tc .vmem S1x1x192x192 .f32) (arg7 : Memref sig .tc .vmem S1x1x5x12288 .f32) (arg10 : Memref sig .tc .vmem S5x192x512 .f32)
    (arg12 arg13 : Memref sig .tc .vmem S5x8x512 .f32) : KProg F PUnit :=
  finish arg6 arg7 arg10 arg12 arg13 11776#32 ![0, 0, 0, 11776] (by decide) ![0, 0, 1, 11776] (by decide) ![0, 0, 2, 11776] (by decide) ![0, 0, 3, 11776] (by decide) ![0, 0, 4, 11776] (by decide) ![0, 0, 184, 0] (by decide)

/-- The kernel's body. -/
def body (F : FTy → Type) [FloatOps F] [Named F] [Facts] (i : grid0.Coords) (arg1 : Memref sig .tc .smem S2x40 .f32) (harg1 : arg1.IsWhole) (arg2 : Memref sig .tc .smem S2x8 .f32) (harg2 : arg2.IsWhole)
    (arg3 : Memref sig .tc .vmem S1x1x5x12288x128 .fp8e4m3) (harg3 : arg3.IsWhole) (arg4 : Memref sig .tc .vmem S1x1x12288x128 .fp8e4m3) (harg4 : arg4.IsWhole)
    (arg5 : Memref sig .tc .vmem S1x1x12288x128 .fp8e4m3) (harg5 : arg5.IsWhole) (arg6 : Memref sig .tc .vmem S1x1x192x192 .f32) (harg6 : arg6.IsWhole)
    (arg7 : Memref sig .tc .vmem S1x1x5x12288 .f32) (harg7 : arg7.IsWhole) (arg8 : Memref sig .tc .vmem S2x5x2x512x256 .f32) (harg8 : arg8.IsWhole)
    (arg9 : Memref sig .tc .vmem S5x4x512x128 .f32) (harg9 : arg9.IsWhole) (arg10 : Memref sig .tc .vmem S5x192x512 .f32) (harg10 : arg10.IsWhole)
    (arg11 : Memref sig .tc .vmem S5x8x512 .f32) (harg11 : arg11.IsWhole) (arg12 : Memref sig .tc .vmem S5x8x512 .f32) (harg12 : arg12.IsWhole)
    (arg13 : Memref sig .tc .vmem S5x8x512 .f32) (harg13 : arg13.IsWhole) : KProg F PUnit := do
  let c0 ← coef i arg1 arg2 0#32 (k0_off1_inb i 0)
  let c1 ← coef i arg1 arg2 1#32 (k0_off1_inb i 1)
  let c2 ← coef i arg1 arg2 2#32 (k0_off1_inb i 2)
  let c3 ← coef i arg1 arg2 3#32 (k0_off1_inb i 3)
  let c4 ← coef i arg1 arg2 4#32 (k0_off1_inb i 4)
  fill arg10
  diag0 arg3 arg4 arg9 arg11 c0 c1 c2 c3 c4
  expsDiag0 arg9 arg10 arg11 arg12 arg13
  diag1 arg3 arg4 arg9 arg11 c0 c1 c2 c3 c4
  Scf.Loop.for k0_t1_loop k0_t1_ok ⟨⟩ fun k0_t1 _ =>
    tile arg3 arg4 arg5 arg6 arg7 arg8 arg9 arg10 arg11 arg12 arg13 c0 c1 c2 c3 c4 k0_t1
  lastFinish arg6 arg7 arg10 arg12 arg13
  pure ⟨⟩

end Cert.Proof.Tile
-- ==== Proof.Tile.EqK.lean ====
/-
  The kernel's printed body, on bits, is the body written by its phases with its named constants read as their literals.
-/
module

public import proofs.«01_k».proof.Kernel
public import proofs.«01_k».proof.Proof.Tile.Body
public import Idealize.ShloMosaic.Lib.Tactic.ProgEq
public import Idealize.ShloMosaic.PureOps.BitExact

@[expose] public section

noncomputable section

namespace Cert.Proof.Tile

open Idealize.ShloMosaic
open scoped Idealize.ShloMosaic.ProgEq

/-- The body with its named constants read as their literals. -/
def bodyLit (F : FTy → Type) [FloatOps F] [Cert.KernelIdeal.Facts] := @body F _ (lit F) _

set_option maxHeartbeats 0 in
prog_eq Cert.Proof.Tile.body_bits : Cert.Kernel.cc0_gate_target Cert.Proof.Tile.bodyLit from Cert.Kernel to Cert.KernelIdeal at Bits inferInstance by intros; rfl

end Cert.Proof.Tile
-- ==== Proof.Tile.Hoare.lean ====
/-
  A small program logic over the contents of a kernel's buffers. A state `st : St` says what every buffer holds; `R st` owns
  them at those contents. `WP p Q st`: from the buffers of `st`, the program `p` runs and ends with a value and a state of
  which `Q` holds. A memref's buffer is a field of the state (`Fld`), so that a load reads the field and a store replaces
  a rectangle of it (`ovl`).
-/
module

public import Idealize.ShloMosaic.Rules.Step
public import Idealize.ShloMosaic.Lib.Memref
public import Idealize.ShloMosaic.Lib.Scf
public import Idealize.ShloMosaic.Lib.Exec
public import Idealize.ShloMosaic.Lib.Tactic
public import Idealize.ShloMosaic.Lib.Pipeline.Kit

@[expose] public section

noncomputable section

namespace Cert.Proof.Tile

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]

/-- What a rectangle of `X` holds. -/
def ldr {s : Shape} {α : Type} (X : s.Idx → α) (r : Rect s) : r.shape.Idx → α := fun x => X (r.emb x)

open Classical in
/-- `X` with a rectangle replaced by `w`. -/
def ovl {s : Shape} {α : Type} (X : s.Idx → α) (r : Rect s) (w : r.shape.Idx → α) : s.Idx → α :=
  fun y => if h : ∃ x, r.emb x = y then w h.choose else X y

theorem ovl_emb {s : Shape} {α : Type} (X : s.Idx → α) (r : Rect s) (w : r.shape.Idx → α) (x : r.shape.Idx) :
    ovl X r w (r.emb x) = w x := by
  have h : ∃ x', r.emb x' = r.emb x := ⟨x, rfl⟩
  unfold ovl
  rw [dif_pos h, r.emb.injective h.choose_spec]

theorem ovl_miss {s : Shape} {α : Type} (X : s.Idx → α) (r : Rect s) (w : r.shape.Idx → α) (y : s.Idx)
    (h : ∀ x, r.emb x ≠ y) : ovl X r w y = X y := by
  unfold ovl
  rw [dif_neg fun ⟨x, hx⟩ => h x hx]

/-- From the buffers at `st` the program runs to a value and a state of which `Q` holds. -/
def WP (defs : Defs nD τ sig Val Λ) (𝒱 : Variants) (c : Thread nD τ) {St : Type}
    (R : St → sProp (MT nD τ sig Ix Val Name U Lvl)) {α : Type} (p : Prog (TpuEff nD τ sig Val Λ c.2) α)
    (Q : α → St → Prop) (st : St) : Prop :=
  (R st : sProp (MT nD τ sig Ix Val Name U Lvl)) ⊢
    (wp (frame : Set Name → sProp (MT nD τ sig Ix Val Name U Lvl))
      (wpE (Ix := Ix) (Name := Name) (U := U) (Lvl := Lvl) defs 𝒱 c none) Set.univ p
      (fun a => iprop(∃ st', ⌜Q a st'⌝ ∗ R st')) : sProp (MT nD τ sig Ix Val Name U Lvl))

variable {defs : Defs nD τ sig Val Λ} {𝒱 : Variants} {c : Thread nD τ} {St : Type}
variable {R : St → sProp (MT nD τ sig Ix Val Name U Lvl)}
variable {α β : Type}

/-- The buffer of the memref `m` is the field `get` of the state, and `set` replaces it. -/
structure Fld (c : Thread nD τ) {St : Type} (R : St → sProp (MT nD τ sig Ix Val Name U Lvl)) {cs : Space} {s : Shape} {e : EltTy} (m : Memref sig c.2.kind cs s e) (get : St → s.Idx → Val e)
    (set : St → (s.Idx → Val e) → St) : Prop where
  acc : ∀ st, R st ⊢ (iprop(owns c m fullShare (get st) ∗ ∀ X, owns c m fullShare X -∗ R (set st X)) :
    sProp (MT nD τ sig Ix Val Name U Lvl))
  self : ∀ st, set st (get st) = st

/-- A memref's buffer, as far as it is read. -/
def Rd (c : Thread nD τ) {St : Type} (R : St → sProp (MT nD τ sig Ix Val Name U Lvl)) {cs : Space} {s : Shape} {e : EltTy} (m : Memref sig c.2.kind cs s e) (get : St → s.Idx → Val e) : Prop :=
  ∀ st, R st ⊢ (iprop(owns c m fullShare (get st) ∗ (owns c m fullShare (get st) -∗ R st)) : sProp (MT nD τ sig Ix Val Name U Lvl))

theorem Fld.rd {cs : Space} {s : Shape} {e : EltTy} {m : Memref sig c.2.kind cs s e} {get : St → s.Idx → Val e}
    {set : St → (s.Idx → Val e) → St} (ha : Fld c R m get set) : Rd c R m get := by
  intro st
  refine (ha.acc st).trans ?_
  iintro ⟨H, Hk⟩
  isplitl [H]
  · iexact H
  · ihave H2 := Hk $$ %(get st)
    rw [ha.self]
    iexact H2

theorem WP.ret {a : α} {Q : α → St → Prop} {st : St} (h : Q a st) : WP defs 𝒱 c R (.ret a) Q st := by
  unfold WP
  rw [wp_ret]
  iintro H
  imodintro
  iexists st
  isplitr
  · ipureintro; exact h
  · iexact H

theorem WP.mono {p : Prog (TpuEff nD τ sig Val Λ c.2) α} {Q Q' : α → St → Prop} {st : St}
    (h : WP defs 𝒱 c R p Q st) (hQ : ∀ a st', Q a st' → Q' a st') : WP defs 𝒱 c R p Q' st := by
  unfold WP at *
  refine h.trans (wp_mono _ _ _ fun a => ?_)
  iintro ⟨%st', %hq, H⟩
  iexists st'
  isplitr
  · ipureintro; exact hQ a st' hq
  · iexact H

theorem WP.bind {p : Prog (TpuEff nD τ sig Val Λ c.2) β} {k : β → Prog (TpuEff nD τ sig Val Λ c.2) α}
    {Q : α → St → Prop} {st : St} (h : WP defs 𝒱 c R p (fun b st' => WP defs 𝒱 c R (k b) Q st') st) :
    WP defs 𝒱 c R (p >>= k) Q st := by
  unfold WP at *
  rw [wp_bind]
  refine h.trans (wp_mono _ _ _ fun a => ?_)
  iintro ⟨%st', %hq, H⟩
  iapply hq; iexact H

theorem WP.load {cs : CoreSpace} {s : Shape} {e : EltTy} {m : Memref sig c.2.kind cs s e} {get : St → s.Idx → Val e}
    (ha : Rd c R m get) {r : Rect s} {hl : m.view.LoadsAt r.toLoadRect}
    {k : (r.shape.Idx → Val e) → Prog (TpuEff nD τ sig Val Λ c.2) α} {Q : α → St → Prop} {st : St}
    (h : WP defs 𝒱 c R (k (ldr (get st) r)) Q st) : WP defs 𝒱 c R (.op (.load m r.toLoadRect hl) k) Q st := by
  unfold WP at *
  refine (ha st).trans ?_
  unfold owns
  iintro ⟨⟨%f, %hf, H⟩, Hk⟩
  iapply (wp_load (defs := defs) 𝒱 c none Set.univ (S := m.view.set) (m := m) (r := r.toLoadRect) (hl := hl)
    (View.setOn_subset_set _ _) (q := fullShare) (f := f)) $$ [$H]
  iintro H
  have e1 : m.view.readAt Val r.toLoadRect f = ldr (get st) r := by rw [← hf]; rfl
  rw [e1]
  iapply h
  iapply Hk
  iexists f
  isplitr
  · ipureintro; exact hf
  · iexact H

theorem WP.store {cs : CoreSpace} {s : Shape} {e : EltTy} {m : Memref sig c.2.kind cs s e} {get : St → s.Idx → Val e}
    {set : St → (s.Idx → Val e) → St} (ha : Fld c R m get set) {r : Rect s} {w : r.shape.Idx → Val e}
    {hx : (m.access r).Stores Finset.univ} {hm : Finset.univ = Finset.univ ∨ ∀ a, r.stride a = 1}
    {k : PUnit → Prog (TpuEff nD τ sig Val Λ c.2) α} {Q : α → St → Prop} {st : St}
    (h : WP defs 𝒱 c R (k ⟨⟩) Q (set st (ovl (get st) r w))) :
    WP defs 𝒱 c R (.op (.store m r w Finset.univ hx hm) k) Q st := by
  unfold WP at *
  refine (ha.acc st).trans ?_
  unfold owns
  iintro ⟨⟨%f, %hf, H⟩, Hk⟩
  iapply (wp_store (defs := defs) 𝒱 c none Set.univ (Q := _) (w := w) (hx := hx) (hm := hm) (k := k) (Mk := Finset.univ)
    (S := m.view.set) (f := f) (View.set_slice_subset _ _)) $$ [$H]
  iintro H
  iapply h
  iapply Hk
  iexists _
  isplitr [H]
  rotate_left
  · iexact H
  ipureintro
  funext y
  by_cases hy : ∃ x, r.emb x = y
  · obtain ⟨x, rfl⟩ := hy
    rw [ovl_emb]
    exact View.read_slice_write_emb r f w (Finset.mem_univ x)
  · rw [ovl_miss _ _ _ _ fun x hx => hy ⟨x, hx⟩, ← hf]
    exact View.read_slice_write_of_not_mem r f w _ (by
      simp only [Finset.mem_map, Finset.mem_univ, true_and]; exact hy)

/-- A counted loop, by an invariant of the trip number, the carried value and the state. -/
theorem WP.for {w : Nat} {σ : Type} (lb ub sp : BitVec w) (hok : Scf.OK lb ub sp) (init : σ)
    (body : Fin (Scf.trips lb ub sp) → σ → Prog (TpuEff nD τ sig Val Λ c.2) σ) (I : Nat → σ → St → Prop)
    (hbody : ∀ k acc st, I k.val acc st → WP defs 𝒱 c R (body k acc) (I (k.val + 1)) st)
    {st : St} (h0 : I 0 init st) {Q : σ → St → Prop} (hQ : ∀ acc st', I (Scf.trips lb ub sp) acc st' → Q acc st') :
    WP defs 𝒱 c R (Scf.for lb ub sp hok init body) Q st := by
  unfold WP
  iintro H
  iapply (Scf.wp_for frame (wpE defs 𝒱 c none) Set.univ lb ub sp hok init body
    (fun k acc => iprop(∃ st', ⌜I k acc st'⌝ ∗ R st')) ?_)
  · intro k acc
    iintro ⟨%st', %hi, H⟩
    have := hbody k acc st' hi
    unfold WP at this
    iapply this; iexact H
  isplitl [H]
  · iexists st
    isplitr
    · ipureintro; exact h0
    · iexact H
  · iintro %acc ⟨%st', %hi, H⟩
    iexists st'
    isplitr
    · ipureintro; exact hQ acc st' hi
    · iexact H

/-! ## Running without saying what is computed -/

/-- The program runs from every state. -/
def Safe (defs : Defs nD τ sig Val Λ) (𝒱 : Variants) (c : Thread nD τ) {St : Type}
    (R : St → sProp (MT nD τ sig Ix Val Name U Lvl)) {α : Type} (p : Prog (TpuEff nD τ sig Val Λ c.2) α) : Prop :=
  ∀ st, WP defs 𝒱 c R p (fun _ _ => True) st

theorem Safe.ret {a : α} : Safe defs 𝒱 c R (.ret a) := fun _ => WP.ret trivial

theorem Safe.bind {p : Prog (TpuEff nD τ sig Val Λ c.2) β} {k : β → Prog (TpuEff nD τ sig Val Λ c.2) α}
    (hp : Safe defs 𝒱 c R p) (hk : ∀ b, Safe defs 𝒱 c R (k b)) : Safe defs 𝒱 c R (p >>= k) :=
  fun st => WP.bind ((hp st).mono fun b st' _ => hk b st')

theorem Safe.load {cs : CoreSpace} {s : Shape} {e : EltTy} {m : Memref sig c.2.kind cs s e} {get : St → s.Idx → Val e}
    (ha : Rd c R m get) {r : Rect s} {hl : m.view.LoadsAt r.toLoadRect} :
    Safe defs 𝒱 c R (Prog.lift (.load m r.toLoadRect hl)) := fun _ => WP.load ha (WP.ret trivial)

theorem Safe.store {cs : CoreSpace} {s : Shape} {e : EltTy} {m : Memref sig c.2.kind cs s e} {get : St → s.Idx → Val e}
    {set : St → (s.Idx → Val e) → St} (ha : Fld c R m get set) {r : Rect s} {w : r.shape.Idx → Val e}
    {hx : (m.access r).Stores Finset.univ} {hm : Finset.univ = Finset.univ ∨ ∀ a, r.stride a = 1} :
    Safe defs 𝒱 c R (Prog.lift (.store m r w Finset.univ hx hm)) := fun _ => WP.store ha (WP.ret trivial)

theorem Safe.for {w : Nat} {σ : Type} (lb ub sp : BitVec w) (hok : Scf.OK lb ub sp) (init : σ)
    (body : Fin (Scf.trips lb ub sp) → σ → Prog (TpuEff nD τ sig Val Λ c.2) σ)
    (hbody : ∀ k acc, Safe defs 𝒱 c R (body k acc)) : Safe defs 𝒱 c R (Scf.for lb ub sp hok init body) :=
  fun _ => WP.for lb ub sp hok init body (fun _ _ _ => True) (fun k acc st _ => hbody k acc st) trivial fun _ _ _ => trivial

end Cert.Proof.Tile

end
-- ==== Proof.Tile.State.lean ====
/-
  What the buffers of one run of the kernel's body hold: the inputs' are fixed, the others' change.
-/
module

public import proofs.«01_k».proof.Proof.Tile.Hoare
public import proofs.«01_k».proof.Proof.Tile.Body

@[expose] public section

noncomputable section

namespace Cert.Proof.Tile

open Idealize.ShloMosaic Idealize.ShloMosaic.TcCoe Cert.KernelIdeal
open Idealize.SL Idealize.SL.RA Idealize.SL.BI
open scoped Idealize.SL.BI
open Idealize.SL.BI.BIBase Idealize.SL.BI.Laws Idealize.SL.ProofMode Idealize.SL.Sem

/-- The body's memrefs. -/
structure Mems where
  qs : Memref sig .tc .smem S2x40 .f32
  ks : Memref sig .tc .smem S2x8 .f32
  q : Memref sig .tc .vmem S1x1x5x12288x128 .fp8e4m3
  kn : Memref sig .tc .vmem S1x1x12288x128 .fp8e4m3
  ki : Memref sig .tc .vmem S1x1x12288x128 .fp8e4m3
  gate : Memref sig .tc .vmem S1x1x192x192 .f32
  lse : Memref sig .tc .vmem S1x1x5x12288 .f32
  y : Memref sig .tc .vmem S2x5x2x512x256 .f32
  yd : Memref sig .tc .vmem S5x4x512x128 .f32
  bmax : Memref sig .tc .vmem S5x192x512 .f32
  dmax : Memref sig .tc .vmem S5x8x512 .f32
  mx : Memref sig .tc .vmem S5x8x512 .f32
  sm : Memref sig .tc .vmem S5x8x512 .f32

/-- What the inputs hold. -/
structure Ins (F : FTy → Type) where
  qs : Vec F S2x40 .f32
  ks : Vec F S2x8 .f32
  q : Vec F S1x1x5x12288x128 .fp8e4m3
  kn : Vec F S1x1x12288x128 .fp8e4m3
  ki : Vec F S1x1x12288x128 .fp8e4m3

/-- What the buffers that change hold. -/
structure Bufs (F : FTy → Type) where
  gate : Vec F S1x1x192x192 .f32
  lse : Vec F S1x1x5x12288 .f32
  y : Vec F S2x5x2x512x256 .f32
  yd : Vec F S5x4x512x128 .f32
  bmax : Vec F S5x192x512 .f32
  dmax : Vec F S5x8x512 .f32
  mx : Vec F S5x8x512 .f32
  sm : Vec F S5x8x512 .f32

variable {F : FTy → Type} [FloatOps F]
variable {Ix : Type} [DecidableEq Ix] {Name : Type} [DecidableEq Name] {U : Type} [URA U] {Lvl : Type} [Preorder Lvl]

/-- The buffers owned at those contents. -/
def own (c : Dev nD) (A : Mems) (I : Ins F) (st : Bufs F) : sProp (MT nD τ sig Ix (Elt F) Name U Lvl) :=
  iprop(owns (c : Thread nD τ) A.qs fullShare I.qs ∗ owns (c : Thread nD τ) A.ks fullShare I.ks ∗ owns (c : Thread nD τ) A.q fullShare I.q ∗
    owns (c : Thread nD τ) A.kn fullShare I.kn ∗ owns (c : Thread nD τ) A.ki fullShare I.ki ∗
    owns (c : Thread nD τ) A.gate fullShare st.gate ∗ owns (c : Thread nD τ) A.lse fullShare st.lse ∗ owns (c : Thread nD τ) A.y fullShare st.y ∗
    owns (c : Thread nD τ) A.yd fullShare st.yd ∗ owns (c : Thread nD τ) A.bmax fullShare st.bmax ∗ owns (c : Thread nD τ) A.dmax fullShare st.dmax ∗
    owns (c : Thread nD τ) A.mx fullShare st.mx ∗ owns (c : Thread nD τ) A.sm fullShare st.sm)

variable {c : Dev nD} {A : Mems} {I : Ins F}

omit [FloatOps F] in
theorem rd_qs : Rd (Ix := Ix) (Name := Name) (U := U) (Lvl := Lvl) (c : Thread nD τ) (own (F := F) c A I) A.qs (fun _ => I.qs) := by
  intro st
  unfold own
  iintro ⟨H1, H2, H3, H4, H5, H6, H7, H8, H9, H10, H11, H12, H13⟩
  isplitl [H1]
  · iexact H1
  · iintro X
    iframe H2 H3 H4 H5 H6 H7 H8 H9 H10 H11 H12 H13 X

omit [FloatOps F] in
theorem rd_ks : Rd (Ix := Ix) (Name := Name) (U := U) (Lvl := Lvl) (c : Thread nD τ) (own (F := F) c A I) A.ks (fun _ => I.ks) := by
  intro st
  unfold own
  iintro ⟨H1, H2, H3, H4, H5, H6, H7, H8, H9, H10, H11, H12, H13⟩
  isplitl [H2]
  · iexact H2
  · iintro X
    iframe H1 H3 H4 H5 H6 H7 H8 H9 H10 H11 H12 H13 X

omit [FloatOps F] in
theorem rd_q : Rd (Ix := Ix) (Name := Name) (U := U) (Lvl := Lvl) (c : Thread nD τ) (own (F := F) c A I) A.q (fun _ => I.q) := by
  intro st
  unfold own
  iintro ⟨H1, H2, H3, H4, H5, H6, H7, H8, H9, H10, H11, H12, H13⟩
  isplitl [H3]
  · iexact H3
  · iintro X
    iframe H1 H2 H4 H5 H6 H7 H8 H9 H10 H11 H12 H13 X

omit [FloatOps F] in
theorem rd_kn : Rd (Ix := Ix) (Name := Name) (U := U) (Lvl := Lvl) (c : Thread nD τ) (own (F := F) c A I) A.kn (fun _ => I.kn) := by
  intro st
  unfold own
  iintro ⟨H1, H2, H3, H4, H5, H6, H7, H8, H9, H10, H11, H12, H13⟩
  isplitl [H4]
  · iexact H4
  · iintro X
    iframe H1 H2 H3 H5 H6 H7 H8 H9 H10 H11 H12 H13 X

omit [FloatOps F] in
theorem rd_ki : Rd (Ix := Ix) (Name := Name) (U := U) (Lvl := Lvl) (c : Thread nD τ) (own (F := F) c A I) A.ki (fun _ => I.ki) := by
  intro st
  unfold own
  iintro ⟨H1, H2, H3, H4, H5, H6, H7, H8, H9, H10, H11, H12, H13⟩
  isplitl [H5]
  · iexact H5
  · iintro X
    iframe H1 H2 H3 H4 H6 H7 H8 H9 H10 H11 H12 H13 X

omit [FloatOps F] in
theorem fld_gate : Fld (Ix := Ix) (Name := Name) (U := U) (Lvl := Lvl) (c : Thread nD τ) (own (F := F) c A I) A.gate (fun st => st.gate) (fun st X => { st with gate := X }) where
  self _ := rfl
  acc st := by
    unfold own
    iintro ⟨H1, H2, H3, H4, H5, H6, H7, H8, H9, H10, H11, H12, H13⟩
    isplitl [H6]
    · iexact H6
    · iintro %Z X
      iframe H1 H2 H3 H4 H5 H7 H8 H9 H10 H11 H12 H13 X

omit [FloatOps F] in
theorem fld_lse : Fld (Ix := Ix) (Name := Name) (U := U) (Lvl := Lvl) (c : Thread nD τ) (own (F := F) c A I) A.lse (fun st => st.lse) (fun st X => { st with lse := X }) where
  self _ := rfl
  acc st := by
    unfold own
    iintro ⟨H1, H2, H3, H4, H5, H6, H7, H8, H9, H10, H11, H12, H13⟩
    isplitl [H7]
    · iexact H7
    · iintro %Z X
      iframe H1 H2 H3 H4 H5 H6 H8 H9 H10 H11 H12 H13 X

omit [FloatOps F] in
theorem fld_y : Fld (Ix := Ix) (Name := Name) (U := U) (Lvl := Lvl) (c : Thread nD τ) (own (F := F) c A I) A.y (fun st => st.y) (fun st X => { st with y := X }) where
  self _ := rfl
  acc st := by
    unfold own
    iintro ⟨H1, H2, H3, H4, H5, H6, H7, H8, H9, H10, H11, H12, H13⟩
    isplitl [H8]
    · iexact H8
    · iintro %Z X
      iframe H1 H2 H3 H4 H5 H6 H7 H9 H10 H11 H12 H13 X

omit [FloatOps F] in
theorem fld_yd : Fld (Ix := Ix) (Name := Name) (U := U) (Lvl := Lvl) (c : Thread nD τ) (own (F := F) c A I) A.yd (fun st => st.yd) (fun st X => { st with yd := X }) where
  self _ := rfl
  acc st := by
    unfold own
    iintro ⟨H1, H2, H3, H4, H5, H6, H7, H8, H9, H10, H11, H12, H13⟩
    isplitl [H9]
    · iexact H9
    · iintro %Z X
      iframe H1 H2 H3 H4 H5 H6 H7 H8 H10 H11 H12 H13 X

omit [FloatOps F] in
theorem fld_bmax : Fld (Ix := Ix) (Name := Name) (U := U) (Lvl := Lvl) (c : Thread nD τ) (own (F := F) c A I) A.bmax (fun st => st.bmax) (fun st X => { st with bmax := X }) where
  self _ := rfl
  acc st := by
    unfold own
    iintro ⟨H1, H2, H3, H4, H5, H6, H7, H8, H9, H10, H11, H12, H13⟩
    isplitl [H10]
    · iexact H10
    · iintro %Z X
      iframe H1 H2 H3 H4 H5 H6 H7 H8 H9 H11 H12 H13 X

omit [FloatOps F] in
theorem fld_dmax : Fld (Ix := Ix) (Name := Name) (U := U) (Lvl := Lvl) (c : Thread nD τ) (own (F := F) c A I) A.dmax (fun st => st.dmax) (fun st X => { st with dmax := X }) where
  self _ := rfl
  acc st := by
    unfold own
    iintro ⟨H1, H2, H3, H4, H5, H6, H7, H8, H9, H10, H11, H12, H13⟩
    isplitl [H11]
    · iexact H11
    · iintro %Z X
      iframe H1 H2 H3 H4 H5 H6 H7 H8 H9 H10 H12 H13 X

omit [FloatOps F] in
theorem fld_mx : Fld (Ix := Ix) (Name := Name) (U := U) (Lvl := Lvl) (c : Thread nD τ) (own (F := F) c A I) A.mx (fun st => st.mx) (fun st X => { st with mx := X }) where
  self _ := rfl
  acc st := by
    unfold own
    iintro ⟨H1, H2, H3, H4, H5, H6, H7, H8, H9, H10, H11, H12, H13⟩
    isplitl [H12]
    · iexact H12
    · iintro %Z X
      iframe H1 H2 H3 H4 H5 H6 H7 H8 H9 H10 H11 H13 X

omit [FloatOps F] in
theorem fld_sm : Fld (Ix := Ix) (Name := Name) (U := U) (Lvl := Lvl) (c : Thread nD τ) (own (F := F) c A I) A.sm (fun st => st.sm) (fun st X => { st with sm := X }) where
  self _ := rfl
  acc st := by
    unfold own
    iintro ⟨H1, H2, H3, H4, H5, H6, H7, H8, H9, H10, H11, H12, H13⟩
    isplitl [H13]
    · iexact H13
    · iintro %Z X
      iframe H1 H2 H3 H4 H5 H6 H7 H8 H9 H10 H11 H12 X

end Cert.Proof.Tile
-- ==== Proof.Tile.Safe.lean ====
/-
  The body runs to its end whatever its buffers hold.
-/
module

public import proofs.«01_k».proof.Proof.Tile.State

@[expose] public section

noncomputable section

namespace Cert.Proof.Tile

open Idealize.ShloMosaic Idealize.ShloMosaic.TcCoe Cert.KernelIdeal
open Idealize.SL Idealize.SL.RA Idealize.SL.BI
open Idealize.SL.Sem

variable {F : FTy → Type} [FloatOps F] [Named F] [Facts]
variable {Ix : Type} [DecidableEq Ix] {Name : Type} [DecidableEq Name] {U : Type} [URA U] {Lvl : Type} [Preorder Lvl]
variable {defs : Defs nD τ sig (Elt F) Λ₀} {𝒱 : Variants} {c : Dev nD} {A : Mems} {I : Ins F}

/-- The body's programs that run to their end from every contents. -/
structure Ok (Ix : Type) [DecidableEq Ix] (Name : Type) [DecidableEq Name] (U : Type) [URA U] (Lvl : Type) [Preorder Lvl]
    (defs : Defs nD τ sig (Elt F) Λ₀) (𝒱 : Variants) (c : Dev nD) (A : Mems) (I : Ins F) {α : Type} (p : KProg F α) : Prop where
  safe : Safe (Ix := Ix) (Name := Name) (U := U) (Lvl := Lvl) defs 𝒱 (c : Thread nD τ) (own c A I) p

omit [Named F] in
theorem ok_bind {α β : Type} {p : KProg F β} {k : β → KProg F α} (hp : Ok Ix Name U Lvl defs 𝒱 c A I p)
    (hk : ∀ b, Ok Ix Name U Lvl defs 𝒱 c A I (k b)) : Ok Ix Name U Lvl defs 𝒱 c A I (p >>= k) := ⟨Safe.bind hp.safe fun b => (hk b).safe⟩

omit [Named F] in
theorem ok_pure {α : Type} {a : α} : Ok Ix Name U Lvl defs 𝒱 c A I (pure a : KProg F α) := ⟨Safe.ret⟩

omit [Named F] in
theorem ok_load {cs : CoreSpace} {s : Shape} {e : EltTy} {m : Memref sig .tc cs s e} {get : Bufs F → s.Idx → Elt F e}
    (ha : Rd (Ix := Ix) (Name := Name) (U := U) (Lvl := Lvl) (c : Thread nD τ) (own c A I) m get) {r : Rect s} {hl : m.view.LoadsAt r.toLoadRect} :
    Ok Ix Name U Lvl defs 𝒱 c A I (Prog.lift (.load m r.toLoadRect hl)) := ⟨Safe.load ha⟩

omit [Named F] in
theorem ok_store {cs : CoreSpace} {s : Shape} {e : EltTy} {m : Memref sig .tc cs s e} {get : Bufs F → s.Idx → Elt F e}
    {set : Bufs F → (s.Idx → Elt F e) → Bufs F} (ha : Fld (Ix := Ix) (Name := Name) (U := U) (Lvl := Lvl) (c : Thread nD τ) (own c A I) m get set)
    {r : Rect s} {w : r.shape.Idx → Elt F e} {hx : (m.access r).Stores Finset.univ} {hm : Finset.univ = Finset.univ ∨ ∀ a, r.stride a = 1} :
    Ok Ix Name U Lvl defs 𝒱 c A I (Prog.lift (.store m r w Finset.univ hx hm)) := ⟨Safe.store ha⟩

omit [Named F] in
theorem ok_for {w : ℕ} {l : Scf.Loop w} {hok : l.OK} {σ : Type} {init : σ} {body : Fin l.trips → σ → KProg F σ}
    (h : ∀ k acc, Ok Ix Name U Lvl defs 𝒱 c A I (body k acc)) : Ok Ix Name U Lvl defs 𝒱 c A I (Scf.Loop.for l hok init body) :=
  ⟨Safe.for _ _ _ _ _ _ fun k acc => (h k acc).safe⟩

theorem ok_coef (i : grid0.Coords) (hb : BitVec 32) (inb : ∀ a, (k0_off1 i hb) a + S1x1.size a ≤ S2x40.size a) :
    Ok Ix Name U Lvl defs 𝒱 c A I (coef i A.qs A.ks hb inb) := by
  unfold coef
  refine ok_bind ⟨fun st => WP.load (get := fun _ => I.qs) rd_qs (WP.ret trivial)⟩ fun qs => ?_
  refine ok_bind ⟨fun st => WP.load (get := fun _ => I.ks) rd_ks (WP.ret trivial)⟩ fun ks => ?_
  exact ok_pure

omit [Named F] in
theorem ok_fill : Ok Ix Name U Lvl defs 𝒱 c A I (fill A.bmax) :=
  ok_bind (ok_load fld_bmax.rd) fun _ => ok_store fld_bmax

omit [Named F] in
theorem ok_scores (k : Vec F S1x1x512x128 .fp8e4m3) (cf : F .f32)
    (oq : Fin 5 → ℕ) (iq : ∀ a, oq a + S1x1x1x256x128.size a ≤ S1x1x5x12288x128.size a)
    (oy : Fin 5 → ℕ) (iy : ∀ a, oy a + S1x1x1x512x256.size a ≤ S2x5x2x512x256.size a)
    (ob : Fin 3 → ℕ) (ib : ∀ a, ob a + S1x8x256.size a ≤ S5x192x512.size a) :
    Ok Ix Name U Lvl defs 𝒱 c A I (scores A.q A.y A.bmax k cf oq iq oy iy ob ib) :=
  ok_bind (ok_load rd_q) fun _ => ok_bind (ok_load fld_y.rd) fun _ => ok_bind (ok_store fld_y) fun _ =>
    ok_bind (ok_load fld_bmax.rd) fun _ => ok_store fld_bmax

omit [Named F] in
theorem ok_loadK (o : Fin 4 → ℕ) (i : ∀ a, o a + S1x1x512x128.size a ≤ S1x1x12288x128.size a) :
    Ok Ix Name U Lvl defs 𝒱 c A I (loadK A.ki o i) := ok_load rd_ki

omit [Named F] in
theorem ok_exps (om : Fin 3 → ℕ) (im : ∀ a, om a + S1x8x256.size a ≤ S5x8x512.size a)
    (ob : Fin 3 → ℕ) (ib : ∀ a, ob a + S1x8x256.size a ≤ S5x192x512.size a)
    (oy : Fin 5 → ℕ) (iy : ∀ a, oy a + S1x1x1x512x256.size a ≤ S2x5x2x512x256.size a) :
    Ok Ix Name U Lvl defs 𝒱 c A I (exps A.y A.bmax A.mx A.sm om im ob ib oy iy) :=
  ok_bind (ok_load fld_bmax.rd) fun _ => ok_bind (ok_load fld_mx.rd) fun _ => ok_bind (ok_load fld_y.rd) fun _ =>
    ok_bind (ok_load fld_sm.rd) fun _ => ok_bind (ok_load fld_sm.rd) fun _ => ok_bind (ok_store fld_sm) fun _ =>
    ok_bind (ok_load fld_mx.rd) fun _ => ok_store fld_mx

omit [Named F] in
theorem ok_putMax (h kb col : ℕ) (hh : h < 5) (hk : kb < 8) (hc : col + 128 ≤ 512) (v : FVec F S1x128 .f32) :
    Ok Ix Name U Lvl defs 𝒱 c A I (putMax A.dmax h kb col hh hk hc v) :=
  ok_bind (ok_load fld_dmax.rd) fun _ => ok_store fld_dmax

omit [Named F] in
theorem ok_diagTile (h jj N col : ℕ) (T : Fin 4 → ℕ) (hT : T = (SmY N).size)
    (hh : h < 5) (hj : jj < 4) (hN : N ≤ 512) (hc : col + 128 ≤ 512) (hs : (Sm N 128).ShapeCasts ⟨4, T⟩) (hp : 0 < (⟨4, T⟩ : Shape).numel)
    (y : FVec F (Sm N 128) .f32) : Ok Ix Name U Lvl defs 𝒱 c A I (diagTile A.yd A.dmax h jj N col T hT hh hj hN hc hs hp y) := by
  unfold diagTile
  refine ok_bind (ok_load fld_yd.rd) fun _ => ok_bind (ok_store fld_yd) fun _ => ?_
  repeat' first | exact ok_putMax _ _ _ _ _ _ _ | refine ok_bind ?_ fun _ => ?_

omit [Named F] in
theorem ok_scoresDiag (h : ℕ) (hh : h < 5) (cf : F .f32)
    (ok : Fin 4 → ℕ) (ik : ∀ a, ok a + S1x1x256x128.size a ≤ S1x1x12288x128.size a)
    (oq : Fin 5 → ℕ) (iq : ∀ a, oq a + S1x1x1x256x128.size a ≤ S1x1x5x12288x128.size a)
    (ok' : Fin 4 → ℕ) (ik' : ∀ a, ok' a + S1x1x512x128.size a ≤ S1x1x12288x128.size a)
    (oq' : Fin 5 → ℕ) (iq' : ∀ a, oq' a + S1x1x1x256x128.size a ≤ S1x1x5x12288x128.size a) :
    Ok Ix Name U Lvl defs 𝒱 c A I (scoresDiag A.q A.kn A.yd A.dmax h hh cf ok ik oq iq ok' ik' oq' iq') := by
  unfold scoresDiag
  refine ok_bind (ok_load rd_kn) fun _ => ok_bind (ok_load rd_q) fun _ => ?_
  refine ok_bind (ok_diagTile ..) fun _ => ok_bind (ok_diagTile ..) fun _ => ?_
  refine ok_bind (ok_load rd_kn) fun _ => ok_bind (ok_load rd_q) fun _ => ?_
  exact ok_bind (ok_diagTile ..) fun _ => ok_diagTile ..

omit [Named F] in
theorem ok_expsTile (h jj N k col : ℕ) (T : Fin 4 → ℕ) (hT : T = (SmY N).size)
    (hh : h < 5) (hj : jj < 4) (hN : N ≤ 512) (hc : col + 128 ≤ 512) (hp : 0 < (⟨4, T⟩ : Shape).numel)
    (h1 : (⟨4, T⟩ : Shape).ShapeCasts (Sm (8 * ((4 * k + 3) + 1)) 128))
    (h2 : (Sm (8 * ((4 * k + 3) + 1)) 128).ShapeCasts ⟨3, ![(4 * k + 3) + 1, 8, 128]⟩)
    (h3 : S1x8x128.Broadcasts ⟨3, ![(4 * k + 3) + 1, 8, 128]⟩)
    (h4 : (⟨3, ![(4 * k + 3) + 1, 8, 128]⟩ : Shape).ShapeCasts (Sm (8 * ((4 * k + 3) + 1)) 128))
    (ob : Fin 3 → ℕ) (ib : ∀ a, ob a + S1x8x128.size a ≤ S5x192x512.size a) :
    Ok Ix Name U Lvl defs 𝒱 c A I (expsTile A.yd A.bmax A.dmax A.mx A.sm h jj N k col T hT hh hj hN hc hp h1 h2 h3 h4 ob ib) := by
  unfold expsTile
  refine ok_bind (ok_load fld_dmax.rd) fun _ => ok_bind (ok_load fld_bmax.rd) fun _ => ok_bind (ok_store fld_bmax) fun _ => ?_
  refine ok_bind (ok_load fld_yd.rd) fun _ => ok_bind (ok_load fld_sm.rd) fun _ => ok_bind (ok_store fld_sm) fun _ => ?_
  exact ok_bind (ok_load fld_mx.rd) fun _ => ok_store fld_mx

omit [Named F] in
theorem ok_expsDiag (h : ℕ) (hh : h < 5)
    (o0 : Fin 3 → ℕ) (i0 : ∀ a, o0 a + S1x8x128.size a ≤ S5x192x512.size a)
    (o1 : Fin 3 → ℕ) (i1 : ∀ a, o1 a + S1x8x128.size a ≤ S5x192x512.size a)
    (o2 : Fin 3 → ℕ) (i2 : ∀ a, o2 a + S1x8x128.size a ≤ S5x192x512.size a)
    (o3 : Fin 3 → ℕ) (i3 : ∀ a, o3 a + S1x8x128.size a ≤ S5x192x512.size a) :
    Ok Ix Name U Lvl defs 𝒱 c A I (expsDiag A.yd A.bmax A.dmax A.mx A.sm h hh o0 i0 o1 i1 o2 i2 o3 i3) :=
  ok_bind (ok_expsTile ..) fun _ => ok_bind (ok_expsTile ..) fun _ => ok_bind (ok_expsTile ..) fun _ => ok_expsTile ..

theorem ok_finishHead (h : ℕ) (hh : h < 5) (base : BitVec 32)
    (o : Fin 4 → ℕ) (io : ∀ a, o a + S1x1x1x512.size a ≤ S1x1x5x12288.size a) :
    Ok Ix Name U Lvl defs 𝒱 c A I (finishHead A.lse A.bmax A.mx A.sm h hh base o io) :=
  ok_bind (ok_load fld_mx.rd) fun _ => ok_bind (ok_load fld_sm.rd) fun _ => ok_bind (ok_load fld_lse.rd) fun _ =>
    ok_bind (ok_store fld_lse) fun _ => ok_bind (ok_load fld_bmax.rd) fun _ => ok_pure

theorem ok_finish (base : BitVec 32)
    (o0 : Fin 4 → ℕ) (i0 : ∀ a, o0 a + S1x1x1x512.size a ≤ S1x1x5x12288.size a)
    (o1 : Fin 4 → ℕ) (i1 : ∀ a, o1 a + S1x1x1x512.size a ≤ S1x1x5x12288.size a)
    (o2 : Fin 4 → ℕ) (i2 : ∀ a, o2 a + S1x1x1x512.size a ≤ S1x1x5x12288.size a)
    (o3 : Fin 4 → ℕ) (i3 : ∀ a, o3 a + S1x1x1x512.size a ≤ S1x1x5x12288.size a)
    (o4 : Fin 4 → ℕ) (i4 : ∀ a, o4 a + S1x1x1x512.size a ≤ S1x1x5x12288.size a)
    (og : Fin 4 → ℕ) (ig : ∀ a, og a + S1x1x8x192.size a ≤ S1x1x192x192.size a) :
    Ok Ix Name U Lvl defs 𝒱 c A I (finish A.gate A.lse A.bmax A.mx A.sm base o0 i0 o1 i1 o2 i2 o3 i3 o4 i4 og ig) :=
  ok_bind (ok_finishHead ..) fun _ => ok_bind (ok_finishHead ..) fun _ => ok_bind (ok_finishHead ..) fun _ =>
    ok_bind (ok_finishHead ..) fun _ => ok_bind (ok_finishHead ..) fun _ =>
    ok_bind (ok_load fld_gate.rd) fun _ => ok_store fld_gate

omit [Named F] in
theorem ok_chunk (c0 c1 c2 c3 c4 : F .f32) (t1 : Fin k0_t1_loop.trips) (t2 : Fin (k0_t2_loop t1).trips) :
    Ok Ix Name U Lvl defs 𝒱 c A I (chunk A.q A.ki A.y A.bmax A.mx A.sm c0 c1 c2 c3 c4 t1 t2) := by
  unfold chunk
  refine ok_bind (ok_loadK ..) fun _ => ?_
  repeat' first | exact ok_scores .. | exact ok_exps .. | refine ok_bind ?_ fun _ => ?_

omit [Named F] in
theorem ok_chunkRest (c0 c1 c2 c3 c4 : F .f32) (t1 : Fin k0_t1_loop.trips) (t3 : Fin (k0_t3_loop t1).trips) :
    Ok Ix Name U Lvl defs 𝒱 c A I (chunkRest A.q A.ki A.y A.bmax A.mx A.sm c0 c1 c2 c3 c4 t1 t3) := by
  unfold chunkRest
  refine ok_bind (ok_loadK ..) fun _ => ?_
  repeat' first | exact ok_scores .. | exact ok_exps .. | refine ok_bind ?_ fun _ => ?_

omit [Named F] in
theorem ok_firstScores (c0 c1 c2 c3 c4 : F .f32) (t1 : Fin k0_t1_loop.trips) :
    Ok Ix Name U Lvl defs 𝒱 c A I (firstScores A.q A.ki A.y A.bmax c0 c1 c2 c3 c4 t1) := by
  unfold firstScores
  refine ok_bind (ok_loadK ..) fun _ => ?_
  repeat' first | exact ok_scores .. | refine ok_bind ?_ fun _ => ?_

omit [Named F] in
theorem ok_lastExps (t1 : Fin k0_t1_loop.trips) : Ok Ix Name U Lvl defs 𝒱 c A I (lastExps A.y A.bmax A.mx A.sm t1) := by
  unfold lastExps
  repeat' first | exact ok_exps .. | refine ok_bind ?_ fun _ => ?_

omit [Named F] in
theorem ok_nextDiag (c0 c1 c2 c3 c4 : F .f32) (t1 : Fin k0_t1_loop.trips) :
    Ok Ix Name U Lvl defs 𝒱 c A I (nextDiag A.q A.kn A.yd A.dmax c0 c1 c2 c3 c4 t1) := by
  unfold nextDiag
  repeat' first | exact ok_scoresDiag .. | refine ok_bind ?_ fun _ => ?_

omit [Named F] in
theorem ok_thisDiag (t1 : Fin k0_t1_loop.trips) : Ok Ix Name U Lvl defs 𝒱 c A I (thisDiag A.yd A.bmax A.dmax A.mx A.sm t1) := by
  unfold thisDiag
  repeat' first | exact ok_expsDiag .. | refine ok_bind ?_ fun _ => ?_

theorem ok_tile (c0 c1 c2 c3 c4 : F .f32) (t1 : Fin k0_t1_loop.trips) :
    Ok Ix Name U Lvl defs 𝒱 c A I (tile A.q A.kn A.ki A.gate A.lse A.y A.yd A.bmax A.dmax A.mx A.sm c0 c1 c2 c3 c4 t1) := by
  unfold tile prevFinish
  refine ok_bind (ok_finish ..) fun _ => ok_bind (ok_firstScores ..) fun _ => ok_bind (ok_thisDiag ..) fun _ => ?_
  refine ok_bind (ok_for fun _ _ => ok_bind (ok_chunk ..) fun _ => ok_pure) fun _ => ?_
  refine ok_bind (ok_for fun _ _ => ok_bind (ok_chunkRest ..) fun _ => ok_pure) fun _ => ?_
  exact ok_bind (ok_nextDiag ..) fun _ => ok_bind (ok_lastExps ..) fun _ => ok_pure

omit [Named F] in
theorem ok_diag0 (c0 c1 c2 c3 c4 : F .f32) : Ok Ix Name U Lvl defs 𝒱 c A I (diag0 A.q A.kn A.yd A.dmax c0 c1 c2 c3 c4) := by
  unfold diag0
  repeat' first | exact ok_scoresDiag .. | refine ok_bind ?_ fun _ => ?_

omit [Named F] in
theorem ok_diag1 (c0 c1 c2 c3 c4 : F .f32) : Ok Ix Name U Lvl defs 𝒱 c A I (diag1 A.q A.kn A.yd A.dmax c0 c1 c2 c3 c4) := by
  unfold diag1
  repeat' first | exact ok_scoresDiag .. | refine ok_bind ?_ fun _ => ?_

omit [Named F] in
theorem ok_expsDiag0 : Ok Ix Name U Lvl defs 𝒱 c A I (expsDiag0 A.yd A.bmax A.dmax A.mx A.sm) := by
  unfold expsDiag0
  repeat' first | exact ok_expsDiag .. | refine ok_bind ?_ fun _ => ?_

theorem ok_body (i : grid0.Coords) (a1 a2 a3 a4 a5 a6 a7 a8 a9 a10 a11 a12 a13) :
    Ok Ix Name U Lvl defs 𝒱 c A I (body F i A.qs a1 A.ks a2 A.q a3 A.kn a4 A.ki a5 A.gate a6 A.lse a7 A.y a8 A.yd a9 A.bmax a10 A.dmax a11 A.mx a12 A.sm a13) := by
  unfold body lastFinish
  refine ok_bind (ok_coef ..) fun _ => ok_bind (ok_coef ..) fun _ => ok_bind (ok_coef ..) fun _ => ok_bind (ok_coef ..) fun _ => ok_bind (ok_coef ..) fun _ => ?_
  refine ok_bind ok_fill fun _ => ok_bind (ok_diag0 ..) fun _ => ok_bind ok_expsDiag0 fun _ => ok_bind (ok_diag1 ..) fun _ => ?_
  refine ok_bind (ok_for fun _ _ => ok_tile ..) fun _ => ?_
  exact ok_bind (ok_finish ..) fun _ => ok_pure

end Cert.Proof.Tile
-- ==== Proof.Tile.FrameK.lean ====
/-
  The frame of Kernel: from counters at zero the launch ends without a fault, its arguments are unchanged and every
  counter is zero again. What the two results hold is forgotten here.
-/
module

public import proofs.«01_k».proof.Proof.Gen.Kernel.Frame
public import proofs.«01_k».proof.Proof.Tile.EqK
public import proofs.«01_k».proof.Proof.Tile.Safe
public import Idealize.ShloMosaic.Lib.Quiescent
public import proofs.«01_k».proof.Proof.Gen.KernelIdeal

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose RDat)
open Cert.Proof.Tile (Mems Ins Bufs own Ok ok_body)

local notation "𝕄" => MT nD τ sig Unit (Elt Bits) ℕ (UR sig nD τ) ℕ

abbrev 𝒱₀ : Variants := Variants.none

variable (m : (ℓ : Loc nD τ sig) → Buf (Elt Bits) ℓ) (ρ : Dev nD → PrngReg)

/-- The two result windows. -/
def forgets : Fin 7 → Bool := fun | 5 => true | 6 => true | _ => false

/-- The launch's data: the arrays as the host lines leave them, each input's block left in place. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

theorem before0 (c : Dev nD) (t : Fin cfg0.N) (d) : (dats m 0 c).before 0 t d = iblk m c 0 t :=
  before0_0_of m (dats m 0 c) rfl (fun _ => rfl) t d
theorem before1 (c : Dev nD) (t : Fin cfg0.N) (d) : (dats m 0 c).before 1 t d = iblk m c 1 t :=
  before0_1_of m (dats m 0 c) rfl (fun _ => rfl) t d
theorem before2 (c : Dev nD) (t : Fin cfg0.N) (d) : (dats m 0 c).before 2 t d = iblk m c 2 t :=
  before0_2_of m (dats m 0 c) rfl (fun _ => rfl) t d
theorem before3 (c : Dev nD) (t : Fin cfg0.N) (d) : (dats m 0 c).before 3 t d = iblk m c 3 t :=
  before0_3_of m (dats m 0 c) rfl (fun _ => rfl) t d
theorem before4 (c : Dev nD) (t : Fin cfg0.N) (d) : (dats m 0 c).before 4 t d = iblk m c 4 t :=
  before0_4_of m (dats m 0 c) rfl (fun _ => rfl) t d

/-- The memrefs the body runs on at a grid point. -/
abbrev mems (t : Fin cfg0.N) : Mems where
  qs := win0_0.stage (cfg0.slots t 0)
  ks := win0_1.stage (cfg0.slots t 1)
  q := win0_2.stage (cfg0.slots t 2)
  kn := win0_3.stage (cfg0.slots t 3)
  ki := win0_4.stage (cfg0.slots t 4)
  gate := win0_5.stage (cfg0.slots t 5)
  lse := win0_6.stage (cfg0.slots t 6)
  y := Memref.whole cc0_scratch0
  yd := Memref.whole cc0_scratch1
  bmax := Memref.whole cc0_scratch2
  dmax := Memref.whole cc0_scratch3
  mx := Memref.whole cc0_scratch4
  sm := Memref.whole cc0_scratch5

/-- The inputs' blocks at a grid point. -/
abbrev ins (c : Dev nD) (t : Fin cfg0.N) : Ins Bits where
  qs := iblk m c 0 t
  ks := iblk m c 1 t
  q := iblk m c 2 t
  kn := iblk m c 3 t
  ki := iblk m c 4 t

/-- The body by its phases, on the memrefs `A` with their proofs of being whole. -/
theorem run_of {A : Mems} {I : Ins Bits} {c : Dev nD} {p q : Cert.Proof.Tile.KProg Bits PUnit} (h : p = q)
    (hq : Ok Unit ℕ (UR sig nD τ) ℕ (defs₀ (F := Bits)) 𝒱₀ c A I q) (st : Bufs Bits) :
    (own c A I st : sProp 𝕄) ⊢ wp frame (wpE (defs₀ (F := Bits)) 𝒱₀ c none) Set.univ p
      (fun _ => iprop(∃ st', own c A I st')) := by
  subst h
  refine BIBase.Entails.trans (hq.safe st) (wp_mono _ _ _ fun _ => ?_)
  iintro ⟨%st', -, H⟩
  iexists st'
  iexact H

set_option maxHeartbeats 0 in
set_option maxRecDepth 100000 in
/-- The body's run at a grid point, from any contents of what it writes. -/
theorem sound (c : Dev nD) (t : Fin cfg0.N) (st : Bufs Bits) :
    (own c (mems t) (ins m c t) st : sProp 𝕄) ⊢ wp frame (wpE (defs₀ (F := Bits)) 𝒱₀ c none) Set.univ (bodyAt0 (F := Bits) t)
      (fun _ => iprop(∃ st', own c (mems t) (ins m c t) st')) :=
  letI : Named Bits := Cert.Proof.Tile.lit Bits
  run_of (Cert.Proof.Tile.body_bits _ _ _ _ _ _ _ _ _ _ _ _ _ _ _ _ _ _ _ _ _ _ _ _ _ _ _ inferInstance) (ok_body (F := Bits) ..) st

/-- The body's buffers at a grid point, owned: the inputs at their blocks, the others at the given contents. -/
def held (c : Dev nD) (t : Fin cfg0.N) (gate : Vec Bits S1x1x192x192 .f32) (lse : Vec Bits S1x1x5x12288 .f32)
    (y : Vec Bits S2x5x2x512x256 .f32) (yd : Vec Bits S5x4x512x128 .f32) (bmax : Vec Bits S5x192x512 .f32)
    (dmax mx sm : Vec Bits S5x8x512 .f32) : sProp 𝕄 :=
  iprop(owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare gate
    ∗ owns (c : Thread nD τ) (win0_6.stage (cfg0.slots t 6)) fullShare lse
    ∗ owns (c : Thread nD τ) (Memref.whole cc0_scratch0) fullShare y ∗ owns (c : Thread nD τ) (Memref.whole cc0_scratch1) fullShare yd
    ∗ owns (c : Thread nD τ) (Memref.whole cc0_scratch2) fullShare bmax ∗ owns (c : Thread nD τ) (Memref.whole cc0_scratch3) fullShare dmax
    ∗ owns (c : Thread nD τ) (Memref.whole cc0_scratch4) fullShare mx ∗ owns (c : Thread nD τ) (Memref.whole cc0_scratch5) fullShare sm)

set_option maxHeartbeats 0 in
set_option maxRecDepth 100000 in
/-- The run from and to `held`. -/
theorem sound_held (c : Dev nD) (t : Fin cfg0.N) (gate lse y yd bmax dmax mx sm) :
    held m c t gate lse y yd bmax dmax mx sm ⊢ wp frame (wpE (defs₀ (F := Bits)) 𝒱₀ c none) Set.univ (bodyAt0 (F := Bits) t)
      (fun _ => iprop(∃ st' : Bufs Bits, held m c t st'.gate st'.lse st'.y st'.yd st'.bmax st'.dmax st'.mx st'.sm)) :=
  sound m c t ⟨gate, lse, y, yd, bmax, dmax, mx, sm⟩

/-- The same run, its end given to what follows. -/
theorem sound_wand (c : Dev nD) (t : Fin cfg0.N) (gate lse y yd bmax dmax mx sm) (K : sProp 𝕄) :
    iprop(held m c t gate lse y yd bmax dmax mx sm ∗ (∀ gate lse y yd bmax dmax mx sm, held m c t gate lse y yd bmax dmax mx sm -∗ K))
      ⊢ wp frame (wpE (defs₀ (F := Bits)) 𝒱₀ c none) Set.univ (bodyAt0 (F := Bits) t) (fun _ => K) := by
  refine BIBase.Entails.trans (sep_mono (sound_held m c t gate lse y yd bmax dmax mx sm) .rfl) ?_
  refine BIBase.Entails.trans (wp_frame_r _ _ _) (wp_mono _ _ _ fun _ => ?_)
  iintro ⟨⟨%st', H⟩, HK⟩
  iapply HK $$ %st'.gate %st'.lse %st'.y %st'.yd %st'.bmax %st'.dmax %st'.mx %st'.sm H

/-- The body table's row at the point is the body. -/
theorem defs₀_row (t : Fin cfg0.N) :
    defs₀ (F := Bits) .tc cfg0.body (cfg0.bodyArgs t (cfg0.slots t)) = bodyAt0 (F := Bits) t := by
  unfold defs₀; rw [Defs.onTc_tc]

set_option backward.isDefEq.respectTransparency.types false in
/-- The library's body obligation with the two results forgotten. -/
theorem body_obligation (c : Dev nD) :
    BodyObligationLoose (dats m 0 c) (defs₀ (F := Bits)) 𝒱₀ () Set.univ forgets := fun t => by
  rw [bigSep_W0, bigSep_W0, defs₀_row]
  simp only [forgets, before0, before1, before2, before3, before4]
  rw [show (dats m 0 c).Φ t.castSucc = Pipeline.ΦA spec0 c from rfl, show (dats m 0 c).Φ t.succ = Pipeline.ΦA spec0 c from rfl]
  unfold Dat.owesAt Pipeline.owesWithin Pipeline.ΦA
  rw [show (dats m 0 c).owed t.castSucc = 0 from rfl, show (dats m 0 c).owed t.succ = 0 from rfl, scopedRest0_eq]
  simp only [← owns_whole]
  iintro ⟨⟨⟨⟨%f0, S0⟩, ⟨%f1, S1⟩, ⟨%f2, S2⟩, ⟨%f3, S3⟩, ⟨%f4, S4⟩, ⟨%f5, S5⟩⟩, Hg⟩, ⟨%W, %hW, HW⟩, ⟨%d0, H0⟩, ⟨%d1, H1⟩, ⟨%d2, H2⟩, ⟨%d3, H3⟩, ⟨%d4, H4⟩, ⟨%d5, H5⟩, ⟨%d6, H6⟩⟩
  iapply (sound_wand m c t d5 d6 f0 f1 f2 f3 f4 f5 _)
  isplitl [H0 H1 H2 H3 H4 H5 H6 S0 S1 S2 S3 S4 S5]
  · unfold held
    iframe H0 H1 H2 H3 H4 H5 H6 S0 S1 S2 S3 S4 S5
  · iintro %e5 %e6 %g0 %g1 %g2 %g3 %g4 %g5 H
    unfold held
    icases H with ⟨H0, H1, H2, H3, H4, H5, H6, S0, S1, S2, S3, S4, S5⟩
    isplitl [S0 S1 S2 S3 S4 S5 Hg]
    · isplitl [S0 S1 S2 S3 S4 S5]
      · isplitl [S0]; · iexists _; iexact S0
        isplitl [S1]; · iexists _; iexact S1
        isplitl [S2]; · iexists _; iexact S2
        isplitl [S3]; · iexists _; iexact S3
        isplitl [S4]; · iexists _; iexact S4
        iexists _; iexact S5
      iexact Hg
    isplitl [HW]
    · iexists W; isplitr; · ipureintro; exact hW
      iexact HW
    isplitl [H0]; · iexact H0
    isplitl [H1]; · iexact H1
    isplitl [H2]; · iexact H2
    isplitl [H3]; · iexact H3
    isplitl [H4]; · iexact H4
    isplitl [H5]; · iexists _; iexact H5
    iexists _; iexact H6

/-- The library's run of the launch with the two results forgotten. -/
theorem run_main : θ_run defs (onTc (τ := τ) (main (F := Bits))) (s₀ m ρ)
    (fun r => RDat.FramePostR cfg0 (fun c => (dats m 0 c).toRForget forgets) {main_v7} (V m) r ∧ r.2.sem = fun _ => 0) :=
  Pipeline.θ_run_frame_around_T_forget (Q' := _) cfgs (dats m) (0 : Fin 1) launch0 defs₀ 𝒱₀ forgets {main_v7} m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      subst hop
      rw [StableHlo.reshape_writes, Finset.mem_singleton] at hb
      rw [Finset.mem_singleton]
      by_contra hne
      exact StableHlo.devRef_ne_of_ne hne hb)
    (hmain := hmain m 𝒱₀) (hA := fun _ _ => rfl) (hΦ := fun _ _ => rfl)

/-- The frame. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      (((dats m 0 c).toRForget_arrAt_iff (fgt := forgets) (w := 0) rfl _ _).mp ((h.1 c).1 0)).trans
        (((dats m 0 c).arrAt_in 0 rfl _).trans (V_main_arg1 m c)),
      ((h.1 c).2 main_arg2 (Finset.mem_sdiff.mpr ⟨Pipeline.mem_restRefs_of main_arg2 (by decide) (by decide), by decide⟩)).trans (V_main_arg2 m c),
      (((dats m 0 c).toRForget_arrAt_iff (fgt := forgets) (w := 1) rfl _ _).mp ((h.1 c).1 1)).trans
        (((dats m 0 c).arrAt_in 1 rfl _).trans (V_main_arg3 m c))⟩, h.2⟩) (run_main m ρ)

end Cert.Kernel.Hand
-- ==== Proof.Tile.EqI.lean ====
/-
  The idealized kernel's printed body is the body written by its phases.
-/
module

public import proofs.«01_k».proof.Proof.Tile.Body
public import Idealize.ShloMosaic.Lib.Tactic.ProgEq

@[expose] public section

noncomputable section

namespace Cert.Proof.Tile

open Idealize.ShloMosaic
open scoped Idealize.ShloMosaic.ProgEq

/-- The idealized kernel's printed body. -/
def printedI (F : FTy → Type) [FloatOps F] [Named F] [Cert.KernelIdeal.Facts] := @Cert.KernelIdeal.cc0_gate_target F _ _ _

set_option maxHeartbeats 0 in
prog_eq Cert.Proof.Tile.body_ideal : Cert.Proof.Tile.printedI Cert.Proof.Tile.body from Cert.KernelIdeal to Cert.KernelIdeal at Ideal inferInstance by intros; rfl

end Cert.Proof.Tile
-- ==== Proof.Tile.FrameI.lean ====
/-
  The frame of KernelIdeal: from counters at zero the launch ends without a fault, its arguments are unchanged and every
  counter is zero again. What the two results hold is forgotten here.
-/
module

public import proofs.«01_k».proof.Proof.Gen.KernelIdeal.Frame
public import proofs.«01_k».proof.Proof.Tile.EqI
public import proofs.«01_k».proof.Proof.Tile.Safe
public import Idealize.ShloMosaic.Lib.Quiescent

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose RDat)
open Cert.Proof.Tile (Mems Ins Bufs own Ok ok_body)

local notation "𝕄" => MT nD τ sig Unit (Elt Ideal) ℕ (UR sig nD τ) ℕ

abbrev 𝒱₀ : Variants := Variants.none

variable (m : (ℓ : Loc nD τ sig) → Buf (Elt Ideal) ℓ) (ρ : Dev nD → PrngReg)

/-- The two result windows. -/
def forgets : Fin 7 → Bool := fun | 5 => true | 6 => true | _ => false

/-- The launch's data: the arrays as the host lines leave them, each input's block left in place. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

theorem before0 (c : Dev nD) (t : Fin cfg0.N) (d) : (dats m 0 c).before 0 t d = iblk m c 0 t :=
  before0_0_of m (dats m 0 c) rfl (fun _ => rfl) t d
theorem before1 (c : Dev nD) (t : Fin cfg0.N) (d) : (dats m 0 c).before 1 t d = iblk m c 1 t :=
  before0_1_of m (dats m 0 c) rfl (fun _ => rfl) t d
theorem before2 (c : Dev nD) (t : Fin cfg0.N) (d) : (dats m 0 c).before 2 t d = iblk m c 2 t :=
  before0_2_of m (dats m 0 c) rfl (fun _ => rfl) t d
theorem before3 (c : Dev nD) (t : Fin cfg0.N) (d) : (dats m 0 c).before 3 t d = iblk m c 3 t :=
  before0_3_of m (dats m 0 c) rfl (fun _ => rfl) t d
theorem before4 (c : Dev nD) (t : Fin cfg0.N) (d) : (dats m 0 c).before 4 t d = iblk m c 4 t :=
  before0_4_of m (dats m 0 c) rfl (fun _ => rfl) t d

/-- The memrefs the body runs on at a grid point. -/
abbrev mems (t : Fin cfg0.N) : Mems where
  qs := win0_0.stage (cfg0.slots t 0)
  ks := win0_1.stage (cfg0.slots t 1)
  q := win0_2.stage (cfg0.slots t 2)
  kn := win0_3.stage (cfg0.slots t 3)
  ki := win0_4.stage (cfg0.slots t 4)
  gate := win0_5.stage (cfg0.slots t 5)
  lse := win0_6.stage (cfg0.slots t 6)
  y := Memref.whole cc0_scratch0
  yd := Memref.whole cc0_scratch1
  bmax := Memref.whole cc0_scratch2
  dmax := Memref.whole cc0_scratch3
  mx := Memref.whole cc0_scratch4
  sm := Memref.whole cc0_scratch5

/-- The inputs' blocks at a grid point. -/
abbrev ins (c : Dev nD) (t : Fin cfg0.N) : Ins Ideal where
  qs := iblk m c 0 t
  ks := iblk m c 1 t
  q := iblk m c 2 t
  kn := iblk m c 3 t
  ki := iblk m c 4 t

/-- The body by its phases, on the memrefs `A` with their proofs of being whole. -/
theorem run_of {A : Mems} {I : Ins Ideal} {c : Dev nD} {p q : Cert.Proof.Tile.KProg Ideal PUnit} (h : p = q)
    (hq : Ok Unit ℕ (UR sig nD τ) ℕ (defs₀ (F := Ideal)) 𝒱₀ c A I q) (st : Bufs Ideal) :
    (own c A I st : sProp 𝕄) ⊢ wp frame (wpE (defs₀ (F := Ideal)) 𝒱₀ c none) Set.univ p
      (fun _ => iprop(∃ st', own c A I st')) := by
  subst h
  refine BIBase.Entails.trans (hq.safe st) (wp_mono _ _ _ fun _ => ?_)
  iintro ⟨%st', -, H⟩
  iexists st'
  iexact H

set_option maxHeartbeats 0 in
set_option maxRecDepth 100000 in
/-- The body's run at a grid point, from any contents of what it writes. -/
theorem sound (c : Dev nD) (t : Fin cfg0.N) (st : Bufs Ideal) :
    (own c (mems t) (ins m c t) st : sProp 𝕄) ⊢ wp frame (wpE (defs₀ (F := Ideal)) 𝒱₀ c none) Set.univ (bodyAt0 (F := Ideal) t)
      (fun _ => iprop(∃ st', own c (mems t) (ins m c t) st')) :=
  run_of (Cert.Proof.Tile.body_ideal _ _ _ _ _ _ _ _ _ _ _ _ _ _ _ _ _ _ _ _ _ _ _ _ _ _ _ inferInstance) (ok_body (F := Ideal) ..) st

/-- The body's buffers at a grid point, owned: the inputs at their blocks, the others at the given contents. -/
def held (c : Dev nD) (t : Fin cfg0.N) (gate : Vec Ideal S1x1x192x192 .f32) (lse : Vec Ideal S1x1x5x12288 .f32)
    (y : Vec Ideal S2x5x2x512x256 .f32) (yd : Vec Ideal S5x4x512x128 .f32) (bmax : Vec Ideal S5x192x512 .f32)
    (dmax mx sm : Vec Ideal S5x8x512 .f32) : sProp 𝕄 :=
  iprop(owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare gate
    ∗ owns (c : Thread nD τ) (win0_6.stage (cfg0.slots t 6)) fullShare lse
    ∗ owns (c : Thread nD τ) (Memref.whole cc0_scratch0) fullShare y ∗ owns (c : Thread nD τ) (Memref.whole cc0_scratch1) fullShare yd
    ∗ owns (c : Thread nD τ) (Memref.whole cc0_scratch2) fullShare bmax ∗ owns (c : Thread nD τ) (Memref.whole cc0_scratch3) fullShare dmax
    ∗ owns (c : Thread nD τ) (Memref.whole cc0_scratch4) fullShare mx ∗ owns (c : Thread nD τ) (Memref.whole cc0_scratch5) fullShare sm)

set_option maxHeartbeats 0 in
set_option maxRecDepth 100000 in
/-- The run from and to `held`. -/
theorem sound_held (c : Dev nD) (t : Fin cfg0.N) (gate lse y yd bmax dmax mx sm) :
    held m c t gate lse y yd bmax dmax mx sm ⊢ wp frame (wpE (defs₀ (F := Ideal)) 𝒱₀ c none) Set.univ (bodyAt0 (F := Ideal) t)
      (fun _ => iprop(∃ st' : Bufs Ideal, held m c t st'.gate st'.lse st'.y st'.yd st'.bmax st'.dmax st'.mx st'.sm)) :=
  sound m c t ⟨gate, lse, y, yd, bmax, dmax, mx, sm⟩

/-- The same run, its end given to what follows. -/
theorem sound_wand (c : Dev nD) (t : Fin cfg0.N) (gate lse y yd bmax dmax mx sm) (K : sProp 𝕄) :
    iprop(held m c t gate lse y yd bmax dmax mx sm ∗ (∀ gate lse y yd bmax dmax mx sm, held m c t gate lse y yd bmax dmax mx sm -∗ K))
      ⊢ wp frame (wpE (defs₀ (F := Ideal)) 𝒱₀ c none) Set.univ (bodyAt0 (F := Ideal) t) (fun _ => K) := by
  refine BIBase.Entails.trans (sep_mono (sound_held m c t gate lse y yd bmax dmax mx sm) .rfl) ?_
  refine BIBase.Entails.trans (wp_frame_r _ _ _) (wp_mono _ _ _ fun _ => ?_)
  iintro ⟨⟨%st', H⟩, HK⟩
  iapply HK $$ %st'.gate %st'.lse %st'.y %st'.yd %st'.bmax %st'.dmax %st'.mx %st'.sm H

/-- The body table's row at the point is the body. -/
theorem defs₀_row (t : Fin cfg0.N) :
    defs₀ (F := Ideal) .tc cfg0.body (cfg0.bodyArgs t (cfg0.slots t)) = bodyAt0 (F := Ideal) t := by
  unfold defs₀; rw [Defs.onTc_tc]

set_option backward.isDefEq.respectTransparency.types false in
/-- The library's body obligation with the two results forgotten. -/
theorem body_obligation (c : Dev nD) :
    BodyObligationLoose (dats m 0 c) (defs₀ (F := Ideal)) 𝒱₀ () Set.univ forgets := fun t => by
  rw [bigSep_W0, bigSep_W0, defs₀_row]
  simp only [forgets, before0, before1, before2, before3, before4]
  rw [show (dats m 0 c).Φ t.castSucc = Pipeline.ΦA spec0 c from rfl, show (dats m 0 c).Φ t.succ = Pipeline.ΦA spec0 c from rfl]
  unfold Dat.owesAt Pipeline.owesWithin Pipeline.ΦA
  rw [show (dats m 0 c).owed t.castSucc = 0 from rfl, show (dats m 0 c).owed t.succ = 0 from rfl, scopedRest0_eq]
  simp only [← owns_whole]
  iintro ⟨⟨⟨⟨%f0, S0⟩, ⟨%f1, S1⟩, ⟨%f2, S2⟩, ⟨%f3, S3⟩, ⟨%f4, S4⟩, ⟨%f5, S5⟩⟩, Hg⟩, ⟨%W, %hW, HW⟩, ⟨%d0, H0⟩, ⟨%d1, H1⟩, ⟨%d2, H2⟩, ⟨%d3, H3⟩, ⟨%d4, H4⟩, ⟨%d5, H5⟩, ⟨%d6, H6⟩⟩
  iapply (sound_wand m c t d5 d6 f0 f1 f2 f3 f4 f5 _)
  isplitl [H0 H1 H2 H3 H4 H5 H6 S0 S1 S2 S3 S4 S5]
  · unfold held
    iframe H0 H1 H2 H3 H4 H5 H6 S0 S1 S2 S3 S4 S5
  · iintro %e5 %e6 %g0 %g1 %g2 %g3 %g4 %g5 H
    unfold held
    icases H with ⟨H0, H1, H2, H3, H4, H5, H6, S0, S1, S2, S3, S4, S5⟩
    isplitl [S0 S1 S2 S3 S4 S5 Hg]
    · isplitl [S0 S1 S2 S3 S4 S5]
      · isplitl [S0]; · iexists _; iexact S0
        isplitl [S1]; · iexists _; iexact S1
        isplitl [S2]; · iexists _; iexact S2
        isplitl [S3]; · iexists _; iexact S3
        isplitl [S4]; · iexists _; iexact S4
        iexists _; iexact S5
      iexact Hg
    isplitl [HW]
    · iexists W; isplitr; · ipureintro; exact hW
      iexact HW
    isplitl [H0]; · iexact H0
    isplitl [H1]; · iexact H1
    isplitl [H2]; · iexact H2
    isplitl [H3]; · iexact H3
    isplitl [H4]; · iexact H4
    isplitl [H5]; · iexists _; iexact H5
    iexists _; iexact H6

/-- The library's run of the launch with the two results forgotten. -/
theorem run_main : θ_run defs (onTc (τ := τ) (main (F := Ideal))) (s₀ m ρ)
    (fun r => RDat.FramePostR cfg0 (fun c => (dats m 0 c).toRForget forgets) {main_v7} (V m) r ∧ r.2.sem = fun _ => 0) :=
  Pipeline.θ_run_frame_around_T_forget (Q' := _) cfgs (dats m) (0 : Fin 1) launch0 defs₀ 𝒱₀ forgets {main_v7} m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      subst hop
      rw [StableHlo.reshape_writes, Finset.mem_singleton] at hb
      rw [Finset.mem_singleton]
      by_contra hne
      exact StableHlo.devRef_ne_of_ne hne hb)
    (hmain := hmain m 𝒱₀) (hA := fun _ _ => rfl) (hΦ := fun _ _ => rfl)

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      (((dats m 0 c).toRForget_arrAt_iff (fgt := forgets) (w := 0) rfl _ _).mp ((h.1 c).1 0)).trans
        (((dats m 0 c).arrAt_in 0 rfl _).trans (V_main_arg1 m c)),
      ((h.1 c).2 main_arg2 (Finset.mem_sdiff.mpr ⟨Pipeline.mem_restRefs_of main_arg2 (by decide) (by decide), by decide⟩)).trans (V_main_arg2 m c),
      (((dats m 0 c).toRForget_arrAt_iff (fgt := forgets) (w := 1) rfl _ _).mp ((h.1 c).1 1)).trans
        (((dats m 0 c).arrAt_in 1 rfl _).trans (V_main_arg3 m c))⟩, h.2⟩) (run_main m ρ)

end Cert.KernelIdeal.Hand
-- ==== Proof.Tile.Read.lean ====
/-
  Reading a vector of extended reals at natural numbers, and what the kernel's vector operations hold at them: an element of
  a slice, of a reshaped vector, of a reduced one is an element, a sum or a maximum of elements of the operand.
-/
module

public import proofs.«01_k».proof.Proof.Tile.Hoare
public import proofs.«01_k».proof.Proof.Tile.Prog
public import Idealize.ShloMosaic.Lib.MatmulPlain
public import Idealize.ShloMosaic.Lib.IdealHost

@[expose] public section

noncomputable section

namespace Cert.Proof.Tile

open Idealize.ShloMosaic

variable {n : ℕ} {d : Fin n → ℕ}

/-- The element of `X` at `i`; zero outside. -/
def rd (X : (⟨n, d⟩ : Shape).Idx → EReal) (i : Fin n → ℕ) : EReal :=
  if h : ∀ a, i a < d a then X (fun a => ⟨i a, h a⟩) else 0

theorem rd_in (X : (⟨n, d⟩ : Shape).Idx → EReal) {i : Fin n → ℕ} (h : ∀ a, i a < d a) : rd X i = X (fun a => ⟨i a, h a⟩) := dif_pos h

theorem rd_val (X : (⟨n, d⟩ : Shape).Idx → EReal) (j : (⟨n, d⟩ : Shape).Idx) : rd X (fun a => (j a).val) = X j :=
  rd_in X fun a => (j a).isLt

theorem rd_at (X : (⟨n, d⟩ : Shape).Idx → EReal) {i : Fin n → ℕ} {j : (⟨n, d⟩ : Shape).Idx} (h : ∀ a, (j a).val = i a) : X j = rd X i := by
  rw [← rd_val X j]
  exact congrArg _ (funext h)

theorem lt1 {i0 d0 : ℕ} (h0 : i0 < d0) : ∀ a, (![i0] : Fin 1 → ℕ) a < (![d0] : Fin 1 → ℕ) a := by
  intro a; fin_cases a; exact h0
theorem lt2 {i0 i1 d0 d1 : ℕ} (h0 : i0 < d0) (h1 : i1 < d1) : ∀ a, (![i0, i1] : Fin 2 → ℕ) a < (![d0, d1] : Fin 2 → ℕ) a := by
  intro a; fin_cases a; exacts [h0, h1]
theorem lt3 {i0 i1 i2 d0 d1 d2 : ℕ} (h0 : i0 < d0) (h1 : i1 < d1) (h2 : i2 < d2) :
    ∀ a, (![i0, i1, i2] : Fin 3 → ℕ) a < (![d0, d1, d2] : Fin 3 → ℕ) a := by
  intro a; fin_cases a; exacts [h0, h1, h2]
theorem lt4 {i0 i1 i2 i3 d0 d1 d2 d3 : ℕ} (h0 : i0 < d0) (h1 : i1 < d1) (h2 : i2 < d2) (h3 : i3 < d3) :
    ∀ a, (![i0, i1, i2, i3] : Fin 4 → ℕ) a < (![d0, d1, d2, d3] : Fin 4 → ℕ) a := by
  intro a; fin_cases a; exacts [h0, h1, h2, h3]
theorem lt5 {i0 i1 i2 i3 i4 d0 d1 d2 d3 d4 : ℕ} (h0 : i0 < d0) (h1 : i1 < d1) (h2 : i2 < d2) (h3 : i3 < d3) (h4 : i4 < d4) :
    ∀ a, (![i0, i1, i2, i3, i4] : Fin 5 → ℕ) a < (![d0, d1, d2, d3, d4] : Fin 5 → ℕ) a := by
  intro a; fin_cases a; exacts [h0, h1, h2, h3, h4]

/-! ## Rectangles -/

theorem rd_ldr (X : (⟨n, d⟩ : Shape).Idx → EReal) {o T : Fin n → ℕ} {inb : ∀ a, o a + T a ≤ d a} {j i : Fin n → ℕ}
    (hj : ∀ a, j a < T a) (hi : ∀ a, i a = o a + j a) :
    rd (n := n) (d := T) (ldr X (Rect.unit (s := ⟨n, d⟩) o T inb)) j = rd X i := by
  rw [rd_in _ hj, rd_in X (i := i) (fun a => by have := hj a; have := inb a; have := hi a; omega)]
  unfold ldr
  congr 1
  funext a
  exact Fin.ext (by rw [Rect.emb_apply]; simp only [Rect.unit]; rw [hi a, Nat.one_mul])

theorem rd_ovl (X : (⟨n, d⟩ : Shape).Idx → EReal) {o T : Fin n → ℕ} {inb : ∀ a, o a + T a ≤ d a}
    (w : (⟨n, T⟩ : Shape).Idx → EReal) {j i : Fin n → ℕ} (hj : ∀ a, j a < T a) (hi : ∀ a, i a = o a + j a) :
    rd (ovl X (Rect.unit (s := ⟨n, d⟩) o T inb) w) i = rd w j := by
  rw [rd_in _ hj, rd_in _ (i := i) (fun a => by have := hj a; have := inb a; have := hi a; omega)]
  rw [← ovl_emb X (Rect.unit (s := ⟨n, d⟩) o T inb) w (fun a => ⟨j a, hj a⟩)]
  congr 1
  funext a
  exact Fin.ext (by rw [Rect.emb_apply]; simp only [Rect.unit]; rw [hi a, Nat.one_mul])

theorem rd_ovl_miss (X : (⟨n, d⟩ : Shape).Idx → EReal) {o T : Fin n → ℕ} {inb : ∀ a, o a + T a ≤ d a}
    (w : (⟨n, T⟩ : Shape).Idx → EReal) {i : Fin n → ℕ} (a : Fin n) (h : i a < o a ∨ o a + T a ≤ i a) :
    rd (ovl X (Rect.unit (s := ⟨n, d⟩) o T inb) w) i = rd X i := by
  unfold rd
  by_cases hi : ∀ a, i a < d a
  · rw [dif_pos hi, dif_pos hi]
    refine ovl_miss _ _ _ _ fun x hx => ?_
    have h1 : ((Rect.unit (s := ⟨n, d⟩) o T inb).emb x a).val = i a := congrArg (fun y : (⟨n, d⟩ : Shape).Idx => (y a).val) hx
    have h3 : ((Rect.unit (s := ⟨n, d⟩) o T inb).emb x a).val = o a + 1 * (x a).val := rfl
    have h2 : (x a).val < T a := (x a).isLt
    omega
  · rw [dif_neg hi, dif_neg hi]

/-! ## Row-major positions -/

/-- The row-major position of `i`. -/
def flat : (n : ℕ) → (d i : Fin n → ℕ) → ℕ
  | 0, _, _ => 0
  | n + 1, d, i => i 0 * (∏ a : Fin n, d a.succ) + flat n (fun a => d a.succ) (fun a => i a.succ)

theorem flat_rowMajor : (n : ℕ) → (d : Fin n → ℕ) → (x : (⟨n, d⟩ : Shape).Idx) →
    ((⟨n, d⟩ : Shape).rowMajor x).val = flat n d (fun a => (x a).val)
  | 0, d, x => Shape.rowMajorPi_zero d x
  | n + 1, d, x => by
    show (Shape.rowMajorPi d x).val = _
    rw [Shape.rowMajorPi_succ_val]
    exact congrArg _ (flat_rowMajor n (fun a => d a.succ) (fun a => x a.succ))

theorem rd_shapeCast {m : ℕ} {e : Fin m → ℕ} (X : (⟨n, d⟩ : Shape).Idx → EReal) {h : (⟨n, d⟩ : Shape).ShapeCasts ⟨m, e⟩}
    {i : Fin m → ℕ} {j : Fin n → ℕ} (hi : ∀ a, i a < e a) (hj : ∀ a, j a < d a) (hf : flat n d j = flat m e i) :
    rd (shapeCast ⟨m, e⟩ X h) i = rd X j := by
  rw [rd_in _ hi, rd_in X hj]
  show X (Shape.reshapeEquiv h _) = _
  congr 1
  exact Shape.reshapeEquiv_eq_of_rowMajor h (by rw [flat_rowMajor, flat_rowMajor]; exact hf)

/-- A reshaped vector at an index that both shapes have the same position for. -/
theorem rd_slice {e : Fin n → ℕ} (X : (⟨n, d⟩ : Shape).Idx → EReal) {o : Fin n → ℕ} {h : (⟨n, d⟩ : Shape).Slices o ⟨n, e⟩}
    {i j : Fin n → ℕ} (hi : ∀ a, i a < e a) (hj : ∀ a, j a = o a + i a) : rd (extractStridedSlice ⟨n, e⟩ o X h) i = rd X j := by
  have hb : ∀ a, o a + e a ≤ d a := fun a => h.2 a
  rw [rd_in _ hi, rd_in X (i := j) (fun a => by have := hi a; have := hb a; have := hj a; omega)]
  unfold extractStridedSlice
  congr 1
  funext a
  exact Fin.ext (hj a).symm

theorem rd_broadcastTo {m : ℕ} {e : Fin m → ℕ} (X : (⟨n, d⟩ : Shape).Idx → EReal) {h : (⟨n, d⟩ : Shape).Broadcasts ⟨m, e⟩}
    {i : Fin m → ℕ} {j : Fin n → ℕ} (hi : ∀ a, i a < e a) (hd : ∀ a, j a < d a)
    (hj : ∀ (a : Fin n) (ha : a.val + (m - n) < m), d a ≠ 1 → j a = i ⟨a.val + (m - n), ha⟩) :
    rd (broadcastTo ⟨m, e⟩ X h) i = rd X j := by
  rw [rd_in _ hi, rd_in X hd]
  unfold broadcastTo
  congr 1
  funext a
  refine Fin.ext ?_
  by_cases h1 : d a = 1
  · rw [dif_pos (show (⟨n, d⟩ : Shape).size a = 1 from h1)]
    have := hd a
    show 0 = j a
    omega
  · rw [dif_neg (show ¬ (⟨n, d⟩ : Shape).size a = 1 from h1)]
    exact (hj a _ h1).symm

/-! ## Arithmetic, element by element -/

section
variable (X Y : FVec Ideal ⟨n, d⟩ .f32) (i : Fin n → ℕ)

theorem rd_add : rd (addf X Y) i = rd X i + rd Y i := by
  unfold rd; split
  · rfl
  · exact (add_zero _).symm
theorem rd_mul : rd (mulf X Y) i = rd X i * rd Y i := by
  unfold rd; split
  · rfl
  · exact (mul_zero _).symm
theorem rd_sub : rd (subf X Y) i = rd X i - rd Y i := by
  unfold rd; split
  · rfl
  · exact (sub_zero _).symm
theorem rd_max : rd (maximumf X Y) i = max (rd X i) (rd Y i) := by
  unfold rd; split
  · rfl
  · exact (max_self _).symm

variable {X Y i} (hi : ∀ a, i a < d a)
include hi
theorem rd_exp2 : rd (exp2 X) i = Ideal.exp2 (rd X i) := by rw [rd_in _ hi, rd_in _ hi]; rfl
theorem rd_log : rd (log X) i = Ideal.log (rd X i) := by rw [rd_in _ hi, rd_in _ hi]; rfl
theorem rd_div : rd (divf X Y) i = Ideal.div (rd X i) (rd Y i) := by rw [rd_in _ hi, rd_in _ hi, rd_in _ hi]; rfl
theorem rd_splat {x : EReal} : rd (broadcast (⟨n, d⟩ : Shape) x) i = x := by rw [rd_in _ hi]; rfl
end

/-! ## Sums and maxima -/

theorem sup_fin (N : ℕ) (f : ℕ → EReal) : (Finset.univ : Finset (Fin N)).sup (fun k => f k.val) = (Finset.range N).sup f := by
  apply le_antisymm
  · exact Finset.sup_le fun k _ => Finset.le_sup (f := f) (Finset.mem_range.mpr k.isLt)
  · exact Finset.sup_le fun k hk => Finset.le_sup (f := fun k : Fin N => f k.val) (Finset.mem_univ ⟨k, Finset.mem_range.mp hk⟩)

theorem bot_f32 : (FloatOps.ofBits (F := Ideal) .f32 0xFF800000#32 : EReal) = ⊥ := by
  show Ideal.ofBits .f32 0xFF800000#32 = ⊥
  simp [Ideal.ofBits, Ideal.ieee]

theorem zero_f32 : (FloatOps.ofBits (F := Ideal) .f32 0x00000000#32 : EReal) = 0 := by
  show Ideal.ofBits .f32 0x00000000#32 = 0
  simp [Ideal.ofBits, Ideal.ieee]

section
variable {N C B : ℕ}

theorem rd_max0 (X : FVec Ideal (Sm N C) .f32) {h : (Sm N C).Reduces [0] ⟨1, ![C]⟩} {hφ hacc} {x : ℕ} (hx : x < C) :
    rd (multiReduction .maximumf [0] ⟨1, ![C]⟩ X 0xFF800000#32 h hφ hacc) ![x] = (Finset.range N).sup fun k => rd X ![k, x] := by
  rw [rd_in _ (lt1 hx), Ideal.multiReduction_maximumf_single, bot_f32]
  rw [← sup_fin N fun k => rd X ![k, x]]
  refine Finset.sup_congr rfl fun k _ => ?_
  exact rd_at X fun a => by fin_cases a <;> rfl

theorem rd_sum0 (X : FVec Ideal (Sm N C) .f32) {h : (Sm N C).Reduces [0] ⟨1, ![C]⟩} {hφ hacc} {x : ℕ} (hx : x < C) :
    rd (multiReduction .add [0] ⟨1, ![C]⟩ X 0x00000000#32 h hφ hacc) ![x] = ∑ k ∈ Finset.range N, rd X ![k, x] := by
  rw [rd_in _ (lt1 hx), Ideal.multiReduction_add_single]
  rw [← Fin.sum_univ_eq_sum_range (fun k => rd X ![k, x]) N]
  refine Finset.sum_congr rfl fun k _ => ?_
  exact rd_at X fun a => by fin_cases a <;> rfl

theorem rd_sum1 (X : FVec Ideal (Sm N C) .f32) {h : (Sm N C).Reduces [1] ⟨1, ![N]⟩} {hφ hacc} {x : ℕ} (hx : x < N) :
    rd (multiReduction .add [1] ⟨1, ![N]⟩ X 0x00000000#32 h hφ hacc) ![x] = ∑ k ∈ Finset.range C, rd X ![x, k] := by
  rw [rd_in _ (lt1 hx), Ideal.multiReduction_add_single]
  rw [← Fin.sum_univ_eq_sum_range (fun k => rd X ![x, k]) C]
  refine Finset.sum_congr rfl fun k _ => ?_
  exact rd_at X fun a => by fin_cases a <;> rfl

theorem rd_max1 (X : FVec Ideal ⟨3, ![B, N, C]⟩ .f32) {h : (⟨3, ![B, N, C]⟩ : Shape).Reduces [1] (Sm B C)} {hφ hacc} {b x : ℕ}
    (hb : b < B) (hx : x < C) :
    rd (multiReduction .maximumf [1] (Sm B C) X 0xFF800000#32 h hφ hacc) ![b, x] = (Finset.range N).sup fun k => rd X ![b, k, x] := by
  rw [rd_in _ (lt2 hb hx), Ideal.multiReduction_maximumf_single, bot_f32]
  rw [← sup_fin N fun k => rd X ![b, k, x]]
  refine Finset.sup_congr rfl fun k _ => ?_
  exact rd_at X fun a => by fin_cases a <;> rfl

theorem chain_max (g : ℕ → EReal) : ∀ k, chain max g k = (Finset.range (k + 1)).sup g
  | 0 => by simp [chain]
  | k + 1 => by rw [chain, chain_max g k, Finset.range_add_one (n := k + 1), Finset.sup_insert]; exact max_comm _ _

theorem chain_add (g : ℕ → EReal) : ∀ k, chain (· + ·) g k = ∑ i ∈ Finset.range (k + 1), g i
  | 0 => by simp [chain]
  | k + 1 => by rw [chain, chain_add g k, Finset.sum_range_succ _ (k + 1)]

theorem fold4_max (k : ℕ) (f : ℕ → EReal) : fold4 max k f = (Finset.range (4 * (k + 1))).sup f := by
  simp only [fold4, chain_max]
  apply le_antisymm
  · refine max_le (max_le ?_ ?_) (max_le ?_ ?_) <;>
    · refine Finset.sup_le fun i hi => Finset.le_sup (f := f) (Finset.mem_range.mpr ?_)
      have := Finset.mem_range.mp hi
      omega
  · refine Finset.sup_le fun i hi => ?_
    have hi := Finset.mem_range.mp hi
    have hm : i / 4 ∈ Finset.range (k + 1) := Finset.mem_range.mpr (by omega)
    have h4 : i % 4 = 0 ∨ i % 4 = 1 ∨ i % 4 = 2 ∨ i % 4 = 3 := by omega
    rcases h4 with h | h | h | h
    · refine le_trans ?_ ((le_max_left _ _).trans (le_max_left _ _))
      exact le_trans (by rw [show 4 * (i / 4) + 0 = i by omega]) (Finset.le_sup (f := fun i => f (4 * i + 0)) hm)
    · refine le_trans ?_ ((le_max_right _ _).trans (le_max_left _ _))
      exact le_trans (by rw [show 4 * (i / 4) + 1 = i by omega]) (Finset.le_sup (f := fun i => f (4 * i + 1)) hm)
    · refine le_trans ?_ ((le_max_left _ _).trans (le_max_right _ _))
      exact le_trans (by rw [show 4 * (i / 4) + 2 = i by omega]) (Finset.le_sup (f := fun i => f (4 * i + 2)) hm)
    · refine le_trans ?_ ((le_max_right _ _).trans (le_max_right _ _))
      exact le_trans (by rw [show 4 * (i / 4) + 3 = i by omega]) (Finset.le_sup (f := fun i => f (4 * i + 3)) hm)

theorem sum_four (f : ℕ → EReal) : ∀ k, ∑ i ∈ Finset.range (4 * k), f i
    = ((∑ i ∈ Finset.range k, f (4 * i + 0)) + ∑ i ∈ Finset.range k, f (4 * i + 1))
      + ((∑ i ∈ Finset.range k, f (4 * i + 2)) + ∑ i ∈ Finset.range k, f (4 * i + 3))
  | 0 => by simp
  | k + 1 => by
    rw [show 4 * (k + 1) = 4 * k + 1 + 1 + 1 + 1 by ring, Finset.sum_range_succ, Finset.sum_range_succ, Finset.sum_range_succ,
      Finset.sum_range_succ, sum_four f k]
    simp only [Finset.sum_range_succ, Nat.add_zero]
    ac_rfl

theorem fold4_add (k : ℕ) (f : ℕ → EReal) : fold4 (· + ·) k f = ∑ i ∈ Finset.range (4 * (k + 1)), f i := by
  simp only [fold4, chain_add, sum_four]

theorem rd_chain {op : FVec Ideal ⟨n, d⟩ .f32 → FVec Ideal ⟨n, d⟩ .f32 → FVec Ideal ⟨n, d⟩ .f32} {op' : EReal → EReal → EReal} {i : Fin n → ℕ}
    (h : ∀ X Y, rd (op X Y) i = op' (rd X i) (rd Y i)) (g : ℕ → FVec Ideal ⟨n, d⟩ .f32) :
    ∀ k, rd (chain op g k) i = chain op' (fun j => rd (g j) i) k
  | 0 => rfl
  | k + 1 => by simp only [chain]; rw [h, rd_chain h g k]

theorem rd_fold4 {op : FVec Ideal ⟨n, d⟩ .f32 → FVec Ideal ⟨n, d⟩ .f32 → FVec Ideal ⟨n, d⟩ .f32} {op' : EReal → EReal → EReal} {i : Fin n → ℕ}
    (h : ∀ X Y, rd (op X Y) i = op' (rd X i) (rd Y i)) (k : ℕ) (f : ℕ → FVec Ideal ⟨n, d⟩ .f32) :
    rd (fold4 op k f) i = fold4 op' k (fun j => rd (f j) i) := by
  simp only [fold4, h, rd_chain h]

theorem rd_oct (k : ℕ) (y : FVec Ideal (Sm (8 * (k + 1)) C) .f32) {i s x : ℕ} (hi : i ≤ k) (hs : s < 8) (hx : x < C) :
    rd (oct k y i) ![s, x] = rd y ![8 * i + s, x] := by
  refine rd_slice _ (lt2 hs hx) fun a => ?_
  have : i % (k + 1) = i := Nat.mod_eq_of_lt (by omega)
  fin_cases a
  · show 8 * i + s = 8 * (i % (k + 1)) + s
    omega
  · exact (Nat.zero_add x).symm

theorem rd_max_oct (k : ℕ) (y : FVec Ideal (Sm (8 * ((4 * k + 3) + 1)) C) .f32) {s x : ℕ} (hs : s < 8) (hx : x < C) :
    rd (fold4 (α := FVec Ideal (Sm 8 C) .f32) maximumf k (oct (4 * k + 3) y)) ![s, x] = (Finset.range (4 * (k + 1))).sup fun i => rd y ![8 * i + s, x] := by
  rw [rd_fold4 (op' := max) (fun X Y => rd_max X Y _), fold4_max]
  exact Finset.sup_congr rfl fun i hi => rd_oct _ y (by have := Finset.mem_range.mp hi; omega) hs hx

theorem rd_sum_oct (k : ℕ) (y : FVec Ideal (Sm (8 * ((4 * k + 3) + 1)) C) .f32) {s x : ℕ} (hs : s < 8) (hx : x < C) :
    rd (fold4 (α := FVec Ideal (Sm 8 C) .f32) addf k (oct (4 * k + 3) y)) ![s, x] = ∑ i ∈ Finset.range (4 * (k + 1)), rd y ![8 * i + s, x] := by
  rw [rd_fold4 (op' := (· + ·)) (fun X Y => rd_add X Y _), fold4_add]
  exact Finset.sum_congr rfl fun i hi => rd_oct _ y (by have := Finset.mem_range.mp hi; omega) hs hx

end

end Cert.Proof.Tile
-- ==== Proof.Tile.Ops.lean ====
/-
  What the kernel's vector computations hold, element by element, at the extended reals.
-/
module

public import proofs.«01_k».proof.Proof.Tile.Read
public import Idealize.ShloMosaic.Lib.Pipeline.Value

@[expose] public section

noncomputable section

namespace Cert.Proof.Tile

open Idealize.ShloMosaic Idealize.ShloMosaic.ValueIdx Cert.KernelIdeal
open Cert.KernelIdeal.Facts Cert.KernelIdeal.Facts₀ Cert.KernelIdeal.Shapes1.Facts₀ Cert.KernelIdeal.K0.Facts₀

/-- The two constants of a change of base. -/
abbrev L2E : EReal := ((Real.log 2)⁻¹ : ℝ)
abbrev LN2 : EReal := (Real.log 2 : ℝ)

theorem dot_read {M K N : ℕ} {φ₁ φ₂ : FTy} (a : FVec Ideal ⟨2, ![M, K]⟩ φ₁) (b : FVec Ideal ⟨2, ![N, K]⟩ φ₂) {i x : ℕ} (hi : i < M) (hx : x < N) :
    rd (matmul (DotDims.transposedRhs M K N) none a b (constant ⟨2, ![M, N]⟩ .f32 0x00000000#32)) ![i, x]
      = ∑ c ∈ Finset.range K, rd (d := ![M, K]) a ![i, c] * rd (d := ![N, K]) b ![x, c] := by
  rw [← rd_at (j := ix2 ⟨i, hi⟩ ⟨x, hx⟩) (i := ![i, x]) _ (fun a => by fin_cases a <;> rfl)]
  refine (Ideal.matmul_transposedRhs_apply none a b _ ⟨i, hi⟩ ⟨x, hx⟩).trans ?_
  rw [show constant (F := Ideal) ⟨2, ![M, N]⟩ .f32 0x00000000#32 (ix2 ⟨i, hi⟩ ⟨x, hx⟩) = 0 from zero_f32, zero_add]
  rw [← Fin.sum_univ_eq_sum_range (fun c => rd (d := ![M, K]) a ![i, c] * rd (d := ![N, K]) b ![x, c]) K]
  refine Finset.sum_congr rfl fun c _ => congrArg₂ _ ?_ ?_ <;> exact rd_at _ (fun a => by fin_cases a <;> rfl)

section
variable [Facts]

theorem rd_scoreBlock (k : FVec Ideal S512x128 .fp8e4m3) (q : FVec Ideal S256x128 .fp8e4m3) (cf : EReal) {i x : ℕ} (hi : i < 512) (hx : x < 256) :
    rd (d := ![512, 256]) (scoreBlock (F := Ideal) k q cf) ![i, x] = (∑ c ∈ Finset.range 128, rd (d := ![512, 128]) k ![i, c] * rd (d := ![256, 128]) q ![x, c]) * cf := by
  unfold scoreBlock
  rw [rd_mul]
  exact congrArg₂ _ (dot_read k q hi hx) (rd_splat (lt2 hi hx))

theorem rd_scoreHalf (k : FVec Ideal S256x128 .fp8e4m3) (q : FVec Ideal S256x128 .fp8e4m3) (cf : EReal) {i x : ℕ} (hi : i < 256) (hx : x < 256) :
    rd (d := ![256, 256]) (scoreHalf (F := Ideal) k q cf) ![i, x] = (∑ c ∈ Finset.range 128, rd (d := ![256, 128]) k ![i, c] * rd (d := ![256, 128]) q ![x, c]) * cf := by
  unfold scoreHalf
  rw [rd_mul]
  exact congrArg₂ _ (dot_read k q hi hx) (rd_splat (lt2 hi hx))

theorem rd_blockMax (y : FVec Ideal S512x256 .f32) {s x : ℕ} (hs : s < 8) (hx : x < 256) :
    rd (d := ![8, 256]) (blockMax256 (F := Ideal) y) ![s, x] = (Finset.range 64).sup fun i => rd (d := ![512, 256]) y ![8 * i + s, x] :=
  rd_max_oct 15 y hs hx

theorem rd_newMax (m bm : Vec Ideal S1x8x256 .f32) {s x : ℕ} (hs : s < 8) (hx : x < 256) :
    rd (d := ![8, 256]) (newMax256 (F := Ideal) m bm) ![s, x]
      = max (rd (d := ![1, 8, 256]) m ![0, s, x]) ((Finset.range 8).sup fun k => rd (d := ![1, 8, 256]) bm ![0, k, x]) := by
  unfold newMax256
  rw [rd_max]
  refine congrArg₂ _ (rd_shapeCast _ (lt2 hs hx) (lt3 (by omega) hs hx) (by simp [flat])) ?_
  refine (rd_broadcastTo (j := ![0, x]) _ (lt2 hs hx) (lt2 (by omega) hx) (fun a ha h => by fin_cases a; exact absurd rfl h; rfl)).trans ?_
  refine (rd_shapeCast (j := ![x]) _ (lt2 (by omega) hx) (lt1 hx) (by simp [flat])).trans ?_
  refine (rd_max0 _ hx).trans (Finset.sup_congr rfl fun k hk => ?_)
  exact rd_shapeCast _ (lt2 (Finset.mem_range.mp hk) hx) (lt3 (by omega) (Finset.mem_range.mp hk) hx) (by simp [flat])

theorem rd_expBlock (y : Vec Ideal S1x1x1x512x256 .f32) (m : FVec Ideal S8x256 .f32) {i s x : ℕ} (hi : i < 64) (hs : s < 8) (hx : x < 256) :
    rd (d := ![512, 256]) (expBlock (F := Ideal) y m) ![8 * i + s, x]
      = Ideal.exp2 (rd (d := ![1, 1, 1, 512, 256]) y ![0, 0, 0, 8 * i + s, x] - rd (d := ![8, 256]) m ![s, x]) := by
  unfold expBlock
  refine (rd_shapeCast (j := ![i, s, x]) _ (lt2 (by omega) hx) (lt3 hi hs hx) (by simp [flat, Fin.prod_univ_succ]; omega)).trans ?_
  refine (rd_exp2 (lt3 hi hs hx)).trans (congrArg _ ?_)
  refine (rd_sub _ _ _).trans (congrArg₂ _ ?_ ?_)
  · refine (rd_shapeCast (j := ![8 * i + s, x]) _ (lt3 hi hs hx) (lt2 (by omega) hx) (by simp [flat, Fin.prod_univ_succ]; omega)).trans ?_
    exact rd_shapeCast _ (lt2 (by omega) hx) (lt5 (by omega) (by omega) (by omega) (by omega) hx) (by simp [flat])
  · refine (rd_broadcastTo (j := ![0, s, x]) _ (lt3 hi hs hx) (lt3 (by omega) hs hx) (fun a ha h => by fin_cases a; exact absurd rfl h; rfl; rfl)).trans ?_
    exact rd_shapeCast _ (lt3 (by omega) hs hx) (lt2 hs hx) (by simp [flat])

theorem rd_newSum (m bm l : Vec Ideal S1x8x256 .f32) (y : Vec Ideal S1x1x1x512x256 .f32) {s x : ℕ} (hs : s < 8) (hx : x < 256) :
    rd (d := ![8, 256]) (newSum256 (F := Ideal) m bm l y) ![s, x]
      = rd (d := ![1, 8, 256]) l ![0, s, x] * Ideal.exp2 (rd (d := ![1, 8, 256]) m ![0, s, x] - rd (d := ![8, 256]) (newMax256 (F := Ideal) m bm) ![s, x])
        + ∑ i ∈ Finset.range 64, Ideal.exp2 (rd (d := ![1, 1, 1, 512, 256]) y ![0, 0, 0, 8 * i + s, x] - rd (d := ![8, 256]) (newMax256 (F := Ideal) m bm) ![s, x]) := by
  unfold newSum256
  rw [rd_add, rd_mul]
  refine congrArg₂ _ (congrArg₂ _ ?_ ?_) ?_
  · exact rd_shapeCast _ (lt2 hs hx) (lt3 (by omega) hs hx) (by simp [flat])
  · refine (rd_exp2 (lt2 hs hx)).trans (congrArg _ ((rd_sub _ _ _).trans (congrArg₂ _ ?_ rfl)))
    exact rd_shapeCast _ (lt2 hs hx) (lt3 (by omega) hs hx) (by simp [flat])
  · refine (rd_sum_oct 15 _ hs hx).trans (Finset.sum_congr rfl fun i hi => ?_)
    exact rd_expBlock y _ (Finset.mem_range.mp hi) hs hx

/-! ## The diagonal -/

theorem sup_64 (f : ℕ → EReal) : ((Finset.range 8).sup fun s => (Finset.range 8).sup fun i => f (8 * i + s)) = (Finset.range 64).sup f := by
  apply le_antisymm
  · refine Finset.sup_le fun s hs => Finset.sup_le fun i hi => Finset.le_sup (f := f) (Finset.mem_range.mpr ?_)
    have := Finset.mem_range.mp hs
    have := Finset.mem_range.mp hi
    omega
  · refine Finset.sup_le fun j hj => ?_
    have hj := Finset.mem_range.mp hj
    refine le_trans ?_ (Finset.le_sup (f := fun s => (Finset.range 8).sup fun i => f (8 * i + s)) (Finset.mem_range.mpr (show j % 8 < 8 by omega)))
    refine le_trans ?_ (Finset.le_sup (f := fun i => f (8 * i + j % 8)) (Finset.mem_range.mpr (show j / 8 < 8 by omega)))
    exact le_of_eq (congrArg f (by omega))

theorem rd_diagMax {N : ℕ} (y : FVec Ideal (Sm N 128) .f32) {kb x : ℕ} (h : kb * 64 + 64 ≤ N) (hx : x < 128) :
    rd (d := ![1, 128]) (diagMax (F := Ideal) N y kb) ![0, x] = (Finset.range 64).sup fun i => rd y ![kb * 64 + i, x] := by
  unfold diagMax
  rw [dif_pos h]
  refine (rd_shapeCast (j := ![x]) _ (lt2 (by omega) hx) (lt1 hx) (by simp [flat])).trans ?_
  refine (rd_max0 _ hx).trans ?_
  rw [← sup_64 fun i => rd y ![kb * 64 + i, x]]
  refine Finset.sup_congr rfl fun s hs => ?_
  refine (rd_max_oct 1 _ (Finset.mem_range.mp hs) hx).trans (Finset.sup_congr rfl fun i hi => ?_)
  have := Finset.mem_range.mp hs
  have := Finset.mem_range.mp hi
  refine rd_slice _ (lt2 (by omega) hx) fun a => ?_
  fin_cases a
  · rfl
  · exact (Nat.zero_add x).symm

theorem rd_diagMax_out {N : ℕ} (y : FVec Ideal (Sm N 128) .f32) {kb x : ℕ} (h : ¬ kb * 64 + 64 ≤ N) (hx : x < 128) :
    rd (d := ![1, 128]) (diagMax (F := Ideal) N y kb) ![0, x] = ⊥ := by
  unfold diagMax
  rw [dif_neg h]
  exact (rd_splat (lt2 (by omega) hx)).trans bot_f32

theorem sle_small {a b : ℕ} (ha : a < 128) (hb : b < 128) : (BitVec.ofNat 32 a).sle (BitVec.ofNat 32 b) = decide (a ≤ b) := by
  rw [BitVec.sle_eq_decide, BitVec.toInt_ofNat', BitVec.toInt_ofNat']
  congr 1
  rw [Int.bmod_def, Int.bmod_def]
  simp only [eq_iff_iff]
  norm_num
  omega

theorem rd_masked (y : FVec Ideal S128x128 .f32) {r c : ℕ} (hr : r < 128) (hc : c < 128) :
    rd (d := ![128, 128]) (masked (F := Ideal) y) ![r, c] = if r ≤ c then rd (d := ![128, 128]) y ![r, c] else ⊥ := by
  rw [rd_in _ (lt2 hr hc), rd_in _ (lt2 hr hc)]
  unfold masked select
  have ht : tri (fun a => ⟨(![r, c] : Fin 2 → ℕ) a, lt2 hr hc a⟩) = BitVec.ofBool (decide (r ≤ c)) := by
    rw [← sle_small hr hc]
    show BitVec.ofBool ((BitVec.ofNat 32 (0 * 128 + r)).sle (BitVec.ofNat 32 (0 * 128 + c))) = _
    rw [Nat.zero_mul, Nat.zero_add, Nat.zero_add]
  show Scalar.select (tri _) _ _ = _
  rw [ht]
  unfold Scalar.select
  by_cases h : r ≤ c
  · simp [h]
  · simp only [h, decide_false, if_false]
    exact (if_neg (by decide)).trans bot_f32

theorem rd_concat {A B C N : ℕ} (u : FVec Ideal (Sm A C) .f32) (v : FVec Ideal (Sm B C) .f32) {h : Shape.Concatenates [Sm A C, Sm B C] (Sm N C) 0}
    (hN : A + B = N) {r c : ℕ} (hr : r < N) (hc : c < C) :
    rd (concatenate (Sm N C) 0 [⟨Sm A C, u⟩, ⟨Sm B C, v⟩] h) ![r, c] = if r < A then rd u ![r, c] else rd v ![r - A, c] := by
  rw [rd_in _ (lt2 hr hc)]
  split
  · rename_i hA
    rw [rd_in _ (lt2 hA hc)]
    refine concatenate_pair_apply_left _ _ _ h _ rfl _ fun b => ?_
    fin_cases b <;> rfl
  · rename_i hA
    rw [rd_in _ (lt2 (show r - A < B by omega) hc)]
    refine concatenate_pair_apply_right _ _ _ h _ rfl rfl _ (fun b hb => ?_) ?_
    · fin_cases b
      · exact absurd rfl hb
      · rfl
    · show r - A + A = r
      omega

theorem rd_slice2 {A B C D a b r c : ℕ} (y : FVec Ideal (Sm A B) .f32) {h : (Sm A B).Slices ![a, b] (Sm C D)} (hr : r < C) (hc : c < D) :
    rd (extractStridedSlice (Sm C D) ![a, b] y h) ![r, c] = rd y ![a + r, b + c] :=
  rd_slice _ (lt2 hr hc) fun a => by fin_cases a <;> rfl

theorem rd_tile0 (y : FVec Ideal S256x256 .f32) {r c : ℕ} (hr : r < 128) (hc : c < 128) :
    rd (d := ![128, 128]) (tile0 (F := Ideal) y) ![r, c] = if r ≤ 0 + c then rd (d := ![256, 256]) y ![r, 0 + c] else ⊥ := by
  refine (rd_masked _ hr hc).trans ?_
  rw [Nat.zero_add]
  refine if_congr Iff.rfl ?_ rfl
  refine (rd_slice2 _ hr hc).trans ((rd_slice2 _ (by omega) (by omega)).trans ?_)
  simp only [Nat.zero_add]

theorem rd_tile1 (y : FVec Ideal S256x256 .f32) {r c : ℕ} (hr : r < 256) (hc : c < 128) :
    rd (d := ![256, 128]) (tile1 (F := Ideal) y) ![r, c] = if r ≤ 128 + c then rd (d := ![256, 256]) y ![r, 128 + c] else ⊥ := by
  refine (rd_concat (A := 128) (B := 128) (N := 256) _ _ rfl hr hc).trans ?_
  split
  · rw [if_pos (by omega)]
    refine (rd_slice2 _ (by omega) hc).trans ((rd_slice2 _ (by omega) (by omega)).trans ?_)
    simp only [Nat.zero_add]
  · refine (rd_masked _ (by omega) hc).trans (if_congr (by omega) ?_ rfl)
    refine (rd_slice2 _ (by omega) hc).trans ((rd_slice2 _ (by omega) (by omega)).trans ?_)
    rw [show 0 + (128 + (r - 128)) = r by omega, Nat.zero_add]

theorem rd_tile2 (y : FVec Ideal S512x256 .f32) {r c : ℕ} (hr : r < 384) (hc : c < 128) :
    rd (d := ![384, 128]) (tile2 (F := Ideal) y) ![r, c] = if r ≤ 256 + c then rd (d := ![512, 256]) y ![r, 0 + c] else ⊥ := by
  refine (rd_concat (A := 256) (B := 128) (N := 384) _ _ rfl hr hc).trans ?_
  split
  · rw [if_pos (by omega)]
    refine (rd_slice2 _ (by omega) hc).trans ((rd_slice2 _ (by omega) (by omega)).trans ?_)
    simp only [Nat.zero_add]
  · refine (rd_masked _ (by omega) hc).trans (if_congr (by omega) ?_ rfl)
    refine (rd_slice2 _ (by omega) hc).trans ((rd_slice2 _ (by omega) (by omega)).trans ?_)
    rw [show 0 + (256 + (r - 256)) = r by omega, Nat.zero_add]

theorem rd_tile3 (y : FVec Ideal S512x256 .f32) {r c : ℕ} (hr : r < 512) (hc : c < 128) :
    rd (d := ![512, 128]) (tile3 (F := Ideal) y) ![r, c] = if r ≤ 384 + c then rd (d := ![512, 256]) y ![r, 128 + c] else ⊥ := by
  refine (rd_concat (A := 384) (B := 128) (N := 512) _ _ rfl hr hc).trans ?_
  split
  · rw [if_pos (by omega)]
    refine (rd_slice2 _ (by omega) hc).trans ((rd_slice2 _ (by omega) (by omega)).trans ?_)
    simp only [Nat.zero_add]
  · refine (rd_masked _ (by omega) hc).trans (if_congr (by omega) ?_ rfl)
    refine (rd_slice2 _ (by omega) hc).trans ((rd_slice2 _ (by omega) (by omega)).trans ?_)
    rw [show 0 + (384 + (r - 384)) = r by omega, Nat.zero_add]

theorem rd_tileMax (dm : Vec Ideal S1x8x128 .f32) {s x : ℕ} (hs : s < 8) (hx : x < 128) :
    rd (d := ![8, 128]) (tileMax (F := Ideal) dm) ![s, x] = (Finset.range 8).sup fun k => rd (d := ![1, 8, 128]) dm ![0, k, x] := by
  unfold tileMax
  refine (rd_broadcastTo (j := ![0, x]) _ (lt2 hs hx) (lt2 (by omega) hx) (fun a ha h => by fin_cases a; exact absurd rfl h; rfl)).trans ?_
  refine (rd_shapeCast (j := ![0, x]) _ (lt2 (by omega) hx) (lt2 (by omega) hx) rfl).trans ?_
  refine (rd_shapeCast (j := ![x]) _ (lt2 (by omega) hx) (lt1 hx) (by simp [flat])).trans ?_
  refine (rd_max0 _ hx).trans (Finset.sup_congr rfl fun k hk => ?_)
  exact rd_shapeCast _ (lt2 (Finset.mem_range.mp hk) hx) (lt3 (by omega) (Finset.mem_range.mp hk) hx) (by simp [flat])

theorem rd_tileSum (k : ℕ) (T : Fin 4 → ℕ) (hT : T = ![1, 1, 8 * ((4 * k + 3) + 1), 128]) (dm : Vec Ideal S1x8x128 .f32) (y : Vec Ideal ⟨4, T⟩ .f32) {h1 h2 h3 h4} {s x : ℕ} (hs : s < 8) (hx : x < 128) :
    rd (d := ![8, 128]) (tileSum (F := Ideal) k T dm y h1 h2 h3 h4) ![s, x]
      = ∑ i ∈ Finset.range (4 * (k + 1)), Ideal.exp2 (rd (d := T) y ![0, 0, 8 * i + s, x] - (Finset.range 8).sup fun k => rd (d := ![1, 8, 128]) dm ![0, k, x]) := by
  subst hT
  unfold tileSum
  refine (rd_sum_oct k _ hs hx).trans (Finset.sum_congr rfl fun i hi => ?_)
  have hi := Finset.mem_range.mp hi
  refine (rd_shapeCast (j := ![i, s, x]) _ (lt2 (by omega) hx) (lt3 (by omega) hs hx) (by simp [flat, Fin.prod_univ_succ]; omega)).trans ?_
  refine (rd_exp2 (lt3 (by omega) hs hx)).trans (congrArg _ ?_)
  refine (rd_sub _ _ _).trans (congrArg₂ _ ?_ ?_)
  · refine (rd_shapeCast (j := ![8 * i + s, x]) _ (lt3 (by omega) hs hx) (lt2 (by omega) hx) (by simp [flat, Fin.prod_univ_succ]; omega)).trans ?_
    exact rd_shapeCast _ (lt2 (by omega) hx) (lt4 (by omega) (by omega) (by omega) hx) (by simp [flat])
  · refine (rd_broadcastTo (j := ![0, s, x]) _ (lt3 (by omega) hs hx) (lt3 (by omega) hs hx) (fun a ha h => by fin_cases a; exact absurd rfl h; rfl; rfl)).trans ?_
    exact (rd_shapeCast (j := ![s, x]) _ (lt3 (by omega) hs hx) (lt2 hs hx) (by simp [flat])).trans (rd_tileMax dm hs hx)

/-! ## The end of a row tile -/

theorem named_l2e : (Named.named (F := Ideal) κ "log2e" (φ := .f32) 0x3FB8AA3B#32 : EReal) = L2E := rfl
theorem named_ln2 : (Named.named (F := Ideal) κ "ln2" (φ := .f32) 0x3F317218#32 : EReal) = LN2 := rfl

theorem rd_lse2 (m : Vec Ideal S1x1x512 .f32) (l : Vec Ideal S1x8x512 .f32) {x : ℕ} (hx : x < 512) :
    rd (d := ![1, 512]) (lse2 (F := Ideal) m l) ![0, x]
      = rd (d := ![1, 1, 512]) m ![0, 0, x] + Ideal.log (∑ s ∈ Finset.range 8, rd (d := ![1, 8, 512]) l ![0, s, x]) * L2E := by
  unfold lse2
  rw [rd_add, rd_mul]
  have h0 : 0 < 1 := Nat.one_pos
  refine congrArg₂ _ (rd_shapeCast _ (lt2 h0 hx) (lt3 h0 h0 hx) (by simp [flat])) (congrArg₂ _ ?_ ?_)
  · refine (rd_log (lt2 h0 hx)).trans (congrArg _ ?_)
    refine (rd_shapeCast (j := ![x]) _ (lt2 h0 hx) (lt1 hx) (by simp [flat])).trans ?_
    refine (rd_sum0 _ hx).trans (Finset.sum_congr rfl fun k hk => ?_)
    exact rd_shapeCast _ (lt2 (Finset.mem_range.mp hk) hx) (lt3 h0 (Finset.mem_range.mp hk) hx) (by simp [flat])
  · exact (rd_splat (lt2 h0 hx)).trans named_l2e

theorem rd_logRows {base x : ℕ} (hb : base < 2 ^ 20) (hx : x < 512) :
    rd (d := ![1, 512]) (logRows (F := Ideal) (BitVec.ofNat 32 base)) ![0, x] = Ideal.log (((base + x + 1 : ℕ) : ℝ) : EReal) := by
  unfold logRows
  refine (rd_log (lt2 Nat.one_pos hx)).trans (congrArg _ ?_)
  rw [rd_in _ (lt2 Nat.one_pos hx)]
  show ((((BitVec.ofNat 32 base + BitVec.ofNat 32 (0 * 512 + x) + 1#32 : BitVec 32).toInt : ℤ) : ℝ) : EReal) = _
  have : (BitVec.ofNat 32 base + BitVec.ofNat 32 (0 * 512 + x) + 1#32 : BitVec 32) = BitVec.ofNat 32 (base + x + 1) := by
    rw [Nat.zero_mul, Nat.zero_add, BitVec.ofNat_add, BitVec.ofNat_add]
  rw [this, BitVec.toInt_ofNat', Int.bmod_def]
  have h2 : (((base + x + 1 : ℕ) : ℤ) % ((2 ^ 32 : ℕ) : ℤ)) = ((base + x + 1 : ℕ) : ℤ) := by norm_num at *; omega
  rw [h2, if_pos (by norm_num at *; omega)]
  norm_cast

theorem rd_lseOut {base : ℕ} (m : Vec Ideal S1x1x512 .f32) (l : Vec Ideal S1x8x512 .f32) {x : ℕ} (hb : base < 2 ^ 20) (hx : x < 512) :
    rd (d := ![1, 512]) (lseOut (F := Ideal) (BitVec.ofNat 32 base) m l) ![0, x]
      = rd (d := ![1, 512]) (lse2 (F := Ideal) m l) ![0, x] * LN2 - Ideal.log (((base + x + 1 : ℕ) : ℝ) : EReal) := by
  unfold lseOut
  rw [rd_sub, rd_mul]
  exact congrArg₂ _ (congrArg₂ _ rfl ((rd_splat (lt2 Nat.one_pos hx)).trans named_ln2)) (rd_logRows hb hx)

theorem rd_rel (b : Vec Ideal S1x192x512 .f32) (m : Vec Ideal S1x1x512 .f32) (l : Vec Ideal S1x8x512 .f32) {k x : ℕ} (hk : k < 192) (hx : x < 512) :
    rd (d := ![192, 512]) (rel (F := Ideal) b m l) ![k, x]
      = rd (d := ![1, 192, 512]) b ![0, k, x] - rd (d := ![1, 512]) (lse2 (F := Ideal) m l) ![0, x] := by
  unfold rel
  rw [rd_sub]
  refine congrArg₂ _ (rd_shapeCast _ (lt2 hk hx) (lt3 Nat.one_pos hk hx) (by simp [flat])) ?_
  exact rd_broadcastTo (j := ![0, x]) _ (lt2 hk hx) (lt2 Nat.one_pos hx) (fun a ha h => by fin_cases a; exact absurd rfl h; rfl)

theorem rd_gateNum (x : FVec Ideal S192x512 .f32) {q k : ℕ} (hq : q < 8) (hk : k < 192) :
    rd (d := ![8, 192]) (gateNum (F := Ideal) x) ![q, k] = Ideal.exp2 ((Finset.range 64).sup fun i => rd (d := ![192, 512]) x ![k, 64 * q + i]) := by
  unfold gateNum
  refine (rd_exp2 (lt2 hq hk)).trans (congrArg _ ?_)
  refine (rd_max1 _ hq hk).trans (Finset.sup_congr rfl fun i hi => ?_)
  have hi := Finset.mem_range.mp hi
  refine (rd_shapeCast (j := ![64 * q + i, k]) _ (lt3 hq hi hk) (lt2 (by omega) hk) (by simp [flat, Fin.prod_univ_succ]; omega)).trans ?_
  rw [rd_in _ (lt2 (show 64 * q + i < 512 by omega) hk)]
  refine rd_at x fun a => ?_
  fin_cases a <;> rfl

theorem rd_gateOut (x : FVec Ideal S192x512 .f32) {q k : ℕ} (hq : q < 8) (hk : k < 192) :
    rd (d := ![8, 192]) (gateOut (F := Ideal) x) ![q, k]
      = Ideal.div (rd (d := ![8, 192]) (gateNum (F := Ideal) x) ![q, k]) (∑ k ∈ Finset.range 192, rd (d := ![8, 192]) (gateNum (F := Ideal) x) ![q, k]) := by
  unfold gateOut
  refine (rd_div (lt2 hq hk)).trans (congrArg₂ _ rfl ?_)
  refine (rd_broadcastTo (j := ![q, 0]) _ (lt2 hq hk) (lt2 hq Nat.one_pos) (fun a ha h => by fin_cases a; rfl; exact absurd rfl h)).trans ?_
  exact (rd_shapeCast (j := ![q]) _ (lt2 hq Nat.one_pos) (lt1 hq) (by simp [flat])).trans (rd_sum1 _ hq)

end

end Cert.Proof.Tile
-- ==== Proof.Tile.Spec.lean ====
/-
  What the kernel computes at one grid point, from the scores `sc h r j` of head `h`, row `r` and key `j`: the block maxima,
  the running maxima and sums chunk by chunk, the log-sum-exp and the gate.
-/
module

public import proofs.«01_k».proof.Proof.Tile.Ops

@[expose] public section

noncomputable section

namespace Cert.Proof.Tile

open Idealize.ShloMosaic Finset

variable (sc : ℕ → ℕ → ℕ → EReal)

/-- A score as its row sees it. -/
def ms (h r j : ℕ) : EReal := if j ≤ r then sc h r j else ⊥

/-- The maximum of a block of 64 keys. -/
def BM (h r kb : ℕ) : EReal := (range 64).sup fun i => ms sc h r (kb * 64 + i)

/-- The maximum of a chunk of 512 keys. -/
def CM (h r c : ℕ) : EReal := (range 8).sup fun k => BM sc h r (c * 8 + k)

/-- The running maximum of a row of tile `t`: its diagonal chunk, then the first `n` chunks. -/
def Mx (t h r : ℕ) : ℕ → EReal
  | 0 => CM sc h r t
  | n + 1 => max (Mx t h r n) (CM sc h r n)

/-- The running sums, one for each of eight sublanes. -/
def Lx (t h r s : ℕ) : ℕ → EReal
  | 0 => ∑ i ∈ range 64, Ideal.exp2 (ms sc h r (t * 512 + (8 * i + s)) - Mx sc t h r 0)
  | n + 1 => Lx t h r s n * Ideal.exp2 (Mx sc t h r n - Mx sc t h r (n + 1))
      + ∑ i ∈ range 64, Ideal.exp2 (sc h r (n * 512 + (s * 64 + i)) - Mx sc t h r (n + 1))

/-- The base-two log-sum-exp of a row of tile `t`. -/
def ls (t h r : ℕ) : EReal := Mx sc t h r t + Ideal.log (∑ s ∈ range 8, Lx sc t h r s t) * L2E

/-- The row's result. -/
def lseS (t h r : ℕ) : EReal := ls sc t h r * LN2 - Ideal.log (((r + 1 : ℕ) : ℝ) : EReal)

/-- A block maximum less the row's log-sum-exp, the largest of five heads. -/
def top (t r kb : ℕ) : EReal :=
  max (max (max (max (BM sc 0 r kb - ls sc t 0 r) (BM sc 1 r kb - ls sc t 1 r)) (BM sc 2 r kb - ls sc t 2 r)) (BM sc 3 r kb - ls sc t 3 r)) (BM sc 4 r kb - ls sc t 4 r)

/-- The gate before it is divided by its row's sum. -/
def gn (t q kb : ℕ) : EReal := Ideal.exp2 ((range 64).sup fun i => top sc t (t * 512 + (64 * q + i)) kb)

/-- The gate. -/
def gateS (t q kb : ℕ) : EReal := Ideal.div (gn sc t q kb) (∑ k ∈ range 192, gn sc t q k)

variable {sc}

theorem ms_of_le {h r j : ℕ} (hj : j ≤ r) : ms sc h r j = sc h r j := if_pos hj
theorem ms_of_lt {h r j : ℕ} (hj : r < j) : ms sc h r j = ⊥ := if_neg (by omega)

theorem BM_of_le {h r kb : ℕ} (hk : kb * 64 + 63 ≤ r) : BM sc h r kb = (range 64).sup fun i => sc h r (kb * 64 + i) :=
  sup_congr rfl fun i hi => ms_of_le (by have := mem_range.mp hi; omega)

theorem BM_of_lt {h r kb : ℕ} (hk : r < kb * 64) : BM sc h r kb = ⊥ :=
  le_bot_iff.mp (Finset.sup_le fun i _ => le_of_eq (ms_of_lt (by omega)))

/-! ## Arrays that hold given values where a condition says -/

section
variable {α : Type}

/-- Where `C` holds the array holds `f`. -/
def P3 {d : Fin 3 → ℕ} (f : ℕ → ℕ → ℕ → EReal) (C : ℕ → ℕ → ℕ → Prop) (X : (⟨3, d⟩ : Shape).Idx → EReal) : Prop :=
  ∀ h k x, C h k x → rd X ![h, k, x] = f h k x
def P4 {d : Fin 4 → ℕ} (f : ℕ → ℕ → ℕ → ℕ → EReal) (C : ℕ → ℕ → ℕ → ℕ → Prop) (X : (⟨4, d⟩ : Shape).Idx → EReal) : Prop :=
  ∀ g h k x, C g h k x → rd X ![g, h, k, x] = f g h k x
def P5 {d : Fin 5 → ℕ} (f : ℕ → ℕ → ℕ → ℕ → ℕ → EReal) (C : ℕ → ℕ → ℕ → ℕ → ℕ → Prop) (X : (⟨5, d⟩ : Shape).Idx → EReal) : Prop :=
  ∀ b g h k x, C b g h k x → rd X ![b, g, h, k, x] = f b g h k x

variable {d : Fin 3 → ℕ} {f : ℕ → ℕ → ℕ → EReal} {C C' : ℕ → ℕ → ℕ → Prop} {X : (⟨3, d⟩ : Shape).Idx → EReal}

theorem P3.mono (hX : P3 f C X) (h : ∀ h k x, C' h k x → C h k x) : P3 f C' X := fun a k x hc => hX a k x (h a k x hc)

theorem P3.load (hX : P3 f C X) {a0 k0 x0 R W : ℕ} {inb} {k x : ℕ} (hk : k < R) (hx : x < W) (hC : C a0 (k0 + k) (x0 + x)) :
    rd (d := ![1, R, W]) (ldr X (Rect.unit (s := ⟨3, d⟩) ![a0, k0, x0] ![1, R, W] inb)) ![0, k, x] = f a0 (k0 + k) (x0 + x) :=
  (rd_ldr X (i := ![a0, k0 + k, x0 + x]) (lt3 Nat.one_pos hk hx) (fun a => by fin_cases a <;> rfl)).trans (hX _ _ _ hC)

theorem P3.store (hX : P3 f C X) {a0 k0 x0 R W : ℕ} {inb} {w : (⟨3, ![1, R, W]⟩ : Shape).Idx → EReal}
    (hw : ∀ k x, k < R → x < W → rd w ![0, k, x] = f a0 (k0 + k) (x0 + x))
    (hC : ∀ h k x, C' h k x → C h k x ∨ (h = a0 ∧ k0 ≤ k ∧ k < k0 + R ∧ x0 ≤ x ∧ x < x0 + W)) :
    P3 f C' (ovl X (Rect.unit (s := ⟨3, d⟩) ![a0, k0, x0] ![1, R, W] inb) w) := by
  intro h k x hc
  by_cases hin : h = a0 ∧ k0 ≤ k ∧ k < k0 + R ∧ x0 ≤ x ∧ x < x0 + W
  · obtain ⟨rfl, h1, h2, h3, h4⟩ := hin
    refine (rd_ovl X w (j := ![0, k - k0, x - x0]) (lt3 Nat.one_pos (by omega) (by omega)) (fun a => ?_)).trans ?_
    · fin_cases a
      · rfl
      · show k = k0 + (k - k0); omega
      · show x = x0 + (x - x0); omega
    · rw [hw _ _ (by omega) (by omega), show k0 + (k - k0) = k by omega, show x0 + (x - x0) = x by omega]
  · have hc' := (hC h k x hc).resolve_right hin
    rw [← hX h k x hc']
    by_cases h0 : h = a0
    · by_cases hk : k0 ≤ k ∧ k < k0 + R
      · refine rd_ovl_miss X w 2 ?_
        show x < x0 ∨ x0 + W ≤ x
        omega
      · refine rd_ovl_miss X w 1 ?_
        show k < k0 ∨ k0 + R ≤ k
        omega
    · refine rd_ovl_miss X w 0 ?_
      show h < a0 ∨ a0 + 1 ≤ h
      omega

theorem P3.keep (hX : P3 f C X) {a0 k0 x0 R W : ℕ} {inb} {w : (⟨3, ![1, R, W]⟩ : Shape).Idx → EReal}
    (hC : ∀ h k x, C' h k x → C h k x ∧ (h ≠ a0 ∨ k < k0 ∨ k0 + R ≤ k ∨ x < x0 ∨ x0 + W ≤ x)) :
    P3 f C' (ovl X (Rect.unit (s := ⟨3, d⟩) ![a0, k0, x0] ![1, R, W] inb) w) := by
  intro h k x hc
  obtain ⟨h1, h2⟩ := hC h k x hc
  rw [← hX h k x h1]
  rcases h2 with h2 | h2 | h2 | h2 | h2
  · refine rd_ovl_miss X w 0 ?_
    show h < a0 ∨ a0 + 1 ≤ h
    omega
  · exact rd_ovl_miss X w 1 (.inl h2)
  · exact rd_ovl_miss X w 1 (.inr h2)
  · exact rd_ovl_miss X w 2 (.inl h2)
  · exact rd_ovl_miss X w 2 (.inr h2)

end

section
variable {d : Fin 4 → ℕ} {f : ℕ → ℕ → ℕ → ℕ → EReal} {C C' : ℕ → ℕ → ℕ → ℕ → Prop} {X : (⟨4, d⟩ : Shape).Idx → EReal}

theorem P4.mono (hX : P4 f C X) (h : ∀ g h k x, C' g h k x → C g h k x) : P4 f C' X := fun g a k x hc => hX g a k x (h g a k x hc)

theorem P4.load (hX : P4 f C X) {g0 a0 k0 x0 R W : ℕ} {T : Fin 4 → ℕ} (hT : T = ![1, 1, R, W]) {inb} {k x : ℕ} (hk : k < R) (hx : x < W) (hC : C g0 a0 (k0 + k) (x0 + x)) :
    rd (d := T) (ldr X (Rect.unit (s := ⟨4, d⟩) ![g0, a0, k0, x0] T inb)) ![0, 0, k, x] = f g0 a0 (k0 + k) (x0 + x) := by
  subst hT
  exact (rd_ldr X (i := ![g0, a0, k0 + k, x0 + x]) (lt4 Nat.one_pos Nat.one_pos hk hx) (fun a => by fin_cases a <;> rfl)).trans (hX _ _ _ _ hC)

theorem P4.store (hX : P4 f C X) {g0 a0 k0 x0 R W : ℕ} {T : Fin 4 → ℕ} (hT : T = ![1, 1, R, W]) {inb} {w : (⟨4, T⟩ : Shape).Idx → EReal}
    (hw : ∀ k x, k < R → x < W → rd w ![0, 0, k, x] = f g0 a0 (k0 + k) (x0 + x))
    (hC : ∀ g h k x, C' g h k x → C g h k x ∨ (g = g0 ∧ h = a0 ∧ k0 ≤ k ∧ k < k0 + R ∧ x0 ≤ x ∧ x < x0 + W)) :
    P4 f C' (ovl X (Rect.unit (s := ⟨4, d⟩) ![g0, a0, k0, x0] T inb) w) := by
  subst hT
  intro g h k x hc
  by_cases hin : g = g0 ∧ h = a0 ∧ k0 ≤ k ∧ k < k0 + R ∧ x0 ≤ x ∧ x < x0 + W
  · obtain ⟨rfl, rfl, h1, h2, h3, h4⟩ := hin
    refine (rd_ovl X w (j := ![0, 0, k - k0, x - x0]) (lt4 Nat.one_pos Nat.one_pos (by omega) (by omega)) (fun a => ?_)).trans ?_
    · fin_cases a
      · rfl
      · rfl
      · show k = k0 + (k - k0); omega
      · show x = x0 + (x - x0); omega
    · rw [hw _ _ (by omega) (by omega), show k0 + (k - k0) = k by omega, show x0 + (x - x0) = x by omega]
  · have hc' := (hC g h k x hc).resolve_right hin
    rw [← hX g h k x hc']
    by_cases hg : g = g0
    · by_cases h0 : h = a0
      · by_cases hk : k0 ≤ k ∧ k < k0 + R
        · refine rd_ovl_miss X w 3 ?_
          show x < x0 ∨ x0 + W ≤ x
          omega
        · refine rd_ovl_miss X w 2 ?_
          show k < k0 ∨ k0 + R ≤ k
          omega
      · refine rd_ovl_miss X w 1 ?_
        show h < a0 ∨ a0 + 1 ≤ h
        omega
    · refine rd_ovl_miss X w 0 ?_
      show g < g0 ∨ g0 + 1 ≤ g
      omega

end

section
variable {d : Fin 5 → ℕ} {f : ℕ → ℕ → ℕ → ℕ → ℕ → EReal} {C C' : ℕ → ℕ → ℕ → ℕ → ℕ → Prop} {X : (⟨5, d⟩ : Shape).Idx → EReal}

theorem P5.mono (hX : P5 f C X) (h : ∀ b g h k x, C' b g h k x → C b g h k x) : P5 f C' X := fun b g a k x hc => hX b g a k x (h b g a k x hc)

theorem P5.load (hX : P5 f C X) {b0 g0 a0 k0 x0 R W : ℕ} {inb} {k x : ℕ} (hk : k < R) (hx : x < W) (hC : C b0 g0 a0 (k0 + k) (x0 + x)) :
    rd (d := ![1, 1, 1, R, W]) (ldr X (Rect.unit (s := ⟨5, d⟩) ![b0, g0, a0, k0, x0] ![1, 1, 1, R, W] inb)) ![0, 0, 0, k, x] = f b0 g0 a0 (k0 + k) (x0 + x) :=
  (rd_ldr X (i := ![b0, g0, a0, k0 + k, x0 + x]) (lt5 Nat.one_pos Nat.one_pos Nat.one_pos hk hx) (fun a => by fin_cases a <;> rfl)).trans (hX _ _ _ _ _ hC)

theorem P5.store (hX : P5 f C X) {b0 g0 a0 R W : ℕ} {inb} {w : (⟨5, ![1, 1, 1, R, W]⟩ : Shape).Idx → EReal}
    (hw : ∀ k x, k < R → x < W → rd w ![0, 0, 0, k, x] = f b0 g0 a0 k x)
    (hC : ∀ b g h k x, C' b g h k x → C b g h k x ∨ (b = b0 ∧ g = g0 ∧ h = a0)) (hR : ∀ b g h k x, C' b g h k x → k < R ∧ x < W) :
    P5 f C' (ovl X (Rect.unit (s := ⟨5, d⟩) ![b0, g0, a0, 0, 0] ![1, 1, 1, R, W] inb) w) := by
  intro b g h k x hc
  obtain ⟨hk, hx⟩ := hR b g h k x hc
  by_cases hin : b = b0 ∧ g = g0 ∧ h = a0
  · obtain ⟨rfl, rfl, rfl⟩ := hin
    refine (rd_ovl X w (j := ![0, 0, 0, k, x]) (lt5 Nat.one_pos Nat.one_pos Nat.one_pos hk hx) (fun a => ?_)).trans (hw _ _ hk hx)
    fin_cases a
    · rfl
    · rfl
    · rfl
    · exact (Nat.zero_add k).symm
    · exact (Nat.zero_add x).symm
  · have hc' := (hC b g h k x hc).resolve_right hin
    rw [← hX b g h k x hc']
    by_cases h0 : b = b0
    · by_cases h1 : g = g0
      · refine rd_ovl_miss X w 2 ?_
        show h < a0 ∨ a0 + 1 ≤ h
        omega
      · refine rd_ovl_miss X w 1 ?_
        show g < g0 ∨ g0 + 1 ≤ g
        omega
    · refine rd_ovl_miss X w 0 ?_
      show b < b0 ∨ b0 + 1 ≤ b
      omega

end

end Cert.Proof.Tile
-- ==== Proof.Tile.Does.lean ====
/-
  Programs of the body with what they leave behind.
-/
module

public import proofs.«01_k».proof.Proof.Tile.State
public import proofs.«01_k».proof.Proof.Tile.Spec

@[expose] public section

noncomputable section

namespace Cert.Proof.Tile

open Idealize.ShloMosaic Idealize.ShloMosaic.TcCoe Cert.KernelIdeal
open Idealize.SL Idealize.SL.RA Idealize.SL.BI
open Idealize.SL.Sem Finset

variable [Facts]
variable {Ix : Type} [DecidableEq Ix] {Name : Type} [DecidableEq Name] {U : Type} [URA U] {Lvl : Type} [Preorder Lvl]
variable {defs : Defs nD τ sig (Elt Ideal) Λ₀} {𝒱 : Variants} {c : Dev nD} {A : Mems} {I : Ins Ideal}

/-- From the buffers of `st` the program runs and ends with a value and a state of `Q`. -/
structure Does (Ix : Type) [DecidableEq Ix] (Name : Type) [DecidableEq Name] (U : Type) [URA U] (Lvl : Type) [Preorder Lvl]
    (defs : Defs nD τ sig (Elt Ideal) Λ₀) (𝒱 : Variants) (c : Dev nD) (A : Mems) (I : Ins Ideal) {α : Type} (p : KProg Ideal α)
    (Q : α → Bufs Ideal → Prop) (st : Bufs Ideal) : Prop where
  wp : WP (Ix := Ix) (Name := Name) (U := U) (Lvl := Lvl) defs 𝒱 (c : Thread nD τ) (own c A I) p Q st

variable {α β : Type} {st : Bufs Ideal} {Q Q' : α → Bufs Ideal → Prop}

theorem does_bind {p : KProg Ideal β} {k : β → KProg Ideal α}
    (h : Does Ix Name U Lvl defs 𝒱 c A I p (fun b st' => Does Ix Name U Lvl defs 𝒱 c A I (k b) Q st') st) :
    Does Ix Name U Lvl defs 𝒱 c A I (p >>= k) Q st := ⟨WP.bind (h.wp.mono fun _ _ h => h.wp)⟩

theorem does_mono {p : KProg Ideal α} (h : Does Ix Name U Lvl defs 𝒱 c A I p Q st) (hQ : ∀ a st', Q a st' → Q' a st') :
    Does Ix Name U Lvl defs 𝒱 c A I p Q' st := ⟨h.wp.mono hQ⟩

/-- One program after another. -/
theorem does_seq {p : KProg Ideal β} {k : β → KProg Ideal α} {R : β → Bufs Ideal → Prop} (h : Does Ix Name U Lvl defs 𝒱 c A I p R st)
    (hk : ∀ b st', R b st' → Does Ix Name U Lvl defs 𝒱 c A I (k b) Q st') : Does Ix Name U Lvl defs 𝒱 c A I (p >>= k) Q st :=
  does_bind (does_mono h hk)

theorem does_pure {a : α} (h : Q a st) : Does Ix Name U Lvl defs 𝒱 c A I (pure a : KProg Ideal α) Q st := ⟨WP.ret h⟩

theorem does_load {cs : CoreSpace} {s : Shape} {e : EltTy} {m : Memref sig .tc cs s e} {get : Bufs Ideal → s.Idx → Elt Ideal e}
    (ha : Rd (Ix := Ix) (Name := Name) (U := U) (Lvl := Lvl) (c : Thread nD τ) (own c A I) m get) {r : Rect s} {hl : m.view.LoadsAt r.toLoadRect}
    {Q : (r.shape.Idx → Elt Ideal e) → Bufs Ideal → Prop} (h : Q (ldr (get st) r) st) :
    Does Ix Name U Lvl defs 𝒱 c A I (Prog.lift (.load m r.toLoadRect hl)) Q st := ⟨WP.load ha (WP.ret h)⟩

theorem does_store {cs : CoreSpace} {s : Shape} {e : EltTy} {m : Memref sig .tc cs s e} {get : Bufs Ideal → s.Idx → Elt Ideal e}
    {set : Bufs Ideal → (s.Idx → Elt Ideal e) → Bufs Ideal} (ha : Fld (Ix := Ix) (Name := Name) (U := U) (Lvl := Lvl) (c : Thread nD τ) (own c A I) m get set)
    {r : Rect s} {w : r.shape.Idx → Elt Ideal e} {hx : (m.access r).Stores Finset.univ} {hm : Finset.univ = Finset.univ ∨ ∀ a, r.stride a = 1}
    {Q : PUnit → Bufs Ideal → Prop} (h : Q ⟨⟩ (set st (ovl (get st) r w))) :
    Does Ix Name U Lvl defs 𝒱 c A I (Prog.lift (.store m r w Finset.univ hx hm)) Q st := ⟨WP.store ha (WP.ret h)⟩

theorem does_for {w : ℕ} {l : Scf.Loop w} {hok : l.OK} {σ : Type} {init : σ} {body : Fin l.trips → σ → KProg Ideal σ} (J : ℕ → Bufs Ideal → Prop)
    (hbody : ∀ k acc st, J k.val st → Does Ix Name U Lvl defs 𝒱 c A I (body k acc) (fun _ => J (k.val + 1)) st)
    (h0 : J 0 st) : Does Ix Name U Lvl defs 𝒱 c A I (Scf.Loop.for l hok init body) (fun _ => J l.trips) st :=
  ⟨WP.for _ _ _ _ _ _ (fun k _ st => J k st) (fun k acc st h => (hbody k acc st h).wp) h0 fun _ _ h => h⟩

theorem P3.congr {d : Fin 3 → ℕ} {f f' : ℕ → ℕ → ℕ → EReal} {C C' : ℕ → ℕ → ℕ → Prop} {X : (⟨3, d⟩ : Shape).Idx → EReal}
    (hX : P3 f C X) (h : ∀ h k x, C' h k x → C h k x ∧ f h k x = f' h k x) : P3 f' C' X :=
  fun a k x hc => (hX a k x (h a k x hc).1).trans (h a k x hc).2

theorem P5.congr {d : Fin 5 → ℕ} {f f' : ℕ → ℕ → ℕ → ℕ → ℕ → EReal} {C C' : ℕ → ℕ → ℕ → ℕ → ℕ → Prop} {X : (⟨5, d⟩ : Shape).Idx → EReal}
    (hX : P5 f C X) (h : ∀ b g h k x, C' b g h k x → C b g h k x ∧ f b g h k x = f' b g h k x) : P5 f' C' X :=
  fun b g a k x hc => (hX b g a k x (h b g a k x hc).1).trans (h b g a k x hc).2

/-- The inputs give the scores `sc`; a chunk's interleaved rows hold its keys, eight blocks side by side. -/
structure Ready (I : Ins Ideal) (sc : ℕ → ℕ → ℕ → EReal) (cf : ℕ → EReal) : Prop where
  sc_eq : ∀ h r j, h < 5 → r < 12288 → j < 12288 →
    sc h r j = (∑ d ∈ range 128, rd (d := ![1, 1, 12288, 128]) I.kn ![0, 0, j, d] * rd (d := ![1, 1, 5, 12288, 128]) I.q ![0, 0, h, r, d]) * cf h
  ki_eq : ∀ c i s d, c < 24 → i < 64 → s < 8 → d < 128 →
    rd (d := ![1, 1, 12288, 128]) I.ki ![0, 0, c * 512 + (8 * i + s), d] = rd (d := ![1, 1, 12288, 128]) I.kn ![0, 0, c * 512 + (s * 64 + i), d]

variable {sc : ℕ → ℕ → ℕ → EReal} {cf : ℕ → EReal}

/-- A row's block maxima, where row tile `t` keeps them. -/
def BT (sc : ℕ → ℕ → ℕ → EReal) (t h k x : ℕ) : EReal := BM sc h (t * 512 + x) k

/-- The scores of the chunk `ch b` that slot `b` holds. -/
def YT (sc : ℕ → ℕ → ℕ → EReal) (t : ℕ) (ch : ℕ → ℕ) (b g n k x : ℕ) : EReal := sc g (t * 512 + (n * 256 + x)) (ch b * 512 + (k % 8 * 64 + k / 8))

/-- The running maxima and sums, each row at its own level. -/
def MT (sc : ℕ → ℕ → ℕ → EReal) (t : ℕ) (L : ℕ → ℕ → ℕ) (h _s x : ℕ) : EReal := Mx sc t h (t * 512 + x) (L h x)
def ST (sc : ℕ → ℕ → ℕ → EReal) (t : ℕ) (L : ℕ → ℕ → ℕ) (h s x : ℕ) : EReal := Lx sc t h (t * 512 + x) s (L h x)

/-- All of the running maxima's places. -/
def All (h s x : ℕ) : Prop := h < 5 ∧ s < 8 ∧ x < 512

theorem rd_scores (k : Vec Ideal S1x1x512x128 .fp8e4m3) (q : Vec Ideal S1x1x1x256x128 .fp8e4m3) (z : EReal) {h1 h2} {i x : ℕ} (hi : i < 512) (hx : x < 256) :
    rd (d := ![512, 256]) (scoreBlock (F := Ideal) (shapeCast S512x128 k h1) (shapeCast S256x128 q h2) z) ![i, x]
      = (∑ d ∈ range 128, rd (d := ![1, 1, 512, 128]) k ![0, 0, i, d] * rd (d := ![1, 1, 1, 256, 128]) q ![0, 0, 0, x, d]) * z := by
  refine (rd_scoreBlock _ _ z hi hx).trans (congrArg (· * z) (sum_congr rfl fun d hd => ?_))
  have hd := mem_range.mp hd
  refine congrArg₂ (· * ·) ?_ ?_
  · exact rd_shapeCast k (lt2 hi hd) (lt4 Nat.one_pos Nat.one_pos hi hd) (by simp [flat])
  · exact rd_shapeCast q (lt2 hx hd) (lt5 Nat.one_pos Nat.one_pos Nat.one_pos hx hd) (by simp [flat])

/-- What `scores` leaves as it was. -/
structure KeptS (st st' : Bufs Ideal) : Prop where
  gate : st'.gate = st.gate
  lse : st'.lse = st.lse
  yd : st'.yd = st.yd
  dmax : st'.dmax = st.dmax
  mx : st'.mx = st.mx
  sm : st'.sm = st.sm

/-- A chunk of keys as it is loaded. -/
def Chunk (I : Ins Ideal) (c' : ℕ) (k : Vec Ideal S1x1x512x128 .fp8e4m3) : Prop :=
  ∀ i s d, i < 64 → s < 8 → d < 128 → rd (d := ![1, 1, 512, 128]) k ![0, 0, 8 * i + s, d] = rd (d := ![1, 1, 12288, 128]) I.kn ![0, 0, c' * 512 + (s * 64 + i), d]

theorem does_loadK (hI : Ready I sc cf) {c' : ℕ} (hc : c' < 24) {o : Fin 4 → ℕ} {io} (ho : o = ![0, 0, c' * 512, 0]) :
    Does Ix Name U Lvl defs 𝒱 c A I (loadK A.ki o io) (fun k st' => Chunk I c' k ∧ st' = st) st := by
  subst ho
  refine does_load rd_ki ⟨fun i s d hi hs hd => ?_, rfl⟩
  refine (rd_ldr I.ki (i := ![0, 0, c' * 512 + (8 * i + s), d]) (lt4 Nat.one_pos Nat.one_pos (by omega) hd) (fun a => ?_)).trans (hI.ki_eq c' i s d hc hi hs hd)
  fin_cases a
  · rfl
  · rfl
  · rfl
  · exact (Nat.zero_add d).symm

/-- A block of scores: its rows, its place, its block maxima's place. -/
theorem does_scores (hI : Ready I sc cf) {t : ℕ} {ch : ℕ → ℕ} {slot h n c' : ℕ} {k : Vec Ideal S1x1x512x128 .fp8e4m3} (hk : Chunk I c' k)
    (ht : t < 24) (hct : c' < t) (hh : h < 5) (hn : n < 2) (hch : ch slot = c')
    {oq : Fin 5 → ℕ} {iq} (hq : oq = ![0, 0, h, t * 512 + n * 256, 0]) {oy : Fin 5 → ℕ} {iy} (hy : oy = ![slot, h, n, 0, 0])
    {ob : Fin 3 → ℕ} {ib} (hb : ob = ![h, c' * 8, n * 256])
    {CY CY' : ℕ → ℕ → ℕ → ℕ → ℕ → Prop} {CB CB' : ℕ → ℕ → ℕ → Prop} (hY : P5 (YT sc t ch) CY st.y) (hB : P3 (BT sc t) CB st.bmax)
    (hCY : ∀ b g n' k x, CY' b g n' k x → CY b g n' k x ∨ (b = slot ∧ g = h ∧ n' = n)) (hR : ∀ b g n' k x, CY' b g n' k x → k < 512 ∧ x < 256)
    (hCB : ∀ h' k x, CB' h' k x → CB h' k x ∨ (h' = h ∧ c' * 8 ≤ k ∧ k < c' * 8 + 8 ∧ n * 256 ≤ x ∧ x < n * 256 + 256)) :
    Does Ix Name U Lvl defs 𝒱 c A I (scores A.q A.y A.bmax k (cf h) oq iq oy iy ob ib)
      (fun _ st' => P5 (YT sc t ch) CY' st'.y ∧ P3 (BT sc t) CB' st'.bmax ∧ KeptS st st') st := by
  subst hq hy hb
  have key : ∀ {h1 h2} i s x, i < 64 → s < 8 → x < 256 →
      rd (d := ![512, 256]) (scoreBlock (F := Ideal) (shapeCast S512x128 k h1)
        (shapeCast S256x128 (ldr I.q (Rect.unit (s := S1x1x5x12288x128) ![0, 0, h, t * 512 + n * 256, 0] S1x1x1x256x128.size iq)) h2) (cf h)) ![8 * i + s, x]
      = sc h (t * 512 + (n * 256 + x)) (c' * 512 + (s * 64 + i)) := by
    intro h1 h2 i s x hi hs hx
    refine (rd_scores k _ (cf h) (by omega) hx).trans ?_
    rw [hI.sc_eq h _ _ hh (by omega) (by omega)]
    refine congrArg (· * cf h) (sum_congr rfl fun d hd => congrArg₂ (· * ·) (hk i s d hi hs (mem_range.mp hd)) ?_)
    refine rd_ldr I.q (lt5 Nat.one_pos Nat.one_pos Nat.one_pos hx (mem_range.mp hd)) (fun a => ?_)
    fin_cases a
    · rfl
    · rfl
    · rfl
    · show t * 512 + (n * 256 + x) = t * 512 + n * 256 + x; omega
    · exact (Nat.zero_add d).symm
  unfold scores
  refine does_bind (does_load rd_q ?_)
  refine does_bind (does_load fld_y.rd ?_)
  refine does_bind (does_store fld_y ?_)
  refine does_bind (does_load fld_bmax.rd ?_)
  refine does_store fld_bmax ⟨?_, ?_, ⟨rfl, rfl, rfl, rfl, rfl, rfl⟩⟩
  · dsimp only
    refine P5.store (R := 512) (W := 256) hY (fun i x hi hx => ?_) hCY hR
    refine (rd_shapeCast _ (lt5 Nat.one_pos Nat.one_pos Nat.one_pos hi hx) (j := ![i, x]) (lt2 hi hx) (by simp [flat])).trans ?_
    refine (congrArg (fun j => rd (d := ![512, 256]) _ ![j, x]) (show i = 8 * (i / 8) + i % 8 by omega)).trans ((key (i / 8) (i % 8) x (by omega) (by omega) hx).trans ?_)
    rw [← hch]; rfl
  · dsimp only
    refine P3.store (R := 8) (W := 256) hB (fun s x hs hx => ?_) hCB
    refine (rd_shapeCast _ (lt3 Nat.one_pos hs hx) (j := ![s, x]) (lt2 hs hx) (by simp [flat])).trans ?_
    refine (rd_blockMax _ hs hx).trans ?_
    unfold BT
    rw [BM_of_le (by omega)]
    refine sup_congr rfl fun i hi => (key i s x (mem_range.mp hi) hs hx).trans ?_
    congr 1; omega

/-- What `exps` leaves as it was. -/
structure KeptE (st st' : Bufs Ideal) : Prop where
  gate : st'.gate = st.gate
  lse : st'.lse = st.lse
  y : st'.y = st.y
  yd : st'.yd = st.yd
  bmax : st'.bmax = st.bmax
  dmax : st'.dmax = st.dmax

/-- A block's exponentials. -/
theorem does_exps {t : ℕ} {ch : ℕ → ℕ} {slot h n c' : ℕ} (hh : h < 5) (hn : n < 2) (hch : ch slot = c')
    {om : Fin 3 → ℕ} {im} (hm : om = ![h, 0, n * 256]) {ob : Fin 3 → ℕ} {ib} (hb : ob = ![h, c' * 8, n * 256]) {oy : Fin 5 → ℕ} {iy} (hy : oy = ![slot, h, n, 0, 0])
    {CY : ℕ → ℕ → ℕ → ℕ → ℕ → Prop} {CB : ℕ → ℕ → ℕ → Prop} {L L' : ℕ → ℕ → ℕ} (hY : P5 (YT sc t ch) CY st.y) (hB : P3 (BT sc t) CB st.bmax)
    (hM : P3 (MT sc t L) All st.mx) (hS : P3 (ST sc t L) All st.sm)
    (hCY : ∀ k x, k < 512 → x < 256 → CY slot h n k x) (hCB : ∀ k x, k < 8 → x < 256 → CB h (c' * 8 + k) (n * 256 + x))
    (hL : ∀ x, x < 256 → L h (n * 256 + x) = c' ∧ L' h (n * 256 + x) = c' + 1)
    (hL' : ∀ h' x, x < 512 → ¬ (h' = h ∧ n * 256 ≤ x ∧ x < n * 256 + 256) → L h' x = L' h' x) :
    Does Ix Name U Lvl defs 𝒱 c A I (exps A.y A.bmax A.mx A.sm om im ob ib oy iy)
      (fun _ st' => P3 (MT sc t L') All st'.mx ∧ P3 (ST sc t L') All st'.sm ∧ KeptE st st') st := by
  subst hm hb hy
  have hcol : n * 256 + 256 ≤ 512 := by omega
  have eb : ∀ k x, k < 8 → x < 256 → rd (d := ![1, 8, 256]) (ldr st.bmax (Rect.unit (s := S5x192x512) ![h, c' * 8, n * 256] S1x8x256.size ib)) ![0, k, x] = BT sc t h (c' * 8 + k) (n * 256 + x) :=
    fun k x hk hx => hB.load hk hx (hCB k x hk hx)
  have em : ∀ s x, s < 8 → x < 256 → rd (d := ![1, 8, 256]) (ldr st.mx (Rect.unit (s := S5x8x512) ![h, 0, n * 256] S1x8x256.size im)) ![0, s, x] = Mx sc t h (t * 512 + (n * 256 + x)) c' :=
    fun s x hs hx => (hM.load hs hx ⟨hh, by omega, by omega⟩).trans (by rw [MT, (hL x hx).1])
  have es : ∀ s x, s < 8 → x < 256 → rd (d := ![1, 8, 256]) (ldr st.sm (Rect.unit (s := S5x8x512) ![h, 0, n * 256] S1x8x256.size im)) ![0, s, x] = Lx sc t h (t * 512 + (n * 256 + x)) s c' :=
    fun s x hs hx => (hS.load hs hx ⟨hh, by omega, by omega⟩).trans (by rw [ST, (hL x hx).1, Nat.zero_add])
  have ey : ∀ i s x, i < 64 → s < 8 → x < 256 → rd (d := ![1, 1, 1, 512, 256]) (ldr st.y (Rect.unit (s := S2x5x2x512x256) ![slot, h, n, 0, 0] S1x1x1x512x256.size iy)) ![0, 0, 0, 8 * i + s, x]
      = sc h (t * 512 + (n * 256 + x)) (c' * 512 + (s * 64 + i)) := by
    intro i s x hi hs hx
    refine (hY.load (by omega) hx (hCY _ _ (by omega) (by omega))).trans ?_
    unfold YT
    rw [hch, show (0 + (8 * i + s)) % 8 = s by omega, show (0 + (8 * i + s)) / 8 = i by omega, Nat.zero_add]
  have nm : ∀ s x, s < 8 → x < 256 → rd (d := ![8, 256]) (newMax256 (F := Ideal) (ldr st.mx (Rect.unit (s := S5x8x512) ![h, 0, n * 256] S1x8x256.size im))
      (ldr st.bmax (Rect.unit (s := S5x192x512) ![h, c' * 8, n * 256] S1x8x256.size ib))) ![s, x] = Mx sc t h (t * 512 + (n * 256 + x)) (c' + 1) := by
    intro s x hs hx
    refine (rd_newMax _ _ hs hx).trans (congrArg₂ max (em s x hs hx) (sup_congr rfl fun k hk => eb k x (mem_range.mp hk) hx))
  unfold exps
  refine does_bind (does_load fld_bmax.rd ?_)
  refine does_bind (does_load fld_mx.rd ?_)
  refine does_bind (does_load fld_y.rd ?_)
  refine does_bind (does_load fld_sm.rd ?_)
  refine does_bind (does_load fld_sm.rd ?_)
  refine does_bind (does_store fld_sm ?_)
  refine does_bind (does_load fld_mx.rd ?_)
  refine does_store fld_mx ⟨?_, ?_, ⟨rfl, rfl, rfl, rfl, rfl, rfl⟩⟩
  · dsimp only
    refine P3.store (R := 8) (W := 256) (C := fun h' s x => All h' s x ∧ ¬ (h' = h ∧ n * 256 ≤ x ∧ x < n * 256 + 256)) (hM.congr fun h' s x hc => ⟨hc.1, ?_⟩) (fun s x hs hx => ?_) fun h' s x hc => ?_
    · rw [MT, MT, hL' h' x hc.1.2.2 hc.2]
    · refine (rd_shapeCast _ (lt3 Nat.one_pos hs hx) (j := ![s, x]) (lt2 hs hx) (by simp [flat])).trans ((nm s x hs hx).trans ?_)
      rw [MT, (hL x hx).2]
    · have := hc.2.1
      by_cases hr : h' = h ∧ n * 256 ≤ x ∧ x < n * 256 + 256
      · exact .inr ⟨hr.1, by omega, by omega, hr.2⟩
      · exact .inl ⟨hc, hr⟩
  · dsimp only
    refine P3.store (R := 8) (W := 256) (C := fun h' s x => All h' s x ∧ ¬ (h' = h ∧ n * 256 ≤ x ∧ x < n * 256 + 256)) (hS.congr fun h' s x hc => ⟨hc.1, ?_⟩) (fun s x hs hx => ?_) fun h' s x hc => ?_
    · rw [ST, ST, hL' h' x hc.1.2.2 hc.2]
    · refine (rd_shapeCast _ (lt3 Nat.one_pos hs hx) (j := ![s, x]) (lt2 hs hx) (by simp [flat])).trans ((rd_newSum _ _ _ _ hs hx).trans ?_)
      rw [ST, (hL x hx).2, Nat.zero_add]
      refine congrArg₂ (· + ·) (congrArg₂ (· * ·) (es s x hs hx) (congrArg Ideal.exp2 (congrArg₂ (· - ·) (em s x hs hx) (nm s x hs hx)))) ?_
      exact sum_congr rfl fun i hi => congrArg Ideal.exp2 (congrArg₂ (· - ·) (ey i s x (mem_range.mp hi) hs hx) (nm s x hs hx))
    · have := hc.2.1
      by_cases hr : h' = h ∧ n * 256 ≤ x ∧ x < n * 256 + 256
      · exact .inr ⟨hr.1, by omega, by omega, hr.2⟩
      · exact .inl ⟨hc, hr⟩

end Cert.Proof.Tile
-- ==== Proof.Tile.Diag.lean ====
/-
  What the diagonal chunk's phases leave behind, and the end of a row tile.
-/
module

public import proofs.«01_k».proof.Proof.Tile.Does

@[expose] public section

noncomputable section

namespace Cert.Proof.Tile

open Idealize.ShloMosaic Idealize.ShloMosaic.TcCoe Cert.KernelIdeal
open Cert.KernelIdeal.Facts Cert.KernelIdeal.Facts₀ Cert.KernelIdeal.Shapes1.Facts₀ Cert.KernelIdeal.K0.Facts₀
open Idealize.SL Idealize.SL.RA Idealize.SL.BI
open Idealize.SL.Sem Finset

variable [Facts]
variable {Ix : Type} [DecidableEq Ix] {Name : Type} [DecidableEq Name] {U : Type} [URA U] {Lvl : Type} [Preorder Lvl]
variable {defs : Defs nD τ sig (Elt Ideal) Λ₀} {𝒱 : Variants} {c : Dev nD} {A : Mems} {I : Ins Ideal}
variable {sc : ℕ → ℕ → ℕ → EReal} {cf : ℕ → EReal} {st st0 : Bufs Ideal}

/-- The diagonal tiles and their block maxima. -/
def DT (sc : ℕ → ℕ → ℕ → EReal) (t g jj r c : ℕ) : EReal := ms sc g (t * 512 + (jj * 128 + c)) (t * 512 + r)
def DM (sc : ℕ → ℕ → ℕ → EReal) (t h kb x : ℕ) : EReal := BM sc h (t * 512 + x) (t * 8 + kb)

/-- The first `p` tiles. -/
def YC (p g jj r c : ℕ) : Prop := r < (jj + 1) * 128 ∧ c < 128 ∧ jj < 4 ∧ g * 4 + jj < p
/-- The first `p` tiles' block maxima, and `m` of the next. -/
def DC (p m h kb x : ℕ) : Prop := kb < 8 ∧ x < 512 ∧ (h * 4 + x / 128 < p ∨ (h * 4 + x / 128 = p ∧ kb < m))

structure KeptD (st st' : Bufs Ideal) : Prop where
  gate : st'.gate = st.gate
  lse : st'.lse = st.lse
  y : st'.y = st.y
  bmax : st'.bmax = st.bmax
  mx : st'.mx = st.mx
  sm : st'.sm = st.sm

/-- `p` diagonal tiles are done, and `m` block maxima of the next. -/
structure DiagS (sc : ℕ → ℕ → ℕ → EReal) (t p p' m : ℕ) (st0 st : Bufs Ideal) : Prop where
  yd : P4 (DT sc t) (YC p') st.yd
  dmax : P3 (DM sc t) (DC p m) st.dmax
  kept : KeptD st0 st

theorem does_putMax {t p p' h jj col m : ℕ} {hh : h < 5} {hm : m < 8} {hc : col + 128 ≤ 512} {v : FVec Ideal S1x128 .f32}
    (hcol : col = jj * 128) (hp : p = h * 4 + jj) (hS : DiagS sc t p p' m st0 st)
    (hv : ∀ x, x < 128 → rd (d := ![1, 128]) v ![0, x] = DM sc t h m (col + x)) :
    Does Ix Name U Lvl defs 𝒱 c A I (putMax A.dmax h m col hh hm hc v) (fun _ st' => DiagS sc t p p' (m + 1) st0 st') st := by
  unfold putMax
  refine does_bind (does_load fld_dmax.rd ?_)
  refine does_store fld_dmax ⟨hS.yd, ?_, ⟨hS.kept.gate, hS.kept.lse, hS.kept.y, hS.kept.bmax, hS.kept.mx, hS.kept.sm⟩⟩
  dsimp only
  refine P3.store (R := 1) (W := 128) hS.dmax (fun k x hk hx => ?_) fun h' kb x hc' => ?_
  · obtain rfl : k = 0 := by omega
    exact (rd_shapeCast _ (lt3 Nat.one_pos Nat.one_pos hx) (j := ![0, x]) (lt2 Nat.one_pos hx) (by simp [flat])).trans (hv x hx)
  · unfold DC at *
    omega

theorem does_diagTile {t p h jj N col : ℕ} {T : Fin 4 → ℕ} {hT : T = (SmY N).size} {hh : h < 5} {hj : jj < 4} {hN : N ≤ 512} {hc : col + 128 ≤ 512}
    {hs : (Sm N 128).ShapeCasts ⟨4, T⟩} {hp0 : 0 < (⟨4, T⟩ : Shape).numel} {y : FVec Ideal (Sm N 128) .f32}
    (hNj : N = (jj + 1) * 128) (hcol : col = jj * 128) (hp : p = h * 4 + jj) (hS : DiagS sc t p p 0 st0 st)
    (hy : ∀ r x, r < N → x < 128 → rd y ![r, x] = DT sc t h jj r x) :
    Does Ix Name U Lvl defs 𝒱 c A I (diagTile A.yd A.dmax h jj N col T hT hh hj hN hc hs hp0 y) (fun _ st' => DiagS sc t (p + 1) (p + 1) 0 st0 st') st := by
  have hv : ∀ m x, m < 8 → x < 128 → rd (d := ![1, 128]) (diagMax (F := Ideal) N y m) ![0, x] = DM sc t h m (col + x) := by
    intro m x hm hx
    by_cases hb : m * 64 + 64 ≤ N
    · refine (rd_diagMax y hb hx).trans ?_
      unfold DM BM
      refine sup_congr rfl fun i hi => ?_
      have hi := mem_range.mp hi
      rw [hy _ _ (by omega) hx, DT, hcol]
      congr 1; omega
    · rw [rd_diagMax_out y hb hx, DM, BM_of_lt (by omega)]
  unfold diagTile
  refine does_bind (does_load fld_yd.rd ?_)
  refine does_seq (does_store fld_yd (Q := fun _ st' => DiagS sc t p (p + 1) 0 st0 st') ⟨?_, hS.dmax, ⟨hS.kept.gate, hS.kept.lse, hS.kept.y, hS.kept.bmax, hS.kept.mx, hS.kept.sm⟩⟩) fun _ st hS => ?_
  · dsimp only
    refine P4.store (R := N) (W := 128) hS.yd hT (fun r x hr hx => ?_) fun g j' r x hc' => ?_
    · rw [Nat.zero_add, Nat.zero_add, ← hy r x hr hx]
      subst hT
      exact rd_shapeCast y (lt4 Nat.one_pos Nat.one_pos hr hx) (j := ![r, x]) (lt2 hr hx) (by simp [flat])
    · unfold YC at *
      obtain ⟨h1, h2, h3, h4⟩ := hc'
      by_cases hg : g * 4 + j' < p
      · exact .inl ⟨h1, h2, h3, hg⟩
      · obtain ⟨rfl, rfl⟩ : g = h ∧ j' = jj := by omega
        exact .inr ⟨rfl, rfl, by omega, by omega, by omega, by omega⟩
  refine does_seq (does_putMax hcol hp hS fun x hx => hv 0 x (by decide) hx) fun _ st hS => ?_
  refine does_seq (does_putMax hcol hp hS fun x hx => hv 1 x (by decide) hx) fun _ st hS => ?_
  refine does_seq (does_putMax hcol hp hS fun x hx => hv 2 x (by decide) hx) fun _ st hS => ?_
  refine does_seq (does_putMax hcol hp hS fun x hx => hv 3 x (by decide) hx) fun _ st hS => ?_
  refine does_seq (does_putMax hcol hp hS fun x hx => hv 4 x (by decide) hx) fun _ st hS => ?_
  refine does_seq (does_putMax hcol hp hS fun x hx => hv 5 x (by decide) hx) fun _ st hS => ?_
  refine does_seq (does_putMax hcol hp hS fun x hx => hv 6 x (by decide) hx) fun _ st hS => ?_
  refine does_mono (does_putMax hcol hp hS fun x hx => hv 7 x (by decide) hx) fun _ st hS => ⟨hS.yd, hS.dmax.mono fun h' kb x hc' => ?_, hS.kept⟩
  unfold DC at *
  omega

/-- A tile of scores with what its rows may not see at minus infinity. -/
theorem tile_ms {t h jj n off col r x N : ℕ} {y : ℕ → ℕ → EReal} (hy : ∀ r x, r < N → x < 256 → y r x = sc h (t * 512 + (n * 256 + x)) (t * 512 + r))
    (hr : r < N) (hx : x < 128) (hcol : col + 128 ≤ 256) (hoff : off = jj * 128) (hn : n * 256 + col = off) :
    (if r ≤ off + x then y r (col + x) else ⊥) = DT sc t h jj r x := by
  unfold DT ms
  by_cases hc : r ≤ off + x
  · rw [if_pos hc, if_pos (by omega), hy r (col + x) hr (by omega)]
    congr 1; omega
  · rw [if_neg hc, if_neg (by omega)]

theorem does_scoresDiag (hI : Ready I sc cf) {t h p : ℕ} {hh : h < 5} (ht : t < 24) (hp : p = h * 4)
    {ok : Fin 4 → ℕ} {ik} (hk : ok = ![0, 0, t * 512, 0]) {oq : Fin 5 → ℕ} {iq} (hq : oq = ![0, 0, h, t * 512, 0])
    {ok' : Fin 4 → ℕ} {ik'} (hk' : ok' = ![0, 0, t * 512, 0]) {oq' : Fin 5 → ℕ} {iq'} (hq' : oq' = ![0, 0, h, t * 512 + 256, 0])
    (hS : DiagS sc t p p 0 st0 st) :
    Does Ix Name U Lvl defs 𝒱 c A I (scoresDiag A.q A.kn A.yd A.dmax h hh (cf h) ok ik oq iq ok' ik' oq' iq') (fun _ st' => DiagS sc t (p + 4) (p + 4) 0 st0 st') st := by
  subst hk hq hk' hq'
  have k1 : ∀ r x, r < 256 → x < 256 → rd (d := ![256, 256]) (scoreHalf (F := Ideal) (shapeCast S256x128 (ldr I.kn (Rect.unit (s := S1x1x12288x128) ![0, 0, t * 512, 0] S1x1x256x128.size ik)) shapeCasts_S1x1x256x128_S256x128)
      (shapeCast S256x128 (ldr I.q (Rect.unit (s := S1x1x5x12288x128) ![0, 0, h, t * 512, 0] S1x1x1x256x128.size iq)) shapeCasts_S1x1x1x256x128_S256x128) (cf h)) ![r, x]
      = sc h (t * 512 + (0 * 256 + x)) (t * 512 + r) := by
    intro r x hr hx
    refine (rd_scoreHalf _ _ (cf h) hr hx).trans ?_
    rw [hI.sc_eq h _ _ hh (by omega) (by omega)]
    refine congrArg (· * cf h) (sum_congr rfl fun d hd => ?_)
    have hd := mem_range.mp hd
    refine congrArg₂ (· * ·) ?_ ?_
    · refine (rd_shapeCast _ (lt2 hr hd) (j := ![0, 0, r, d]) (lt4 Nat.one_pos Nat.one_pos hr hd) (by simp [flat])).trans (rd_ldr I.kn (lt4 Nat.one_pos Nat.one_pos hr hd) (fun a => ?_))
      fin_cases a
      · rfl
      · rfl
      · rfl
      · exact (Nat.zero_add d).symm
    · refine (rd_shapeCast _ (lt2 hx hd) (j := ![0, 0, 0, x, d]) (lt5 Nat.one_pos Nat.one_pos Nat.one_pos hx hd) (by simp [flat])).trans (rd_ldr I.q (lt5 Nat.one_pos Nat.one_pos Nat.one_pos hx hd) (fun a => ?_))
      fin_cases a
      · rfl
      · rfl
      · rfl
      · show t * 512 + (0 * 256 + x) = t * 512 + x; omega
      · exact (Nat.zero_add d).symm
  have k2 : ∀ r x, r < 512 → x < 256 → rd (d := ![512, 256]) (scoreBlock (F := Ideal) (shapeCast S512x128 (ldr I.kn (Rect.unit (s := S1x1x12288x128) ![0, 0, t * 512, 0] S1x1x512x128.size ik')) shapeCasts_S1x1x512x128_S512x128)
      (shapeCast S256x128 (ldr I.q (Rect.unit (s := S1x1x5x12288x128) ![0, 0, h, t * 512 + 256, 0] S1x1x1x256x128.size iq')) shapeCasts_S1x1x1x256x128_S256x128) (cf h)) ![r, x]
      = sc h (t * 512 + (1 * 256 + x)) (t * 512 + r) := by
    intro r x hr hx
    refine (rd_scoreBlock _ _ (cf h) hr hx).trans ?_
    rw [hI.sc_eq h _ _ hh (by omega) (by omega)]
    refine congrArg (· * cf h) (sum_congr rfl fun d hd => ?_)
    have hd := mem_range.mp hd
    refine congrArg₂ (· * ·) ?_ ?_
    · refine (rd_shapeCast _ (lt2 hr hd) (j := ![0, 0, r, d]) (lt4 Nat.one_pos Nat.one_pos hr hd) (by simp [flat])).trans (rd_ldr I.kn (lt4 Nat.one_pos Nat.one_pos hr hd) (fun a => ?_))
      fin_cases a
      · rfl
      · rfl
      · rfl
      · exact (Nat.zero_add d).symm
    · refine (rd_shapeCast _ (lt2 hx hd) (j := ![0, 0, 0, x, d]) (lt5 Nat.one_pos Nat.one_pos Nat.one_pos hx hd) (by simp [flat])).trans (rd_ldr I.q (lt5 Nat.one_pos Nat.one_pos Nat.one_pos hx hd) (fun a => ?_))
      fin_cases a
      · rfl
      · rfl
      · rfl
      · show t * 512 + (1 * 256 + x) = t * 512 + 256 + x; omega
      · exact (Nat.zero_add d).symm
  unfold scoresDiag
  refine does_bind (does_load rd_kn ?_)
  refine does_bind (does_load rd_q ?_)
  refine does_seq (does_diagTile rfl rfl (by omega) hS fun r x hr hx => (rd_tile0 _ hr hx).trans (tile_ms (N := 128) (n := 0) (fun r x hr hx => k1 r x (by omega) hx) hr hx (by decide) rfl rfl)) fun _ st hS => ?_
  refine does_seq (does_diagTile rfl rfl (by omega) hS fun r x hr hx => (rd_tile1 _ hr hx).trans (tile_ms (N := 256) (n := 0) (fun r x hr hx => k1 r x hr hx) hr hx (by decide) rfl rfl)) fun _ st hS => ?_
  refine does_bind (does_load rd_kn ?_)
  refine does_bind (does_load rd_q ?_)
  refine does_seq (does_diagTile rfl rfl (by omega) hS fun r x hr hx => (rd_tile2 _ hr hx).trans (tile_ms (N := 384) (n := 1) (fun r x hr hx => k2 r x (by omega) hx) hr hx (by decide) rfl rfl)) fun _ st hS => ?_
  exact does_diagTile rfl rfl (by omega) hS fun r x hr hx => (rd_tile3 _ hr hx).trans (tile_ms (N := 512) (n := 1) (fun r x hr hx => k2 r x hr hx) hr hx (by decide) rfl rfl)

structure KeptX (st st' : Bufs Ideal) : Prop where
  gate : st'.gate = st.gate
  lse : st'.lse = st.lse
  y : st'.y = st.y
  yd : st'.yd = st.yd
  dmax : st'.dmax = st.dmax

/-- The places of the first `p` diagonal tiles' maxima and sums. -/
def XC (p h s x : ℕ) : Prop := s < 8 ∧ x < 512 ∧ h * 4 + x / 128 < p

/-- `p` diagonal tiles' exponentials are done; `CB` says which block maxima were there before. -/
structure ExpS (sc : ℕ → ℕ → ℕ → EReal) (CB : ℕ → ℕ → ℕ → Prop) (t p : ℕ) (st0 st : Bufs Ideal) : Prop where
  bmax : P3 (BT sc t) (fun h k x => CB h k x ∨ (t * 8 ≤ k ∧ k < t * 8 + 8 ∧ x < 512 ∧ h * 4 + x / 128 < p)) st.bmax
  mx : P3 (MT sc t fun _ _ => 0) (XC p) st.mx
  sm : P3 (ST sc t fun _ _ => 0) (XC p) st.sm
  kept : KeptX st0 st

theorem ereal_bot_sub (M : EReal) : (⊥ : EReal) - M = ⊥ := EReal.bot_add (-M)
theorem exp2_bot : Ideal.exp2 ⊥ = 0 := rfl

theorem does_expsTile {CB : ℕ → ℕ → ℕ → Prop} {t p h jj N k col : ℕ} {T : Fin 4 → ℕ} {hT : T = (SmY N).size} {hh : h < 5} {hj : jj < 4} {hN : N ≤ 512} {hc : col + 128 ≤ 512}
    {hp0 : 0 < (⟨4, T⟩ : Shape).numel} {h1 h2 h3 h4} {ob : Fin 3 → ℕ} {ib}
    (hNj : N = (jj + 1) * 128) (hk : N = 8 * ((4 * k + 3) + 1)) (hcol : col = jj * 128) (hp : p = h * 4 + jj) (hb : ob = ![h, t * 8, col])
    (hy : P4 (DT sc t) (YC 20) st0.yd) (hd : P3 (DM sc t) (DC 20 0) st0.dmax) (hS : ExpS sc CB t p st0 st) :
    Does Ix Name U Lvl defs 𝒱 c A I (expsTile A.yd A.bmax A.dmax A.mx A.sm h jj N k col T hT hh hj hN hc hp0 h1 h2 h3 h4 ob ib) (fun _ st' => ExpS sc CB t (p + 1) st0 st') st := by
  subst hb hT
  have hd' : P3 (DM sc t) (DC 20 0) st.dmax := by rw [hS.kept.dmax]; exact hd
  have hy' : P4 (DT sc t) (YC 20) st.yd := by rw [hS.kept.yd]; exact hy
  have ed : ∀ kb x, kb < 8 → x < 128 → rd (d := ![1, 8, 128]) (ldr st.dmax (Rect.unit (s := S5x8x512) ![h, 0, col] S1x8x128.size (inb_row hh hc))) ![0, kb, x] = DM sc t h kb (col + x) := by
    intro kb x hkb hx
    refine (hd'.load hkb hx ?_).trans (by rw [Nat.zero_add])
    unfold DC; omega
  have em : ∀ x, x < 128 → ((range 8).sup fun kb => rd (d := ![1, 8, 128]) (ldr st.dmax (Rect.unit (s := S5x8x512) ![h, 0, col] S1x8x128.size (inb_row hh hc))) ![0, kb, x]) = Mx sc t h (t * 512 + (col + x)) 0 :=
    fun x hx => sup_congr rfl fun kb hkb => ed kb x (mem_range.mp hkb) hx
  unfold expsTile
  refine does_bind (does_load fld_dmax.rd ?_)
  refine does_bind (does_load fld_bmax.rd ?_)
  refine does_bind (does_store fld_bmax ?_)
  refine does_bind (does_load fld_yd.rd ?_)
  refine does_bind (does_load fld_sm.rd ?_)
  refine does_bind (does_store fld_sm ?_)
  refine does_bind (does_load fld_mx.rd ?_)
  refine does_store fld_mx ⟨?_, ?_, ?_, ⟨hS.kept.gate, hS.kept.lse, hS.kept.y, hS.kept.yd, hS.kept.dmax⟩⟩
  · dsimp only
    refine P3.store (R := 8) (W := 128) hS.bmax (fun kb x hkb hx => ?_) fun h' kb x hc' => ?_
    · refine (rd_shapeCast _ (lt3 Nat.one_pos hkb hx) (j := ![kb, x]) (lt2 hkb hx) (by simp [flat])).trans ?_
      exact (rd_shapeCast _ (lt2 hkb hx) (j := ![0, kb, x]) (lt3 Nat.one_pos hkb hx) (by simp [flat])).trans (ed kb x hkb hx)
    · rcases hc' with hc' | hc'
      · exact .inl (.inl hc')
      · by_cases hg : h' * 4 + x / 128 < p
        · exact .inl (.inr ⟨hc'.1, hc'.2.1, hc'.2.2.1, hg⟩)
        · exact .inr (by omega)
  · dsimp only
    refine P3.store (R := 8) (W := 128) hS.mx (fun s x hs hx => ?_) fun h' s x hc' => ?_
    · refine (rd_shapeCast _ (lt3 Nat.one_pos hs hx) (j := ![s, x]) (lt2 hs hx) (by simp [flat])).trans ?_
      exact (rd_tileMax _ hs hx).trans (em x hx)
    · unfold XC at *; omega
  · dsimp only
    refine P3.store (R := 8) (W := 128) hS.sm (fun s x hs hx => ?_) fun h' s x hc' => ?_
    · refine (rd_shapeCast _ (lt3 Nat.one_pos hs hx) (j := ![s, x]) (lt2 hs hx) (by simp [flat])).trans ?_
      refine (rd_tileSum k _ (by rw [hk]) _ _ hs hx).trans ?_
      rw [em x hx, ST, Nat.zero_add, Lx]
      have hsub : range (4 * (k + 1)) ⊆ range 64 := fun i hi => mem_range.mpr (by have := mem_range.mp hi; omega)
      refine Eq.trans (sum_congr rfl fun i hi => ?_) (sum_subset hsub fun i hi hi' => ?_)
      · have hi := mem_range.mp hi
        refine congrArg Ideal.exp2 (congrArg (· - _) ?_)
        refine (hy'.load (R := N) (W := 128) rfl (k := 8 * i + s) (x := x) (by omega) hx ?_).trans ?_
        · unfold YC; omega
        · unfold DT
          rw [hcol, Nat.zero_add, Nat.zero_add]
      · have hi' : ¬ i < 4 * (k + 1) := fun h => hi' (mem_range.mpr h)
        rw [ms_of_lt (by omega), ereal_bot_sub, exp2_bot]
    · unfold XC at *; omega

theorem does_expsDiag {CB : ℕ → ℕ → ℕ → Prop} {t p h : ℕ} {hh : h < 5} (hp : p = h * 4)
    {o0 : Fin 3 → ℕ} {i0} (h0 : o0 = ![h, t * 8, 0]) {o1 : Fin 3 → ℕ} {i1} (h1 : o1 = ![h, t * 8, 128])
    {o2 : Fin 3 → ℕ} {i2} (h2 : o2 = ![h, t * 8, 256]) {o3 : Fin 3 → ℕ} {i3} (h3 : o3 = ![h, t * 8, 384])
    (hy : P4 (DT sc t) (YC 20) st0.yd) (hd : P3 (DM sc t) (DC 20 0) st0.dmax) (hS : ExpS sc CB t p st0 st) :
    Does Ix Name U Lvl defs 𝒱 c A I (expsDiag A.yd A.bmax A.dmax A.mx A.sm h hh o0 i0 o1 i1 o2 i2 o3 i3) (fun _ st' => ExpS sc CB t (p + 4) st0 st') st := by
  unfold expsDiag
  refine does_seq (does_expsTile rfl rfl rfl (by omega) h0 hy hd hS) fun _ st hS => ?_
  refine does_seq (does_expsTile rfl rfl rfl (by omega) h1 hy hd hS) fun _ st hS => ?_
  refine does_seq (does_expsTile rfl rfl rfl (by omega) h2 hy hd hS) fun _ st hS => ?_
  exact does_expsTile rfl rfl rfl (by omega) h3 hy hd hS

/-! ## The end of a row tile -/

/-- The results. -/
def LF (sc : ℕ → ℕ → ℕ → EReal) (_ _ h x : ℕ) : EReal := lseS sc (x / 512) h x
def GF (sc : ℕ → ℕ → ℕ → EReal) (_ _ q kb : ℕ) : EReal := gateS sc (q / 8) (q % 8) kb

/-- The rows of the first `u` tiles and `p` heads of the next. -/
def LC (u p g a h x : ℕ) : Prop := g = 0 ∧ a = 0 ∧ h < 5 ∧ (x < u * 512 ∨ (x < (u + 1) * 512 ∧ h < p))
def GC (u g a q kb : ℕ) : Prop := g = 0 ∧ a = 0 ∧ q < u * 8 ∧ kb < 192

/-- All of the block maxima's places. -/
def AllB (h k x : ℕ) : Prop := h < 5 ∧ k < 192 ∧ x < 512

structure KeptF (st st' : Bufs Ideal) : Prop where
  y : st'.y = st.y
  yd : st'.yd = st.yd
  bmax : st'.bmax = st.bmax
  dmax : st'.dmax = st.dmax
  mx : st'.mx = st.mx
  sm : st'.sm = st.sm

/-- The end of tile `u`, with `p` heads done. -/
structure FinS (sc : ℕ → ℕ → ℕ → EReal) (u v p : ℕ) (st0 st : Bufs Ideal) : Prop where
  gate : P4 (GF sc) (GC v) st.gate
  lse : P4 (LF sc) (LC u p) st.lse
  kept : KeptF st0 st

/-- A head's block maxima less its log-sum-exp. -/
def Rel (sc : ℕ → ℕ → ℕ → EReal) (u h : ℕ) (r : FVec Ideal S192x512 .f32) : Prop :=
  ∀ k x, k < 192 → x < 512 → rd (d := ![192, 512]) r ![k, x] = BM sc h (u * 512 + x) k - ls sc u h (u * 512 + x)

theorem does_finishHead {u v h : ℕ} {hh : h < 5} {base : BitVec 32} (hu : u < 24) (hbase : base = BitVec.ofNat 32 (u * 512)) {o : Fin 4 → ℕ} {io} (ho : o = ![0, 0, h, u * 512])
    (hB : P3 (BT sc u) AllB st0.bmax) (hM : P3 (MT sc u fun _ _ => u) All st0.mx) (hL : P3 (ST sc u fun _ _ => u) All st0.sm) (hS : FinS sc u v h st0 st) :
    Does Ix Name U Lvl defs 𝒱 c A I (finishHead A.lse A.bmax A.mx A.sm h hh base o io) (fun r st' => Rel sc u h r ∧ FinS sc u v (h + 1) st0 st') st := by
  subst ho hbase
  replace hB : P3 (BT sc u) AllB st.bmax := by rw [hS.kept.bmax]; exact hB
  replace hM : P3 (MT sc u fun _ _ => u) All st.mx := by rw [hS.kept.mx]; exact hM
  replace hL : P3 (ST sc u fun _ _ => u) All st.sm := by rw [hS.kept.sm]; exact hL
  have el : ∀ x, x < 512 → rd (d := ![1, 512]) (lse2 (F := Ideal) (ldr st.mx (Rect.unit (s := S5x8x512) ![h, 0, 0] S1x1x512.size (inb_m hh)))
      (ldr st.sm (Rect.unit (s := S5x8x512) ![h, 0, 0] S1x8x512.size (inb_l hh)))) ![0, x] = ls sc u h (u * 512 + x) := by
    intro x hx
    refine (rd_lse2 _ _ hx).trans ?_
    unfold ls
    refine congrArg₂ (· + ·) ?_ (congrArg (fun z => Ideal.log z * L2E) (sum_congr rfl fun s hs => ?_))
    · refine (hM.load (R := 1) (W := 512) Nat.one_pos hx ⟨hh, by decide, by omega⟩).trans ?_
      rw [MT, Nat.zero_add]
    · have hs := mem_range.mp hs
      refine (hL.load (R := 8) (W := 512) hs hx ⟨hh, by omega, by omega⟩).trans ?_
      rw [ST, Nat.zero_add, Nat.zero_add]
  unfold finishHead
  refine does_bind (does_load fld_mx.rd ?_)
  refine does_bind (does_load fld_sm.rd ?_)
  refine does_bind (does_load fld_lse.rd ?_)
  refine does_bind (does_store fld_lse ?_)
  refine does_bind (does_load fld_bmax.rd ?_)
  refine does_pure ⟨fun k x hk hx => ?_, hS.gate, ?_, ⟨hS.kept.y, hS.kept.yd, hS.kept.bmax, hS.kept.dmax, hS.kept.mx, hS.kept.sm⟩⟩
  · refine (rd_rel _ _ _ hk hx).trans (congrArg₂ (· - ·) ?_ (el x hx))
    refine (hB.load (R := 192) (W := 512) hk hx ⟨hh, by omega, by omega⟩).trans ?_
    rw [BT, Nat.zero_add, Nat.zero_add]
  · dsimp only
    refine P4.store (R := 1) (W := 512) hS.lse rfl (fun k x hk hx => ?_) fun g a h' x hc' => ?_
    · obtain rfl : k = 0 := by omega
      refine (rd_shapeCast _ (lt4 Nat.one_pos Nat.one_pos Nat.one_pos hx) (j := ![0, x]) (lt2 Nat.one_pos hx) (by simp [flat])).trans ?_
      refine (rd_lseOut _ _ (by omega) hx).trans ?_
      rw [el x hx, LF, lseS, Nat.add_zero h, show (u * 512 + x) / 512 = u by omega]
    · unfold LC at *; omega

theorem does_finish {u : ℕ} {base : BitVec 32} (hu : u < 24) (hbase : base = BitVec.ofNat 32 (u * 512))
    {o0 : Fin 4 → ℕ} {i0} (h0 : o0 = ![0, 0, 0, u * 512]) {o1 : Fin 4 → ℕ} {i1} (h1 : o1 = ![0, 0, 1, u * 512]) {o2 : Fin 4 → ℕ} {i2} (h2 : o2 = ![0, 0, 2, u * 512])
    {o3 : Fin 4 → ℕ} {i3} (h3 : o3 = ![0, 0, 3, u * 512]) {o4 : Fin 4 → ℕ} {i4} (h4 : o4 = ![0, 0, 4, u * 512]) {og : Fin 4 → ℕ} {ig} (hg : og = ![0, 0, u * 8, 0])
    (hB : P3 (BT sc u) AllB st0.bmax) (hM : P3 (MT sc u fun _ _ => u) All st0.mx) (hL : P3 (ST sc u fun _ _ => u) All st0.sm) (hS : FinS sc u u 0 st0 st) :
    Does Ix Name U Lvl defs 𝒱 c A I (finish A.gate A.lse A.bmax A.mx A.sm base o0 i0 o1 i1 o2 i2 o3 i3 o4 i4 og ig) (fun _ st' => FinS sc (u + 1) (u + 1) 0 st0 st') st := by
  subst hg
  unfold finish
  refine does_seq (does_finishHead hu hbase h0 hB hM hL hS) fun x0 st ⟨r0, hS⟩ => ?_
  refine does_seq (does_finishHead hu hbase h1 hB hM hL hS) fun x1 st ⟨r1, hS⟩ => ?_
  refine does_seq (does_finishHead hu hbase h2 hB hM hL hS) fun x2 st ⟨r2, hS⟩ => ?_
  refine does_seq (does_finishHead hu hbase h3 hB hM hL hS) fun x3 st ⟨r3, hS⟩ => ?_
  refine does_seq (does_finishHead hu hbase h4 hB hM hL hS) fun x4 st ⟨r4, hS⟩ => ?_
  have num : ∀ q k, q < 8 → k < 192 → rd (d := ![8, 192]) (gateNum (F := Ideal) (maximumf (maximumf (maximumf (maximumf x0 x1) x2) x3) x4)) ![q, k] = gn sc u q k := by
    intro q k hq hk
    refine (rd_gateNum _ hq hk).trans (congrArg Ideal.exp2 (sup_congr rfl fun i hi => ?_))
    have hi := mem_range.mp hi
    have hx : 64 * q + i < 512 := by omega
    refine (rd_max _ _ _).trans (congrArg₂ max ?_ (r4 _ _ hk hx))
    refine (rd_max _ _ _).trans (congrArg₂ max ?_ (r3 _ _ hk hx))
    refine (rd_max _ _ _).trans (congrArg₂ max ?_ (r2 _ _ hk hx))
    exact (rd_max _ _ _).trans (congrArg₂ max (r0 _ _ hk hx) (r1 _ _ hk hx))
  refine does_bind (does_load fld_gate.rd ?_)
  refine does_store fld_gate ⟨?_, hS.lse.mono fun g a h x hc => ?_, ⟨hS.kept.y, hS.kept.yd, hS.kept.bmax, hS.kept.dmax, hS.kept.mx, hS.kept.sm⟩⟩
  · dsimp only
    refine P4.store (R := 8) (W := 192) hS.gate rfl (fun q k hq hk => ?_) fun g a q kb hc' => ?_
    · refine (rd_shapeCast _ (lt4 Nat.one_pos Nat.one_pos hq hk) (j := ![q, k]) (lt2 hq hk) (by simp [flat])).trans ?_
      refine (rd_gateOut _ hq hk).trans ?_
      rw [GF, gateS, show (u * 8 + q) / 8 = u by omega, show (u * 8 + q) % 8 = q by omega, Nat.zero_add]
      exact congrArg₂ Ideal.div (num q k hq hk) (sum_congr rfl fun k hk => num q k hq (mem_range.mp hk))
    · unfold GC at *; omega
  · unfold LC at *; omega

end Cert.Proof.Tile
-- ==== Proof.Tile.Run.lean ====
/-
  The whole body: what it leaves in its two results.
-/
module

public import proofs.«01_k».proof.Proof.Tile.Diag
public import proofs.«01_k».proof.Proof.Gen.KernelIdeal

@[expose] public section

noncomputable section

namespace Cert.Proof.Tile

open Idealize.ShloMosaic Idealize.ShloMosaic.TcCoe Cert.KernelIdeal
open Idealize.SL Idealize.SL.RA Idealize.SL.BI
open Idealize.SL.Sem Finset

variable {Ix : Type} [DecidableEq Ix] {Name : Type} [DecidableEq Name] {U : Type} [URA U] {Lvl : Type} [Preorder Lvl]
variable {defs : Defs nD τ sig (Elt Ideal) Λ₀} {𝒱 : Variants} {c : Dev nD} {A : Mems} {I : Ins Ideal}
variable {sc : ℕ → ℕ → ℕ → EReal} {cf : ℕ → EReal} {st st0 : Bufs Ideal}

theorem v3 {a b c a' b' c' : ℕ} (h0 : a = a') (h1 : b = b') (h2 : c = c') : (![a, b, c] : Fin 3 → ℕ) = ![a', b', c'] := by rw [h0, h1, h2]
theorem v4 {a b c d a' b' c' d' : ℕ} (h0 : a = a') (h1 : b = b') (h2 : c = c') (h3 : d = d') : (![a, b, c, d] : Fin 4 → ℕ) = ![a', b', c', d'] := by rw [h0, h1, h2, h3]
theorem v5 {a b c d e a' b' c' d' e' : ℕ} (h0 : a = a') (h1 : b = b') (h2 : c = c') (h3 : d = d') (h4 : e = e') :
    (![a, b, c, d, e] : Fin 5 → ℕ) = ![a', b', c', d', e'] := by rw [h0, h1, h2, h3, h4]

theorem trips1 : k0_t1_loop.trips = 23 := by decide +kernel
theorem trips2 : ∀ u : Fin k0_t1_loop.trips, (k0_t2_loop u).trips = u.val := by decide +kernel
theorem base1 : ∀ u : Fin k0_t1_loop.trips, Scalar.muli (Scalar.subi (Scf.iv 1#32 1#32 u) 1#32) 512#32 = BitVec.ofNat 32 (u.val * 512) := by decide +kernel

/-! ## The scores and exponentials of one chunk -/

/-- `p` blocks of a chunk's scores are in slot `slot`; slot `s0` holds an earlier chunk's. -/
def SY (s0 slot p b g n k x : ℕ) : Prop := b < 2 ∧ g < 5 ∧ n < 2 ∧ k < 512 ∧ x < 256 ∧ (b = s0 ∨ (b = slot ∧ g * 2 + n < p))

structure ChS (sc : ℕ → ℕ → ℕ → EReal) (CB : ℕ → ℕ → ℕ → Prop) (t : ℕ) (ch : ℕ → ℕ) (s0 slot c' p : ℕ) (st0 st : Bufs Ideal) : Prop where
  y : P5 (YT sc t ch) (SY s0 slot p) st.y
  bmax : P3 (BT sc t) (fun h k x => CB h k x ∨ (c' * 8 ≤ k ∧ k < c' * 8 + 8 ∧ x < 512 ∧ h * 2 + x / 256 < p)) st.bmax
  kept : KeptS st0 st

theorem does_block (hI : Ready I sc cf) {CB : ℕ → ℕ → ℕ → Prop} {t : ℕ} {ch : ℕ → ℕ} {s0 slot c' p : ℕ} (h n : ℕ) {k : Vec Ideal S1x1x512x128 .fp8e4m3} (hk : Chunk I c' k)
    (ht : t < 24) (hct : c' < t) (hch : ch slot = c') (hh : h < 5) (hn : n < 2) (hp : p = h * 2 + n)
    {oq : Fin 5 → ℕ} {iq} (hq : oq = ![0, 0, h, t * 512 + n * 256, 0]) {oy : Fin 5 → ℕ} {iy} (hy : oy = ![slot, h, n, 0, 0])
    {ob : Fin 3 → ℕ} {ib} (hb : ob = ![h, c' * 8, n * 256]) (hS : ChS sc CB t ch s0 slot c' p st0 st) :
    Does Ix Name U Lvl defs 𝒱 c A I (scores A.q A.y A.bmax k (cf h) oq iq oy iy ob ib) (fun _ st' => ChS sc CB t ch s0 slot c' (p + 1) st0 st') st := by
  refine does_mono (does_scores hI hk ht hct hh hn hch hq hy hb hS.y hS.bmax (CY' := SY s0 slot (p + 1))
    (CB' := fun h k x => CB h k x ∨ (c' * 8 ≤ k ∧ k < c' * 8 + 8 ∧ x < 512 ∧ h * 2 + x / 256 < p + 1)) ?_ ?_ ?_) fun _ st' ⟨h1, h2, h3⟩ =>
      ⟨h1, h2, ⟨h3.gate.trans hS.kept.gate, h3.lse.trans hS.kept.lse, h3.yd.trans hS.kept.yd, h3.dmax.trans hS.kept.dmax, h3.mx.trans hS.kept.mx, h3.sm.trans hS.kept.sm⟩⟩
  · intro b g n' k x hc
    unfold SY at *
    omega
  · intro b g n' k x hc
    unfold SY at *
    omega
  · intro h' k x hc
    rcases hc with hc | hc
    · exact .inl (.inl hc)
    · by_cases hg : h' * 2 + x / 256 < p
      · exact .inl (.inr ⟨hc.1, hc.2.1, hc.2.2.1, hg⟩)
      · exact .inr (by omega)

/-- The level of a row when `p` blocks have their chunk `c'`. -/
def lev (c' p h x : ℕ) : ℕ := if h * 2 + x / 256 < p then c' + 1 else c'

structure ExS (sc : ℕ → ℕ → ℕ → EReal) (t c' p : ℕ) (st0 st : Bufs Ideal) : Prop where
  mx : P3 (MT sc t (lev c' p)) All st.mx
  sm : P3 (ST sc t (lev c' p)) All st.sm
  kept : KeptE st0 st

theorem does_exp {t : ℕ} {ch : ℕ → ℕ} {slot c' p : ℕ} (h n : ℕ) (hh : h < 5) (hn : n < 2) (hch : ch slot = c') (hp : p = h * 2 + n)
    {om : Fin 3 → ℕ} {im} (hm : om = ![h, 0, n * 256]) {ob : Fin 3 → ℕ} {ib} (hb : ob = ![h, c' * 8, n * 256]) {oy : Fin 5 → ℕ} {iy} (hy : oy = ![slot, h, n, 0, 0])
    {CY : ℕ → ℕ → ℕ → ℕ → ℕ → Prop} {CB : ℕ → ℕ → ℕ → Prop} (hY : P5 (YT sc t ch) CY st0.y) (hB : P3 (BT sc t) CB st0.bmax)
    (hCY : ∀ g n k x, g < 5 → n < 2 → k < 512 → x < 256 → CY slot g n k x) (hCB : ∀ h k x, h < 5 → k < 8 → x < 512 → CB h (c' * 8 + k) x)
    (hS : ExS sc t c' p st0 st) :
    Does Ix Name U Lvl defs 𝒱 c A I (exps A.y A.bmax A.mx A.sm om im ob ib oy iy) (fun _ st' => ExS sc t c' (p + 1) st0 st') st := by
  replace hY : P5 (YT sc t ch) CY st.y := by rw [hS.kept.y]; exact hY
  replace hB : P3 (BT sc t) CB st.bmax := by rw [hS.kept.bmax]; exact hB
  refine does_mono (does_exps hh hn hch hm hb hy hY hB hS.mx hS.sm (L' := lev c' (p + 1)) (fun k x hk hx => hCY h n k x hh hn hk hx) (fun k x hk hx => hCB h k _ hh hk (by omega)) ?_ ?_) fun _ st' ⟨h1, h2, h3⟩ =>
    ⟨h1, h2, ⟨h3.gate.trans hS.kept.gate, h3.lse.trans hS.kept.lse, h3.y.trans hS.kept.y, h3.yd.trans hS.kept.yd, h3.bmax.trans hS.kept.bmax, h3.dmax.trans hS.kept.dmax⟩⟩
  · intro x hx
    unfold lev
    exact ⟨if_neg (by omega), if_pos (by omega)⟩
  · intro h' x hx hne
    unfold lev
    by_cases hg : h' * 2 + x / 256 < p
    · rw [if_pos hg, if_pos (by omega)]
    · rw [if_neg hg, if_neg (by omega)]

/-! ## The chunk loop of row tile `t` -/

structure KeptJ (st st' : Bufs Ideal) : Prop where
  gate : st'.gate = st.gate
  lse : st'.lse = st.lse

/-- Chunk `c'` lies in its slot, its exponentials to come. -/
structure ChunkS (sc : ℕ → ℕ → ℕ → EReal) (t c' : ℕ) (st0 st : Bufs Ideal) : Prop where
  y : P5 (YT sc t fun _ => c') (SY (c' % 2) 5 0) st.y
  bmax : P3 (BT sc t) (fun h k x => AllB h k x ∧ (k < (c' + 1) * 8 ∨ t * 8 ≤ k)) st.bmax
  mx : P3 (MT sc t fun _ _ => c') All st.mx
  sm : P3 (ST sc t fun _ _ => c') All st.sm
  kept : KeptJ st0 st

/-- The chunks that the two slots hold. -/
def chs (c' b : ℕ) : ℕ := if b = c' % 2 then c' else c' + 1

theorem does_chunk (hI : Ready I sc cf) (u : Fin k0_t1_loop.trips) (v : Fin (k0_t2_loop u).trips) (hS : ChunkS sc (u.val + 1) v.val st0 st) :
    Does Ix Name U Lvl defs 𝒱 c A I (chunk A.q A.ki A.y A.bmax A.mx A.sm (cf 0) (cf 1) (cf 2) (cf 3) (cf 4) u v) (fun _ st' => ChunkS sc (u.val + 1) (v.val + 1) st0 st') st := by
  have hu : u.val < 23 := trips1 ▸ u.isLt
  have hv : v.val < u.val := lt_of_lt_of_eq v.isLt (trips2 u)
  unfold chunk
  refine does_seq (does_loadK hI (c' := v.val + 1) (by omega) ((Gen.k0_off34_eq u v).trans (v4 rfl rfl (by omega) rfl))) fun k st' ⟨hk, e⟩ => ?_
  subst e
  have h0 : ChS sc (fun h k x => AllB h k x ∧ (k < (v.val + 1) * 8 ∨ (u.val + 1) * 8 ≤ k)) (u.val + 1) (chs v.val) (v.val % 2) (1 - v.val % 2) (v.val + 1) 0 st' st' := by
    refine ⟨hS.y.congr fun b g n k x hc => ⟨?_, ?_⟩, hS.bmax.mono fun h k x hc => ?_, ⟨rfl, rfl, rfl, rfl, rfl, rfl⟩⟩
    · unfold SY at *; omega
    · have : b = v.val % 2 := by unfold SY at hc; omega
      simp only [YT, chs, if_pos this]
    · rcases hc with hc | hc
      · exact hc
      · omega
  have hch : (chs v.val) (1 - v.val % 2) = v.val + 1 := by
    have : ¬ 1 - v.val % 2 = v.val % 2 := by omega
    unfold chs
    rw [if_neg this]
  refine does_seq (does_block (t := u.val + 1) (c' := v.val + 1) hI 0 0 hk (by omega) (by omega) hch (by decide) (by decide) rfl ((Gen.k0_off35_eq u 0).trans (v5 rfl rfl rfl (by simp; omega) rfl))
    ((Gen.k0_off36_eq u v).trans (v5 rfl rfl rfl rfl rfl)) ((Gen.k0_off37_eq u v).trans (v3 rfl (by omega) rfl)) h0) fun _ st h0 => ?_
  refine does_seq (does_block (t := u.val + 1) (c' := v.val + 1) hI 0 1 hk (by omega) (by omega) hch (by decide) (by decide) rfl ((Gen.k0_off35_eq u 1).trans (v5 rfl rfl rfl (by simp; omega) rfl))
    ((Gen.k0_off38_eq u v).trans (v5 rfl rfl rfl rfl rfl)) ((Gen.k0_off39_eq u v).trans (v3 rfl (by omega) rfl)) h0) fun _ st h0 => ?_
  refine does_seq (does_block (t := u.val + 1) (c' := v.val + 1) hI 1 0 hk (by omega) (by omega) hch (by decide) (by decide) rfl ((Gen.k0_off40_eq u 0).trans (v5 rfl rfl rfl (by simp; omega) rfl))
    ((Gen.k0_off41_eq u v).trans (v5 rfl rfl rfl rfl rfl)) ((Gen.k0_off42_eq u v).trans (v3 rfl (by omega) rfl)) h0) fun _ st h0 => ?_
  refine does_seq (does_block (t := u.val + 1) (c' := v.val + 1) hI 1 1 hk (by omega) (by omega) hch (by decide) (by decide) rfl ((Gen.k0_off40_eq u 1).trans (v5 rfl rfl rfl (by simp; omega) rfl))
    ((Gen.k0_off43_eq u v).trans (v5 rfl rfl rfl rfl rfl)) ((Gen.k0_off44_eq u v).trans (v3 rfl (by omega) rfl)) h0) fun _ st h0 => ?_
  refine does_seq (does_block (t := u.val + 1) (c' := v.val + 1) hI 2 0 hk (by omega) (by omega) hch (by decide) (by decide) rfl ((Gen.k0_off45_eq u 0).trans (v5 rfl rfl rfl (by simp; omega) rfl))
    ((Gen.k0_off46_eq u v).trans (v5 rfl rfl rfl rfl rfl)) ((Gen.k0_off47_eq u v).trans (v3 rfl (by omega) rfl)) h0) fun _ st h0 => ?_
  refine does_seq (does_block (t := u.val + 1) (c' := v.val + 1) hI 2 1 hk (by omega) (by omega) hch (by decide) (by decide) rfl ((Gen.k0_off45_eq u 1).trans (v5 rfl rfl rfl (by simp; omega) rfl))
    ((Gen.k0_off48_eq u v).trans (v5 rfl rfl rfl rfl rfl)) ((Gen.k0_off49_eq u v).trans (v3 rfl (by omega) rfl)) h0) fun _ st h0 => ?_
  refine does_seq (does_block (t := u.val + 1) (c' := v.val + 1) hI 3 0 hk (by omega) (by omega) hch (by decide) (by decide) rfl ((Gen.k0_off50_eq u 0).trans (v5 rfl rfl rfl (by simp; omega) rfl))
    ((Gen.k0_off51_eq u v).trans (v5 rfl rfl rfl rfl rfl)) ((Gen.k0_off52_eq u v).trans (v3 rfl (by omega) rfl)) h0) fun _ st h0 => ?_
  refine does_seq (does_block (t := u.val + 1) (c' := v.val + 1) hI 3 1 hk (by omega) (by omega) hch (by decide) (by decide) rfl ((Gen.k0_off50_eq u 1).trans (v5 rfl rfl rfl (by simp; omega) rfl))
    ((Gen.k0_off53_eq u v).trans (v5 rfl rfl rfl rfl rfl)) ((Gen.k0_off54_eq u v).trans (v3 rfl (by omega) rfl)) h0) fun _ st h0 => ?_
  refine does_seq (does_block (t := u.val + 1) (c' := v.val + 1) hI 4 0 hk (by omega) (by omega) hch (by decide) (by decide) rfl ((Gen.k0_off55_eq u 0).trans (v5 rfl rfl rfl (by simp; omega) rfl))
    ((Gen.k0_off56_eq u v).trans (v5 rfl rfl rfl rfl rfl)) ((Gen.k0_off57_eq u v).trans (v3 rfl (by omega) rfl)) h0) fun _ st h0 => ?_
  refine does_seq (does_block (t := u.val + 1) (c' := v.val + 1) hI 4 1 hk (by omega) (by omega) hch (by decide) (by decide) rfl ((Gen.k0_off55_eq u 1).trans (v5 rfl rfl rfl (by simp; omega) rfl))
    ((Gen.k0_off58_eq u v).trans (v5 rfl rfl rfl rfl rfl)) ((Gen.k0_off59_eq u v).trans (v3 rfl (by omega) rfl)) h0) fun _ st1 h1 => ?_
  have hx : ExS sc (u.val + 1) v.val 0 st1 st1 := by
    refine ⟨?_, ?_, ⟨rfl, rfl, rfl, rfl, rfl, rfl⟩⟩
    · rw [h1.kept.mx]; exact hS.mx.congr fun h s x hc => ⟨hc, by simp [MT, lev]⟩
    · rw [h1.kept.sm]; exact hS.sm.congr fun h s x hc => ⟨hc, by simp [ST, lev]⟩
  have hch' : (chs v.val) (v.val % 2) = v.val := if_pos rfl
  have hCY : ∀ g n k x, g < 5 → n < 2 → k < 512 → x < 256 → SY (v.val % 2) (1 - v.val % 2) 10 (v.val % 2) g n k x := by
    intro g n k x hg hn hk hx
    unfold SY
    omega
  have hCB : ∀ h k x, h < 5 → k < 8 → x < 512 → ((AllB h (v.val * 8 + k) x ∧ (v.val * 8 + k < (v.val + 1) * 8 ∨ (u.val + 1) * 8 ≤ v.val * 8 + k)) ∨
      ((v.val + 1) * 8 ≤ v.val * 8 + k ∧ v.val * 8 + k < (v.val + 1) * 8 + 8 ∧ x < 512 ∧ h * 2 + x / 256 < 10)) := by
    intro h k x hh hk hx
    unfold AllB
    omega
  refine does_seq (does_exp 0 0 (by decide) (by decide) hch' rfl rfl ((Gen.k0_off60_eq u v).trans (v3 rfl (by omega) rfl)) ((Gen.k0_off61_eq u v).trans (v5 rfl rfl rfl rfl rfl)) h1.y h1.bmax hCY hCB hx) fun _ st hx => ?_
  refine does_seq (does_exp 0 1 (by decide) (by decide) hch' rfl rfl ((Gen.k0_off62_eq u v).trans (v3 rfl (by omega) rfl)) ((Gen.k0_off63_eq u v).trans (v5 rfl rfl rfl rfl rfl)) h1.y h1.bmax hCY hCB hx) fun _ st hx => ?_
  refine does_seq (does_exp 1 0 (by decide) (by decide) hch' rfl rfl ((Gen.k0_off64_eq u v).trans (v3 rfl (by omega) rfl)) ((Gen.k0_off65_eq u v).trans (v5 rfl rfl rfl rfl rfl)) h1.y h1.bmax hCY hCB hx) fun _ st hx => ?_
  refine does_seq (does_exp 1 1 (by decide) (by decide) hch' rfl rfl ((Gen.k0_off66_eq u v).trans (v3 rfl (by omega) rfl)) ((Gen.k0_off67_eq u v).trans (v5 rfl rfl rfl rfl rfl)) h1.y h1.bmax hCY hCB hx) fun _ st hx => ?_
  refine does_seq (does_exp 2 0 (by decide) (by decide) hch' rfl rfl ((Gen.k0_off68_eq u v).trans (v3 rfl (by omega) rfl)) ((Gen.k0_off69_eq u v).trans (v5 rfl rfl rfl rfl rfl)) h1.y h1.bmax hCY hCB hx) fun _ st hx => ?_
  refine does_seq (does_exp 2 1 (by decide) (by decide) hch' rfl rfl ((Gen.k0_off70_eq u v).trans (v3 rfl (by omega) rfl)) ((Gen.k0_off71_eq u v).trans (v5 rfl rfl rfl rfl rfl)) h1.y h1.bmax hCY hCB hx) fun _ st hx => ?_
  refine does_seq (does_exp 3 0 (by decide) (by decide) hch' rfl rfl ((Gen.k0_off72_eq u v).trans (v3 rfl (by omega) rfl)) ((Gen.k0_off73_eq u v).trans (v5 rfl rfl rfl rfl rfl)) h1.y h1.bmax hCY hCB hx) fun _ st hx => ?_
  refine does_seq (does_exp 3 1 (by decide) (by decide) hch' rfl rfl ((Gen.k0_off74_eq u v).trans (v3 rfl (by omega) rfl)) ((Gen.k0_off75_eq u v).trans (v5 rfl rfl rfl rfl rfl)) h1.y h1.bmax hCY hCB hx) fun _ st hx => ?_
  refine does_seq (does_exp 4 0 (by decide) (by decide) hch' rfl rfl ((Gen.k0_off76_eq u v).trans (v3 rfl (by omega) rfl)) ((Gen.k0_off77_eq u v).trans (v5 rfl rfl rfl rfl rfl)) h1.y h1.bmax hCY hCB hx) fun _ st hx => ?_
  refine does_mono (does_exp 4 1 (by decide) (by decide) hch' rfl rfl ((Gen.k0_off78_eq u v).trans (v3 rfl (by omega) rfl)) ((Gen.k0_off79_eq u v).trans (v5 rfl rfl rfl rfl rfl)) h1.y h1.bmax hCY hCB hx) fun _ st hx => ?_
  refine ⟨?_, ?_, ?_, ?_, ⟨?_, ?_⟩⟩
  · rw [hx.kept.y]
    refine h1.y.congr fun b g n k x hc => ⟨?_, ?_⟩
    · unfold SY at *; omega
    · have : b ≠ v.val % 2 := by unfold SY at hc; omega
      simp only [YT, chs, if_neg this]
  · rw [hx.kept.bmax]
    refine h1.bmax.mono fun h k x hc => ?_
    unfold AllB at *; omega
  · refine hx.mx.congr fun h s x hc => ⟨hc, ?_⟩
    unfold MT lev
    rw [if_pos (by unfold All at hc; omega)]
  · refine hx.sm.congr fun h s x hc => ⟨hc, ?_⟩
    unfold ST lev
    rw [if_pos (by unfold All at hc; omega)]
  · rw [hx.kept.gate, h1.kept.gate, hS.kept.gate]
  · rw [hx.kept.lse, h1.kept.lse, hS.kept.lse]

end Cert.Proof.Tile
-- ==== Proof.Tile.Whole.lean ====
/-
  The row tile loop, and the body from its start to its end.
-/
module

public import proofs.«01_k».proof.Proof.Tile.Run

@[expose] public section

noncomputable section

namespace Cert.Proof.Tile

open Idealize.ShloMosaic Idealize.ShloMosaic.TcCoe Cert.KernelIdeal
open Idealize.SL Idealize.SL.RA Idealize.SL.BI
open Idealize.SL.Sem Finset

variable {Ix : Type} [DecidableEq Ix] {Name : Type} [DecidableEq Name] {U : Type} [URA U] {Lvl : Type} [Preorder Lvl]
variable {defs : Defs nD τ sig (Elt Ideal) Λ₀} {𝒱 : Variants} {c : Dev nD} {A : Mems} {I : Ins Ideal}
variable {sc : ℕ → ℕ → ℕ → EReal} {cf : ℕ → EReal} {st st0 : Bufs Ideal}

/-- The first chunk's scores. -/
theorem does_firstScores (hI : Ready I sc cf) (u : Fin k0_t1_loop.trips) {CB : ℕ → ℕ → ℕ → Prop} (hB : P3 (BT sc (u.val + 1)) CB st.bmax) :
    Does Ix Name U Lvl defs 𝒱 c A I (firstScores A.q A.ki A.y A.bmax (cf 0) (cf 1) (cf 2) (cf 3) (cf 4) u)
      (fun _ st' => ChS sc CB (u.val + 1) (fun _ => 0) 5 0 0 10 st st') st := by
  have hu : u.val < 23 := trips1 ▸ u.isLt
  unfold firstScores
  refine does_seq (does_loadK hI (c' := 0) (by omega) rfl) fun k st' ⟨hk, e⟩ => ?_
  subst e
  have h0 : ChS sc CB (u.val + 1) (fun _ => 0) 5 0 0 0 st' st' :=
    ⟨fun b g n k x hc => by unfold SY at hc; omega, hB.mono fun h k x hc => hc.resolve_right (by omega), ⟨rfl, rfl, rfl, rfl, rfl, rfl⟩⟩
  refine does_seq (does_block (t := u.val + 1) (c' := 0) hI 0 0 hk (by omega) (by omega) rfl (by decide) (by decide) rfl ((Gen.k0_off9_eq u 0).trans (v5 rfl rfl rfl (by simp; omega) rfl)) rfl rfl h0) fun _ st h0 => ?_
  refine does_seq (does_block (t := u.val + 1) (c' := 0) hI 0 1 hk (by omega) (by omega) rfl (by decide) (by decide) rfl ((Gen.k0_off9_eq u 1).trans (v5 rfl rfl rfl (by simp; omega) rfl)) rfl rfl h0) fun _ st h0 => ?_
  refine does_seq (does_block (t := u.val + 1) (c' := 0) hI 1 0 hk (by omega) (by omega) rfl (by decide) (by decide) rfl ((Gen.k0_off10_eq u 0).trans (v5 rfl rfl rfl (by simp; omega) rfl)) rfl rfl h0) fun _ st h0 => ?_
  refine does_seq (does_block (t := u.val + 1) (c' := 0) hI 1 1 hk (by omega) (by omega) rfl (by decide) (by decide) rfl ((Gen.k0_off10_eq u 1).trans (v5 rfl rfl rfl (by simp; omega) rfl)) rfl rfl h0) fun _ st h0 => ?_
  refine does_seq (does_block (t := u.val + 1) (c' := 0) hI 2 0 hk (by omega) (by omega) rfl (by decide) (by decide) rfl ((Gen.k0_off11_eq u 0).trans (v5 rfl rfl rfl (by simp; omega) rfl)) rfl rfl h0) fun _ st h0 => ?_
  refine does_seq (does_block (t := u.val + 1) (c' := 0) hI 2 1 hk (by omega) (by omega) rfl (by decide) (by decide) rfl ((Gen.k0_off11_eq u 1).trans (v5 rfl rfl rfl (by simp; omega) rfl)) rfl rfl h0) fun _ st h0 => ?_
  refine does_seq (does_block (t := u.val + 1) (c' := 0) hI 3 0 hk (by omega) (by omega) rfl (by decide) (by decide) rfl ((Gen.k0_off12_eq u 0).trans (v5 rfl rfl rfl (by simp; omega) rfl)) rfl rfl h0) fun _ st h0 => ?_
  refine does_seq (does_block (t := u.val + 1) (c' := 0) hI 3 1 hk (by omega) (by omega) rfl (by decide) (by decide) rfl ((Gen.k0_off12_eq u 1).trans (v5 rfl rfl rfl (by simp; omega) rfl)) rfl rfl h0) fun _ st h0 => ?_
  refine does_seq (does_block (t := u.val + 1) (c' := 0) hI 4 0 hk (by omega) (by omega) rfl (by decide) (by decide) rfl ((Gen.k0_off13_eq u 0).trans (v5 rfl rfl rfl (by simp; omega) rfl)) rfl rfl h0) fun _ st h0 => ?_
  exact does_block (t := u.val + 1) (c' := 0) hI 4 1 hk (by omega) (by omega) rfl (by decide) (by decide) rfl ((Gen.k0_off13_eq u 1).trans (v5 rfl rfl rfl (by simp; omega) rfl)) rfl rfl h0

/-- The diagonal exponentials of a row tile. -/
theorem does_thisDiag (u : Fin k0_t1_loop.trips) {CB : ℕ → ℕ → ℕ → Prop} (hB : P3 (BT sc (u.val + 1)) CB st.bmax)
    (hy : P4 (DT sc (u.val + 1)) (YC 20) st.yd) (hd : P3 (DM sc (u.val + 1)) (DC 20 0) st.dmax) :
    Does Ix Name U Lvl defs 𝒱 c A I (thisDiag A.yd A.bmax A.dmax A.mx A.sm u) (fun _ st' => ExpS sc CB (u.val + 1) 20 st st') st := by
  have h0 : ExpS sc CB (u.val + 1) 0 st st := by
    refine ⟨hB.mono fun h k x hc => hc.resolve_right (by omega), fun h s x hc => ?_, fun h s x hc => ?_, ⟨rfl, rfl, rfl, rfl, rfl⟩⟩ <;>
      unfold XC at hc <;> omega
  unfold thisDiag
  refine does_seq (does_expsDiag rfl ((Gen.k0_off14_eq u).trans (v3 rfl (by omega) rfl)) ((Gen.k0_off15_eq u).trans (v3 rfl (by omega) rfl)) ((Gen.k0_off16_eq u).trans (v3 rfl (by omega) rfl)) ((Gen.k0_off17_eq u).trans (v3 rfl (by omega) rfl)) hy hd h0) fun _ st h0 => ?_
  refine does_seq (does_expsDiag rfl ((Gen.k0_off18_eq u).trans (v3 rfl (by omega) rfl)) ((Gen.k0_off19_eq u).trans (v3 rfl (by omega) rfl)) ((Gen.k0_off20_eq u).trans (v3 rfl (by omega) rfl)) ((Gen.k0_off21_eq u).trans (v3 rfl (by omega) rfl)) hy hd h0) fun _ st h0 => ?_
  refine does_seq (does_expsDiag rfl ((Gen.k0_off22_eq u).trans (v3 rfl (by omega) rfl)) ((Gen.k0_off23_eq u).trans (v3 rfl (by omega) rfl)) ((Gen.k0_off24_eq u).trans (v3 rfl (by omega) rfl)) ((Gen.k0_off25_eq u).trans (v3 rfl (by omega) rfl)) hy hd h0) fun _ st h0 => ?_
  refine does_seq (does_expsDiag rfl ((Gen.k0_off26_eq u).trans (v3 rfl (by omega) rfl)) ((Gen.k0_off27_eq u).trans (v3 rfl (by omega) rfl)) ((Gen.k0_off28_eq u).trans (v3 rfl (by omega) rfl)) ((Gen.k0_off29_eq u).trans (v3 rfl (by omega) rfl)) hy hd h0) fun _ st h0 => ?_
  exact does_expsDiag rfl ((Gen.k0_off30_eq u).trans (v3 rfl (by omega) rfl)) ((Gen.k0_off31_eq u).trans (v3 rfl (by omega) rfl)) ((Gen.k0_off32_eq u).trans (v3 rfl (by omega) rfl)) ((Gen.k0_off33_eq u).trans (v3 rfl (by omega) rfl)) hy hd h0

theorem diag_start {t : ℕ} : DiagS sc t 0 0 0 st st :=
  ⟨fun g jj r c hc => by unfold YC at hc; omega, fun h kb x hc => by unfold DC at hc; omega, ⟨rfl, rfl, rfl, rfl, rfl, rfl⟩⟩

/-- The diagonal scores of the next row tile. -/
theorem does_nextDiag (hI : Ready I sc cf) (u : Fin k0_t1_loop.trips) :
    Does Ix Name U Lvl defs 𝒱 c A I (nextDiag A.q A.kn A.yd A.dmax (cf 0) (cf 1) (cf 2) (cf 3) (cf 4) u)
      (fun _ st' => DiagS sc (min (u.val + 2) 23) 20 20 0 st st') st := by
  have hk := (Gen.k0_off126_eq u).trans (v4 (d' := 0) rfl rfl (Nat.mul_comm 512 (min (u.val + 2) 23)) rfl)
  have hk' := (Gen.k0_off128_eq u).trans (v4 (d' := 0) rfl rfl (Nat.mul_comm 512 (min (u.val + 2) 23)) rfl)
  unfold nextDiag
  refine does_seq (does_scoresDiag (t := min (u.val + 2) 23) hI (by omega) rfl hk ((Gen.k0_off127_eq u 0).trans (v5 rfl rfl rfl (by simp; omega) rfl)) hk' ((Gen.k0_off127_eq u 1).trans (v5 rfl rfl rfl (by simp; omega) rfl)) diag_start) fun _ st h0 => ?_
  refine does_seq (does_scoresDiag (t := min (u.val + 2) 23) hI (by omega) rfl hk ((Gen.k0_off129_eq u 0).trans (v5 rfl rfl rfl (by simp; omega) rfl)) hk' ((Gen.k0_off129_eq u 1).trans (v5 rfl rfl rfl (by simp; omega) rfl)) h0) fun _ st h0 => ?_
  refine does_seq (does_scoresDiag (t := min (u.val + 2) 23) hI (by omega) rfl hk ((Gen.k0_off130_eq u 0).trans (v5 rfl rfl rfl (by simp; omega) rfl)) hk' ((Gen.k0_off130_eq u 1).trans (v5 rfl rfl rfl (by simp; omega) rfl)) h0) fun _ st h0 => ?_
  refine does_seq (does_scoresDiag (t := min (u.val + 2) 23) hI (by omega) rfl hk ((Gen.k0_off131_eq u 0).trans (v5 rfl rfl rfl (by simp; omega) rfl)) hk' ((Gen.k0_off131_eq u 1).trans (v5 rfl rfl rfl (by simp; omega) rfl)) h0) fun _ st h0 => ?_
  exact does_scoresDiag (t := min (u.val + 2) 23) hI (by omega) rfl hk ((Gen.k0_off132_eq u 0).trans (v5 rfl rfl rfl (by simp; omega) rfl)) hk' ((Gen.k0_off132_eq u 1).trans (v5 rfl rfl rfl (by simp; omega) rfl)) h0

/-- The last whole chunk's exponentials. -/
theorem does_lastExps (u : Fin k0_t1_loop.trips) (hY : P5 (YT sc (u.val + 1) fun _ => u.val) (SY (u.val % 2) 5 0) st.y) (hB : P3 (BT sc (u.val + 1)) AllB st.bmax)
    (hM : P3 (MT sc (u.val + 1) fun _ _ => u.val) All st.mx) (hS : P3 (ST sc (u.val + 1) fun _ _ => u.val) All st.sm) :
    Does Ix Name U Lvl defs 𝒱 c A I (lastExps A.y A.bmax A.mx A.sm u) (fun _ st' => ExS sc (u.val + 1) u.val 10 st st') st := by
  have hu : u.val < 23 := trips1 ▸ u.isLt
  have hx : ExS sc (u.val + 1) u.val 0 st st :=
    ⟨hM.congr fun h s x hc => ⟨hc, by simp [MT, lev]⟩, hS.congr fun h s x hc => ⟨hc, by simp [ST, lev]⟩, ⟨rfl, rfl, rfl, rfl, rfl, rfl⟩⟩
  have hCY : ∀ g n k x, g < 5 → n < 2 → k < 512 → x < 256 → SY (u.val % 2) 5 0 (u.val % 2) g n k x := by
    intro g n k x hg hn hk hx
    unfold SY
    omega
  have hCB : ∀ h k x, h < 5 → k < 8 → x < 512 → AllB h (u.val * 8 + k) x := by
    intro h k x hh hk hx
    unfold AllB
    omega
  unfold lastExps
  refine does_seq (does_exp 0 0 (by decide) (by decide) rfl rfl rfl ((Gen.k0_off133_eq u).trans (v3 rfl (Nat.mul_comm 8 u.val) rfl)) (Gen.k0_off134_eq u) hY hB hCY hCB hx) fun _ st hx => ?_
  refine does_seq (does_exp 0 1 (by decide) (by decide) rfl rfl rfl ((Gen.k0_off135_eq u).trans (v3 rfl (Nat.mul_comm 8 u.val) rfl)) (Gen.k0_off136_eq u) hY hB hCY hCB hx) fun _ st hx => ?_
  refine does_seq (does_exp 1 0 (by decide) (by decide) rfl rfl rfl ((Gen.k0_off137_eq u).trans (v3 rfl (Nat.mul_comm 8 u.val) rfl)) (Gen.k0_off138_eq u) hY hB hCY hCB hx) fun _ st hx => ?_
  refine does_seq (does_exp 1 1 (by decide) (by decide) rfl rfl rfl ((Gen.k0_off139_eq u).trans (v3 rfl (Nat.mul_comm 8 u.val) rfl)) (Gen.k0_off140_eq u) hY hB hCY hCB hx) fun _ st hx => ?_
  refine does_seq (does_exp 2 0 (by decide) (by decide) rfl rfl rfl ((Gen.k0_off141_eq u).trans (v3 rfl (Nat.mul_comm 8 u.val) rfl)) (Gen.k0_off142_eq u) hY hB hCY hCB hx) fun _ st hx => ?_
  refine does_seq (does_exp 2 1 (by decide) (by decide) rfl rfl rfl ((Gen.k0_off143_eq u).trans (v3 rfl (Nat.mul_comm 8 u.val) rfl)) (Gen.k0_off144_eq u) hY hB hCY hCB hx) fun _ st hx => ?_
  refine does_seq (does_exp 3 0 (by decide) (by decide) rfl rfl rfl ((Gen.k0_off145_eq u).trans (v3 rfl (Nat.mul_comm 8 u.val) rfl)) (Gen.k0_off146_eq u) hY hB hCY hCB hx) fun _ st hx => ?_
  refine does_seq (does_exp 3 1 (by decide) (by decide) rfl rfl rfl ((Gen.k0_off147_eq u).trans (v3 rfl (Nat.mul_comm 8 u.val) rfl)) (Gen.k0_off148_eq u) hY hB hCY hCB hx) fun _ st hx => ?_
  refine does_seq (does_exp 4 0 (by decide) (by decide) rfl rfl rfl ((Gen.k0_off149_eq u).trans (v3 rfl (Nat.mul_comm 8 u.val) rfl)) (Gen.k0_off150_eq u) hY hB hCY hCB hx) fun _ st hx => ?_
  exact does_exp 4 1 (by decide) (by decide) rfl rfl rfl ((Gen.k0_off151_eq u).trans (v3 rfl (Nat.mul_comm 8 u.val) rfl)) (Gen.k0_off152_eq u) hY hB hCY hCB hx

/-- Row tile `u` lacks only its end; the next diagonal scores are there. -/
structure TileS (sc : ℕ → ℕ → ℕ → EReal) (u : ℕ) (st : Bufs Ideal) : Prop where
  gate : P4 (GF sc) (GC u) st.gate
  lse : P4 (LF sc) (LC u 0) st.lse
  bmax : P3 (BT sc u) AllB st.bmax
  mx : P3 (MT sc u fun _ _ => u) All st.mx
  sm : P3 (ST sc u fun _ _ => u) All st.sm
  yd : P4 (DT sc (min (u + 1) 23)) (YC 20) st.yd
  dmax : P3 (DM sc (min (u + 1) 23)) (DC 20 0) st.dmax

theorem does_tile (hI : Ready I sc cf) (u : Fin k0_t1_loop.trips) (hS : TileS sc u.val st) :
    Does Ix Name U Lvl defs 𝒱 c A I (tile A.q A.kn A.ki A.gate A.lse A.y A.yd A.bmax A.dmax A.mx A.sm (cf 0) (cf 1) (cf 2) (cf 3) (cf 4) u) (fun _ st' => TileS sc (u.val + 1) st') st := by
  have hu : u.val < 23 := trips1 ▸ u.isLt
  unfold tile prevFinish
  refine does_seq (does_finish (u := u.val) (by omega) (base1 u) ((Gen.k0_off3_eq u).trans (v4 rfl rfl rfl (Nat.mul_comm _ _))) ((Gen.k0_off4_eq u).trans (v4 rfl rfl rfl (Nat.mul_comm _ _)))
    ((Gen.k0_off5_eq u).trans (v4 rfl rfl rfl (Nat.mul_comm _ _))) ((Gen.k0_off6_eq u).trans (v4 rfl rfl rfl (Nat.mul_comm _ _))) ((Gen.k0_off7_eq u).trans (v4 rfl rfl rfl (Nat.mul_comm _ _)))
    ((Gen.k0_off8_eq u).trans (v4 rfl rfl (Nat.mul_comm _ _) rfl)) hS.bmax hS.mx hS.sm ⟨hS.gate, hS.lse, ⟨rfl, rfl, rfl, rfl, rfl, rfl⟩⟩) fun _ st1 h1 => ?_
  have hB : P3 (BT sc (u.val + 1)) (fun h k x => AllB h k x ∧ (u.val + 2) * 8 ≤ k) st1.bmax := by
    rw [h1.kept.bmax]
    refine hS.bmax.congr fun h k x hc => ⟨hc.1, ?_⟩
    obtain ⟨⟨_, _, hx⟩, hk⟩ := hc
    unfold BT
    rw [BM_of_lt (by omega), BM_of_lt (by omega)]
  refine does_seq (does_firstScores hI u hB) fun _ st2 h2 => ?_
  have hmin : min (u.val + 1) 23 = u.val + 1 := by omega
  refine does_seq (does_thisDiag u h2.bmax (by rw [h2.kept.yd, h1.kept.yd]; exact hmin ▸ hS.yd) (by rw [h2.kept.dmax, h1.kept.dmax]; exact hmin ▸ hS.dmax)) fun _ st3 h3 => ?_
  have h4 : ChunkS sc (u.val + 1) 0 st3 st3 := by
    refine ⟨?_, h3.bmax.mono fun h k x hc => ?_, h3.mx.mono fun h s x hc => ?_, h3.sm.mono fun h s x hc => ?_, ⟨rfl, rfl⟩⟩
    · rw [h3.kept.y]
      refine h2.y.mono fun b g n k x hc => ?_
      unfold SY at *; omega
    · unfold AllB at *; omega
    · unfold All at hc; unfold XC; omega
    · unfold All at hc; unfold XC; omega
  refine does_seq (does_for (fun k => ChunkS sc (u.val + 1) k st3) (fun v _ st hS => does_seq (does_chunk hI u v hS) fun _ st h => does_pure h) h4) fun _ st5 h5 => ?_
  refine does_seq (does_for (fun _ => ChunkS sc (u.val + 1) (k0_t2_loop u).trips st3) (fun v _ st hS => absurd v.isLt (by have := (Gen.k0_t3_abs u).2.1; omega)) h5) fun _ st6 h6 => ?_
  rw [trips2 u] at h6
  refine does_seq (does_nextDiag hI u) fun _ st7 h7 => ?_
  have h7y := h7.kept.y
  have hb7 : P3 (BT sc (u.val + 1)) AllB st7.bmax := by
    rw [h7.kept.bmax]
    exact h6.bmax.mono fun h k x hc => ⟨hc, by omega⟩
  refine does_seq (does_lastExps u (by rw [h7y]; exact h6.y) hb7 (by rw [h7.kept.mx]; exact h6.mx) (by rw [h7.kept.sm]; exact h6.sm)) fun _ st8 h8 => ?_
  refine does_pure ⟨?_, ?_, ?_, h8.mx.congr fun h s x hc => ⟨hc, ?_⟩, h8.sm.congr fun h s x hc => ⟨hc, ?_⟩, ?_, ?_⟩
  · rw [h8.kept.gate, h7.kept.gate, h6.kept.gate, h3.kept.gate, h2.kept.gate]; exact h1.gate
  · rw [h8.kept.lse, h7.kept.lse, h6.kept.lse, h3.kept.lse, h2.kept.lse]; exact h1.lse
  · rw [h8.kept.bmax]; exact hb7
  · unfold MT lev
    rw [if_pos (by unfold All at hc; omega)]
  · unfold ST lev
    rw [if_pos (by unfold All at hc; omega)]
  · rw [h8.kept.yd]; exact h7.yd
  · rw [h8.kept.dmax]; exact h7.dmax

theorem off1 : ∀ i : grid0.Coords, ∀ r : Fin 5, k0_off1 i (BitVec.ofNat 32 r.val) = ![(i 0).val / 8, (i 0).val % 8 * 5 + r.val] := by decide +kernel
theorem off2 : ∀ i : grid0.Coords, k0_off2 i = ![(i 0).val / 8, (i 0).val % 8] := by decide +kernel

/-- Head `h`'s factor of point `i`. -/
def coefV (I : Ins Ideal) (i h : ℕ) : EReal :=
  rd (d := ![2, 40]) I.qs ![i / 8, i % 8 * 5 + h] * rd (d := ![2, 8]) I.ks ![i / 8, i % 8] * Scalar.ofBits (F := Ideal) .f32 0x3DB504F3#32 * L2E

theorem does_coef (i : grid0.Coords) (r : Fin 5) (hb : BitVec 32) (e : hb = BitVec.ofNat 32 r.val) (inb : ∀ a, (k0_off1 i hb) a + S1x1.size a ≤ S2x40.size a) :
    Does Ix Name U Lvl defs 𝒱 c A I (coef i A.qs A.ks hb inb) (fun v st' => v = coefV I (i 0).val r.val ∧ st' = st) st := by
  subst e
  unfold coef
  refine does_bind ⟨WP.load (get := fun _ => I.qs) rd_qs (WP.ret ?_)⟩
  refine does_bind ⟨WP.load (get := fun _ => I.ks) rd_ks (WP.ret ?_)⟩
  refine does_pure ⟨?_, rfl⟩
  have hz : ∀ a, (![0, 0] : Fin 2 → ℕ) a < (![1, 1] : Fin 2 → ℕ) a := lt2 Nat.one_pos Nat.one_pos
  have h1 : ∀ (X : S2x40.Idx → EReal) (x : S1x1.Idx), ldr X (Rect.unit (s := S2x40) (k0_off1 i (BitVec.ofNat 32 r.val)) S1x1.size inb) x = rd (d := ![2, 40]) X ![(i 0).val / 8, (i 0).val % 8 * 5 + r.val] := by
    intro X x
    refine (rd_at (d := ![1, 1]) (i := ![0, 0]) _ fun a => ?_).trans (rd_ldr X hz fun a => (congrFun (off1 i r) a).symm.trans ?_)
    · fin_cases a <;> exact Nat.lt_one_iff.mp (x _).isLt
    · fin_cases a <;> exact (Nat.add_zero _).symm
  have h2 : ∀ (X : S2x8.Idx → EReal) (x : S1x1.Idx) inb, ldr X (Rect.unit (s := S2x8) (k0_off2 i) S1x1.size inb) x = rd (d := ![2, 8]) X ![(i 0).val / 8, (i 0).val % 8] := by
    intro X x inb
    refine (rd_at (d := ![1, 1]) (i := ![0, 0]) _ fun a => ?_).trans (rd_ldr X hz fun a => (congrFun (off2 i) a).symm.trans ?_)
    · fin_cases a <;> exact Nat.lt_one_iff.mp (x _).isLt
    · fin_cases a <;> exact (Nat.add_zero _).symm
  exact congrArg₂ (· * ·) (congrArg₂ (· * ·) (congrArg₂ (· * ·) (h1 I.qs _) (h2 I.ks _ _)) rfl) named_l2e

theorem does_fill : Does Ix Name U Lvl defs 𝒱 c A I (fill A.bmax) (fun _ st' => P3 (fun _ _ _ => ⊥) AllB st'.bmax ∧ st'.gate = st.gate ∧ st'.lse = st.lse) st := by
  unfold fill
  refine does_bind (does_load fld_bmax.rd ?_)
  refine does_store fld_bmax ⟨?_, rfl, rfl⟩
  dsimp only
  intro h k x hc
  have hl := lt3 hc.1 hc.2.1 hc.2.2
  refine (rd_ovl st.bmax _ (j := ![h, k, x]) hl fun a => ?_).trans ?_
  · fin_cases a <;> exact (Nat.zero_add _).symm
  · refine (rd_shapeCast (d := ![5, 192, 512]) _ hl hl rfl).trans ?_
    exact (rd_splat hl).trans bot_f32

/-- The body fills the gate and the rows' results. -/
theorem does_body (i : grid0.Coords) (hI : Ready I sc cf) (hcf : ∀ h, h < 5 → cf h = coefV I (i 0).val h) (a1 a2 a3 a4 a5 a6 a7 a8 a9 a10 a11 a12 a13) :
    Does Ix Name U Lvl defs 𝒱 c A I (body Ideal i A.qs a1 A.ks a2 A.q a3 A.kn a4 A.ki a5 A.gate a6 A.lse a7 A.y a8 A.yd a9 A.bmax a10 A.dmax a11 A.mx a12 A.sm a13)
      (fun _ st' => P4 (GF sc) (GC 24) st'.gate ∧ P4 (LF sc) (LC 24 0) st'.lse) st := by
  unfold body lastFinish
  refine does_seq (does_coef i 0 _ rfl _) fun c0 _ ⟨f0, _⟩ => ?_
  refine does_seq (does_coef i 1 _ rfl _) fun c1 _ ⟨f1, _⟩ => ?_
  refine does_seq (does_coef i 2 _ rfl _) fun c2 _ ⟨f2, _⟩ => ?_
  refine does_seq (does_coef i 3 _ rfl _) fun c3 _ ⟨f3, _⟩ => ?_
  refine does_seq (does_coef i 4 _ rfl _) fun c4 st ⟨f4, _⟩ => ?_
  obtain rfl := f0.trans (hcf 0 (by decide)).symm
  obtain rfl := f1.trans (hcf 1 (by decide)).symm
  obtain rfl := f2.trans (hcf 2 (by decide)).symm
  obtain rfl := f3.trans (hcf 3 (by decide)).symm
  obtain rfl := f4.trans (hcf 4 (by decide)).symm
  refine does_seq does_fill fun _ st1 ⟨hB, _, _⟩ => ?_
  refine does_seq (R := fun _ st' => DiagS sc 0 20 20 0 st1 st') ?_ fun _ st2 h2 => ?_
  · unfold diag0
    refine does_seq (does_scoresDiag (t := 0) hI (by decide) rfl rfl rfl rfl rfl diag_start) fun _ st h0 => ?_
    refine does_seq (does_scoresDiag (t := 0) hI (by decide) rfl rfl rfl rfl rfl h0) fun _ st h0 => ?_
    refine does_seq (does_scoresDiag (t := 0) hI (by decide) rfl rfl rfl rfl rfl h0) fun _ st h0 => ?_
    refine does_seq (does_scoresDiag (t := 0) hI (by decide) rfl rfl rfl rfl rfl h0) fun _ st h0 => ?_
    exact does_scoresDiag (t := 0) hI (by decide) rfl rfl rfl rfl rfl h0
  refine does_seq (R := fun _ st' => ExpS sc (fun h k x => AllB h k x ∧ 8 ≤ k) 0 20 st2 st') ?_ fun _ st3 h3 => ?_
  · have h0 : ExpS sc (fun h k x => AllB h k x ∧ 8 ≤ k) 0 0 st2 st2 := by
      refine ⟨?_, fun h s x hc => ?_, fun h s x hc => ?_, ⟨rfl, rfl, rfl, rfl, rfl⟩⟩
      · rw [h2.kept.bmax]
        refine hB.congr fun h k x hc => ?_
        have hc := hc.resolve_right (by omega)
        refine ⟨hc.1, ?_⟩
        obtain ⟨⟨_, _, hx⟩, hk⟩ := hc
        unfold BT
        rw [BM_of_lt (by omega)]
      · unfold XC at hc; omega
      · unfold XC at hc; omega
    unfold expsDiag0
    refine does_seq (does_expsDiag rfl rfl rfl rfl rfl h2.yd h2.dmax h0) fun _ st h0 => ?_
    refine does_seq (does_expsDiag rfl rfl rfl rfl rfl h2.yd h2.dmax h0) fun _ st h0 => ?_
    refine does_seq (does_expsDiag rfl rfl rfl rfl rfl h2.yd h2.dmax h0) fun _ st h0 => ?_
    refine does_seq (does_expsDiag rfl rfl rfl rfl rfl h2.yd h2.dmax h0) fun _ st h0 => ?_
    exact does_expsDiag rfl rfl rfl rfl rfl h2.yd h2.dmax h0
  refine does_seq (R := fun _ st' => DiagS sc 1 20 20 0 st3 st') ?_ fun _ st4 h4 => ?_
  · unfold diag1
    refine does_seq (does_scoresDiag (t := 1) hI (by decide) rfl rfl rfl rfl rfl diag_start) fun _ st h0 => ?_
    refine does_seq (does_scoresDiag (t := 1) hI (by decide) rfl rfl rfl rfl rfl h0) fun _ st h0 => ?_
    refine does_seq (does_scoresDiag (t := 1) hI (by decide) rfl rfl rfl rfl rfl h0) fun _ st h0 => ?_
    refine does_seq (does_scoresDiag (t := 1) hI (by decide) rfl rfl rfl rfl rfl h0) fun _ st h0 => ?_
    exact does_scoresDiag (t := 1) hI (by decide) rfl rfl rfl rfl rfl h0
  have h5 : TileS sc 0 st4 := by
    refine ⟨fun g a q kb hc => ?_, fun g a h x hc => ?_, ?_, ?_, ?_, h4.yd, h4.dmax⟩
    · unfold GC at hc; omega
    · unfold LC at hc; omega
    · rw [h4.kept.bmax]
      refine h3.bmax.mono fun h k x hc => ?_
      unfold AllB at *; omega
    · rw [h4.kept.mx]
      refine h3.mx.mono fun h s x hc => ?_
      unfold All at hc; unfold XC; omega
    · rw [h4.kept.sm]
      refine h3.sm.mono fun h s x hc => ?_
      unfold All at hc; unfold XC; omega
  refine does_seq (does_for (TileS sc) (fun u _ st hS => does_tile hI u hS) h5) fun _ st6 h6 => ?_
  rw [trips1] at h6
  refine does_seq (does_finish (u := 23) (by decide) rfl rfl rfl rfl rfl rfl rfl h6.bmax h6.mx h6.sm ⟨h6.gate, h6.lse, ⟨rfl, rfl, rfl, rfl, rfl, rfl⟩⟩) fun _ st7 h7 => ?_
  exact does_pure ⟨h7.gate, h7.lse⟩

end Cert.Proof.Tile
-- ==== Proof.Tile.RunI.lean ====
/-
  The launch of KernelIdeal with what its two results hold: block `t` of the gate and of the rows' results, from the blocks
  of the inputs at that grid point.
-/
module

public import proofs.«01_k».proof.Proof.Tile.FrameI
public import proofs.«01_k».proof.Proof.Tile.Whole

@[expose] public section

noncomputable section

namespace Cert.KernelIdeal.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem Finset
open Idealize.ShloMosaic.Pipeline (Dat BodyObligation BodyObligationLoose RDat)
open Cert.Proof.Tile (Mems Ins Bufs own Does does_body Ready coefV rd GF LF GC LC P4 lt4)
open Cert.KernelIdeal.Hand (𝒱₀ mems ins defs₀_row held)

local notation "𝕄" => MT nD τ sig Unit (Elt Ideal) ℕ (UR sig nD τ) ℕ

variable (m : (ℓ : Loc nD τ sig) → Buf (Elt Ideal) ℓ) (ρ : Dev nD → PrngReg)

/-- The scores of a grid point, times log₂ e. -/
def scP (I : Ins Ideal) (i h r j : ℕ) : EReal :=
  (∑ d ∈ range 128, rd (d := ![1, 1, 12288, 128]) I.kn ![0, 0, j, d] * rd (d := ![1, 1, 5, 12288, 128]) I.q ![0, 0, h, r, d]) * coefV I i h

/-- The grid point's number. -/
abbrev pt (t : Fin cfg0.N) : ℕ := ((Pipeline.Grid.coords grid0 t) 0).val

/-- The gate's block. -/
def gateB (c : Dev nD) (t : Fin cfg0.N) : Vec Ideal S1x1x192x192 .f32 := fun x => GF (scP (ins m c t) (pt t)) 0 0 (x 2).val (x 3).val
/-- The rows' block. -/
def lseB (c : Dev nD) (t : Fin cfg0.N) : Vec Ideal S1x1x5x12288 .f32 := fun x => LF (scP (ins m c t) (pt t)) 0 0 (x 2).val (x 3).val

/-- The launch's data: the arrays as the host lines leave them, each input's block left in place, the results at their blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => gateB m c t
    | ⟨6, _⟩ => lseB m c t
  Φ _ := Pipeline.ΦA spec0 c
  q _ := fullShare
  owed _ := 0

theorem before0 (c : Dev nD) (t : Fin cfg0.N) (d) : (dats m 0 c).before 0 t d = iblk m c 0 t :=
  before0_0_of m (dats m 0 c) rfl (fun _ => rfl) t d
theorem before1 (c : Dev nD) (t : Fin cfg0.N) (d) : (dats m 0 c).before 1 t d = iblk m c 1 t :=
  before0_1_of m (dats m 0 c) rfl (fun _ => rfl) t d
theorem before2 (c : Dev nD) (t : Fin cfg0.N) (d) : (dats m 0 c).before 2 t d = iblk m c 2 t :=
  before0_2_of m (dats m 0 c) rfl (fun _ => rfl) t d
theorem before3 (c : Dev nD) (t : Fin cfg0.N) (d) : (dats m 0 c).before 3 t d = iblk m c 3 t :=
  before0_3_of m (dats m 0 c) rfl (fun _ => rfl) t d
theorem before4 (c : Dev nD) (t : Fin cfg0.N) (d) : (dats m 0 c).before 4 t d = iblk m c 4 t :=
  before0_4_of m (dats m 0 c) rfl (fun _ => rfl) t d

/-- The body by its phases, on the memrefs `A` with their proofs of being whole. -/
theorem run_of {A : Mems} {I : Ins Ideal} {c : Dev nD} {Q : Bufs Ideal → Prop} {p q : Cert.Proof.Tile.KProg Ideal PUnit} {st : Bufs Ideal} (h : p = q)
    (hq : Does Unit ℕ (UR sig nD τ) ℕ (defs₀ (F := Ideal)) 𝒱₀ c A I q (fun _ => Q) st) :
    (own c A I st : sProp 𝕄) ⊢ wp frame (wpE (defs₀ (F := Ideal)) 𝒱₀ c none) Set.univ p
      (fun _ => iprop(∃ st', ⌜Q st'⌝ ∗ own c A I st')) := by
  subst h
  exact hq.wp

/-- What the body leaves in the results' buffers. -/
def Ends (c : Dev nD) (t : Fin cfg0.N) (st : Bufs Ideal) : Prop :=
  P4 (GF (scP (ins m c t) (pt t))) (GC 24) st.gate ∧ P4 (LF (scP (ins m c t) (pt t))) (LC 24 0) st.lse

/-- Every point's keys, in the interleaved order, are its keys. -/
def Mixed : Prop := ∀ c t k i s d, k < 24 → i < 64 → s < 8 → d < 128 →
  rd (d := ![1, 1, 12288, 128]) (ins m c t).ki ![0, 0, k * 512 + (8 * i + s), d] = rd (d := ![1, 1, 12288, 128]) (ins m c t).kn ![0, 0, k * 512 + (s * 64 + i), d]

variable {m}

theorem ready (hM : Mixed m) (c : Dev nD) (t : Fin cfg0.N) : Ready (ins m c t) (scP (ins m c t) (pt t)) (coefV (ins m c t) (pt t)) :=
  ⟨fun _ _ _ _ _ _ => rfl, hM c t⟩

set_option maxHeartbeats 0 in
set_option maxRecDepth 100000 in
/-- The body's run at a grid point, from any contents of what it writes. -/
theorem sound (hM : Mixed m) (c : Dev nD) (t : Fin cfg0.N) (st : Bufs Ideal) :
    (own c (mems t) (ins m c t) st : sProp 𝕄) ⊢ wp frame (wpE (defs₀ (F := Ideal)) 𝒱₀ c none) Set.univ (bodyAt0 (F := Ideal) t)
      (fun _ => iprop(∃ st', ⌜Ends m c t st'⌝ ∗ own c (mems t) (ins m c t) st')) :=
  run_of (Cert.Proof.Tile.body_ideal _ _ _ _ _ _ _ _ _ _ _ _ _ _ _ _ _ _ _ _ _ _ _ _ _ _ _ inferInstance)
    (does_body _ (ready hM c t) (fun _ _ => rfl) ..)

theorem ends_gate {c : Dev nD} {t : Fin cfg0.N} {st : Bufs Ideal} (h : Ends m c t st) : st.gate = gateB m c t := by
  funext x
  refine (Cert.Proof.Tile.rd_at (d := ![1, 1, 192, 192]) (i := ![0, 0, (x 2).val, (x 3).val]) st.gate fun a => ?_).trans (h.1 0 0 (x 2).val (x 3).val ⟨rfl, rfl, (x 2).isLt, (x 3).isLt⟩)
  fin_cases a
  · exact Nat.lt_one_iff.mp (x 0).isLt
  · exact Nat.lt_one_iff.mp (x 1).isLt
  · rfl
  · rfl

theorem ends_lse {c : Dev nD} {t : Fin cfg0.N} {st : Bufs Ideal} (h : Ends m c t st) : st.lse = lseB m c t := by
  funext x
  refine (Cert.Proof.Tile.rd_at (d := ![1, 1, 5, 12288]) (i := ![0, 0, (x 2).val, (x 3).val]) st.lse fun a => ?_).trans (h.2 0 0 (x 2).val (x 3).val ⟨rfl, rfl, (x 2).isLt, Or.inl (x 3).isLt⟩)
  fin_cases a
  · exact Nat.lt_one_iff.mp (x 0).isLt
  · exact Nat.lt_one_iff.mp (x 1).isLt
  · rfl
  · rfl

set_option maxHeartbeats 0 in
set_option maxRecDepth 100000 in
/-- The run from and to `held`. -/
theorem sound_held (hM : Mixed m) (c : Dev nD) (t : Fin cfg0.N) (gate lse y yd bmax dmax mx sm) :
    held m c t gate lse y yd bmax dmax mx sm ⊢ wp frame (wpE (defs₀ (F := Ideal)) 𝒱₀ c none) Set.univ (bodyAt0 (F := Ideal) t)
      (fun _ => iprop(∃ st' : Bufs Ideal, ⌜Ends m c t st'⌝ ∗ held m c t st'.gate st'.lse st'.y st'.yd st'.bmax st'.dmax st'.mx st'.sm)) :=
  sound hM c t ⟨gate, lse, y, yd, bmax, dmax, mx, sm⟩

/-- The same run, its end given to what follows. -/
theorem sound_wand (hM : Mixed m) (c : Dev nD) (t : Fin cfg0.N) (gate lse y yd bmax dmax mx sm) (K : sProp 𝕄) :
    iprop(held m c t gate lse y yd bmax dmax mx sm ∗ (∀ y yd bmax dmax mx sm, held m c t (gateB m c t) (lseB m c t) y yd bmax dmax mx sm -∗ K))
      ⊢ wp frame (wpE (defs₀ (F := Ideal)) 𝒱₀ c none) Set.univ (bodyAt0 (F := Ideal) t) (fun _ => K) := by
  refine BIBase.Entails.trans (sep_mono (sound_held hM c t gate lse y yd bmax dmax mx sm) .rfl) ?_
  refine BIBase.Entails.trans (wp_frame_r _ _ _) (wp_mono _ _ _ fun _ => ?_)
  iintro ⟨⟨%st', %hE, H⟩, HK⟩
  rw [ends_gate hE, ends_lse hE]
  iapply HK $$ %st'.y %st'.yd %st'.bmax %st'.dmax %st'.mx %st'.sm H

set_option backward.isDefEq.respectTransparency.types false in
/-- The library's body obligation. -/
theorem body_obligation (hM : Mixed m) (c : Dev nD) :
    BodyObligation (dats m 0 c) (defs₀ (F := Ideal)) 𝒱₀ () Set.univ := fun t => by
  rw [bigSep_W0, bigSep_W0, defs₀_row]
  simp only [before0, before1, before2, before3, before4]
  rw [show (dats m 0 c).Φ t.castSucc = Pipeline.ΦA spec0 c from rfl, show (dats m 0 c).Φ t.succ = Pipeline.ΦA spec0 c from rfl]
  unfold Dat.owesAt Pipeline.owesWithin Pipeline.ΦA
  rw [show (dats m 0 c).owed t.castSucc = 0 from rfl, show (dats m 0 c).owed t.succ = 0 from rfl, scopedRest0_eq]
  simp only [← owns_whole]
  iintro ⟨⟨⟨⟨%f0, S0⟩, ⟨%f1, S1⟩, ⟨%f2, S2⟩, ⟨%f3, S3⟩, ⟨%f4, S4⟩, ⟨%f5, S5⟩⟩, Hg⟩, ⟨%W, %hW, HW⟩, ⟨%d0, H0⟩, ⟨%d1, H1⟩, ⟨%d2, H2⟩, ⟨%d3, H3⟩, ⟨%d4, H4⟩, ⟨%d5, H5⟩, ⟨%d6, H6⟩⟩
  iapply (sound_wand hM c t ((dats m 0 c).before 5 t d5) ((dats m 0 c).before 6 t d6) f0 f1 f2 f3 f4 f5 _)
  isplitl [H0 H1 H2 H3 H4 H5 H6 S0 S1 S2 S3 S4 S5]
  · unfold held
    iframe H0 H1 H2 H3 H4 H5 H6 S0 S1 S2 S3 S4 S5
  · iintro %g0 %g1 %g2 %g3 %g4 %g5 H
    unfold held
    icases H with ⟨H0, H1, H2, H3, H4, H5, H6, S0, S1, S2, S3, S4, S5⟩
    isplitl [S0 S1 S2 S3 S4 S5 Hg]
    · isplitl [S0 S1 S2 S3 S4 S5]
      · isplitl [S0]; · iexists _; iexact S0
        isplitl [S1]; · iexists _; iexact S1
        isplitl [S2]; · iexists _; iexact S2
        isplitl [S3]; · iexists _; iexact S3
        isplitl [S4]; · iexists _; iexact S4
        iexists _; iexact S5
      iexact Hg
    isplitl [HW]
    · iexists W; isplitr; · ipureintro; exact hW
      iexact HW
    isplitl [H0]; · iexact H0
    isplitl [H1]; · iexact H1
    isplitl [H2]; · iexact H2
    isplitl [H3]; · iexact H3
    isplitl [H4]; · iexact H4
    isplitl [H5]; · iexact H5
    iexact H6

end Cert.KernelIdeal.Exact
-- ==== Proof.Tile.Perm.lean ====
/-
  Reading a transposed array.
-/
module

public import proofs.«01_k».proof.Proof.Tile.Read

@[expose] public section

noncomputable section

namespace Cert.Proof.Tile

open Idealize.ShloMosaic

variable {n : ℕ} {d : Fin n → ℕ}

theorem rd_transpose {m : ℕ} {e : Fin m → ℕ} (X : (⟨n, d⟩ : Shape).Idx → EReal) {perm : List (Fin n)} {h : (⟨n, d⟩ : Shape).Transposes perm ⟨m, e⟩}
    {i : Fin m → ℕ} {j : Fin n → ℕ} (hi : ∀ a, i a < e a) (p : Fin n → Fin m) (hp : ∀ a, (p a).val = perm.idxOf a) (hj : ∀ a, j a = i (p a)) :
    rd (transpose ⟨m, e⟩ perm X h) i = rd X j := by
  rw [rd_in _ hi]
  refine rd_at X fun a => Eq.trans ?_ (hj a).symm
  exact congrArg i (Fin.ext (hp a).symm)

end Cert.Proof.Tile
-- ==== Proof.Tile.Math.lean ====
/-
  The kernel's running maxima and sums in base two, and the plain softmax in base e: they agree on all extended reals.
-/
module

public import proofs.«01_k».proof.Proof.Tile.Spec
public import proofs.«01_k».proof.Proof.Tile.Ops

@[expose] public section

noncomputable section

namespace Cert.Proof.Tile

open Idealize.ShloMosaic Finset

variable (rs : ℕ → ℕ → ℕ → EReal)

/-- A row's maximum. -/
def rmax (h r : ℕ) : EReal := (range 12288).sup (ms rs h r)
/-- A row's log-sum-exp. -/
def rlse (h r : ℕ) : EReal := rmax rs h r + Ideal.log (∑ j ∈ range 12288, Ideal.exp (ms rs h r j - rmax rs h r))
/-- A row's result. -/
def rlseS (h r : ℕ) : EReal := rlse rs h r - Ideal.log (((r + 1 : ℕ) : ℝ) : EReal)
/-- The largest probability of a block of 64 rows and 64 keys, over five heads. -/
def rgn (q kb : ℕ) : EReal := (range 5).sup fun h => (range 64).sup fun i => (range 64).sup fun k =>
  Ideal.exp (ms rs h (q * 64 + i) (kb * 64 + k) - rlse rs h (q * 64 + i))

variable {rs}

/-! ## Extended reals -/

theorem l2e_pos : 0 < (Real.log 2)⁻¹ := inv_pos.mpr (Real.log_pos (by norm_num))

theorem add_l2e (x y : EReal) : (x + y) * L2E = x * L2E + y * L2E :=
  EReal.right_distrib_of_nonneg_of_ne_top (EReal.coe_nonneg.mpr l2e_pos.le) (EReal.coe_ne_top _) x y

theorem sub_l2e (x y : EReal) : (x - y) * L2E = x * L2E - y * L2E := by
  rw [sub_eq_add_neg, add_l2e, EReal.neg_mul, ← sub_eq_add_neg]

theorem bot_l2e : (⊥ : EReal) * L2E = ⊥ := EReal.bot_mul_coe_of_pos l2e_pos
theorem top_l2e : (⊤ : EReal) * L2E = ⊤ := EReal.top_mul_coe_of_pos l2e_pos

theorem l2e_ln2 (x : EReal) : x * L2E * LN2 = x := by
  have h : L2E * LN2 = 1 := by
    show (((Real.log 2)⁻¹ : ℝ) : EReal) * ((Real.log 2 : ℝ) : EReal) = 1
    rw [← EReal.coe_mul, inv_mul_cancel₀ (Real.log_pos (by norm_num)).ne', EReal.coe_one]
  rw [mul_assoc, h, mul_one]

theorem exp2_l2e (x : EReal) : Ideal.exp2 (x * L2E) = Ideal.exp x := by
  induction x with
  | bot => rw [bot_l2e]; rfl
  | top => rw [top_l2e]; rfl
  | coe x =>
    show Ideal.exp2 ((x : EReal) * (((Real.log 2)⁻¹ : ℝ) : EReal)) = _
    rw [← EReal.coe_mul]
    show ((Real.rpow 2 (x * (Real.log 2)⁻¹) : ℝ) : EReal) = ((Real.exp x : ℝ) : EReal)
    congr 1
    show (2 : ℝ) ^ (x * (Real.log 2)⁻¹) = _
    rw [Real.rpow_def_of_pos (by norm_num)]
    congr 1
    have := (Real.log_pos (show (1 : ℝ) < 2 by norm_num)).ne'
    field_simp

theorem exp_nonneg (x : EReal) : 0 ≤ Ideal.exp x := by
  induction x with
  | bot => exact le_refl _
  | top => exact le_top
  | coe x => exact EReal.coe_nonneg.mpr (Real.exp_pos x).le

theorem exp2_eq (x : EReal) : Ideal.exp2 x = Ideal.exp (x * LN2) := by
  have h : x * LN2 * L2E = x := by rw [mul_assoc, mul_comm LN2, ← mul_assoc, l2e_ln2]
  rw [← exp2_l2e, h]

theorem exp2_nonneg (x : EReal) : 0 ≤ Ideal.exp2 x := by rw [exp2_eq]; exact exp_nonneg _

theorem exp_mono : Monotone Ideal.exp := by
  intro x y h
  induction x with
  | bot => exact exp_nonneg y
  | top => rw [top_le_iff.mp h]
  | coe x =>
    induction y with
    | bot => exact absurd h (not_le.mpr (EReal.bot_lt_coe x))
    | top => exact le_top
    | coe y => exact EReal.coe_le_coe_iff.mpr (Real.exp_le_exp.mpr (EReal.coe_le_coe_iff.mp h))

theorem exp2_coe (x : ℝ) : Ideal.exp2 (x : EReal) = (((2 : ℝ) ^ x : ℝ) : EReal) := rfl

/-- A term carried from one running maximum to a larger one. -/
theorem exp2_carry {y a b : EReal} (hy : y ≤ a) (hab : a ≤ b) : Ideal.exp2 (y - a) * Ideal.exp2 (a - b) = Ideal.exp2 (y - b) := by
  have hb : ∀ x : EReal, (⊥ : EReal) - x = ⊥ := fun x => EReal.bot_add (-x)
  have ht : ∀ x : EReal, x - ⊤ = ⊥ := fun x => by rw [sub_eq_add_neg, EReal.neg_top, EReal.add_bot]
  have h0 : Ideal.exp2 ⊥ = 0 := rfl
  induction a with
  | bot => rw [le_bot_iff.mp hy, hb, hb, h0, zero_mul]
  | top => rw [top_le_iff.mp hab, ht, ht, h0, mul_zero]
  | coe a =>
    induction b with
    | bot => exact absurd hab (not_le.mpr (EReal.bot_lt_coe a))
    | top => rw [ht, ht, h0, mul_zero]
    | coe b =>
      induction y with
      | bot => rw [hb, hb, h0, zero_mul]
      | top => exact absurd hy (not_le.mpr (EReal.coe_lt_top a))
      | coe y =>
        rw [← EReal.coe_sub, ← EReal.coe_sub, ← EReal.coe_sub, exp2_coe, exp2_coe, exp2_coe, ← EReal.coe_mul, ← Real.rpow_add (by norm_num)]
        congr 2
        ring

theorem exp2_ne_top {a b : EReal} (hab : a ≤ b) : Ideal.exp2 (a - b) ≠ ⊤ := by
  have hb : ∀ x : EReal, (⊥ : EReal) - x = ⊥ := fun x => EReal.bot_add (-x)
  have ht : ∀ x : EReal, x - ⊤ = ⊥ := fun x => by rw [sub_eq_add_neg, EReal.neg_top, EReal.add_bot]
  have h0 : Ideal.exp2 ⊥ = 0 := rfl
  induction a with
  | bot => rw [hb, h0]; exact EReal.zero_ne_top
  | top => rw [top_le_iff.mp hab, ht, h0]; exact EReal.zero_ne_top
  | coe a =>
    induction b with
    | bot => exact absurd hab (not_le.mpr (EReal.bot_lt_coe a))
    | top => rw [ht, h0]; exact EReal.zero_ne_top
    | coe b => rw [← EReal.coe_sub, exp2_coe]; exact EReal.coe_ne_top _

theorem sum_mul_nonneg {ι : Type} (s : Finset ι) (f : ι → EReal) {c : EReal} (h0 : 0 ≤ c) (h1 : c ≠ ⊤) : (∑ i ∈ s, f i) * c = ∑ i ∈ s, f i * c := by
  classical
  induction s using Finset.induction_on with
  | empty => simp
  | insert a s ha ih => rw [sum_insert ha, sum_insert ha, EReal.right_distrib_of_nonneg_of_ne_top h0 h1, ih]

/-- A monotone function of a largest value. -/
theorem mono_sup {ι : Type} {g : EReal → EReal} (hg : Monotone g) {s : Finset ι} (hs : s.Nonempty) (f : ι → EReal) : g (s.sup f) = s.sup fun i => g (f i) := by
  obtain ⟨i, hi, e⟩ := exists_mem_eq_sup s hs f
  refine le_antisymm ?_ (Finset.sup_le fun j hj => hg (Finset.le_sup hj))
  rw [e]
  exact Finset.le_sup (f := fun i => g (f i)) hi

theorem mul_l2e_mono : Monotone fun x : EReal => x * L2E := fun _ _ h => mul_le_mul_of_nonneg_right h (EReal.coe_nonneg.mpr l2e_pos.le)

theorem sub_mono (c : EReal) : Monotone fun x : EReal => x - c := fun _ _ h => EReal.sub_le_sub h le_rfl

theorem sum_blocks (f : ℕ → EReal) (a b : ℕ) : ∑ j ∈ range (a * b), f j = ∑ i ∈ range a, ∑ s ∈ range b, f (i * b + s) := by
  induction a with
  | zero => simp
  | succ a ih => rw [Nat.succ_mul, sum_range_add, ih, sum_range_succ]

/-! ## The running maximum and sum -/

variable {sc : ℕ → ℕ → ℕ → EReal} {t h r : ℕ}

theorem le_CM {j : ℕ} : ms sc h r j ≤ CM sc h r (j / 512) := by
  have h1 : ms sc h r j ≤ BM sc h r (j / 512 * 8 + j / 64 % 8) := by
    refine le_trans (le_of_eq ?_) (Finset.le_sup (f := fun i => ms sc h r ((j / 512 * 8 + j / 64 % 8) * 64 + i)) (mem_range.mpr (Nat.mod_lt j (by norm_num : 0 < 64))))
    exact congrArg _ (by omega)
  exact h1.trans (Finset.le_sup (f := fun k => BM sc h r (j / 512 * 8 + k)) (mem_range.mpr (Nat.mod_lt _ (by norm_num))))

theorem CM_le {c : ℕ} {B : EReal} (hB : ∀ j, j / 512 = c → ms sc h r j ≤ B) : CM sc h r c ≤ B :=
  Finset.sup_le fun k hk => Finset.sup_le fun i hi => hB _ (by have := mem_range.mp hk; have := mem_range.mp hi; omega)

theorem le_Mx {n j : ℕ} (hj : j / 512 = t ∨ j < n * 512) : ms sc h r j ≤ Mx sc t h r n := by
  induction n with
  | zero => exact (hj.resolve_right (by omega)) ▸ le_CM
  | succ n ih =>
    by_cases hn : j / 512 = t ∨ j < n * 512
    · exact (ih hn).trans (le_max_left _ _)
    · refine le_trans ?_ (le_max_right _ _)
      have hc : j / 512 = n := by omega
      exact hc ▸ le_CM

theorem Mx_le {n : ℕ} (ht : t < 24) (hn : n ≤ t) {B : EReal} (hB : ∀ j, j < 12288 → ms sc h r j ≤ B) : Mx sc t h r n ≤ B := by
  induction n with
  | zero => exact CM_le fun j hj => hB j (by omega)
  | succ n ih => exact max_le (ih (by omega)) (CM_le fun j hj => hB j (by omega))

theorem Mx_eq (hr : r < 12288) (ht : t = r / 512) : Mx sc t h r t = (range 12288).sup (ms sc h r) := by
  refine le_antisymm (Mx_le (by omega) le_rfl fun j hj => Finset.le_sup (mem_range.mpr hj)) (Finset.sup_le fun j hj => ?_)
  by_cases hjr : j ≤ r
  · exact le_Mx (by omega)
  · rw [ms_of_lt (by omega)]; exact bot_le

theorem Lx_eq (hr : r / 512 = t) {n : ℕ} (hn : n ≤ t) : ∑ s ∈ range 8, Lx sc t h r s n
    = ∑ j ∈ range 512, Ideal.exp2 (ms sc h r (t * 512 + j) - Mx sc t h r n) + ∑ j ∈ range (n * 512), Ideal.exp2 (ms sc h r j - Mx sc t h r n) := by
  induction n with
  | zero =>
    rw [Nat.zero_mul, sum_range_zero, add_zero, show (512 : ℕ) = 64 * 8 from rfl, sum_blocks, sum_comm]
    refine sum_congr rfl fun i _ => ?_
    exact sum_congr rfl fun s _ => by rw [Nat.mul_comm s 8]
  | succ n ih =>
    have hle : Mx sc t h r n ≤ Mx sc t h r (n + 1) := le_max_left _ _
    show ∑ s ∈ range 8, (Lx sc t h r s n * Ideal.exp2 (Mx sc t h r n - Mx sc t h r (n + 1)) + ∑ i ∈ range 64, Ideal.exp2 (sc h r (n * 512 + (s * 64 + i)) - Mx sc t h r (n + 1))) = _
    rw [sum_add_distrib, ← sum_mul_nonneg _ _ (exp2_nonneg _) (exp2_ne_top hle), ih (by omega),
      EReal.right_distrib_of_nonneg_of_ne_top (exp2_nonneg _) (exp2_ne_top hle), sum_mul_nonneg _ _ (exp2_nonneg _) (exp2_ne_top hle),
      sum_mul_nonneg _ _ (exp2_nonneg _) (exp2_ne_top hle), Nat.succ_mul, sum_range_add, add_assoc]
    refine congrArg₂ _ (sum_congr rfl fun j hj => exp2_carry (le_Mx (Or.inl ?_)) hle) (congrArg₂ _ (sum_congr rfl fun j hj => exp2_carry (le_Mx (Or.inr (mem_range.mp hj))) hle) ?_)
    · have := mem_range.mp hj; omega
    · rw [show (512 : ℕ) = 8 * 64 from rfl, sum_blocks]
      refine sum_congr rfl fun s hs => sum_congr rfl fun i hi => ?_
      have := mem_range.mp hs
      have := mem_range.mp hi
      rw [ms_of_le (by omega)]

/-- The sum over all keys. -/
theorem Lx_total (hr : r < 12288) (ht : t = r / 512) :
    ∑ s ∈ range 8, Lx sc t h r s t = ∑ j ∈ range 12288, Ideal.exp2 (ms sc h r j - (range 12288).sup (ms sc h r)) := by
  rw [Lx_eq ht.symm le_rfl, Mx_eq hr ht, add_comm, ← sum_range_add (fun j => Ideal.exp2 (ms sc h r j - (range 12288).sup (ms sc h r)))]
  refine sum_subset (fun j hj => mem_range.mpr (by have := mem_range.mp hj; omega)) fun j _ hj => ?_
  rw [ms_of_lt (by have := mt mem_range.mpr hj; omega)]
  rw [show (⊥ : EReal) - (range 12288).sup (ms sc h r) = ⊥ from EReal.bot_add (-(range 12288).sup (ms sc h r))]
  rfl

/-! ## From base two to base e -/

variable (hsc : ∀ h r j, sc h r j = rs h r j * L2E)
include hsc

theorem ms_l2e (h r j : ℕ) : ms sc h r j = ms rs h r j * L2E := by
  unfold ms
  split
  · exact hsc h r j
  · exact bot_l2e.symm

theorem sup_l2e {ι : Type} {s : Finset ι} (hs : s.Nonempty) (f : ι → ℕ) : (s.sup fun i => ms sc h r (f i)) = (s.sup fun i => ms rs h r (f i)) * L2E := by
  refine Eq.trans ?_ (mono_sup mul_l2e_mono hs _).symm
  exact sup_congr rfl fun i _ => ms_l2e hsc h r _

theorem ls_eq (hr : r < 12288) : ls sc (r / 512) h r = rlse rs h r * L2E := by
  have hm : (range 12288).sup (ms sc h r) = rmax rs h r * L2E := sup_l2e hsc ⟨0, mem_range.mpr (by norm_num)⟩ fun j => j
  unfold ls rlse
  rw [Mx_eq hr rfl, Lx_total hr rfl, hm, add_l2e]
  refine congrArg (fun z => rmax rs h r * L2E + Ideal.log z * L2E) (sum_congr rfl fun j _ => ?_)
  rw [ms_l2e hsc, ← sub_l2e, exp2_l2e]

/-- The kernel's row result is the row's. -/
theorem lseS_eq (hr : r < 12288) : lseS sc (r / 512) h r = rlseS rs h r := by
  unfold lseS rlseS
  rw [ls_eq hsc hr, l2e_ln2]

theorem term_eq {kb : ℕ} (hr : r < 12288) (ht : t = r / 512) : BM sc h r kb - ls sc t h r = ((range 64).sup fun k => ms rs h r (kb * 64 + k) - rlse rs h r) * L2E := by
  subst ht
  rw [ls_eq hsc hr, show BM sc h r kb = _ from sup_l2e hsc ⟨0, mem_range.mpr (by norm_num)⟩ fun i => kb * 64 + i, ← sub_l2e]
  exact congrArg (fun x => x * L2E) (mono_sup (sub_mono (rlse rs h r)) ⟨0, mem_range.mpr (by norm_num)⟩ fun k => ms rs h r (kb * 64 + k))

/-- The kernel's gate numerator is the largest probability. -/
theorem gn_eq {q kb : ℕ} (hq : q < 192) : gn sc (q / 8) (q % 8) kb = rgn rs q kb := by
  have n64 : (range 64).Nonempty := ⟨0, mem_range.mpr (by norm_num)⟩
  have n5 : (range 5).Nonempty := ⟨0, mem_range.mpr (by norm_num)⟩
  have htop : ∀ i, i < 64 → top sc (q / 8) (q / 8 * 512 + (64 * (q % 8) + i)) kb
      = ((range 5).sup fun h => (range 64).sup fun k => ms rs h (q * 64 + i) (kb * 64 + k) - rlse rs h (q * 64 + i)) * L2E := by
    intro i hi
    have e : q / 8 * 512 + (64 * (q % 8) + i) = q * 64 + i := by omega
    rw [e]
    unfold top
    rw [term_eq hsc (by omega) (by omega), term_eq hsc (by omega) (by omega), term_eq hsc (by omega) (by omega), term_eq hsc (by omega) (by omega), term_eq hsc (by omega) (by omega)]
    rw [mono_sup mul_l2e_mono n5]
    simp only [show range 5 = {0, 1, 2, 3, 4} from rfl, sup_insert, sup_singleton]
    simp only [max_assoc]
  unfold gn
  rw [sup_congr rfl (g := fun i => ((range 5).sup fun h => (range 64).sup fun k => ms rs h (q * 64 + i) (kb * 64 + k) - rlse rs h (q * 64 + i)) * L2E) fun i hi => htop i (mem_range.mp hi)]
  rw [← mono_sup mul_l2e_mono n64 fun i => (range 5).sup fun h => (range 64).sup fun k => ms rs h (q * 64 + i) (kb * 64 + k) - rlse rs h (q * 64 + i), exp2_l2e, mono_sup exp_mono n64]
  unfold rgn
  rw [Finset.sup_comm]
  refine sup_congr rfl fun i _ => ?_
  rw [mono_sup exp_mono n5]
  exact sup_congr rfl fun h _ => mono_sup exp_mono n64 _

/-- The kernel's gate. -/
theorem gateS_eq {q kb : ℕ} (hq : q < 192) : gateS sc (q / 8) (q % 8) kb = Ideal.div (rgn rs q kb) (∑ k ∈ range 192, rgn rs q k) := by
  unfold gateS
  rw [gn_eq hsc hq]
  exact congrArg _ (sum_congr rfl fun k _ => gn_eq hsc hq)

end Cert.Proof.Tile
-- ==== Proof.Tile.Goal.lean ====
/-
  The two results as functions of the four arguments.
-/
module

public import proofs.«01_k».proof.Proof.Tile.Math

@[expose] public section

noncomputable section

namespace Cert.Proof.Tile

open Idealize.ShloMosaic Finset

/-- The scaled scores of batch `b` and key head `g`. -/
def rsc (Q : (⟨4, ![2, 12288, 40, 128]⟩ : Shape).Idx → EReal) (QS : (⟨2, ![2, 40]⟩ : Shape).Idx → EReal) (K : (⟨4, ![2, 12288, 8, 128]⟩ : Shape).Idx → EReal)
    (KS : (⟨2, ![2, 8]⟩ : Shape).Idx → EReal) (b g h r j : ℕ) : EReal :=
  (∑ d ∈ range 128, rd (d := ![2, 12288, 8, 128]) K ![b, j, g, d] * rd (d := ![2, 12288, 40, 128]) Q ![b, r, g * 5 + h, d])
    * (rd (d := ![2, 40]) QS ![b, g * 5 + h] * rd (d := ![2, 8]) KS ![b, g] * Scalar.ofBits (F := Ideal) .f32 0x3DB504F3#32)

/-- The gate of scores `rs`. -/
def gateG (rs : ℕ → ℕ → ℕ → EReal) (q kb : ℕ) : EReal := Ideal.div (rgn rs q kb) (∑ k ∈ range 192, rgn rs q k)

variable {rs rs' : ℕ → ℕ → ℕ → EReal}

theorem rlse_congr {h r : ℕ} (e : ∀ j, j < 12288 → rs h r j = rs' h r j) : rlse rs h r = rlse rs' h r := by
  have hm : ∀ j, j < 12288 → ms rs h r j = ms rs' h r j := fun j hj => by unfold ms; rw [e j hj]
  have hM : rmax rs h r = rmax rs' h r := sup_congr rfl fun j hj => hm j (mem_range.mp hj)
  unfold rlse
  rw [hM]
  exact congrArg (fun z => rmax rs' h r + Ideal.log z) (sum_congr rfl fun j hj => by rw [hm j (mem_range.mp hj)])

theorem rlseS_congr {h r : ℕ} (e : ∀ j, j < 12288 → rs h r j = rs' h r j) : rlseS rs h r = rlseS rs' h r := by
  unfold rlseS
  rw [rlse_congr e]

theorem rgn_congr (e : ∀ h r j, h < 5 → r < 12288 → j < 12288 → rs h r j = rs' h r j) {q kb : ℕ} (hq : q < 192) (hk : kb < 192) : rgn rs q kb = rgn rs' q kb := by
  unfold rgn
  refine sup_congr rfl fun h hh => sup_congr rfl fun i hi => sup_congr rfl fun k hk => ?_
  have hh := mem_range.mp hh
  have hi := mem_range.mp hi
  have hk := mem_range.mp hk
  rw [rlse_congr fun j hj => e h _ j hh (by omega) hj]
  unfold ms
  rw [e h _ _ hh (by omega) (by omega)]

theorem gateG_congr (e : ∀ h r j, h < 5 → r < 12288 → j < 12288 → rs h r j = rs' h r j) {q kb : ℕ} (hq : q < 192) (hk : kb < 192) : gateG rs q kb = gateG rs' q kb := by
  unfold gateG
  rw [rgn_congr e hq hk]
  exact congrArg _ (sum_congr rfl fun k hk => rgn_congr e hq (mem_range.mp hk))

end Cert.Proof.Tile
-- ==== Proof.Tile.ValI.lean ====
/-
  What KernelIdeal's launch leaves, from its arguments.
-/
module

public import proofs.«01_k».proof.Proof.Tile.RunI
public import proofs.«01_k».proof.Proof.Tile.Perm
public import proofs.«01_k».proof.Proof.Tile.Goal
public import Idealize.ShloMosaic.Lib.Claim
public import Idealize.ShloMosaic.Lib.Pipeline.Value
public import Idealize.ShloMosaic.Lib.Pipeline.ValueKit.Geometry

@[expose] public section

noncomputable section

namespace Cert.KernelIdeal.Exact

open Cert.KernelIdeal Cert.KernelIdeal.Gen
open Idealize.ShloMosaic Idealize.ShloMosaic.TcCoe Idealize.ShloMosaic.Tactic Idealize.ShloMosaic.ValueIdx
open Idealize.SL.Sem Finset
open Cert.Proof.Tile (rd rd_in rd_at rd_transpose rd_shapeCast flat lt2 lt3 lt4 lt5 GF LF rsc gateG gateG_congr gateS_eq rlseS rlseS_congr lseS_eq coefV Ins)
open Cert.KernelIdeal.Hand (ins)

variable (m : (ℓ : Loc nD τ sig) → Buf (Elt Ideal) ℓ) (ρ : Dev nD → PrngReg)

theorem pt_eq : ∀ t : Fin cfg0.N, pt t = t.val := by decide +kernel
theorem pt_lt (t : Fin cfg0.N) : t.val < 16 := N_0 ▸ t.isLt
theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![t.val / 8, t.val % 8, 0, 0, 0] := by decide +kernel
theorem idx3 : ∀ t : Fin cfg0.N, win0_3.index t = ![t.val / 8, t.val % 8, 0, 0] := by decide +kernel
theorem idx4 : ∀ t : Fin cfg0.N, win0_4.index t = ![t.val / 8, t.val % 8, 0, 0] := by decide +kernel
theorem idx5 : ∀ t : Fin cfg0.N, win0_5.index t = ![t.val / 8, t.val % 8, 0, 0] := by decide +kernel
theorem idx6 : ∀ t : Fin cfg0.N, win0_6.index t = ![t.val / 8, t.val % 8, 0, 0] := by decide +kernel

theorem V_v1 (c : Dev nD) : V m c main_v1 = transpose S2x8x5x12288x128 [0, 2, 3, 1, 4] (shapeCast S2x12288x8x5x128 (m ((c : Thread nD τ).loc main_arg0)) shapeCasts_S2x12288x40x128_S2x12288x8x5x128) transposes_S2x12288x8x5x128_S2x8x5x12288x128_0_2_3_1_4 := by
  show StableHlo.after hostOps0 _ (Proc.devRef .tc main_v1) = _
  after_results
  rfl
theorem V_v2 (c : Dev nD) : V m c main_v2 = transpose S2x8x12288x128 [0, 2, 1, 3] (m ((c : Thread nD τ).loc main_arg2)) transposes_S2x12288x8x128_S2x8x12288x128_0_2_1_3 := by
  show StableHlo.after hostOps0 _ (Proc.devRef .tc main_v2) = _
  after_results
theorem V_v5 (c : Dev nD) : V m c main_v5 = shapeCast S2x8x12288x128 (transpose S2x8x24x64x8x128 [0, 4, 1, 3, 2, 5] (shapeCast S2x24x8x64x8x128 (m ((c : Thread nD τ).loc main_arg2)) shapeCasts_S2x12288x8x128_S2x24x8x64x8x128) transposes_S2x24x8x64x8x128_S2x8x24x64x8x128_0_4_1_3_2_5) shapeCasts_S2x8x24x64x8x128_S2x8x12288x128 := by
  show StableHlo.after hostOps0 _ (Proc.devRef .tc main_v5) = _
  after_results
  rfl

/-! ## The inputs' blocks -/

theorem lt6 {i0 i1 i2 i3 i4 i5 d0 d1 d2 d3 d4 d5 : ℕ} (h0 : i0 < d0) (h1 : i1 < d1) (h2 : i2 < d2) (h3 : i3 < d3) (h4 : i4 < d4) (h5 : i5 < d5) :
    ∀ a, (![i0, i1, i2, i3, i4, i5] : Fin 6 → ℕ) a < (![d0, d1, d2, d3, d4, d5] : Fin 6 → ℕ) a := by
  intro a
  fin_cases a <;> assumption

theorem qs_read (c : Dev nD) (t : Fin cfg0.N) {a b : ℕ} (ha : a < 2) (hb : b < 40) :
    rd (d := ![2, 40]) (ins m c t).qs ![a, b] = rd (d := ![2, 40]) (m ((c : Thread nD τ).loc main_arg1)) ![a, b] := by
  refine (rd_in _ (lt2 ha hb)).trans ((show _ = _ from ?_).trans (rd_at (d := ![2, 40]) (m ((c : Thread nD τ).loc main_arg1)) (j := (win0_0.blk t).view.emb fun x => ⟨(![a, b] : Fin 2 → ℕ) x, lt2 ha hb x⟩) fun x => ?_))
  · exact congrFun (V_main_arg1 m c) _
  · fin_cases x <;> blk_simp [idx0 t] <;> simp

theorem ks_read (c : Dev nD) (t : Fin cfg0.N) {a b : ℕ} (ha : a < 2) (hb : b < 8) :
    rd (d := ![2, 8]) (ins m c t).ks ![a, b] = rd (d := ![2, 8]) (m ((c : Thread nD τ).loc main_arg3)) ![a, b] := by
  refine (rd_in _ (lt2 ha hb)).trans ((show _ = _ from ?_).trans (rd_at (d := ![2, 8]) (m ((c : Thread nD τ).loc main_arg3)) (j := (win0_1.blk t).view.emb fun x => ⟨(![a, b] : Fin 2 → ℕ) x, lt2 ha hb x⟩) fun x => ?_))
  · exact congrFun (V_main_arg3 m c) _
  · fin_cases x <;> blk_simp [idx1 t] <;> simp

theorem q_read (c : Dev nD) (t : Fin cfg0.N) {h r d : ℕ} (hh : h < 5) (hr : r < 12288) (hd : d < 128) :
    rd (d := ![1, 1, 5, 12288, 128]) (ins m c t).q ![0, 0, h, r, d] = rd (d := ![2, 12288, 40, 128]) (m ((c : Thread nD τ).loc main_arg0)) ![t.val / 8, r, t.val % 8 * 5 + h, d] := by
  have ht := pt_lt t
  have hl := lt5 (i0 := 0) (i1 := 0) Nat.one_pos Nat.one_pos hh hr hd
  refine (rd_in _ hl).trans ((show _ = _ from ?_).trans (rd_at (d := ![2, 8, 5, 12288, 128]) (i := ![t.val / 8, t.val % 8, h, r, d]) (V m c main_v1) (j := (win0_2.blk t).view.emb fun x => ⟨(![0, 0, h, r, d] : Fin 5 → ℕ) x, hl x⟩) fun x => ?_) |>.trans ?_)
  · rfl
  · fin_cases x <;> blk_simp [idx2 t] <;> simp
  · rw [V_v1]
    refine (rd_transpose (d := ![2, 12288, 8, 5, 128]) (j := ![t.val / 8, r, t.val % 8, h, d]) _ (lt5 (by omega) (by omega) hh hr hd) ![0, 3, 1, 2, 4] (by decide) ?_).trans ?_
    · intro a; fin_cases a <;> rfl
    · exact rd_shapeCast (d := ![2, 12288, 40, 128]) _ (lt5 (by omega) hr (by omega) hh hd) (lt4 (by omega) hr (by omega) hd) (by simp [flat, Fin.prod_univ_succ]; omega)

theorem kn_read (c : Dev nD) (t : Fin cfg0.N) {j d : ℕ} (hj : j < 12288) (hd : d < 128) :
    rd (d := ![1, 1, 12288, 128]) (ins m c t).kn ![0, 0, j, d] = rd (d := ![2, 12288, 8, 128]) (m ((c : Thread nD τ).loc main_arg2)) ![t.val / 8, j, t.val % 8, d] := by
  have ht := pt_lt t
  have hl := lt4 (i0 := 0) (i1 := 0) Nat.one_pos Nat.one_pos hj hd
  refine (rd_in _ hl).trans ((show _ = _ from ?_).trans (rd_at (d := ![2, 8, 12288, 128]) (i := ![t.val / 8, t.val % 8, j, d]) (V m c main_v2) (j := (win0_3.blk t).view.emb fun x => ⟨(![0, 0, j, d] : Fin 4 → ℕ) x, hl x⟩) fun x => ?_) |>.trans ?_)
  · rfl
  · fin_cases x <;> blk_simp [idx3 t] <;> simp
  · rw [V_v2]
    refine rd_transpose (n := 4) (m := 4) (d := ![2, 12288, 8, 128]) (j := ![t.val / 8, j, t.val % 8, d]) _ (lt4 (by omega) (by omega) hj hd) ![0, 2, 1, 3] (by intro a; fin_cases a <;> rfl) ?_
    intro a; fin_cases a <;> rfl

theorem ki_read (c : Dev nD) (t : Fin cfg0.N) {k i s d : ℕ} (hk : k < 24) (hi : i < 64) (hs : s < 8) (hd : d < 128) :
    rd (d := ![1, 1, 12288, 128]) (ins m c t).ki ![0, 0, k * 512 + (8 * i + s), d] = rd (d := ![2, 12288, 8, 128]) (m ((c : Thread nD τ).loc main_arg2)) ![t.val / 8, k * 512 + (s * 64 + i), t.val % 8, d] := by
  have ht := pt_lt t
  have hl := lt4 (i0 := 0) (i1 := 0) (i2 := k * 512 + (8 * i + s)) (d2 := 12288) Nat.one_pos Nat.one_pos (by omega) hd
  refine (rd_in _ hl).trans ((show _ = _ from ?_).trans (rd_at (d := ![2, 8, 12288, 128]) (i := ![t.val / 8, t.val % 8, k * 512 + (8 * i + s), d]) (V m c main_v5) (j := (win0_4.blk t).view.emb fun x => ⟨(![0, 0, k * 512 + (8 * i + s), d] : Fin 4 → ℕ) x, hl x⟩) fun x => ?_) |>.trans ?_)
  · rfl
  · fin_cases x <;> blk_simp [idx4 t] <;> simp
  · rw [V_v5]
    refine (rd_shapeCast (d := ![2, 8, 24, 64, 8, 128]) (j := ![t.val / 8, t.val % 8, k, i, s, d]) _ (lt4 (by omega) (by omega) (by omega) hd) (lt6 (by omega) (by omega) hk hi hs hd) (by simp [flat, Fin.prod_univ_succ]; omega)).trans ?_
    refine (rd_transpose (d := ![2, 24, 8, 64, 8, 128]) (j := ![t.val / 8, k, s, i, t.val % 8, d]) _ (lt6 (by omega) (by omega) hk hi hs hd) ![0, 2, 4, 3, 1, 5] (by decide) ?_).trans ?_
    · intro a; fin_cases a <;> rfl
    · exact rd_shapeCast (d := ![2, 12288, 8, 128]) _ (lt6 (by omega) hk hs hi (by omega) hd) (lt4 (by omega) (by omega) (by omega) hd) (by simp [flat, Fin.prod_univ_succ]; omega)

theorem mixed : Mixed m := fun c t k i s d hk hi hs hd => (ki_read m c t hk hi hs hd).trans (kn_read m c t (by omega) hd).symm

/-! ## The results -/

/-- The scores of batch `b` and key head `g`, from the launch's arguments. -/
def sco (c : Dev nD) (b g : ℕ) : ℕ → ℕ → ℕ → EReal :=
  rsc (m ((c : Thread nD τ).loc main_arg0)) (m ((c : Thread nD τ).loc main_arg1)) (m ((c : Thread nD τ).loc main_arg2)) (m ((c : Thread nD τ).loc main_arg3)) b g

/-- A grid point's scores without log₂ e. -/
def rsP (I : Ins Ideal) (i h r j : ℕ) : EReal :=
  (∑ d ∈ range 128, rd (d := ![1, 1, 12288, 128]) I.kn ![0, 0, j, d] * rd (d := ![1, 1, 5, 12288, 128]) I.q ![0, 0, h, r, d])
    * (rd (d := ![2, 40]) I.qs ![i / 8, i % 8 * 5 + h] * rd (d := ![2, 8]) I.ks ![i / 8, i % 8] * Scalar.ofBits (F := Ideal) .f32 0x3DB504F3#32)

theorem scP_eq (I : Ins Ideal) (i h r j : ℕ) : scP I i h r j = rsP I i h r j * Cert.Proof.Tile.L2E := by
  unfold scP rsP coefV
  exact (mul_assoc _ _ _).symm

theorem rsP_eq (c : Dev nD) (t : Fin cfg0.N) {h r j : ℕ} (hh : h < 5) (hr : r < 12288) (hj : j < 12288) :
    rsP (ins m c t) (pt t) h r j = sco m c (t.val / 8) (t.val % 8) h r j := by
  have ht := pt_lt t
  unfold rsP sco rsc
  rw [pt_eq, qs_read m c t (by omega) (by omega), ks_read m c t (by omega) (by omega)]
  refine congrArg (fun z : EReal => z * _) (sum_congr rfl fun d hd => ?_)
  have hd := mem_range.mp hd
  rw [kn_read m c t hj hd, q_read m c t hh hr hd]

theorem gate_of (I : Ins Ideal) (i : ℕ) {rs : ℕ → ℕ → ℕ → EReal} (e : ∀ h r j, h < 5 → r < 12288 → j < 12288 → rsP I i h r j = rs h r j) {q kb : ℕ} (hq : q < 192) (hk : kb < 192) :
    GF (scP I i) 0 0 q kb = gateG rs q kb :=
  (gateS_eq (scP_eq I i) hq).trans (gateG_congr e hq hk)

theorem lse_of (I : Ins Ideal) (i : ℕ) {rs : ℕ → ℕ → ℕ → EReal} {h r : ℕ} (hr : r < 12288) (e : ∀ j, j < 12288 → rsP I i h r j = rs h r j) :
    LF (scP I i) 0 0 h r = rlseS rs h r :=
  (lseS_eq (scP_eq I i) hr).trans (rlseS_congr e)

theorem gate_block (c : Dev nD) (t : Fin cfg0.N) {q kb : ℕ} (hq : q < 192) (hk : kb < 192) :
    GF (scP (ins m c t) (pt t)) 0 0 q kb = gateG (sco m c (t.val / 8) (t.val % 8)) q kb :=
  gate_of _ _ (fun _ _ _ hh hr hj => rsP_eq m c t hh hr hj) hq hk

theorem lse_block (c : Dev nD) (t : Fin cfg0.N) {h r : ℕ} (hh : h < 5) (hr : r < 12288) :
    LF (scP (ins m c t) (pt t)) 0 0 h r = rlseS (sco m c (t.val / 8) (t.val % 8)) h r :=
  lse_of _ _ hr fun _ hj => rsP_eq m c t hh hr hj

/-- The gate. -/
def gateR (c : Dev nD) : S2x8x192x192.Idx → EReal := fun i => gateG (sco m c (i 0).val (i 1).val) (i 2).val (i 3).val
/-- The rows' results before they are reshaped. -/
def lseR (c : Dev nD) : S2x8x5x12288.Idx → EReal := fun i => rlseS (sco m c (i 0).val (i 1).val) (i 2).val (i 3).val

theorem final5 (c : Dev nD) : (dats m 0 c).arrAt 5 cfg0.N = gateR m c := by
  refine (dats m 0 c).arrAt_eq_of_covers 5 _ (by decide +kernel) fun t hf y => ?_
  blk_simp
  have h2 : (y 2).val < 192 := (y 2).isLt
  have h3 : (y 3).val < 192 := (y 3).isLt
  refine (gate_block m c t h2 h3).trans ?_
  unfold gateR
  blk_simp [idx5 t]

theorem final6 (c : Dev nD) : (dats m 0 c).arrAt 6 cfg0.N = lseR m c := by
  refine (dats m 0 c).arrAt_eq_of_covers 6 _ (by decide +kernel) fun t hf y => ?_
  blk_simp
  have h2 : (y 2).val < 5 := (y 2).isLt
  have h3 : (y 3).val < 12288 := (y 3).isLt
  refine (lse_block m c t h2 h3).trans ?_
  unfold lseR
  blk_simp [idx6 t]

set_option backward.isDefEq.respectTransparency.types false in
/-- The launch's run. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Cert.KernelIdeal.Hand.𝒱₀ m ρ main
    (hbody := fun c => (body_obligation (mixed m) c).loose) (hshare := fun c => (dats m 0 c).share_full fun _ => rfl) (howed := fun _ _ => rfl)
    (V₀ := V0 m) (opss := [hostOps1]) (hsub := sfx_sub) (hfresh := sfx_fresh) (hkeep := sfx_keeps)
    (hmain := hmain m Cert.KernelIdeal.Hand.𝒱₀) (hA := fun _ _ => rfl) (hΦ := fun _ _ => rfl)

/-- The rows' results, as the host line after the launch leaves them. -/
theorem tail_v7 (c : Dev nD) : Pipeline.afterTail₀ cfgs (dats m) 0 (V0 m) [hostOps1] c main_v7 = shapeCast S2x40x12288 (lseR m c) shapeCasts_S2x8x5x12288_S2x40x12288 := by
  rw [← final6 m c]
  show StableHlo.after hostOps1 _ (Proc.devRef .tc main_v7) = _
  after_results
  exact congrArg (fun z => shapeCast S2x40x12288 z shapeCasts_S2x8x5x12288_S2x40x12288)
    (Pipeline.withArrays_arr spec0 (by decide) c (V0 m c) (fun w => (dats m 0 c).arrAt w (cfgs 0).N) 6)

theorem tail_arg0 (c : Dev nD) : Pipeline.afterTail₀ cfgs (dats m) 0 (V0 m) [hostOps1] c main_arg0 = m ((c : Thread nD τ).loc main_arg0) := by
  show StableHlo.after hostOps1 _ (Proc.devRef .tc main_arg0) = _
  after_results
  exact (Pipeline.withArrays_of_ne spec0 c (V0 m c) (fun w => (dats m 0 c).arrAt w (cfgs 0).N) main_arg0 (by decide)).trans (V_main_arg0 m c)

theorem tail_arg2 (c : Dev nD) : Pipeline.afterTail₀ cfgs (dats m) 0 (V0 m) [hostOps1] c main_arg2 = m ((c : Thread nD τ).loc main_arg2) := by
  show StableHlo.after hostOps1 _ (Proc.devRef .tc main_arg2) = _
  after_results
  exact (Pipeline.withArrays_of_ne spec0 c (V0 m c) (fun w => (dats m 0 c).arrAt w (cfgs 0).N) main_arg2 (by decide)).trans (V_main_arg2 m c)

/-- The rows' results. -/
def lseO (c : Dev nD) : S2x40x12288.Idx → EReal := fun i => rlseS (sco m c (i 0).val ((i 1).val / 5)) ((i 1).val % 5) (i 2).val

theorem lseO_eq (c : Dev nD) : shapeCast S2x40x12288 (lseR m c) shapeCasts_S2x8x5x12288_S2x40x12288 = lseO m c := by
  funext i
  have h0 : (i 0).val < 2 := (i 0).isLt
  have h1 : (i 1).val < 40 := (i 1).isLt
  have h2 : (i 2).val < 12288 := (i 2).isLt
  have hl := lt4 (i0 := (i 0).val) (i1 := (i 1).val / 5) (i2 := (i 1).val % 5) (i3 := (i 2).val) (d0 := 2) (d1 := 8) (d2 := 5) (d3 := 12288) h0 (by omega) (by omega) h2
  refine (rd_at (d := ![2, 40, 12288]) (i := ![(i 0).val, (i 1).val, (i 2).val]) _ fun a => ?_).trans
    ((rd_shapeCast (d := ![2, 8, 5, 12288]) (j := ![(i 0).val, (i 1).val / 5, (i 1).val % 5, (i 2).val]) (lseR m c) (lt3 h0 h1 h2) hl ?_).trans ?_)
  · fin_cases a <;> rfl
  · simp [flat, Fin.prod_univ_succ]
    omega
  · exact rd_in (lseR m c) hl

/-- The results of the run, and its arguments. -/
theorem results : θ_run defs (onTc (τ := τ) (main (F := Ideal))) ⟨m, fun _ => 0, ρ⟩ (fun r => ∀ c : Dev nD,
      r.2.mem ((c.tc : Thread nD τ).loc main_v6_0) = gateR m c
      ∧ r.2.mem ((c.tc : Thread nD τ).loc main_v7) = lseO m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    refine ⟨((h.1 c).1 5).trans (final5 m c), ((h.1 c).2 main_v7 (Pipeline.mem_restRefs_of main_v7 (by decide) (by decide))).trans ((tail_v7 m c).trans (lseO_eq m c)), ?_⟩
    refine ⟨?_, ((h.1 c).1 0).trans (((dats m 0 c).arrAt_in 0 rfl _).trans (V_main_arg1 m c)), ?_, ((h.1 c).1 1).trans (((dats m 0 c).arrAt_in 1 rfl _).trans (V_main_arg3 m c))⟩
    · exact ((h.1 c).2 main_arg0 (Pipeline.mem_restRefs_of main_arg0 (by decide) (by decide))).trans (tail_arg0 m c)
    · exact ((h.1 c).2 main_arg2 (Pipeline.mem_restRefs_of main_arg2 (by decide) (by decide))).trans (tail_arg2 m c)) (run_main m ρ)

end Cert.KernelIdeal.Exact
-- ==== Proof.Tile.HostRd.lean ====
/-
  Host operations read at an index.
-/
module

public import proofs.«01_k».proof.Proof.Tile.Perm
public import Idealize.ShloMosaic.Lib.IdealHost

@[expose] public section

noncomputable section

namespace Cert.Proof.Tile

open Idealize.ShloMosaic

variable {n m : ℕ} {d : Fin n → ℕ} {e : Fin m → ℕ}

theorem rd_bcast (X : (⟨n, d⟩ : Shape).Idx → EReal) {dims : Fin n → Fin m} {h : (⟨n, d⟩ : Shape).BroadcastsInDim ⟨m, e⟩ dims} {i : Fin m → ℕ} {j : Fin n → ℕ}
    (hi : ∀ a, i a < e a) (hj : ∀ a, d a = 1 ∧ j a = 0 ∨ d a ≠ 1 ∧ j a = i (dims a)) : rd (broadcastInDim ⟨m, e⟩ dims h X) i = rd X j := by
  rw [rd_in _ hi]
  refine rd_at X fun a => ?_
  dsimp only
  rcases hj a with ⟨h1, h2⟩ | ⟨h1, h2⟩
  · have h1' : (⟨n, d⟩ : Shape).size a = 1 := h1
    rw [dif_pos h1', h2]
  · have h1' : ¬ (⟨n, d⟩ : Shape).size a = 1 := h1
    rw [dif_neg h1', h2]

/-- The indices that a reduction brings to one place, listed by `J` over `s`. -/
structure Fiber {axes : List (Fin n)} (h : (⟨n, d⟩ : Shape).ReducesTo axes ⟨m, e⟩) (i : Fin m → ℕ) {ι : Type} (s : Finset ι) (J : ι → Fin n → ℕ) : Prop where
  lt : ∀ k ∈ s, ∀ a, J k a < d a
  drop : ∀ k ∈ s, ∀ b : Fin m, J k ((Shape.kept ⟨n, d⟩ axes)[b.cast h.1]) = i b
  onto : ∀ a : Fin n → ℕ, (∀ x, a x < d x) → (∀ b : Fin m, a ((Shape.kept ⟨n, d⟩ axes)[b.cast h.1]) = i b) → ∃ k ∈ s, a = J k

theorem rd_hostMax {φ : FTy} {u : Shape} (X : FVec Ideal ⟨n, d⟩ φ) (v : u.Idx → Ideal φ) {axes : List (Fin n)} {h : (⟨n, d⟩ : Shape).ReducesTo axes ⟨m, e⟩} {hu : 0 < u.numel}
    (hv : ∀ x, v x = (⊥ : EReal)) {i : Fin m → ℕ} (hi : ∀ a, i a < e a) {ι : Type} {s : Finset ι} {J : ι → Fin n → ℕ} (hJ : Fiber h i s J) :
    rd (Host.reduce (FloatOps.maximumf (F := Ideal) (φ := φ)) X v h hu : (⟨m, e⟩ : Shape).Idx → EReal) i = s.sup fun k => rd (d := d) X (J k) := by
  rw [rd_in _ hi]
  refine (congrFun (congrFun (rfl : (fun (X : FVec Ideal ⟨n, d⟩ φ) j => Host.reduce (FloatOps.maximumf (F := Ideal) (φ := φ)) X v h hu j) = _) X) _).trans ?_
  have h1 := Host.reduce_eq_fold (max : EReal → EReal → EReal) X v h hu (fun a => ⟨i a, hi a⟩)
  refine (show _ = _ from h1).trans ?_
  rw [hv]
  change (Finset.univ.filter fun x => h.drop x = _).sup X = _
  refine le_antisymm (Finset.sup_le fun x hx => ?_) (Finset.sup_le fun k hk => ?_)
  · have hx := (Finset.mem_filter.mp hx).2
    obtain ⟨k, hk, hkk⟩ := hJ.onto (fun a => (x a).val) (fun a => (x a).isLt) fun b => congrArg (fun y : (⟨m, e⟩ : Shape).Idx => (y b).val) hx
    refine le_trans (le_of_eq ?_) (Finset.le_sup (f := fun k => rd (d := d) X (J k)) hk)
    exact rd_at X fun a => congrFun hkk a
  · rw [rd_in X (hJ.lt k hk)]
    refine Finset.le_sup (f := X) (Finset.mem_filter.mpr ⟨Finset.mem_univ _, ?_⟩)
    funext b
    exact Fin.ext (hJ.drop k hk b)

theorem rd_hostSum {φ : FTy} {u : Shape} (X : FVec Ideal ⟨n, d⟩ φ) (v : u.Idx → Ideal φ) {axes : List (Fin n)} {h : (⟨n, d⟩ : Shape).ReducesTo axes ⟨m, e⟩} {hu : 0 < u.numel}
    (hv : ∀ x, v x = (0 : EReal)) {i : Fin m → ℕ} (hi : ∀ a, i a < e a) {ι : Type} {s : Finset ι} {J : ι → Fin n → ℕ} (hJ : Fiber h i s J)
    (hinj : ∀ k ∈ s, ∀ k' ∈ s, J k = J k' → k = k') :
    rd (Host.reduceAdd X v h hu : (⟨m, e⟩ : Shape).Idx → EReal) i = ∑ k ∈ s, rd (d := d) X (J k) := by
  rw [rd_in _ hi]
  refine (ValueIdx.hostReduceAdd_apply X v h hu (fun a => ⟨i a, hi a⟩)).trans ?_
  rw [hv]
  unfold Ideal.hostReduceAdd
  rw [zero_add]
  symm
  refine Finset.sum_bij (fun k hk => fun a => ⟨J k a, hJ.lt k hk a⟩) (fun k hk => ?_) (fun k hk k' hk' e => ?_) (fun x hx => ?_) fun k hk => rd_in X (hJ.lt k hk)
  · refine Finset.mem_filter.mpr ⟨Finset.mem_univ _, ?_⟩
    funext b
    exact Fin.ext (hJ.drop k hk b)
  · exact hinj k hk k' hk' (funext fun a => congrArg (fun y : (⟨n, d⟩ : Shape).Idx => (y a).val) e)
  · have hx := (Finset.mem_filter.mp hx).2
    obtain ⟨k, hk, hkk⟩ := hJ.onto (fun a => (x a).val) (fun a => (x a).isLt) fun b => congrArg (fun y : (⟨m, e⟩ : Shape).Idx => (y b).val) hx
    exact ⟨k, hk, funext fun a => Fin.ext (congrFun hkk a).symm⟩

section
variable {φ : FTy} {X Y : FVec Ideal ⟨n, d⟩ φ} {i : Fin n → ℕ}

theorem rd_hexp (hi : ∀ a, i a < d a) : rd (Host.exp X : (⟨n, d⟩ : Shape).Idx → EReal) i = Ideal.exp (rd (d := d) X i) := by rw [rd_in _ hi, rd_in X hi]; rfl
theorem rd_hlog (hi : ∀ a, i a < d a) : rd (Host.log X : (⟨n, d⟩ : Shape).Idx → EReal) i = Ideal.log (rd (d := d) X i) := by rw [rd_in _ hi, rd_in X hi]; rfl
theorem rd_hdiv (hi : ∀ a, i a < d a) : rd (Host.divf X Y : (⟨n, d⟩ : Shape).Idx → EReal) i = Ideal.div (rd (d := d) X i) (rd (d := d) Y i) := by
  rw [rd_in _ hi, rd_in X hi, rd_in Y hi]; rfl
end

end Cert.Proof.Tile
-- ==== Proof.Tile.RefMath.lean ====
/-
  The reference's host program as functions of arrays, read at an index.
-/
module

public import proofs.«01_k».proof.ReferenceIdeal
public import proofs.«01_k».proof.Proof.Gen.ReferenceIdeal.Launch
public import proofs.«01_k».proof.Proof.Tile.HostRd
public import proofs.«01_k».proof.Proof.Tile.Goal
public import Idealize.ShloMosaic.Lib.Pointwise

@[expose] public section

noncomputable section

namespace Cert.ReferenceIdeal.Exact

open Cert.ReferenceIdeal Cert.ReferenceIdeal.Gen
open Idealize.ShloMosaic Idealize.ShloMosaic.Tactic Idealize.ShloMosaic.ValueIdx
open Finset
open Cert.Proof.Tile

abbrev Arr (s : Shape) := FVec Ideal s .f32

/-! ## The stages -/

def coef (qs : Arr S2x40) (ks : Arr S2x8) : Arr S2x8x5 :=
  mulf (mulf (shapeCast S2x8x5 qs shapeCasts_S2x40_S2x8x5) (broadcastInDim S2x8x5 ![0, 1, 2] bcast_S2x8x1_S2x8x5_0_1_2 (broadcastInDim S2x8x1 ![0, 1] bcast_S2x8_S2x8x1_0_1 ks)))
    (broadcastInDim S2x8x5 ![] bcast_S_S2x8x5 (constant S_ .f32 0x3DB504F3#32))

def dots (q : Arr S2x12288x40x128) (k : Arr S2x12288x8x128) : Arr S2x8x12288x12288x5 :=
  Host.dotGeneral dot_S2x12288x8x128_S2x12288x8x5x128_S2x8x12288x12288x5_3_4_1_13_02_02 none k (shapeCast S2x12288x8x5x128 q shapeCasts_S2x12288x40x128_S2x12288x8x5x128)

def score (q : Arr S2x12288x40x128) (k : Arr S2x12288x8x128) (qs : Arr S2x40) (ks : Arr S2x8) : Arr S2x8x5x12288x12288 :=
  mulf (transpose S2x8x5x12288x12288 [0, 1, 4, 3, 2] (dots q k) transposes_S2x8x12288x12288x5_S2x8x5x12288x12288_0_1_4_3_2)
    (broadcastInDim S2x8x5x12288x12288 ![0, 1, 2, 3, 4] bcast_S2x8x5x1x1_S2x8x5x12288x12288_0_1_2_3_4 (broadcastInDim S2x8x5x1x1 ![0, 1, 2] bcast_S2x8x5_S2x8x5x1x1_0_1_2 (coef qs ks)))

/-- Key against row: true where the key is seen. -/
def mask : IVec S12288x12288 1 :=
  cmpi .sle (broadcastInDim S12288x12288 ![0, 1] bcast_S1x12288_S12288x12288_0_1 (broadcastInDim S1x12288 ![1] bcast_S12288_S1x12288_1 (iotaInDim S12288 32 0)))
    (broadcastInDim S12288x12288 ![0, 1] bcast_S12288x1_S12288x12288_0_1 (broadcastInDim S12288x1 ![0] bcast_S12288_S12288x1_0 (iotaInDim S12288 32 0)))

def seen (x : Arr S2x8x5x12288x12288) : Arr S2x8x5x12288x12288 :=
  select (broadcastInDim S2x8x5x12288x12288 ![3, 4] bcast_S12288x12288_S2x8x5x12288x12288_3_4 mask) x
    (broadcastInDim S2x8x5x12288x12288 ![] bcast_S_S2x8x5x12288x12288 (constant S_ .f32 0xFF800000#32 : Arr S_))

def top (x : Arr S2x8x5x12288x12288) : Arr S2x8x5x12288x1 :=
  broadcastInDim S2x8x5x12288x1 ![0, 1, 2, 3] bcast_S2x8x5x12288_S2x8x5x12288x1_0_1_2_3
    (Host.reduce FloatOps.maximumf x (constant S_ .f32 0xFF800000#32 : Arr S_) reducesTo_S2x8x5x12288x12288_S2x8x5x12288_d4 h_S_ : Arr S2x8x5x12288)

def wide (x : Arr S2x8x5x12288x1) : Arr S2x8x5x12288x12288 :=
  broadcastInDim S2x8x5x12288x12288 ![0, 1, 2, 3, 4] bcast_S2x8x5x12288x1_S2x8x5x12288x12288_0_1_2_3_4 x

def total (x : Arr S2x8x5x12288x12288) : Arr S2x8x5x12288x1 :=
  broadcastInDim S2x8x5x12288x1 ![0, 1, 2, 3] bcast_S2x8x5x12288_S2x8x5x12288x1_0_1_2_3
    (Host.reduceAdd x (constant S_ .f32 0x00000000#32 : Arr S_) reducesTo_S2x8x5x12288x12288_S2x8x5x12288_d4 h_S_ : Arr S2x8x5x12288)

def lse (x : Arr S2x8x5x12288x12288) : Arr S2x8x5x12288x1 :=
  addf (top x) (Host.log (total (Host.exp (subf x (wide (top x))))))

def counts : Arr S2x8x5x12288 :=
  broadcastInDim S2x8x5x12288 ![0, 1, 2, 3] bcast_S1x1x1x12288_S2x8x5x12288_0_1_2_3 (broadcastInDim S1x1x1x12288 ![3] bcast_S12288_S1x1x1x12288_3
    (Host.log (sitofp .f32 (addi (iotaInDim S12288 32 0) (broadcastInDim S12288 ![] bcast_S_S12288 (constantI S_ 32 1#32)))) : Arr S12288))

/-- The second result. -/
def rowLse (x : Arr S2x8x5x12288x12288) : Arr S2x40x12288 :=
  shapeCast S2x40x12288 (subf (shapeCast S2x8x5x12288 (lse x) shapeCasts_S2x8x5x12288x1_S2x8x5x12288) counts) shapeCasts_S2x8x5x12288_S2x40x12288

def peaks (x : Arr S2x8x5x12288x12288) : Arr S2x8x192x192 :=
  Host.reduce FloatOps.maximumf (shapeCast S2x8x5x192x64x192x64 (Host.exp (subf x (wide (lse x)))) shapeCasts_S2x8x5x12288x12288_S2x8x5x192x64x192x64)
    (constant S_ .f32 0xFF800000#32 : Arr S_) reducesTo_S2x8x5x192x64x192x64_S2x8x192x192_d2_4_6 h_S_

/-- The first result, from its peaks. -/
def gate (x : Arr S2x8x192x192) : Arr S2x8x192x192 :=
  Host.divf x (broadcastInDim S2x8x192x192 ![0, 1, 2, 3] bcast_S2x8x192x1_S2x8x192x192_0_1_2_3 (broadcastInDim S2x8x192x1 ![0, 1, 2] bcast_S2x8x192_S2x8x192x1_0_1_2
    (Host.reduceAdd x (constant S_ .f32 0x00000000#32 : Arr S_) reducesTo_S2x8x192x192_S2x8x192_d3 h_S_ : Arr S2x8x192)))

/-! ## The stages at an index -/

section
variable {b g h r j : ℕ} (hb : b < 2) (hg : g < 8) (hh : h < 5) (hr : r < 12288) (hj : j < 12288)
include hb hg hh

theorem rd_coef (qs : Arr S2x40) (ks : Arr S2x8) : rd (d := ![2, 8, 5]) (coef qs ks) ![b, g, h]
    = rd (d := ![2, 40]) qs ![b, g * 5 + h] * rd (d := ![2, 8]) ks ![b, g] * Scalar.ofBits (F := Ideal) .f32 0x3DB504F3#32 := by
  have l3 := lt3 (d0 := 2) (d1 := 8) (d2 := 5) hb hg hh
  unfold coef
  refine (rd_mul _ _ _).trans (congrArg₂ (· * ·) ((rd_mul _ _ _).trans (congrArg₂ (· * ·) ?_ ?_)) ?_)
  · exact rd_shapeCast (d := ![2, 40]) qs l3 (lt2 hb (by omega)) (by simp [flat, Fin.prod_univ_succ])
  · refine (rd_bcast (d := ![2, 8, 1]) (j := ![b, g, 0]) _ l3 ?_).trans (rd_bcast (d := ![2, 8]) ks (lt3 hb hg Nat.one_pos) ?_)
    all_goals intro a; fin_cases a <;> simp
  · refine (rd_bcast (d := ![]) (j := ![]) _ l3 fun a => a.elim0).trans ?_
    rw [rd_in (d := ![]) _ fun a => a.elim0]
    rfl

include hr hj

theorem rd_dots (q : Arr S2x12288x40x128) (k : Arr S2x12288x8x128) : rd (d := ![2, 8, 12288, 12288, 5]) (dots q k) ![b, g, j, r, h]
    = ∑ d ∈ range 128, rd (d := ![2, 12288, 8, 128]) k ![b, j, g, d] * rd (d := ![2, 12288, 40, 128]) q ![b, r, g * 5 + h, d] := by
  have hs : ∀ c, c < 128 → rd (d := ![2, 12288, 8, 5, 128]) (shapeCast S2x12288x8x5x128 q shapeCasts_S2x12288x40x128_S2x12288x8x5x128) ![b, r, g, h, c]
      = rd (d := ![2, 12288, 40, 128]) q ![b, r, g * 5 + h, c] := fun c hc =>
    rd_shapeCast (d := ![2, 12288, 40, 128]) q (lt5 hb hr hg hh hc) (lt4 hb hr (by omega) hc) (by simp [flat, Fin.prod_univ_succ]; omega)
  rw [sum_congr rfl fun c hc => congrArg (fun z : EReal => _ * z) (hs c (mem_range.mp hc)).symm]
  unfold dots
  generalize (shapeCast S2x12288x8x5x128 q shapeCasts_S2x12288x40x128_S2x12288x8x5x128 : Arr S2x12288x8x5x128) = y
  rw [rd_in _ (lt5 hb hg hj hr hh)]
  rw [← Fin.sum_univ_eq_sum_range (fun c => rd (d := ![2, 12288, 8, 128]) k ![b, j, g, c] * rd (d := ![2, 12288, 8, 5, 128]) y ![b, r, g, h, c]) 128]
  pointwise
  refine sum_congr rfl fun c _ => ?_
  exact congrArg₂ _ (rd_at (d := ![2, 12288, 8, 128]) k fun a => by fin_cases a <;> rfl) (rd_at (d := ![2, 12288, 8, 5, 128]) y fun a => by fin_cases a <;> rfl)

theorem rd_score (q : Arr S2x12288x40x128) (k : Arr S2x12288x8x128) (qs : Arr S2x40) (ks : Arr S2x8) :
    rd (d := ![2, 8, 5, 12288, 12288]) (score q k qs ks) ![b, g, h, r, j] = rsc q qs k ks b g h r j := by
  have l5 := lt5 (d0 := 2) (d1 := 8) (d2 := 5) (d3 := 12288) (d4 := 12288) hb hg hh hr hj
  unfold score rsc
  refine (rd_mul _ _ _).trans (congrArg₂ (· * ·) ?_ ?_)
  · refine (rd_transpose (d := ![2, 8, 12288, 12288, 5]) (j := ![b, g, j, r, h]) _ l5 ![0, 1, 4, 3, 2] (by intro a; fin_cases a <;> rfl) ?_).trans (rd_dots hb hg hh hr hj q k)
    intro a; fin_cases a <;> rfl
  · refine (rd_bcast (d := ![2, 8, 5, 1, 1]) (j := ![b, g, h, 0, 0]) _ l5 ?_).trans
      ((rd_bcast (d := ![2, 8, 5]) (j := ![b, g, h]) _ (lt5 hb hg hh Nat.one_pos Nat.one_pos) ?_).trans (rd_coef hb hg hh qs ks))
    all_goals intro a; fin_cases a <;> simp

omit hb hg hh in
theorem mask_at : mask (fun a => ⟨(![r, j] : Fin 2 → ℕ) a, lt2 hr hj a⟩) = BitVec.ofBool (decide (j ≤ r)) := by
  have hs : (BitVec.ofNat 32 j).sle (BitVec.ofNat 32 r) = decide (j ≤ r) := by
    rw [BitVec.sle_eq_decide, BitVec.toInt_ofNat', BitVec.toInt_ofNat']
    congr 1
    rw [Int.bmod_def, Int.bmod_def]
    simp only [eq_iff_iff]
    norm_num
    omega
  rw [← hs]
  rfl

theorem rd_seen {x : Arr S2x8x5x12288x12288} : rd (d := ![2, 8, 5, 12288, 12288]) (seen x) ![b, g, h, r, j]
    = if j ≤ r then rd (d := ![2, 8, 5, 12288, 12288]) x ![b, g, h, r, j] else ⊥ := by
  have l5 := lt5 (d0 := 2) (d1 := 8) (d2 := 5) (d3 := 12288) (d4 := 12288) hb hg hh hr hj
  rw [rd_in _ l5, rd_in _ l5]
  unfold seen select
  have hm : broadcastInDim S2x8x5x12288x12288 ![3, 4] bcast_S12288x12288_S2x8x5x12288x12288_3_4 mask (fun a => ⟨(![b, g, h, r, j] : Fin 5 → ℕ) a, l5 a⟩) = BitVec.ofBool (decide (j ≤ r)) := by
    rw [← mask_at hr hj]
    refine congrArg mask (funext fun a => Fin.ext ?_)
    fin_cases a <;> rfl
  show Scalar.select (broadcastInDim S2x8x5x12288x12288 ![3, 4] bcast_S12288x12288_S2x8x5x12288x12288_3_4 mask _) _ _ = _
  rw [hm]
  unfold Scalar.select
  by_cases hc : j ≤ r
  · simp [hc]
  · simp only [hc, decide_false, if_false]
    exact (if_neg (by decide)).trans bot_f32

end

/-- One row of keys, as the reduction over the last axis lists it. -/
theorem row_fiber {b g h r : ℕ} (hb : b < 2) (hg : g < 8) (hh : h < 5) (hr : r < 12288) :
    Fiber reducesTo_S2x8x5x12288x12288_S2x8x5x12288_d4 ![b, g, h, r] (range 12288) fun j => ![b, g, h, r, j] where
  lt k hk := lt5 hb hg hh hr (mem_range.mp hk)
  drop k _ x := by fin_cases x <;> rfl
  onto a ha hx := by
    refine ⟨a 4, mem_range.mpr (ha 4), ?_⟩
    funext y
    fin_cases y
    · exact hx 0
    · exact hx 1
    · exact hx 2
    · exact hx 3
    · rfl

/-- One row of the gate, likewise. -/
theorem gate_fiber {b g q : ℕ} (hb : b < 2) (hg : g < 8) (hq : q < 192) :
    Fiber reducesTo_S2x8x192x192_S2x8x192_d3 ![b, g, q] (range 192) fun k => ![b, g, q, k] where
  lt k hk := lt4 hb hg hq (mem_range.mp hk)
  drop k _ x := by fin_cases x <;> rfl
  onto a ha hx := by
    refine ⟨a 3, mem_range.mpr (ha 3), ?_⟩
    funext y
    fin_cases y
    · exact hx 0
    · exact hx 1
    · exact hx 2
    · rfl

theorem lt7 {i0 i1 i2 i3 i4 i5 i6 d0 d1 d2 d3 d4 d5 d6 : ℕ} (h0 : i0 < d0) (h1 : i1 < d1) (h2 : i2 < d2) (h3 : i3 < d3) (h4 : i4 < d4) (h5 : i5 < d5) (h6 : i6 < d6) :
    ∀ a, (![i0, i1, i2, i3, i4, i5, i6] : Fin 7 → ℕ) a < (![d0, d1, d2, d3, d4, d5, d6] : Fin 7 → ℕ) a := by
  intro a; fin_cases a <;> assumption

/-- One tile of 64 rows and 64 keys over the five heads. -/
theorem tile_fiber {b g q k : ℕ} (hb : b < 2) (hg : g < 8) (hq : q < 192) (hk : k < 192) :
    Fiber reducesTo_S2x8x5x192x64x192x64_S2x8x192x192_d2_4_6 ![b, g, q, k] (range 5 ×ˢ range 64 ×ˢ range 64)
      fun x : ℕ × ℕ × ℕ => ![b, g, x.1, q, x.2.1, k, x.2.2] where
  lt x hx := by
    obtain ⟨h1, h2⟩ := mem_product.mp hx
    obtain ⟨h2, h3⟩ := mem_product.mp h2
    exact lt7 hb hg (mem_range.mp h1) hq (mem_range.mp h2) hk (mem_range.mp h3)
  drop x _ y := by fin_cases y <;> rfl
  onto a ha hx := by
    refine ⟨(a 2, a 4, a 6), mem_product.mpr ⟨mem_range.mpr (ha 2), mem_product.mpr ⟨mem_range.mpr (ha 4), mem_range.mpr (ha 6)⟩⟩, ?_⟩
    funext y
    fin_cases y
    · exact hx 0
    · exact hx 1
    · rfl
    · exact hx 2
    · rfl
    · exact hx 3
    · rfl

section
variable {b g h r j : ℕ} (hb : b < 2) (hg : g < 8) (hh : h < 5) (hr : r < 12288) (hj : j < 12288) {x : Arr S2x8x5x12288x12288} {rs : ℕ → ℕ → ℕ → EReal}
include hb hg hh hr

theorem rd_wide {y : Arr S2x8x5x12288x1} (hj : j < 12288) : rd (d := ![2, 8, 5, 12288, 12288]) (wide y) ![b, g, h, r, j] = rd (d := ![2, 8, 5, 12288, 1]) y ![b, g, h, r, 0] := by
  refine rd_bcast (d := ![2, 8, 5, 12288, 1]) _ (lt5 hb hg hh hr hj) ?_
  intro a; fin_cases a <;> simp

theorem rd_top : rd (d := ![2, 8, 5, 12288, 1]) (top x) ![b, g, h, r, 0] = (range 12288).sup fun j => rd (d := ![2, 8, 5, 12288, 12288]) x ![b, g, h, r, j] := by
  refine (rd_bcast (d := ![2, 8, 5, 12288]) (j := ![b, g, h, r]) _ (lt5 hb hg hh hr Nat.one_pos) ?_).trans
    (rd_hostMax x _ (fun _ => bot_f32) (lt4 hb hg hh hr) (row_fiber hb hg hh hr))
  intro a; fin_cases a <;> simp

theorem rd_total : rd (d := ![2, 8, 5, 12288, 1]) (total x) ![b, g, h, r, 0] = ∑ j ∈ range 12288, rd (d := ![2, 8, 5, 12288, 12288]) x ![b, g, h, r, j] := by
  refine (rd_bcast (d := ![2, 8, 5, 12288]) (j := ![b, g, h, r]) _ (lt5 hb hg hh hr Nat.one_pos) ?_).trans
    (rd_hostSum x _ (fun _ => zero_f32) (lt4 hb hg hh hr) (row_fiber hb hg hh hr) fun k _ k' _ e => congrFun e 4)
  intro a; fin_cases a <;> simp

theorem rd_lse (e : ∀ j, j < 12288 → rd (d := ![2, 8, 5, 12288, 12288]) x ![b, g, h, r, j] = ms rs h r j) :
    rd (d := ![2, 8, 5, 12288, 1]) (lse x) ![b, g, h, r, 0] = rlse rs h r := by
  have ht : rd (d := ![2, 8, 5, 12288, 1]) (top x) ![b, g, h, r, 0] = rmax rs h r :=
    (rd_top hb hg hh hr).trans (Finset.sup_congr rfl fun j hj => e j (mem_range.mp hj))
  unfold lse rlse
  refine (rd_add _ _ _).trans (congrArg₂ (· + ·) ht ((rd_hlog (lt5 hb hg hh hr Nat.one_pos)).trans (congrArg Ideal.log ?_)))
  refine (rd_total hb hg hh hr).trans (sum_congr rfl fun j hj => ?_)
  have hj := mem_range.mp hj
  refine (rd_hexp (lt5 hb hg hh hr hj)).trans (congrArg Ideal.exp ((rd_sub _ _ _).trans (congrArg₂ (· - ·) (e j hj) ((rd_wide hb hg hh hr hj).trans ht))))

theorem rd_counts : rd (d := ![2, 8, 5, 12288]) counts ![b, g, h, r] = Ideal.log (((r + 1 : ℕ) : ℝ) : EReal) := by
  unfold counts
  refine (rd_bcast (d := ![1, 1, 1, 12288]) (j := ![0, 0, 0, r]) _ (lt4 hb hg hh hr) ?_).trans
    ((rd_bcast (d := ![12288]) (j := ![r]) _ (lt4 Nat.one_pos Nat.one_pos Nat.one_pos hr) ?_).trans ((rd_hlog (lt1 hr)).trans (congrArg _ ?_)))
  · intro a; fin_cases a <;> simp
  · intro a; fin_cases a; simp
  rw [rd_in _ (lt1 hr)]
  show ((((BitVec.ofNat 32 r + 1#32 : BitVec 32).toInt : ℤ) : ℝ) : EReal) = _
  have : (BitVec.ofNat 32 r + 1#32 : BitVec 32) = BitVec.ofNat 32 (r + 1) := by rw [BitVec.ofNat_add]
  rw [this, BitVec.toInt_ofNat', Int.bmod_def]
  have h2 : (((r + 1 : ℕ) : ℤ) % ((2 ^ 32 : ℕ) : ℤ)) = ((r + 1 : ℕ) : ℤ) := by norm_num at *; omega
  rw [h2, if_pos (by norm_num at *; omega)]
  norm_cast

theorem rd_rowLse (e : ∀ j, j < 12288 → rd (d := ![2, 8, 5, 12288, 12288]) x ![b, g, h, r, j] = ms rs h r j) :
    rd (d := ![2, 40, 12288]) (rowLse x) ![b, g * 5 + h, r] = rlseS rs h r := by
  unfold rowLse rlseS
  refine (rd_shapeCast (d := ![2, 8, 5, 12288]) (j := ![b, g, h, r]) _ (lt3 hb (by omega) hr) (lt4 hb hg hh hr) (by simp [flat, Fin.prod_univ_succ]; omega)).trans ?_
  refine (rd_sub _ _ _).trans (congrArg₂ (· - ·) ?_ (rd_counts hb hg hh hr))
  exact (rd_shapeCast (d := ![2, 8, 5, 12288, 1]) (j := ![b, g, h, r, 0]) _ (lt4 hb hg hh hr) (lt5 hb hg hh hr Nat.one_pos) (by simp [flat, Fin.prod_univ_succ])).trans (rd_lse hb hg hh hr e)

end

section
variable {b g q k : ℕ} (hb : b < 2) (hg : g < 8) (hq : q < 192) {x : Arr S2x8x5x12288x12288} {rs : ℕ → ℕ → ℕ → EReal}
  (e : ∀ h r j, h < 5 → r < 12288 → j < 12288 → rd (d := ![2, 8, 5, 12288, 12288]) x ![b, g, h, r, j] = ms rs h r j)
include hb hg hq e

theorem rd_peaks (hk : k < 192) : rd (d := ![2, 8, 192, 192]) (peaks x) ![b, g, q, k] = rgn rs q k := by
  unfold peaks rgn
  refine (rd_hostMax (d := ![2, 8, 5, 192, 64, 192, 64]) _ _ (fun _ => bot_f32) (lt4 hb hg hq hk) (tile_fiber hb hg hq hk)).trans ?_
  rw [Finset.sup_product_left]
  refine Finset.sup_congr rfl fun h hh => ?_
  rw [Finset.sup_product_left]
  refine Finset.sup_congr rfl fun i hi => Finset.sup_congr rfl fun c hc => ?_
  have hh := mem_range.mp hh
  have hi := mem_range.mp hi
  have hc := mem_range.mp hc
  have hr : q * 64 + i < 12288 := by omega
  have hj : k * 64 + c < 12288 := by omega
  refine (rd_shapeCast (d := ![2, 8, 5, 12288, 12288]) (j := ![b, g, h, q * 64 + i, k * 64 + c]) _ (lt7 hb hg hh hq hi hk hc) (lt5 hb hg hh hr hj)
    (by simp [flat, Fin.prod_univ_succ]; omega)).trans ?_
  refine (rd_hexp (lt5 hb hg hh hr hj)).trans (congrArg Ideal.exp ((rd_sub _ _ _).trans (congrArg₂ (· - ·) (e h _ _ hh hr hj) ?_)))
  exact (rd_wide hb hg hh hr hj).trans (rd_lse hb hg hh hr fun j hj => e h _ j hh hr hj)

theorem rd_gate (hk : k < 192) : rd (d := ![2, 8, 192, 192]) (gate (peaks x)) ![b, g, q, k] = gateG rs q k := by
  unfold gate gateG
  refine (rd_hdiv (lt4 hb hg hq hk)).trans (congrArg₂ Ideal.div (rd_peaks hb hg hq e hk) ?_)
  refine (rd_bcast (d := ![2, 8, 192, 1]) (j := ![b, g, q, 0]) _ (lt4 hb hg hq hk) ?_).trans
    ((rd_bcast (d := ![2, 8, 192]) (j := ![b, g, q]) _ (lt4 hb hg hq Nat.one_pos) ?_).trans
      ((rd_hostSum (d := ![2, 8, 192, 192]) (peaks x) _ (fun _ => zero_f32) (lt3 hb hg hq) (gate_fiber hb hg hq) fun k _ k' _ e => congrFun e 3).trans
        (sum_congr rfl fun c hc => rd_peaks hb hg hq e (mem_range.mp hc))))
  all_goals intro a; fin_cases a <;> simp

end

end Cert.ReferenceIdeal.Exact
-- ==== Proof.Tile.RefRun.lean ====
/-
  The reference's host program, list by list.
-/
module

public import proofs.«01_k».proof.Proof.Gen.ReferenceIdeal.Frame
public import proofs.«01_k».proof.Proof.Tile.RefMath
public import Idealize.ShloMosaic.Lib.Pipeline.Value
public import Idealize.ShloMosaic.Lib.Pipeline.ValueKit.Geometry

@[expose] public section

noncomputable section

namespace Cert.ReferenceIdeal.Exact

open Cert.ReferenceIdeal Cert.ReferenceIdeal.Gen
open Idealize.ShloMosaic Idealize.ShloMosaic.TcCoe Idealize.ShloMosaic.Tactic Idealize.ShloMosaic.ValueIdx
open Idealize.SL.Sem

variable (V : Valuation τ sig (Elt Ideal))

theorem first_v12 : StableHlo.after hostOps1 V (Proc.devRef .tc main_v12)
    = score (V (Proc.devRef .tc main_v0_0)) (V (Proc.devRef .tc main_v0_1)) (V (Proc.devRef .tc main_arg1)) (V (Proc.devRef .tc main_arg3)) := by
  after_results
  rfl

theorem first_v18 : StableHlo.after hostOps1 V (Proc.devRef .tc main_v18) = mask := by
  after_results
  rfl

theorem first_cst : StableHlo.after hostOps1 V (Proc.devRef .tc main_cst_0) = (constant S_ .f32 0xFF800000#32 : Arr S_) := by
  after_results

theorem first_v13 : StableHlo.after hostOps1 V (Proc.devRef .tc main_v13) = (iotaInDim S12288 32 0 : IVec S12288 32) := by
  after_results

theorem second_v19 (x : Arr S2x8x5x12288x12288) (h : V (Proc.devRef .tc main_v12) = x) (h' : V (Proc.devRef .tc main_v18) = mask)
    (h'' : V (Proc.devRef .tc main_cst_0) = (constant S_ .f32 0xFF800000#32 : Arr S_)) :
    StableHlo.after hostOps1_1 V (Proc.devRef .tc main_v19) = seen x := by
  after_results
  rw [h, h', h'']
  rfl

theorem second_v13 : StableHlo.after hostOps1_1 V (Proc.devRef .tc main_v13) = V (Proc.devRef .tc main_v13) := by
  after_results

theorem third_v45 : StableHlo.after hostOps1_2 V (Proc.devRef .tc main_v45) = gate (peaks (V (Proc.devRef .tc main_v19))) := by
  after_results
  rfl

theorem third_v46 (h : V (Proc.devRef .tc main_v13) = (iotaInDim S12288 32 0 : IVec S12288 32)) :
    StableHlo.after hostOps1_2 V (Proc.devRef .tc main_v46) = rowLse (V (Proc.devRef .tc main_v19)) := by
  after_results
  rw [h]
  rfl

end Cert.ReferenceIdeal.Exact
-- ==== Proof.Tile.RefVal.lean ====
/-
  What the reference leaves, from its arguments.
-/
module

public import proofs.«01_k».proof.Proof.Tile.RefRun

@[expose] public section

noncomputable section

namespace Cert.ReferenceIdeal.Exact

open Cert.ReferenceIdeal Cert.ReferenceIdeal.Gen
open Idealize.ShloMosaic Idealize.ShloMosaic.TcCoe Idealize.ShloMosaic.Tactic Idealize.ShloMosaic.ValueIdx
open Idealize.SL.Sem Finset
open Cert.Proof.Tile

variable (m : (ℓ : Loc nD τ sig) → Buf (Elt Ideal) ℓ) (ρ : Dev nD → PrngReg)

/-- The scores of batch `b` and key head `g`, from the launch's arguments. -/
def sco (c : Dev nD) (b g : ℕ) : ℕ → ℕ → ℕ → EReal :=
  rsc (m ((c : Thread nD τ).loc main_arg0)) (m ((c : Thread nD τ).loc main_arg1)) (m ((c : Thread nD τ).loc main_arg2)) (m ((c : Thread nD τ).loc main_arg3)) b g

/-! ## The decoded codes -/

def qv (c : Dev nD) : Arr S2x12288x40x128 := m ((c : Thread nD τ).loc main_arg0)
def kv (c : Dev nD) : Arr S2x12288x8x128 := m ((c : Thread nD τ).loc main_arg2)

theorem out2 (x0 : Vec Ideal S2x12288x40x128 .fp8e4m3) (x1 : Vec Ideal S2x12288x8x128 .fp8e4m3) : (out0_2 x0 x1 : S2x12288x40x128.Idx → EReal) = x0 := by
  unfold out0_2
  refine (View.canon_cons_unit_lit _ _ _ (by decide)).trans ?_
  exact congrArg (k0_pay1 (F := Ideal)) (View.ld_unit_lit _ x0 (by decide))

theorem out3 (x0 : Vec Ideal S2x12288x40x128 .fp8e4m3) (x1 : Vec Ideal S2x12288x8x128 .fp8e4m3) : (out0_3 x0 x1 : S2x12288x8x128.Idx → EReal) = x1 := by
  unfold out0_3
  refine (View.canon_cons_unit_lit _ _ _ (by decide)).trans ?_
  exact congrArg (k0_pay2 (F := Ideal)) (View.ld_unit_lit _ x1 (by decide))

theorem arr2 (c : Dev nD) : (dats m 0 c).arrAt 2 cfg0.N = qv m c := by
  refine (dats m 0 c).arrAt_eq_of_covers 2 _ (by decide +kernel) fun t hf y => ?_
  blk_simp [after0_2]
  exact congrFun (out2 (iblk m c 0 t) (iblk m c 1 t)) y

theorem arr3 (c : Dev nD) : (dats m 0 c).arrAt 3 cfg0.N = kv m c := by
  refine (dats m 0 c).arrAt_eq_of_covers 3 _ (by decide +kernel) fun t hf y => ?_
  blk_simp [after0_3]
  exact congrFun (out3 (iblk m c 0 t) (iblk m c 1 t)) y

/-! ## The results -/

/-- The valuation the host program starts from. -/
abbrev V1 (c : Dev nD) : Valuation τ sig (Elt Ideal) := Pipeline.withArrays spec0 c (V0 m c) fun w => (dats m 0 c).arrAt w cfg0.N

/-- The seen scores. -/
def xs (c : Dev nD) : Arr S2x8x5x12288x12288 := seen (score (qv m c) (kv m c) (m ((c : Thread nD τ).loc main_arg1)) (m ((c : Thread nD τ).loc main_arg3)))

theorem after_lists (l₁ l₂ l₃ : List (HloOp τ sig (Elt Ideal))) (V : Valuation τ sig (Elt Ideal)) :
    StableHlo.after [l₁, l₂, l₃].flatten V = StableHlo.after l₃ (StableHlo.after l₂ (StableHlo.after l₁ V)) := by
  rw [List.flatten_cons, List.flatten_cons, List.flatten_cons, List.flatten_nil, List.append_nil, StableHlo.after_append, StableHlo.after_append]

theorem at_q (c : Dev nD) : V1 m c (Proc.devRef .tc main_v0_0) = qv m c :=
  (Pipeline.withArrays_arr spec0 (by decide) c (V0 m c) (fun w => (dats m 0 c).arrAt w cfg0.N) 2).trans (arr2 m c)
theorem at_k (c : Dev nD) : V1 m c (Proc.devRef .tc main_v0_1) = kv m c :=
  (Pipeline.withArrays_arr spec0 (by decide) c (V0 m c) (fun w => (dats m 0 c).arrAt w cfg0.N) 3).trans (arr3 m c)
theorem at_qs (c : Dev nD) : V1 m c (Proc.devRef .tc main_arg1) = m ((c : Thread nD τ).loc main_arg1) :=
  (Pipeline.withArrays_of_ne spec0 c (V0 m c) (fun w => (dats m 0 c).arrAt w cfg0.N) main_arg1 (by decide)).trans (V_main_arg1 m c)
theorem at_ks (c : Dev nD) : V1 m c (Proc.devRef .tc main_arg3) = m ((c : Thread nD τ).loc main_arg3) :=
  (Pipeline.withArrays_of_ne spec0 c (V0 m c) (fun w => (dats m 0 c).arrAt w cfg0.N) main_arg3 (by decide)).trans (V_main_arg3 m c)

theorem at_v12 (c : Dev nD) : StableHlo.after hostOps1 (V1 m c) (Proc.devRef .tc main_v12)
    = score (qv m c) (kv m c) (m ((c : Thread nD τ).loc main_arg1)) (m ((c : Thread nD τ).loc main_arg3)) := by
  rw [first_v12, at_q, at_k, at_qs, at_ks]

theorem at_v19 (c : Dev nD) : StableHlo.after hostOps1_1 (StableHlo.after hostOps1 (V1 m c)) (Proc.devRef .tc main_v19) = xs m c :=
  second_v19 _ _ (at_v12 m c) (first_v18 _) (first_cst _)

theorem tail_v45 (c : Dev nD) : Pipeline.afterTail₀ cfgs (dats m) 0 (V0 m) [hostOps1, hostOps1_1, hostOps1_2] c main_v45 = gate (peaks (xs m c)) := by
  refine (congrFun (after_lists _ _ _ (V1 m c)) _).trans ((third_v45 _).trans ?_)
  rw [at_v19]

theorem tail_v46 (c : Dev nD) : Pipeline.afterTail₀ cfgs (dats m) 0 (V0 m) [hostOps1, hostOps1_1, hostOps1_2] c main_v46 = rowLse (xs m c) := by
  refine (congrFun (after_lists _ _ _ (V1 m c)) _).trans ((third_v46 _ ((second_v13 _).trans (first_v13 _))).trans ?_)
  rw [at_v19]

/-- The seen scores at an index. -/
theorem rd_xs (c : Dev nD) {b g : ℕ} (hb : b < 2) (hg : g < 8) (h r j : ℕ) (hh : h < 5) (hr : r < 12288) (hj : j < 12288) :
    rd (d := ![2, 8, 5, 12288, 12288]) (xs m c) ![b, g, h, r, j] = ms (sco m c b g) h r j := by
  refine (rd_seen hb hg hh hr hj).trans ?_
  rw [rd_score hb hg hh hr hj]
  rfl

/-- The gate. -/
def gateR (c : Dev nD) : S2x8x192x192.Idx → EReal := fun i => gateG (sco m c (i 0).val (i 1).val) (i 2).val (i 3).val
/-- The rows' results. -/
def lseO (c : Dev nD) : S2x40x12288.Idx → EReal := fun i => rlseS (sco m c (i 0).val ((i 1).val / 5)) ((i 1).val % 5) (i 2).val

theorem gate_eq (c : Dev nD) : gate (peaks (xs m c)) = gateR m c := by
  funext i
  have h0 : (i 0).val < 2 := (i 0).isLt
  have h1 : (i 1).val < 8 := (i 1).isLt
  have h2 : (i 2).val < 192 := (i 2).isLt
  have h3 : (i 3).val < 192 := (i 3).isLt
  refine (rd_at (d := ![2, 8, 192, 192]) (i := ![(i 0).val, (i 1).val, (i 2).val, (i 3).val]) _ fun a => ?_).trans (rd_gate h0 h1 h2 (rd_xs m c h0 h1) h3)
  fin_cases a <;> rfl

theorem lse_eq (c : Dev nD) : rowLse (xs m c) = lseO m c := by
  funext i
  have h0 : (i 0).val < 2 := (i 0).isLt
  have h1 : (i 1).val < 40 := (i 1).isLt
  have h2 : (i 2).val < 12288 := (i 2).isLt
  refine (rd_at (d := ![2, 40, 12288]) (i := ![(i 0).val, (i 1).val / 5 * 5 + (i 1).val % 5, (i 2).val]) _ fun a => ?_).trans
    (rd_rowLse h0 (by omega) (by omega) h2 fun j hj => rd_xs m c h0 (by omega) _ _ j (by omega) h2 hj)
  fin_cases a
  · rfl
  · exact (Nat.div_add_mod' _ _).symm
  · rfl

/-- The results of the run, and its arguments. -/
theorem results : θ_run defs (onTc (τ := τ) (main (F := Ideal))) ⟨m, fun _ => 0, ρ⟩ (fun r => ∀ c : Dev nD,
      r.2.mem ((c.tc : Thread nD τ).loc main_v45) = gateR m c
      ∧ r.2.mem ((c.tc : Thread nD τ).loc main_v46) = lseO m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    refine ⟨((h c).2 main_v45 (Pipeline.mem_restRefs_of main_v45 (by decide) (by decide))).trans ((tail_v45 m c).trans (gate_eq m c)),
      ((h c).2 main_v46 (Pipeline.mem_restRefs_of main_v46 (by decide) (by decide))).trans ((tail_v46 m c).trans (lse_eq m c)), ?_⟩
    exact ⟨((h c).1 0).trans (((dats m 0 c).arrAt_in 0 rfl _).trans (V_main_arg0 m c)),
      ((h c).2 main_arg1 (Pipeline.mem_restRefs_of main_arg1 (by decide) (by decide))).trans (W_main_arg1 m (dats m) c),
      ((h c).1 1).trans (((dats m 0 c).arrAt_in 1 rfl _).trans (V_main_arg2 m c)),
      ((h c).2 main_arg3 (Pipeline.mem_restRefs_of main_arg3 (by decide) (by decide))).trans (W_main_arg3 m (dats m) c)⟩) (run_main m ρ)

end Cert.ReferenceIdeal.Exact
-- ==== Proof.Tile.Quot.lean ====
/-
  Where the seen scores of a row are finite, the reference's probability `exp (s - lse)` is the quotient of the
  exponential by the row's sum.
-/
module

public import proofs.«01_k».proof.Proof.Tile.Math

@[expose] public section

noncomputable section

namespace Cert.Proof.Tile

open Idealize.ShloMosaic Finset

theorem ereal_coe_sum {ι : Type} (s : Finset ι) (f : ι → ℝ) : ((∑ j ∈ s, f j : ℝ) : EReal) = ∑ j ∈ s, ((f j : ℝ) : EReal) := by
  classical
  induction s using Finset.induction_on with
  | empty => simp
  | insert a s ha ih => rw [sum_insert ha, sum_insert ha, EReal.coe_add, ih]

/-- Exponentials of the seen scores below a real `M` are real. -/
theorem exp_seen {rs : ℕ → ℕ → ℕ → EReal} {h r : ℕ} (x : ℕ → ℝ) (hx : ∀ j, j ≤ r → rs h r j = (x j : EReal)) (M : ℝ) (j : ℕ) :
    Ideal.exp (ms rs h r j - (M : EReal)) = ((if j ≤ r then Real.exp (x j - M) else 0 : ℝ) : EReal) := by
  unfold ms
  by_cases hj : j ≤ r
  · rw [if_pos hj, if_pos hj, hx j hj, ← EReal.coe_sub]; rfl
  · rw [if_neg hj, if_neg hj, EReal.bot_sub]; rfl

theorem prob_eq {rs : ℕ → ℕ → ℕ → EReal} {h r j : ℕ} (hr : r < 12288) (x : ℕ → ℝ) (hx : ∀ j, j ≤ r → rs h r j = (x j : EReal)) :
    Ideal.exp (ms rs h r j - rlse rs h r) = Ideal.div (Ideal.exp (ms rs h r j - rmax rs h r)) (∑ k ∈ range 12288, Ideal.exp (ms rs h r k - rmax rs h r)) := by
  obtain ⟨M, hM⟩ : ∃ M : ℝ, rmax rs h r = (M : EReal) := by
    obtain ⟨k, hk, e⟩ := exists_mem_eq_sup (range 12288) ⟨r, mem_range.mpr hr⟩ (ms rs h r)
    have hle : (x r : EReal) ≤ rmax rs h r := by
      have := Finset.le_sup (f := ms rs h r) (mem_range.mpr hr)
      unfold ms at this
      rwa [if_pos le_rfl, hx r le_rfl] at this
    by_cases hk' : k ≤ r
    · refine ⟨x k, e.trans ?_⟩
      unfold ms
      rw [if_pos hk', hx k hk']
    · have hb : rmax rs h r = ⊥ := e.trans (by unfold ms; rw [if_neg hk'])
      rw [hb] at hle
      exact absurd (le_bot_iff.mp hle) (EReal.coe_ne_bot _)
  have key : ∀ L : ℝ, 0 < L → Ideal.exp (ms rs h r j - ((M : EReal) + Ideal.log (L : EReal))) = Ideal.div ((if j ≤ r then Real.exp (x j - M) else 0 : ℝ) : EReal) (L : EReal) := by
    intro L hpos
    have hlog : Ideal.log (L : EReal) = ((Real.log L : ℝ) : EReal) := if_neg (not_le.mpr hpos)
    have hdiv : ∀ y : ℝ, Ideal.div (y : EReal) (L : EReal) = ((y / L : ℝ) : EReal) := fun y => by
      unfold Ideal.div
      rw [if_neg (by exact_mod_cast hpos.ne'), ← EReal.coe_inv, ← EReal.coe_mul, div_eq_mul_inv]
    rw [hlog, ← EReal.coe_add, exp_seen x hx _ j, hdiv]
    refine congrArg (fun z : ℝ => (z : EReal)) ?_
    split_ifs
    · rw [show x j - (M + Real.log L) = x j - M - Real.log L by ring, Real.exp_sub, Real.exp_log hpos]
    · rw [zero_div]
  have hl : ∑ k ∈ range 12288, Ideal.exp (ms rs h r k - rmax rs h r) = ((∑ k ∈ range 12288, (if k ≤ r then Real.exp (x k - M) else 0) : ℝ) : EReal) := by
    rw [ereal_coe_sum, hM]
    exact sum_congr rfl fun k _ => exp_seen x hx M k
  have hpos : 0 < ∑ k ∈ range 12288, (if k ≤ r then Real.exp (x k - M) else 0 : ℝ) := by
    refine sum_pos' (fun k _ => ?_) ⟨r, mem_range.mpr hr, ?_⟩
    · split
      · exact (Real.exp_pos _).le
      · exact le_rfl
    · rw [if_pos le_rfl]; exact Real.exp_pos _
  unfold rlse
  rw [hl, hM, exp_seen x hx M j]
  refine key _ hpos

end Cert.Proof.Tile
-- ==== Proof.lean ====
/-
  The proof of `Cert.Claim`: the frames of the kernel, of its idealization and of the reference, that each named
  constant stands for its literal, and that the idealized kernel computes the reference's two results.
-/
module

public import proofs.«01_k».proof.Defs
public import proofs.«01_k».proof.Proof.Tile.FrameK
public import proofs.«01_k».proof.Proof.Tile.FrameI
public import proofs.«01_k».proof.Proof.Gen.ReferenceIdeal.Frame
public import proofs.«01_k».proof.Proof.Tile.ValI
public import proofs.«01_k».proof.Proof.Tile.RefVal
public import proofs.«01_k».proof.Proof.Tile.Quot

@[expose] public section

noncomputable section

namespace Cert.Proof

open Idealize.ShloMosaic Idealize.SL.Sem

theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

/-- The kernel's and the reference's results are the same two functions of the four arguments. -/
theorem algebraic : Cert.algebraic_KernelIdeal_ReferenceIdeal := by
  intro m ρ m' ρ' _ hagree
  refine ⟨_, _, Cert.KernelIdeal.Exact.results m ρ, (θ_run Cert.ReferenceIdeal.defs _ _).mono (fun _ h c => ?_) (Cert.ReferenceIdeal.Exact.results m' ρ')⟩
  obtain ⟨h0, h1, h2, h3⟩ := hagree c
  have hs : ∀ b g, Cert.ReferenceIdeal.Exact.sco m' c b g = Cert.KernelIdeal.Exact.sco m c b g := fun b g => by
    unfold Cert.ReferenceIdeal.Exact.sco Cert.KernelIdeal.Exact.sco
    rw [h0, h1, h2, h3]
  refine ⟨(h c).1.trans (funext fun i => ?_), (h c).2.1.trans (funext fun i => ?_), (h c).2.2⟩
  · exact congrArg (fun z => Tile.gateG z (i 2).val (i 3).val) (hs _ _)
  · exact congrArg (fun z => Tile.rlseS z ((i 1).val % 5) (i 2).val) (hs _ _)

theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Gen.frame (F := Ideal) m ρ, preserves, algebraic⟩

end Cert.Proof
